-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x64 : Shape := ⟨2, ![1000000, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x64 .f32) (main_arg3 : FVec F S1000000x64 .f32) (main_arg4 : FVec F S128x64 .f32) (main_arg5 : FVec F S64 .f32) (main_arg6 : FVec F S64x32 .f32) (main_arg7 : FVec F S32 .f32) (main_arg8 : FVec F S32x1 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S1000000x64 : Shape := ⟨2, ![1000000, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x1000000 : Shape := ⟨2, ![64, 1000000]⟩
abbrev S_ : Shape := ⟨0, ![]⟩
abbrev S64x1000064 : Shape := ⟨2, ![64, 1000064]⟩
abbrev S16384x128 : Shape := ⟨2, ![16384, 128]⟩
abbrev S512 : Shape := ⟨1, ![512]⟩
abbrev S8x64x128 : Shape := ⟨3, ![8, 64, 128]⟩
abbrev S2x16x128 : Shape := ⟨3, ![2, 16, 128]⟩
abbrev S16 : Shape := ⟨1, ![16]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S1x1x16 : Shape := ⟨3, ![1, 1, 16]⟩
abbrev S1x64 : Shape := ⟨2, ![1, 64]⟩
abbrev S1x32 : Shape := ⟨2, ![1, 32]⟩
abbrev S1x1 : Shape := ⟨2, ![1, 1]⟩
abbrev S16384x1 : Shape := ⟨2, ![16384, 1]⟩
abbrev S8192x128 : Shape := ⟨2, ![8192, 128]⟩
abbrev S8192x1 : Shape := ⟨2, ![8192, 1]⟩
abbrev S8192x64 : Shape := ⟨2, ![8192, 64]⟩
abbrev S8192x32 : Shape := ⟨2, ![8192, 32]⟩

abbrev nBuf : Table → Nat
  | .hbm => 23
  | .local .tc .vmem => 10
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S64x1000000, .f32⟩
  | .hbm, ⟨11, _⟩ => ⟨S_, .i32⟩
  | .hbm, ⟨12, _⟩ => ⟨S_, .f32⟩
  | .hbm, ⟨13, _⟩ => ⟨S64x1000064, .f32⟩
  | .hbm, ⟨14, _⟩ => ⟨S64x1000000, .f32⟩
  | .hbm, ⟨15, _⟩ => ⟨S_, .i32⟩
  | .hbm, ⟨16, _⟩ => ⟨S_, .f32⟩
  | .hbm, ⟨17, _⟩ => ⟨S64x1000064, .f32⟩
  | .hbm, ⟨18, _⟩ => ⟨S16384x128, .f32⟩
  | .hbm, ⟨19, _⟩ => ⟨S1x64, .f32⟩
  | .hbm, ⟨20, _⟩ => ⟨S1x32, .f32⟩
  | .hbm, ⟨21, _⟩ => ⟨S1x1, .f32⟩
  | .hbm, ⟨22, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S128x64, .f32⟩
  | .local .tc .vmem, ⟨3, _⟩ => ⟨S1x64, .f32⟩
  | .local .tc .vmem, ⟨4, _⟩ => ⟨S64x32, .f32⟩
  | .local .tc .vmem, ⟨5, _⟩ => ⟨S1x32, .f32⟩
  | .local .tc .vmem, ⟨6, _⟩ => ⟨S32x1, .f32⟩
  | .local .tc .vmem, ⟨7, _⟩ => ⟨S1x1, .f32⟩
  | .local .tc .vmem, ⟨8, _⟩ => ⟨S8192x1, .f32⟩
  | .local .tc .vmem, ⟨9, _⟩ => ⟨S8192x1, .f32⟩
  | .local .scVector .vmem, ⟨0, _⟩ => ⟨S512, .i32⟩
  | .local .scVector .vmem, ⟨1, _⟩ => ⟨S512, .i32⟩
  | .local .scVector .vmem, ⟨2, _⟩ => ⟨S8x64x128, .f32⟩
  | .local .scVector .vmem, ⟨3, _⟩ => ⟨S2x16x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v1_scv : Ref sig .scVector := ⟨.hbm, 13, rfl⟩
abbrev main_v3_scv : Ref sig .scVector := ⟨.hbm, 17, rfl⟩
abbrev main_arg0_scv : Ref sig .scVector := ⟨.hbm, 0, rfl⟩
abbrev main_arg1_scv : Ref sig .scVector := ⟨.hbm, 1, rfl⟩
abbrev main_v4_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 (v17 : BitVec 32) : BitVec 32 :=
  let c0_i32_0 : BitVec 32 := 0#32
  let v19 : BitVec 1 := Scalar.cmpi .sgt v17 c0_i32_0
  let v20 : BitVec 32 := Scalar.extui v19
  let c0_i32_1 : BitVec 32 := 0#32
  let v21 : BitVec 1 := Scalar.cmpi .slt v17 c0_i32_1
  let v22 : BitVec 32 := Scalar.extui v21
  let v23 : BitVec 32 := Scalar.subi v20 v22
  let c128_i32 : BitVec 32 := 128#32
  let c0_i32_2 : BitVec 32 := 0#32
  let v24 : BitVec 1 := Scalar.cmpi .sgt c128_i32 c0_i32_2
  let v25 : BitVec 32 := Scalar.extui v24
  let c0_i32_3 : BitVec 32 := 0#32
  let v26 : BitVec 1 := Scalar.cmpi .slt c128_i32 c0_i32_3
  let v27 : BitVec 32 := Scalar.extui v26
  let v28 : BitVec 32 := Scalar.subi v25 v27
  let v29 : BitVec 1 := Scalar.cmpi .ne v23 v28
  let v30 : BitVec 32 := Scalar.remsi v17 c128_i32
  let c0_i32_4 : BitVec 32 := 0#32
  let v31 : BitVec 1 := Scalar.cmpi .ne v30 c0_i32_4
  let v32 : BitVec 1 := Scalar.andi v29 v31
  let v18 : BitVec 32 := Scalar.divsi v17 c128_i32
  let c1_i32 : BitVec 32 := 1#32
  let v33 : BitVec 32 := Scalar.subi v18 c1_i32
  let v34 : BitVec 32 := Scalar.select v32 v33 v18
  let c128_i32_5 : BitVec 32 := 128#32
  let v35 : BitVec 32 := Scalar.muli v34 c128_i32_5
  v35

def k0_off2 (v17 : BitVec 32) : Fin 2 → Nat :=
  let c0_i32_9 : BitVec 32 := 0#32
  let c0_i32_0 : BitVec 32 := 0#32
  let v19 : BitVec 1 := Scalar.cmpi .sgt v17 c0_i32_0
  let v20 : BitVec 32 := Scalar.extui v19
  let c0_i32_1 : BitVec 32 := 0#32
  let v21 : BitVec 1 := Scalar.cmpi .slt v17 c0_i32_1
  let v22 : BitVec 32 := Scalar.extui v21
  let v23 : BitVec 32 := Scalar.subi v20 v22
  let c128_i32 : BitVec 32 := 128#32
  let c0_i32_2 : BitVec 32 := 0#32
  let v24 : BitVec 1 := Scalar.cmpi .sgt c128_i32 c0_i32_2
  let v25 : BitVec 32 := Scalar.extui v24
  let c0_i32_3 : BitVec 32 := 0#32
  let v26 : BitVec 1 := Scalar.cmpi .slt c128_i32 c0_i32_3
  let v27 : BitVec 32 := Scalar.extui v26
  let v28 : BitVec 32 := Scalar.subi v25 v27
  let v29 : BitVec 1 := Scalar.cmpi .ne v23 v28
  let v30 : BitVec 32 := Scalar.remsi v17 c128_i32
  let c0_i32_4 : BitVec 32 := 0#32
  let v31 : BitVec 1 := Scalar.cmpi .ne v30 c0_i32_4
  let v32 : BitVec 1 := Scalar.andi v29 v31
  let v18 : BitVec 32 := Scalar.divsi v17 c128_i32
  let c1_i32 : BitVec 32 := 1#32
  let v33 : BitVec 32 := Scalar.subi v18 c1_i32
  let v34 : BitVec 32 := Scalar.select v32 v33 v18
  let c128_i32_5 : BitVec 32 := 128#32
  let v35 : BitVec 32 := Scalar.muli v34 c128_i32_5
  let v36 : BitVec 32 := v35
  ![0, v36.toNat]

def k0_chk1 (v17 : BitVec 32) : Prop :=
  (128 ∣ (k0_mult1 v17).toNat) ∧
  (∀ a, (k0_off2 v17) a + S64x128.size a ≤ S64x1000064.size a)
theorem k0_mult1_dvd : ∀ (v17 : BitVec 32) (k0_hw1 : k0_chk1 v17), 128 ∣ (k0_mult1 v17).toNat := fun v17 k0_hw1 => k0_hw1.1
theorem k0_off2_inb : ∀ (v17 : BitVec 32) (k0_hw1 : k0_chk1 v17), ∀ a, (k0_off2 v17) a + S64x128.size a ≤ S64x1000064.size a := fun v17 k0_hw1 => k0_hw1.2

def k0_mult2 (v44 : BitVec 32) : BitVec 32 :=
  let c0_i32_14 : BitVec 32 := 0#32
  let v46 : BitVec 1 := Scalar.cmpi .sgt v44 c0_i32_14
  let v47 : BitVec 32 := Scalar.extui v46
  let c0_i32_15 : BitVec 32 := 0#32
  let v48 : BitVec 1 := Scalar.cmpi .slt v44 c0_i32_15
  let v49 : BitVec 32 := Scalar.extui v48
  let v50 : BitVec 32 := Scalar.subi v47 v49
  let c128_i32_13 : BitVec 32 := 128#32
  let c0_i32_16 : BitVec 32 := 0#32
  let v51 : BitVec 1 := Scalar.cmpi .sgt c128_i32_13 c0_i32_16
  let v52 : BitVec 32 := Scalar.extui v51
  let c0_i32_17 : BitVec 32 := 0#32
  let v53 : BitVec 1 := Scalar.cmpi .slt c128_i32_13 c0_i32_17
  let v54 : BitVec 32 := Scalar.extui v53
  let v55 : BitVec 32 := Scalar.subi v52 v54
  let v56 : BitVec 1 := Scalar.cmpi .ne v50 v55
  let v57 : BitVec 32 := Scalar.remsi v44 c128_i32_13
  let c0_i32_18 : BitVec 32 := 0#32
  let v58 : BitVec 1 := Scalar.cmpi .ne v57 c0_i32_18
  let v59 : BitVec 1 := Scalar.andi v56 v58
  let v45 : BitVec 32 := Scalar.divsi v44 c128_i32_13
  let c1_i32_19 : BitVec 32 := 1#32
  let v60 : BitVec 32 := Scalar.subi v45 c1_i32_19
  let v61 : BitVec 32 := Scalar.select v59 v60 v45
  let c128_i32_20 : BitVec 32 := 128#32
  let v62 : BitVec 32 := Scalar.muli v61 c128_i32_20
  v62

def k0_off3 (v44 : BitVec 32) : Fin 2 → Nat :=
  let c0_i32_24 : BitVec 32 := 0#32
  let c0_i32_14 : BitVec 32 := 0#32
  let v46 : BitVec 1 := Scalar.cmpi .sgt v44 c0_i32_14
  let v47 : BitVec 32 := Scalar.extui v46
  let c0_i32_15 : BitVec 32 := 0#32
  let v48 : BitVec 1 := Scalar.cmpi .slt v44 c0_i32_15
  let v49 : BitVec 32 := Scalar.extui v48
  let v50 : BitVec 32 := Scalar.subi v47 v49
  let c128_i32_13 : BitVec 32 := 128#32
  let c0_i32_16 : BitVec 32 := 0#32
  let v51 : BitVec 1 := Scalar.cmpi .sgt c128_i32_13 c0_i32_16
  let v52 : BitVec 32 := Scalar.extui v51
  let c0_i32_17 : BitVec 32 := 0#32
  let v53 : BitVec 1 := Scalar.cmpi .slt c128_i32_13 c0_i32_17
  let v54 : BitVec 32 := Scalar.extui v53
  let v55 : BitVec 32 := Scalar.subi v52 v54
  let v56 : BitVec 1 := Scalar.cmpi .ne v50 v55
  let v57 : BitVec 32 := Scalar.remsi v44 c128_i32_13
  let c0_i32_18 : BitVec 32 := 0#32
  let v58 : BitVec 1 := Scalar.cmpi .ne v57 c0_i32_18
  let v59 : BitVec 1 := Scalar.andi v56 v58
  let v45 : BitVec 32 := Scalar.divsi v44 c128_i32_13
  let c1_i32_19 : BitVec 32 := 1#32
  let v60 : BitVec 32 := Scalar.subi v45 c1_i32_19
  let v61 : BitVec 32 := Scalar.select v59 v60 v45
  let c128_i32_20 : BitVec 32 := 128#32
  let v62 : BitVec 32 := Scalar.muli v61 c128_i32_20
  let v63 : BitVec 32 := v62
  ![0, v63.toNat]

def k0_chk2 (v44 : BitVec 32) : Prop :=
  (128 ∣ (k0_mult2 v44).toNat) ∧
  (∀ a, (k0_off3 v44) a + S64x128.size a ≤ S64x1000064.size a)
theorem k0_mult2_dvd : ∀ (v44 : BitVec 32) (k0_hw2 : k0_chk2 v44), 128 ∣ (k0_mult2 v44).toNat := fun v44 k0_hw2 => k0_hw2.1
theorem k0_off3_inb : ∀ (v44 : BitVec 32) (k0_hw2 : k0_chk2 v44), ∀ a, (k0_off3 v44) a + S64x128.size a ≤ S64x1000064.size a := fun v44 k0_hw2 => k0_hw2.2

def k0_mult3 (v71 : BitVec 32) : BitVec 32 :=
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c128_i32_28 : BitVec 32 := 128#32
  let c0_i32_31 : BitVec 32 := 0#32
  let v78 : BitVec 1 := Scalar.cmpi .sgt c128_i32_28 c0_i32_31
  let v79 : BitVec 32 := Scalar.extui v78
  let c0_i32_32 : BitVec 32 := 0#32
  let v80 : BitVec 1 := Scalar.cmpi .slt c128_i32_28 c0_i32_32
  let v81 : BitVec 32 := Scalar.extui v80
  let v82 : BitVec 32 := Scalar.subi v79 v81
  let v83 : BitVec 1 := Scalar.cmpi .ne v77 v82
  let v84 : BitVec 32 := Scalar.remsi v71 c128_i32_28
  let c0_i32_33 : BitVec 32 := 0#32
  let v85 : BitVec 1 := Scalar.cmpi .ne v84 c0_i32_33
  let v86 : BitVec 1 := Scalar.andi v83 v85
  let v72 : BitVec 32 := Scalar.divsi v71 c128_i32_28
  let c1_i32_34 : BitVec 32 := 1#32
  let v87 : BitVec 32 := Scalar.subi v72 c1_i32_34
  let v88 : BitVec 32 := Scalar.select v86 v87 v72
  let c128_i32_35 : BitVec 32 := 128#32
  let v89 : BitVec 32 := Scalar.muli v88 c128_i32_35
  v89

def k0_off4 (v71 : BitVec 32) : Fin 2 → Nat :=
  let c0_i32_39 : BitVec 32 := 0#32
  let c0_i32_29 : BitVec 32 := 0#32
  let v73 : BitVec 1 := Scalar.cmpi .sgt v71 c0_i32_29
  let v74 : BitVec 32 := Scalar.extui v73
  let c0_i32_30 : BitVec 32 := 0#32
  let v75 : BitVec 1 := Scalar.cmpi .slt v71 c0_i32_30
  let v76 : BitVec 32 := Scalar.extui v75
  let v77 : BitVec 32 := Scalar.subi v74 v76
  let c128_i32_28 : BitVec 32 := 128#32
  let c0_i32_31 : BitVec 32 := 0#32
  let v78 : BitVec 1 := Scalar.cmpi .sgt c128_i32_28 c0_i32_31
  let v79 : BitVec 32 := Scalar.extui v78
  let c0_i32_32 : BitVec 32 := 0#32
  let v80 : BitVec 1 := Scalar.cmpi .slt c128_i32_28 c0_i32_32
  let v81 : BitVec 32 := Scalar.extui v80
  let v82 : BitVec 32 := Scalar.subi v79 v81
  let v83 : BitVec 1 := Scalar.cmpi .ne v77 v82
  let v84 : BitVec 32 := Scalar.remsi v71 c128_i32_28
  let c0_i32_33 : BitVec 32 := 0#32
  let v85 : BitVec 1 := Scalar.cmpi .ne v84 c0_i32_33
  let v86 : BitVec 1 := Scalar.andi v83 v85
  let v72 : BitVec 32 := Scalar.divsi v71 c128_i32_28
  let c1_i32_34 : BitVec 32 := 1#32
  let v87 : BitVec 32 := Scalar.subi v72 c1_i32_34
  let v88 : BitVec 32 := Scalar.select v86 v87 v72
  let c128_i32_35 : BitVec 32 := 128#32
  let v89 : BitVec 32 := Scalar.muli v88 c128_i32_35
  let v90 : BitVec 32 := v89
  ![0, v90.toNat]

def k0_chk3 (v71 : BitVec 32) : Prop :=
  (128 ∣ (k0_mult3 v71).toNat) ∧
  (∀ a, (k0_off4 v71) a + S64x128.size a ≤ S64x1000064.size a)
theorem k0_mult3_dvd : ∀ (v71 : BitVec 32) (k0_hw3 : k0_chk3 v71), 128 ∣ (k0_mult3 v71).toNat := fun v71 k0_hw3 => k0_hw3.1
theorem k0_off4_inb : ∀ (v71 : BitVec 32) (k0_hw3 : k0_chk3 v71), ∀ a, (k0_off4 v71) a + S64x128.size a ≤ S64x1000064.size a := fun v71 k0_hw3 => k0_hw3.2

def k0_mult4 (v98 : BitVec 32) : BitVec 32 :=
  let c0_i32_44 : BitVec 32 := 0#32
  let v100 : BitVec 1 := Scalar.cmpi .sgt v98 c0_i32_44
  let v101 : BitVec 32 := Scalar.extui v100
  let c0_i32_45 : BitVec 32 := 0#32
  let v102 : BitVec 1 := Scalar.cmpi .slt v98 c0_i32_45
  let v103 : BitVec 32 := Scalar.extui v102
  let v104 : BitVec 32 := Scalar.subi v101 v103
  let c128_i32_43 : BitVec 32 := 128#32
  let c0_i32_46 : BitVec 32 := 0#32
  let v105 : BitVec 1 := Scalar.cmpi .sgt c128_i32_43 c0_i32_46
  let v106 : BitVec 32 := Scalar.extui v105
  let c0_i32_47 : BitVec 32 := 0#32
  let v107 : BitVec 1 := Scalar.cmpi .slt c128_i32_43 c0_i32_47
  let v108 : BitVec 32 := Scalar.extui v107
  let v109 : BitVec 32 := Scalar.subi v106 v108
  let v110 : BitVec 1 := Scalar.cmpi .ne v104 v109
  let v111 : BitVec 32 := Scalar.remsi v98 c128_i32_43
  let c0_i32_48 : BitVec 32 := 0#32
  let v112 : BitVec 1 := Scalar.cmpi .ne v111 c0_i32_48
  let v113 : BitVec 1 := Scalar.andi v110 v112
  let v99 : BitVec 32 := Scalar.divsi v98 c128_i32_43
  let c1_i32_49 : BitVec 32 := 1#32
  let v114 : BitVec 32 := Scalar.subi v99 c1_i32_49
  let v115 : BitVec 32 := Scalar.select v113 v114 v99
  let c128_i32_50 : BitVec 32 := 128#32
  let v116 : BitVec 32 := Scalar.muli v115 c128_i32_50
  v116

def k0_off5 (v98 : BitVec 32) : Fin 2 → Nat :=
  let c0_i32_53 : BitVec 32 := 0#32
  let c0_i32_44 : BitVec 32 := 0#32
  let v100 : BitVec 1 := Scalar.cmpi .sgt v98 c0_i32_44
  let v101 : BitVec 32 := Scalar.extui v100
  let c0_i32_45 : BitVec 32 := 0#32
  let v102 : BitVec 1 := Scalar.cmpi .slt v98 c0_i32_45
  let v103 : BitVec 32 := Scalar.extui v102
  let v104 : BitVec 32 := Scalar.subi v101 v103
  let c128_i32_43 : BitVec 32 := 128#32
  let c0_i32_46 : BitVec 32 := 0#32
  let v105 : BitVec 1 := Scalar.cmpi .sgt c128_i32_43 c0_i32_46
  let v106 : BitVec 32 := Scalar.extui v105
  let c0_i32_47 : BitVec 32 := 0#32
  let v107 : BitVec 1 := Scalar.cmpi .slt c128_i32_43 c0_i32_47
  let v108 : BitVec 32 := Scalar.extui v107
  let v109 : BitVec 32 := Scalar.subi v106 v108
  let v110 : BitVec 1 := Scalar.cmpi .ne v104 v109
  let v111 : BitVec 32 := Scalar.remsi v98 c128_i32_43
  let c0_i32_48 : BitVec 32 := 0#32
  let v112 : BitVec 1 := Scalar.cmpi .ne v111 c0_i32_48
  let v113 : BitVec 1 := Scalar.andi v110 v112
  let v99 : BitVec 32 := Scalar.divsi v98 c128_i32_43
  let c1_i32_49 : BitVec 32 := 1#32
  let v114 : BitVec 32 := Scalar.subi v99 c1_i32_49
  let v115 : BitVec 32 := Scalar.select v113 v114 v99
  let c128_i32_50 : BitVec 32 := 128#32
  let v116 : BitVec 32 := Scalar.muli v115 c128_i32_50
  let v117 : BitVec 32 := v116
  ![0, v117.toNat]

def k0_chk4 (v98 : BitVec 32) : Prop :=
  (128 ∣ (k0_mult4 v98).toNat) ∧
  (∀ a, (k0_off5 v98) a + S64x128.size a ≤ S64x1000064.size a)
theorem k0_mult4_dvd : ∀ (v98 : BitVec 32) (k0_hw4 : k0_chk4 v98), 128 ∣ (k0_mult4 v98).toNat := fun v98 k0_hw4 => k0_hw4.1
theorem k0_off5_inb : ∀ (v98 : BitVec 32) (k0_hw4 : k0_chk4 v98), ∀ a, (k0_off5 v98) a + S64x128.size a ≤ S64x1000064.size a := fun v98 k0_hw4 => k0_hw4.2

def k0_mult5 (v125 : BitVec 32) : BitVec 32 :=
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c128_i32_57 : BitVec 32 := 128#32
  let c0_i32_60 : BitVec 32 := 0#32
  let v132 : BitVec 1 := Scalar.cmpi .sgt c128_i32_57 c0_i32_60
  let v133 : BitVec 32 := Scalar.extui v132
  let c0_i32_61 : BitVec 32 := 0#32
  let v134 : BitVec 1 := Scalar.cmpi .slt c128_i32_57 c0_i32_61
  let v135 : BitVec 32 := Scalar.extui v134
  let v136 : BitVec 32 := Scalar.subi v133 v135
  let v137 : BitVec 1 := Scalar.cmpi .ne v131 v136
  let v138 : BitVec 32 := Scalar.remsi v125 c128_i32_57
  let c0_i32_62 : BitVec 32 := 0#32
  let v139 : BitVec 1 := Scalar.cmpi .ne v138 c0_i32_62
  let v140 : BitVec 1 := Scalar.andi v137 v139
  let v126 : BitVec 32 := Scalar.divsi v125 c128_i32_57
  let c1_i32_63 : BitVec 32 := 1#32
  let v141 : BitVec 32 := Scalar.subi v126 c1_i32_63
  let v142 : BitVec 32 := Scalar.select v140 v141 v126
  let c128_i32_64 : BitVec 32 := 128#32
  let v143 : BitVec 32 := Scalar.muli v142 c128_i32_64
  v143

def k0_off6 (v125 : BitVec 32) : Fin 2 → Nat :=
  let c0_i32_67 : BitVec 32 := 0#32
  let c0_i32_58 : BitVec 32 := 0#32
  let v127 : BitVec 1 := Scalar.cmpi .sgt v125 c0_i32_58
  let v128 : BitVec 32 := Scalar.extui v127
  let c0_i32_59 : BitVec 32 := 0#32
  let v129 : BitVec 1 := Scalar.cmpi .slt v125 c0_i32_59
  let v130 : BitVec 32 := Scalar.extui v129
  let v131 : BitVec 32 := Scalar.subi v128 v130
  let c128_i32_57 : BitVec 32 := 128#32
  let c0_i32_60 : BitVec 32 := 0#32
  let v132 : BitVec 1 := Scalar.cmpi .sgt c128_i32_57 c0_i32_60
  let v133 : BitVec 32 := Scalar.extui v132
  let c0_i32_61 : BitVec 32 := 0#32
  let v134 : BitVec 1 := Scalar.cmpi .slt c128_i32_57 c0_i32_61
  let v135 : BitVec 32 := Scalar.extui v134
  let v136 : BitVec 32 := Scalar.subi v133 v135
  let v137 : BitVec 1 := Scalar.cmpi .ne v131 v136
  let v138 : BitVec 32 := Scalar.remsi v125 c128_i32_57
  let c0_i32_62 : BitVec 32 := 0#32
  let v139 : BitVec 1 := Scalar.cmpi .ne v138 c0_i32_62
  let v140 : BitVec 1 := Scalar.andi v137 v139
  let v126 : BitVec 32 := Scalar.divsi v125 c128_i32_57
  let c1_i32_63 : BitVec 32 := 1#32
  let v141 : BitVec 32 := Scalar.subi v126 c1_i32_63
  let v142 : BitVec 32 := Scalar.select v140 v141 v126
  let c128_i32_64 : BitVec 32 := 128#32
  let v143 : BitVec 32 := Scalar.muli v142 c128_i32_64
  let v144 : BitVec 32 := v143
  ![0, v144.toNat]

def k0_chk5 (v125 : BitVec 32) : Prop :=
  (128 ∣ (k0_mult5 v125).toNat) ∧
  (∀ a, (k0_off6 v125) a + S64x128.size a ≤ S64x1000064.size a)
theorem k0_mult5_dvd : ∀ (v125 : BitVec 32) (k0_hw5 : k0_chk5 v125), 128 ∣ (k0_mult5 v125).toNat := fun v125 k0_hw5 => k0_hw5.1
theorem k0_off6_inb : ∀ (v125 : BitVec 32) (k0_hw5 : k0_chk5 v125), ∀ a, (k0_off6 v125) a + S64x128.size a ≤ S64x1000064.size a := fun v125 k0_hw5 => k0_hw5.2

def k0_mult6 (v152 : BitVec 32) : BitVec 32 :=
  let c0_i32_72 : BitVec 32 := 0#32
  let v154 : BitVec 1 := Scalar.cmpi .sgt v152 c0_i32_72
  let v155 : BitVec 32 := Scalar.extui v154
  let c0_i32_73 : BitVec 32 := 0#32
  let v156 : BitVec 1 := Scalar.cmpi .slt v152 c0_i32_73
  let v157 : BitVec 32 := Scalar.extui v156
  let v158 : BitVec 32 := Scalar.subi v155 v157
  let c128_i32_71 : BitVec 32 := 128#32
  let c0_i32_74 : BitVec 32 := 0#32
  let v159 : BitVec 1 := Scalar.cmpi .sgt c128_i32_71 c0_i32_74
  let v160 : BitVec 32 := Scalar.extui v159
  let c0_i32_75 : BitVec 32 := 0#32
  let v161 : BitVec 1 := Scalar.cmpi .slt c128_i32_71 c0_i32_75
  let v162 : BitVec 32 := Scalar.extui v161
  let v163 : BitVec 32 := Scalar.subi v160 v162
  let v164 : BitVec 1 := Scalar.cmpi .ne v158 v163
  let v165 : BitVec 32 := Scalar.remsi v152 c128_i32_71
  let c0_i32_76 : BitVec 32 := 0#32
  let v166 : BitVec 1 := Scalar.cmpi .ne v165 c0_i32_76
  let v167 : BitVec 1 := Scalar.andi v164 v166
  let v153 : BitVec 32 := Scalar.divsi v152 c128_i32_71
  let c1_i32_77 : BitVec 32 := 1#32
  let v168 : BitVec 32 := Scalar.subi v153 c1_i32_77
  let v169 : BitVec 32 := Scalar.select v167 v168 v153
  let c128_i32_78 : BitVec 32 := 128#32
  let v170 : BitVec 32 := Scalar.muli v169 c128_i32_78
  v170

def k0_off7 (v152 : BitVec 32) : Fin 2 → Nat :=
  let c0_i32_81 : BitVec 32 := 0#32
  let c0_i32_72 : BitVec 32 := 0#32
  let v154 : BitVec 1 := Scalar.cmpi .sgt v152 c0_i32_72
  let v155 : BitVec 32 := Scalar.extui v154
  let c0_i32_73 : BitVec 32 := 0#32
  let v156 : BitVec 1 := Scalar.cmpi .slt v152 c0_i32_73
  let v157 : BitVec 32 := Scalar.extui v156
  let v158 : BitVec 32 := Scalar.subi v155 v157
  let c128_i32_71 : BitVec 32 := 128#32
  let c0_i32_74 : BitVec 32 := 0#32
  let v159 : BitVec 1 := Scalar.cmpi .sgt c128_i32_71 c0_i32_74
  let v160 : BitVec 32 := Scalar.extui v159
  let c0_i32_75 : BitVec 32 := 0#32
  let v161 : BitVec 1 := Scalar.cmpi .slt c128_i32_71 c0_i32_75
  let v162 : BitVec 32 := Scalar.extui v161
  let v163 : BitVec 32 := Scalar.subi v160 v162
  let v164 : BitVec 1 := Scalar.cmpi .ne v158 v163
  let v165 : BitVec 32 := Scalar.remsi v152 c128_i32_71
  let c0_i32_76 : BitVec 32 := 0#32
  let v166 : BitVec 1 := Scalar.cmpi .ne v165 c0_i32_76
  let v167 : BitVec 1 := Scalar.andi v164 v166
  let v153 : BitVec 32 := Scalar.divsi v152 c128_i32_71
  let c1_i32_77 : BitVec 32 := 1#32
  let v168 : BitVec 32 := Scalar.subi v153 c1_i32_77
  let v169 : BitVec 32 := Scalar.select v167 v168 v153
  let c128_i32_78 : BitVec 32 := 128#32
  let v170 : BitVec 32 := Scalar.muli v169 c128_i32_78
  let v171 : BitVec 32 := v170
  ![0, v171.toNat]

def k0_chk6 (v152 : BitVec 32) : Prop :=
  (128 ∣ (k0_mult6 v152).toNat) ∧
  (∀ a, (k0_off7 v152) a + S64x128.size a ≤ S64x1000064.size a)
theorem k0_mult6_dvd : ∀ (v152 : BitVec 32) (k0_hw6 : k0_chk6 v152), 128 ∣ (k0_mult6 v152).toNat := fun v152 k0_hw6 => k0_hw6.1
theorem k0_off7_inb : ∀ (v152 : BitVec 32) (k0_hw6 : k0_chk6 v152), ∀ a, (k0_off7 v152) a + S64x128.size a ≤ S64x1000064.size a := fun v152 k0_hw6 => k0_hw6.2

def k0_mult7 (v179 : BitVec 32) : BitVec 32 :=
  let c0_i32_86 : BitVec 32 := 0#32
  let v181 : BitVec 1 := Scalar.cmpi .sgt v179 c0_i32_86
  let v182 : BitVec 32 := Scalar.extui v181
  let c0_i32_87 : BitVec 32 := 0#32
  let v183 : BitVec 1 := Scalar.cmpi .slt v179 c0_i32_87
  let v184 : BitVec 32 := Scalar.extui v183
  let v185 : BitVec 32 := Scalar.subi v182 v184
  let c128_i32_85 : BitVec 32 := 128#32
  let c0_i32_88 : BitVec 32 := 0#32
  let v186 : BitVec 1 := Scalar.cmpi .sgt c128_i32_85 c0_i32_88
  let v187 : BitVec 32 := Scalar.extui v186
  let c0_i32_89 : BitVec 32 := 0#32
  let v188 : BitVec 1 := Scalar.cmpi .slt c128_i32_85 c0_i32_89
  let v189 : BitVec 32 := Scalar.extui v188
  let v190 : BitVec 32 := Scalar.subi v187 v189
  let v191 : BitVec 1 := Scalar.cmpi .ne v185 v190
  let v192 : BitVec 32 := Scalar.remsi v179 c128_i32_85
  let c0_i32_90 : BitVec 32 := 0#32
  let v193 : BitVec 1 := Scalar.cmpi .ne v192 c0_i32_90
  let v194 : BitVec 1 := Scalar.andi v191 v193
  let v180 : BitVec 32 := Scalar.divsi v179 c128_i32_85
  let c1_i32_91 : BitVec 32 := 1#32
  let v195 : BitVec 32 := Scalar.subi v180 c1_i32_91
  let v196 : BitVec 32 := Scalar.select v194 v195 v180
  let c128_i32_92 : BitVec 32 := 128#32
  let v197 : BitVec 32 := Scalar.muli v196 c128_i32_92
  v197

def k0_off8 (v179 : BitVec 32) : Fin 2 → Nat :=
  let c0_i32_95 : BitVec 32 := 0#32
  let c0_i32_86 : BitVec 32 := 0#32
  let v181 : BitVec 1 := Scalar.cmpi .sgt v179 c0_i32_86
  let v182 : BitVec 32 := Scalar.extui v181
  let c0_i32_87 : BitVec 32 := 0#32
  let v183 : BitVec 1 := Scalar.cmpi .slt v179 c0_i32_87
  let v184 : BitVec 32 := Scalar.extui v183
  let v185 : BitVec 32 := Scalar.subi v182 v184
  let c128_i32_85 : BitVec 32 := 128#32
  let c0_i32_88 : BitVec 32 := 0#32
  let v186 : BitVec 1 := Scalar.cmpi .sgt c128_i32_85 c0_i32_88
  let v187 : BitVec 32 := Scalar.extui v186
  let c0_i32_89 : BitVec 32 := 0#32
  let v188 : BitVec 1 := Scalar.cmpi .slt c128_i32_85 c0_i32_89
  let v189 : BitVec 32 := Scalar.extui v188
  let v190 : BitVec 32 := Scalar.subi v187 v189
  let v191 : BitVec 1 := Scalar.cmpi .ne v185 v190
  let v192 : BitVec 32 := Scalar.remsi v179 c128_i32_85
  let c0_i32_90 : BitVec 32 := 0#32
  let v193 : BitVec 1 := Scalar.cmpi .ne v192 c0_i32_90
  let v194 : BitVec 1 := Scalar.andi v191 v193
  let v180 : BitVec 32 := Scalar.divsi v179 c128_i32_85
  let c1_i32_91 : BitVec 32 := 1#32
  let v195 : BitVec 32 := Scalar.subi v180 c1_i32_91
  let v196 : BitVec 32 := Scalar.select v194 v195 v180
  let c128_i32_92 : BitVec 32 := 128#32
  let v197 : BitVec 32 := Scalar.muli v196 c128_i32_92
  let v198 : BitVec 32 := v197
  ![0, v198.toNat]

def k0_chk7 (v179 : BitVec 32) : Prop :=
  (128 ∣ (k0_mult7 v179).toNat) ∧
  (∀ a, (k0_off8 v179) a + S64x128.size a ≤ S64x1000064.size a)
theorem k0_mult7_dvd : ∀ (v179 : BitVec 32) (k0_hw7 : k0_chk7 v179), 128 ∣ (k0_mult7 v179).toNat := fun v179 k0_hw7 => k0_hw7.1
theorem k0_off8_inb : ∀ (v179 : BitVec 32) (k0_hw7 : k0_chk7 v179), ∀ a, (k0_off8 v179) a + S64x128.size a ≤ S64x1000064.size a := fun v179 k0_hw7 => k0_hw7.2

def k0_mult8 (v206 : BitVec 32) : BitVec 32 :=
  let c0_i32_100 : BitVec 32 := 0#32
  let v208 : BitVec 1 := Scalar.cmpi .sgt v206 c0_i32_100
  let v209 : BitVec 32 := Scalar.extui v208
  let c0_i32_101 : BitVec 32 := 0#32
  let v210 : BitVec 1 := Scalar.cmpi .slt v206 c0_i32_101
  let v211 : BitVec 32 := Scalar.extui v210
  let v212 : BitVec 32 := Scalar.subi v209 v211
  let c128_i32_99 : BitVec 32 := 128#32
  let c0_i32_102 : BitVec 32 := 0#32
  let v213 : BitVec 1 := Scalar.cmpi .sgt c128_i32_99 c0_i32_102
  let v214 : BitVec 32 := Scalar.extui v213
  let c0_i32_103 : BitVec 32 := 0#32
  let v215 : BitVec 1 := Scalar.cmpi .slt c128_i32_99 c0_i32_103
  let v216 : BitVec 32 := Scalar.extui v215
  let v217 : BitVec 32 := Scalar.subi v214 v216
  let v218 : BitVec 1 := Scalar.cmpi .ne v212 v217
  let v219 : BitVec 32 := Scalar.remsi v206 c128_i32_99
  let c0_i32_104 : BitVec 32 := 0#32
  let v220 : BitVec 1 := Scalar.cmpi .ne v219 c0_i32_104
  let v221 : BitVec 1 := Scalar.andi v218 v220
  let v207 : BitVec 32 := Scalar.divsi v206 c128_i32_99
  let c1_i32_105 : BitVec 32 := 1#32
  let v222 : BitVec 32 := Scalar.subi v207 c1_i32_105
  let v223 : BitVec 32 := Scalar.select v221 v222 v207
  let c128_i32_106 : BitVec 32 := 128#32
  let v224 : BitVec 32 := Scalar.muli v223 c128_i32_106
  v224

def k0_off9 (v206 : BitVec 32) : Fin 2 → Nat :=
  let c0_i32_109 : BitVec 32 := 0#32
  let c0_i32_100 : BitVec 32 := 0#32
  let v208 : BitVec 1 := Scalar.cmpi .sgt v206 c0_i32_100
  let v209 : BitVec 32 := Scalar.extui v208
  let c0_i32_101 : BitVec 32 := 0#32
  let v210 : BitVec 1 := Scalar.cmpi .slt v206 c0_i32_101
  let v211 : BitVec 32 := Scalar.extui v210
  let v212 : BitVec 32 := Scalar.subi v209 v211
  let c128_i32_99 : BitVec 32 := 128#32
  let c0_i32_102 : BitVec 32 := 0#32
  let v213 : BitVec 1 := Scalar.cmpi .sgt c128_i32_99 c0_i32_102
  let v214 : BitVec 32 := Scalar.extui v213
  let c0_i32_103 : BitVec 32 := 0#32
  let v215 : BitVec 1 := Scalar.cmpi .slt c128_i32_99 c0_i32_103
  let v216 : BitVec 32 := Scalar.extui v215
  let v217 : BitVec 32 := Scalar.subi v214 v216
  let v218 : BitVec 1 := Scalar.cmpi .ne v212 v217
  let v219 : BitVec 32 := Scalar.remsi v206 c128_i32_99
  let c0_i32_104 : BitVec 32 := 0#32
  let v220 : BitVec 1 := Scalar.cmpi .ne v219 c0_i32_104
  let v221 : BitVec 1 := Scalar.andi v218 v220
  let v207 : BitVec 32 := Scalar.divsi v206 c128_i32_99
  let c1_i32_105 : BitVec 32 := 1#32
  let v222 : BitVec 32 := Scalar.subi v207 c1_i32_105
  let v223 : BitVec 32 := Scalar.select v221 v222 v207
  let c128_i32_106 : BitVec 32 := 128#32
  let v224 : BitVec 32 := Scalar.muli v223 c128_i32_106
  let v225 : BitVec 32 := v224
  ![0, v225.toNat]

def k0_chk8 (v206 : BitVec 32) : Prop :=
  (128 ∣ (k0_mult8 v206).toNat) ∧
  (∀ a, (k0_off9 v206) a + S64x128.size a ≤ S64x1000064.size a)
theorem k0_mult8_dvd : ∀ (v206 : BitVec 32) (k0_hw8 : k0_chk8 v206), 128 ∣ (k0_mult8 v206).toNat := fun v206 k0_hw8 => k0_hw8.1
theorem k0_off9_inb : ∀ (v206 : BitVec 32) (k0_hw8 : k0_chk8 v206), ∀ a, (k0_off9 v206) a + S64x128.size a ≤ S64x1000064.size a := fun v206 k0_hw8 => k0_hw8.2

@[reducible] def k0_t1_loop : Scf.Loop 32 :=
  let c0_i32_113 : BitVec 32 := 0#32
  let c16_i32_114 : BitVec 32 := 16#32
  let v232 : BitVec 32 := Scalar.addi c0_i32_113 c16_i32_114
  let c1_i32_115 : BitVec 32 := 1#32
  ⟨c0_i32_113, v232, c1_i32_115⟩
def k0_off10 (k0_t1 : Fin k0_t1_loop.trips) : Fin 1 → Nat :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c16_i32_132 : BitVec 32 := 16#32
  let v248 : BitVec 32 := Scalar.muli v247 c16_i32_132
  let v252 : Index := Scalar.indexCast v248
  ![v252.toNat]
def k0_off11 (k0_t1 : Fin k0_t1_loop.trips) : Fin 1 → Nat :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c1_i32_133 : BitVec 32 := 1#32
  let v249 : BitVec 32 := Scalar.addi v247 c1_i32_133
  let c31_i32 : BitVec 32 := 31#32
  let v250 : BitVec 32 := Scalar.minsi v249 c31_i32
  let c16_i32_134 : BitVec 32 := 16#32
  let v251 : BitVec 32 := Scalar.muli v250 c16_i32_134
  let v256 : Index := Scalar.indexCast v251
  ![v256.toNat]
def k0_cond1 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c2_i32_135 : BitVec 32 := 2#32
  let v258 : BitVec 1 := Scalar.cmpi .sge v247 c2_i32_135
  let v259 : BitVec 32 := Scalar.extui v258
  let c0_i32_136 : BitVec 32 := 0#32
  let v260 : BitVec 1 := Scalar.cmpi .ne v259 c0_i32_136
  v260

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c2_i32_3380 : BitVec 32 := 2#32
  let v4406 : BitVec 32 := Scalar.subi v247 c2_i32_3380
  let c16_i32_3381 : BitVec 32 := 16#32
  let v4407 : BitVec 32 := Scalar.muli v4406 c16_i32_3381
  let v4408 : BitVec 32 := Scalar.addi v2 v4407
  let c0_i32_3385 : BitVec 32 := 0#32
  ![v4408.toNat, 0]

def k0_chk9 (v5 : IVec S16 32) (v8 : IVec S16 32) (v11 : IVec S16 32) (v14 : IVec S16 32) (v279 : IVec S16 32) : Prop :=
  (∀ a x, ((![v5, v279] : Fin 2 → IVec S16 32) a x).toNat < S64x128.size a) ∧
  (∀ a x, ((![v8, v279] : Fin 2 → IVec S16 32) a x).toNat < S64x128.size a) ∧
  (∀ a x, ((![v11, v279] : Fin 2 → IVec S16 32) a x).toNat < S64x128.size a) ∧
  (∀ a x, ((![v14, v279] : Fin 2 → IVec S16 32) a x).toNat < S64x128.size a)
theorem k0_idx1_inb : ∀ (v5 : IVec S16 32) (v8 : IVec S16 32) (v11 : IVec S16 32) (v14 : IVec S16 32) (v279 : IVec S16 32) (k0_hw9 : k0_chk9 v5 v8 v11 v14 v279), ∀ a x, ((![v5, v279] : Fin 2 → IVec S16 32) a x).toNat < S64x128.size a := fun v5 v8 v11 v14 v279 k0_hw9 => k0_hw9.1
theorem k0_idx2_inb : ∀ (v5 : IVec S16 32) (v8 : IVec S16 32) (v11 : IVec S16 32) (v14 : IVec S16 32) (v279 : IVec S16 32) (k0_hw9 : k0_chk9 v5 v8 v11 v14 v279), ∀ a x, ((![v8, v279] : Fin 2 → IVec S16 32) a x).toNat < S64x128.size a := fun v5 v8 v11 v14 v279 k0_hw9 => k0_hw9.2.1
theorem k0_idx3_inb : ∀ (v5 : IVec S16 32) (v8 : IVec S16 32) (v11 : IVec S16 32) (v14 : IVec S16 32) (v279 : IVec S16 32) (k0_hw9 : k0_chk9 v5 v8 v11 v14 v279), ∀ a x, ((![v11, v279] : Fin 2 → IVec S16 32) a x).toNat < S64x128.size a := fun v5 v8 v11 v14 v279 k0_hw9 => k0_hw9.2.2.1
theorem k0_idx4_inb : ∀ (v5 : IVec S16 32) (v8 : IVec S16 32) (v11 : IVec S16 32) (v14 : IVec S16 32) (v279 : IVec S16 32) (k0_hw9 : k0_chk9 v5 v8 v11 v14 v279), ∀ a x, ((![v14, v279] : Fin 2 → IVec S16 32) a x).toNat < S64x128.size a := fun v5 v8 v11 v14 v279 k0_hw9 => k0_hw9.2.2.2
def k0_mult9 (v305 : BitVec 32) : BitVec 32 :=
  let c0_i32_174 : BitVec 32 := 0#32
  let v307 : BitVec 1 := Scalar.cmpi .sgt v305 c0_i32_174
  let v308 : BitVec 32 := Scalar.extui v307
  let c0_i32_175 : BitVec 32 := 0#32
  let v309 : BitVec 1 := Scalar.cmpi .slt v305 c0_i32_175
  let v310 : BitVec 32 := Scalar.extui v309
  let v311 : BitVec 32 := Scalar.subi v308 v310
  let c128_i32_173 : BitVec 32 := 128#32
  let c0_i32_176 : BitVec 32 := 0#32
  let v312 : BitVec 1 := Scalar.cmpi .sgt c128_i32_173 c0_i32_176
  let v313 : BitVec 32 := Scalar.extui v312
  let c0_i32_177 : BitVec 32 := 0#32
  let v314 : BitVec 1 := Scalar.cmpi .slt c128_i32_173 c0_i32_177
  let v315 : BitVec 32 := Scalar.extui v314
  let v316 : BitVec 32 := Scalar.subi v313 v315
  let v317 : BitVec 1 := Scalar.cmpi .ne v311 v316
  let v318 : BitVec 32 := Scalar.remsi v305 c128_i32_173
  let c0_i32_178 : BitVec 32 := 0#32
  let v319 : BitVec 1 := Scalar.cmpi .ne v318 c0_i32_178
  let v320 : BitVec 1 := Scalar.andi v317 v319
  let v306 : BitVec 32 := Scalar.divsi v305 c128_i32_173
  let c1_i32_179 : BitVec 32 := 1#32
  let v321 : BitVec 32 := Scalar.subi v306 c1_i32_179
  let v322 : BitVec 32 := Scalar.select v320 v321 v306
  let c128_i32_180 : BitVec 32 := 128#32
  let v323 : BitVec 32 := Scalar.muli v322 c128_i32_180
  v323

def k0_off13 (v305 : BitVec 32) : Fin 2 → Nat :=
  let c0_i32_184 : BitVec 32 := 0#32
  let c0_i32_174 : BitVec 32 := 0#32
  let v307 : BitVec 1 := Scalar.cmpi .sgt v305 c0_i32_174
  let v308 : BitVec 32 := Scalar.extui v307
  let c0_i32_175 : BitVec 32 := 0#32
  let v309 : BitVec 1 := Scalar.cmpi .slt v305 c0_i32_175
  let v310 : BitVec 32 := Scalar.extui v309
  let v311 : BitVec 32 := Scalar.subi v308 v310
  let c128_i32_173 : BitVec 32 := 128#32
  let c0_i32_176 : BitVec 32 := 0#32
  let v312 : BitVec 1 := Scalar.cmpi .sgt c128_i32_173 c0_i32_176
  let v313 : BitVec 32 := Scalar.extui v312
  let c0_i32_177 : BitVec 32 := 0#32
  let v314 : BitVec 1 := Scalar.cmpi .slt c128_i32_173 c0_i32_177
  let v315 : BitVec 32 := Scalar.extui v314
  let v316 : BitVec 32 := Scalar.subi v313 v315
  let v317 : BitVec 1 := Scalar.cmpi .ne v311 v316
  let v318 : BitVec 32 := Scalar.remsi v305 c128_i32_173
  let c0_i32_178 : BitVec 32 := 0#32
  let v319 : BitVec 1 := Scalar.cmpi .ne v318 c0_i32_178
  let v320 : BitVec 1 := Scalar.andi v317 v319
  let v306 : BitVec 32 := Scalar.divsi v305 c128_i32_173
  let c1_i32_179 : BitVec 32 := 1#32
  let v321 : BitVec 32 := Scalar.subi v306 c1_i32_179
  let v322 : BitVec 32 := Scalar.select v320 v321 v306
  let c128_i32_180 : BitVec 32 := 128#32
  let v323 : BitVec 32 := Scalar.muli v322 c128_i32_180
  let v324 : BitVec 32 := v323
  ![0, v324.toNat]

def k0_chk10 (v305 : BitVec 32) : Prop :=
  (128 ∣ (k0_mult9 v305).toNat) ∧
  (∀ a, (k0_off13 v305) a + S64x128.size a ≤ S64x1000064.size a)
theorem k0_mult9_dvd : ∀ (v305 : BitVec 32) (k0_hw10 : k0_chk10 v305), 128 ∣ (k0_mult9 v305).toNat := fun v305 k0_hw10 => k0_hw10.1
theorem k0_off13_inb : ∀ (v305 : BitVec 32) (k0_hw10 : k0_chk10 v305), ∀ a, (k0_off13 v305) a + S64x128.size a ≤ S64x1000064.size a := fun v305 k0_hw10 => k0_hw10.2

def k0_chk11 (v5 : IVec S16 32) (v8 : IVec S16 32) (v11 : IVec S16 32) (v14 : IVec S16 32) (v349 : IVec S16 32) : Prop :=
  (∀ a x, ((![v5, v349] : Fin 2 → IVec S16 32) a x).toNat < S64x128.size a) ∧
  (∀ a x, ((![v8, v349] : Fin 2 → IVec S16 32) a x).toNat < S64x128.size a) ∧
  (∀ a x, ((![v11, v349] : Fin 2 → IVec S16 32) a x).toNat < S64x128.size a) ∧
  (∀ a x, ((![v14, v349] : Fin 2 → IVec S16 32) a x).toNat < S64x128.size a)
theorem k0_idx5_inb : ∀ (v5 : IVec S16 32) (v8 : IVec S16 32) (v11 : IVec S16 32) (v14 : IVec S16 32) (v349 : IVec S16 32) (k0_hw11 : k0_chk11 v5 v8 v11 v14 v349), ∀ a x, ((![v5, v349] : Fin 2 → IVec S16 32) a x).toNat < S64x128.size a := fun v5 v8 v11 v14 v349 k0_hw11 => k0_hw11.1
theorem k0_idx6_inb : ∀ (v5 : IVec S16 32) (v8 : IVec S16 32) (v11 : IVec S16 32) (v14 : IVec S16 32) (v349 : IVec S16 32) (k0_hw11 : k0_chk11 v5 v8 v11 v14 v349), ∀ a x, ((![v8, v349] : Fin 2 → IVec S16 32) a x).toNat < S64x128.size a := fun v5 v8 v11 v14 v349 k0_hw11 => k0_hw11.2.1
theorem k0_idx7_inb : ∀ (v5 : IVec S16 32) (v8 : IVec S16 32) (v11 : IVec S16 32) (v14 : IVec S16 32) (v349 : IVec S16 32) (k0_hw11 : k0_chk11 v5 v8 v11 v14 v349), ∀ a x, ((![v11, v349] : Fin 2 → IVec S16 32) a x).toNat < S64x128.size a := fun v5 v8 v11 v14 v349 k0_hw11 => k0_hw11.2.2.1
theorem k0_idx8_inb : ∀ (v5 : IVec S16 32) (v8 : IVec S16 32) (v11 : IVec S16 32) (v14 : IVec S16 32) (v349 : IVec S16 32) (k0_hw11 : k0_chk11 v5 v8 v11 v14 v349), ∀ a x, ((![v14, v349] : Fin 2 → IVec S16 32) a x).toNat < S64x128.size a := fun v5 v8 v11 v14 v349 k0_hw11 => k0_hw11.2.2.2
def k0_mult10 (v375 : BitVec 32) : BitVec 32 :=
  let c0_i32_228 : BitVec 32 := 0#32
  let v377 : BitVec 1 := Scalar.cmpi .sgt v375 c0_i32_228
  let v378 : BitVec 32 := Scalar.extui v377
  let c0_i32_229 : BitVec 32 := 0#32
  let v379 : BitVec 1 := Scalar.cmpi .slt v375 c0_i32_229
  let v380 : BitVec 32 := Scalar.extui v379
  let v381 : BitVec 32 := Scalar.subi v378 v380
  let c128_i32_227 : BitVec 32 := 128#32
  let c0_i32_230 : BitVec 32 := 0#32
  let v382 : BitVec 1 := Scalar.cmpi .sgt c128_i32_227 c0_i32_230
  let v383 : BitVec 32 := Scalar.extui v382
  let c0_i32_231 : BitVec 32 := 0#32
  let v384 : BitVec 1 := Scalar.cmpi .slt c128_i32_227 c0_i32_231
  let v385 : BitVec 32 := Scalar.extui v384
  let v386 : BitVec 32 := Scalar.subi v383 v385
  let v387 : BitVec 1 := Scalar.cmpi .ne v381 v386
  let v388 : BitVec 32 := Scalar.remsi v375 c128_i32_227
  let c0_i32_232 : BitVec 32 := 0#32
  let v389 : BitVec 1 := Scalar.cmpi .ne v388 c0_i32_232
  let v390 : BitVec 1 := Scalar.andi v387 v389
  let v376 : BitVec 32 := Scalar.divsi v375 c128_i32_227
  let c1_i32_233 : BitVec 32 := 1#32
  let v391 : BitVec 32 := Scalar.subi v376 c1_i32_233
  let v392 : BitVec 32 := Scalar.select v390 v391 v376
  let c128_i32_234 : BitVec 32 := 128#32
  let v393 : BitVec 32 := Scalar.muli v392 c128_i32_234
  v393

def k0_off14 (v375 : BitVec 32) : Fin 2 → Nat :=
  let c0_i32_238 : BitVec 32 := 0#32
  let c0_i32_228 : BitVec 32 := 0#32
  let v377 : BitVec 1 := Scalar.cmpi .sgt v375 c0_i32_228
  let v378 : BitVec 32 := Scalar.extui v377
  let c0_i32_229 : BitVec 32 := 0#32
  let v379 : BitVec 1 := Scalar.cmpi .slt v375 c0_i32_229
  let v380 : BitVec 32 := Scalar.extui v379
  let v381 : BitVec 32 := Scalar.subi v378 v380
  let c128_i32_227 : BitVec 32 := 128#32
  let c0_i32_230 : BitVec 32 := 0#32
  let v382 : BitVec 1 := Scalar.cmpi .sgt c128_i32_227 c0_i32_230
  let v383 : BitVec 32 := Scalar.extui v382
  let c0_i32_231 : BitVec 32 := 0#32
  let v384 : BitVec 1 := Scalar.cmpi .slt c128_i32_227 c0_i32_231
  let v385 : BitVec 32 := Scalar.extui v384
  let v386 : BitVec 32 := Scalar.subi v383 v385
  let v387 : BitVec 1 := Scalar.cmpi .ne v381 v386
  let v388 : BitVec 32 := Scalar.remsi v375 c128_i32_227
  let c0_i32_232 : BitVec 32 := 0#32
  let v389 : BitVec 1 := Scalar.cmpi .ne v388 c0_i32_232
  let v390 : BitVec 1 := Scalar.andi v387 v389
  let v376 : BitVec 32 := Scalar.divsi v375 c128_i32_227
  let c1_i32_233 : BitVec 32 := 1#32
  let v391 : BitVec 32 := Scalar.subi v376 c1_i32_233
  let v392 : BitVec 32 := Scalar.select v390 v391 v376
  let c128_i32_234 : BitVec 32 := 128#32
  let v393 : BitVec 32 := Scalar.muli v392 c128_i32_234
  let v394 : BitVec 32 := v393
  ![0, v394.toNat]

def k0_chk12 (v375 : BitVec 32) : Prop :=
  (128 ∣ (k0_mult10 v375).toNat) ∧
  (∀ a, (k0_off14 v375) a + S64x128.size a ≤ S64x1000064.size a)
theorem k0_mult10_dvd : ∀ (v375 : BitVec 32) (k0_hw12 : k0_chk12 v375), 128 ∣ (k0_mult10 v375).toNat := fun v375 k0_hw12 => k0_hw12.1
theorem k0_off14_inb : ∀ (v375 : BitVec 32) (k0_hw12 : k0_chk12 v375), ∀ a, (k0_off14 v375) a + S64x128.size a ≤ S64x1000064.size a := fun v375 k0_hw12 => k0_hw12.2

def k0_chk13 (v5 : IVec S16 32) (v8 : IVec S16 32) (v11 : IVec S16 32) (v14 : IVec S16 32) (v419 : IVec S16 32) : Prop :=
  (∀ a x, ((![v5, v419] : Fin 2 → IVec S16 32) a x).toNat < S64x128.size a) ∧
  (∀ a x, ((![v8, v419] : Fin 2 → IVec S16 32) a x).toNat < S64x128.size a) ∧
  (∀ a x, ((![v11, v419] : Fin 2 → IVec S16 32) a x).toNat < S64x128.size a) ∧
  (∀ a x, ((![v14, v419] : Fin 2 → IVec S16 32) a x).toNat < S64x128.size a)
theorem k0_idx9_inb : ∀ (v5 : IVec S16 32) (v8 : IVec S16 32) (v11 : IVec S16 32) (v14 : IVec S16 32) (v419 : IVec S16 32) (k0_hw13 : k0_chk13 v5 v8 v11 v14 v419), ∀ a x, ((![v5, v419] : Fin 2 → IVec S16 32) a x).toNat < S64x128.size a := fun v5 v8 v11 v14 v419 k0_hw13 => k0_hw13.1
theorem k0_idx10_inb : ∀ (v5 : IVec S16 32) (v8 : IVec S16 32) (v11 : IVec S16 32) (v14 : IVec S16 32) (v419 : IVec S16 32) (k0_hw13 : k0_chk13 v5 v8 v11 v14 v419), ∀ a x, ((![v8, v419] : Fin 2 → IVec S16 32) a x).toNat < S64x128.size a := fun v5 v8 v11 v14 v419 k0_hw13 => k0_hw13.2.1
theorem k0_idx11_inb : ∀ (v5 : IVec S16 32) (v8 : IVec S16 32) (v11 : IVec S16 32) (v14 : IVec S16 32) (v419 : IVec S16 32) (k0_hw13 : k0_chk13 v5 v8 v11 v14 v419), ∀ a x, ((![v11, v419] : Fin 2 → IVec S16 32) a x).toNat < S64x128.size a := fun v5 v8 v11 v14 v419 k0_hw13 => k0_hw13.2.2.1
theorem k0_idx12_inb : ∀ (v5 : IVec S16 32) (v8 : IVec S16 32) (v11 : IVec S16 32) (v14 : IVec S16 32) (v419 : IVec S16 32) (k0_hw13 : k0_chk13 v5 v8 v11 v14 v419), ∀ a x, ((![v14, v419] : Fin 2 → IVec S16 32) a x).toNat < S64x128.size a := fun v5 v8 v11 v14 v419 k0_hw13 => k0_hw13.2.2.2
def k0_mult11 (v445 : BitVec 32) : BitVec 32 :=
  let c0_i32_282 : BitVec 32 := 0#32
  let v447 : BitVec 1 := Scalar.cmpi .sgt v445 c0_i32_282
  let v448 : BitVec 32 := Scalar.extui v447
  let c0_i32_283 : BitVec 32 := 0#32
  let v449 : BitVec 1 := Scalar.cmpi .slt v445 c0_i32_283
  let v450 : BitVec 32 := Scalar.extui v449
  let v451 : BitVec 32 := Scalar.subi v448 v450
  let c128_i32_281 : BitVec 32 := 128#32
  let c0_i32_284 : BitVec 32 := 0#32
  let v452 : BitVec 1 := Scalar.cmpi .sgt c128_i32_281 c0_i32_284
  let v453 : BitVec 32 := Scalar.extui v452
  let c0_i32_285 : BitVec 32 := 0#32
  let v454 : BitVec 1 := Scalar.cmpi .slt c128_i32_281 c0_i32_285
  let v455 : BitVec 32 := Scalar.extui v454
  let v456 : BitVec 32 := Scalar.subi v453 v455
  let v457 : BitVec 1 := Scalar.cmpi .ne v451 v456
  let v458 : BitVec 32 := Scalar.remsi v445 c128_i32_281
  let c0_i32_286 : BitVec 32 := 0#32
  let v459 : BitVec 1 := Scalar.cmpi .ne v458 c0_i32_286
  let v460 : BitVec 1 := Scalar.andi v457 v459
  let v446 : BitVec 32 := Scalar.divsi v445 c128_i32_281
  let c1_i32_287 : BitVec 32 := 1#32
  let v461 : BitVec 32 := Scalar.subi v446 c1_i32_287
  let v462 : BitVec 32 := Scalar.select v460 v461 v446
  let c128_i32_288 : BitVec 32 := 128#32
  let v463 : BitVec 32 := Scalar.muli v462 c128_i32_288
  v463

def k0_off15 (v445 : BitVec 32) : Fin 2 → Nat :=
  let c0_i32_292 : BitVec 32 := 0#32
  let c0_i32_282 : BitVec 32 := 0#32
  let v447 : BitVec 1 := Scalar.cmpi .sgt v445 c0_i32_282
  let v448 : BitVec 32 := Scalar.extui v447
  let c0_i32_283 : BitVec 32 := 0#32
  let v449 : BitVec 1 := Scalar.cmpi .slt v445 c0_i32_283
  let v450 : BitVec 32 := Scalar.extui v449
  let v451 : BitVec 32 := Scalar.subi v448 v450
  let c128_i32_281 : BitVec 32 := 128#32
  let c0_i32_284 : BitVec 32 := 0#32
  let v452 : BitVec 1 := Scalar.cmpi .sgt c128_i32_281 c0_i32_284
  let v453 : BitVec 32 := Scalar.extui v452
  let c0_i32_285 : BitVec 32 := 0#32
  let v454 : BitVec 1 := Scalar.cmpi .slt c128_i32_281 c0_i32_285
  let v455 : BitVec 32 := Scalar.extui v454
  let v456 : BitVec 32 := Scalar.subi v453 v455
  let v457 : BitVec 1 := Scalar.cmpi .ne v451 v456
  let v458 : BitVec 32 := Scalar.remsi v445 c128_i32_281
  let c0_i32_286 : BitVec 32 := 0#32
  let v459 : BitVec 1 := Scalar.cmpi .ne v458 c0_i32_286
  let v460 : BitVec 1 := Scalar.andi v457 v459
  let v446 : BitVec 32 := Scalar.divsi v445 c128_i32_281
  let c1_i32_287 : BitVec 32 := 1#32
  let v461 : BitVec 32 := Scalar.subi v446 c1_i32_287
  let v462 : BitVec 32 := Scalar.select v460 v461 v446
  let c128_i32_288 : BitVec 32 := 128#32
  let v463 : BitVec 32 := Scalar.muli v462 c128_i32_288
  let v464 : BitVec 32 := v463
  ![0, v464.toNat]

def k0_chk14 (v445 : BitVec 32) : Prop :=
  (128 ∣ (k0_mult11 v445).toNat) ∧
  (∀ a, (k0_off15 v445) a + S64x128.size a ≤ S64x1000064.size a)
theorem k0_mult11_dvd : ∀ (v445 : BitVec 32) (k0_hw14 : k0_chk14 v445), 128 ∣ (k0_mult11 v445).toNat := fun v445 k0_hw14 => k0_hw14.1
theorem k0_off15_inb : ∀ (v445 : BitVec 32) (k0_hw14 : k0_chk14 v445), ∀ a, (k0_off15 v445) a + S64x128.size a ≤ S64x1000064.size a := fun v445 k0_hw14 => k0_hw14.2

def k0_chk15 (v5 : IVec S16 32) (v8 : IVec S16 32) (v11 : IVec S16 32) (v14 : IVec S16 32) (v489 : IVec S16 32) : Prop :=
  (∀ a x, ((![v5, v489] : Fin 2 → IVec S16 32) a x).toNat < S64x128.size a) ∧
  (∀ a x, ((![v8, v489] : Fin 2 → IVec S16 32) a x).toNat < S64x128.size a) ∧
  (∀ a x, ((![v11, v489] : Fin 2 → IVec S16 32) a x).toNat < S64x128.size a) ∧
  (∀ a x, ((![v14, v489] : Fin 2 → IVec S16 32) a x).toNat < S64x128.size a)
theorem k0_idx13_inb : ∀ (v5 : IVec S16 32) (v8 : IVec S16 32) (v11 : IVec S16 32) (v14 : IVec S16 32) (v489 : IVec S16 32) (k0_hw15 : k0_chk15 v5 v8 v11 v14 v489), ∀ a x, ((![v5, v489] : Fin 2 → IVec S16 32) a x).toNat < S64x128.size a := fun v5 v8 v11 v14 v489 k0_hw15 => k0_hw15.1
theorem k0_idx14_inb : ∀ (v5 : IVec S16 32) (v8 : IVec S16 32) (v11 : IVec S16 32) (v14 : IVec S16 32) (v489 : IVec S16 32) (k0_hw15 : k0_chk15 v5 v8 v11 v14 v489), ∀ a x, ((![v8, v489] : Fin 2 → IVec S16 32) a x).toNat < S64x128.size a := fun v5 v8 v11 v14 v489 k0_hw15 => k0_hw15.2.1
theorem k0_idx15_inb : ∀ (v5 : IVec S16 32) (v8 : IVec S16 32) (v11 : IVec S16 32) (v14 : IVec S16 32) (v489 : IVec S16 32) (k0_hw15 : k0_chk15 v5 v8 v11 v14 v489), ∀ a x, ((![v11, v489] : Fin 2 → IVec S16 32) a x).toNat < S64x128.size a := fun v5 v8 v11 v14 v489 k0_hw15 => k0_hw15.2.2.1
theorem k0_idx16_inb : ∀ (v5 : IVec S16 32) (v8 : IVec S16 32) (v11 : IVec S16 32) (v14 : IVec S16 32) (v489 : IVec S16 32) (k0_hw15 : k0_chk15 v5 v8 v11 v14 v489), ∀ a x, ((![v14, v489] : Fin 2 → IVec S16 32) a x).toNat < S64x128.size a := fun v5 v8 v11 v14 v489 k0_hw15 => k0_hw15.2.2.2
def k0_mult12 (v515 : BitVec 32) : BitVec 32 :=
  let c0_i32_336 : BitVec 32 := 0#32
  let v517 : BitVec 1 := Scalar.cmpi .sgt v515 c0_i32_336
  let v518 : BitVec 32 := Scalar.extui v517
  let c0_i32_337 : BitVec 32 := 0#32
  let v519 : BitVec 1 := Scalar.cmpi .slt v515 c0_i32_337
  let v520 : BitVec 32 := Scalar.extui v519
  let v521 : BitVec 32 := Scalar.subi v518 v520
  let c128_i32_335 : BitVec 32 := 128#32
  let c0_i32_338 : BitVec 32 := 0#32
  let v522 : BitVec 1 := Scalar.cmpi .sgt c128_i32_335 c0_i32_338
  let v523 : BitVec 32 := Scalar.extui v522
  let c0_i32_339 : BitVec 32 := 0#32
  let v524 : BitVec 1 := Scalar.cmpi .slt c128_i32_335 c0_i32_339
  let v525 : BitVec 32 := Scalar.extui v524
  let v526 : BitVec 32 := Scalar.subi v523 v525
  let v527 : BitVec 1 := Scalar.cmpi .ne v521 v526
  let v528 : BitVec 32 := Scalar.remsi v515 c128_i32_335
  let c0_i32_340 : BitVec 32 := 0#32
  let v529 : BitVec 1 := Scalar.cmpi .ne v528 c0_i32_340
  let v530 : BitVec 1 := Scalar.andi v527 v529
  let v516 : BitVec 32 := Scalar.divsi v515 c128_i32_335
  let c1_i32_341 : BitVec 32 := 1#32
  let v531 : BitVec 32 := Scalar.subi v516 c1_i32_341
  let v532 : BitVec 32 := Scalar.select v530 v531 v516
  let c128_i32_342 : BitVec 32 := 128#32
  let v533 : BitVec 32 := Scalar.muli v532 c128_i32_342
  v533

def k0_off16 (v515 : BitVec 32) : Fin 2 → Nat :=
  let c0_i32_346 : BitVec 32 := 0#32
  let c0_i32_336 : BitVec 32 := 0#32
  let v517 : BitVec 1 := Scalar.cmpi .sgt v515 c0_i32_336
  let v518 : BitVec 32 := Scalar.extui v517
  let c0_i32_337 : BitVec 32 := 0#32
  let v519 : BitVec 1 := Scalar.cmpi .slt v515 c0_i32_337
  let v520 : BitVec 32 := Scalar.extui v519
  let v521 : BitVec 32 := Scalar.subi v518 v520
  let c128_i32_335 : BitVec 32 := 128#32
  let c0_i32_338 : BitVec 32 := 0#32
  let v522 : BitVec 1 := Scalar.cmpi .sgt c128_i32_335 c0_i32_338
  let v523 : BitVec 32 := Scalar.extui v522
  let c0_i32_339 : BitVec 32 := 0#32
  let v524 : BitVec 1 := Scalar.cmpi .slt c128_i32_335 c0_i32_339
  let v525 : BitVec 32 := Scalar.extui v524
  let v526 : BitVec 32 := Scalar.subi v523 v525
  let v527 : BitVec 1 := Scalar.cmpi .ne v521 v526
  let v528 : BitVec 32 := Scalar.remsi v515 c128_i32_335
  let c0_i32_340 : BitVec 32 := 0#32
  let v529 : BitVec 1 := Scalar.cmpi .ne v528 c0_i32_340
  let v530 : BitVec 1 := Scalar.andi v527 v529
  let v516 : BitVec 32 := Scalar.divsi v515 c128_i32_335
  let c1_i32_341 : BitVec 32 := 1#32
  let v531 : BitVec 32 := Scalar.subi v516 c1_i32_341
  let v532 : BitVec 32 := Scalar.select v530 v531 v516
  let c128_i32_342 : BitVec 32 := 128#32
  let v533 : BitVec 32 := Scalar.muli v532 c128_i32_342
  let v534 : BitVec 32 := v533
  ![0, v534.toNat]

def k0_chk16 (v515 : BitVec 32) : Prop :=
  (128 ∣ (k0_mult12 v515).toNat) ∧
  (∀ a, (k0_off16 v515) a + S64x128.size a ≤ S64x1000064.size a)
theorem k0_mult12_dvd : ∀ (v515 : BitVec 32) (k0_hw16 : k0_chk16 v515), 128 ∣ (k0_mult12 v515).toNat := fun v515 k0_hw16 => k0_hw16.1
theorem k0_off16_inb : ∀ (v515 : BitVec 32) (k0_hw16 : k0_chk16 v515), ∀ a, (k0_off16 v515) a + S64x128.size a ≤ S64x1000064.size a := fun v515 k0_hw16 => k0_hw16.2

def k0_chk17 (v5 : IVec S16 32) (v8 : IVec S16 32) (v11 : IVec S16 32) (v14 : IVec S16 32) (v559 : IVec S16 32) : Prop :=
  (∀ a x, ((![v5, v559] : Fin 2 → IVec S16 32) a x).toNat < S64x128.size a) ∧
  (∀ a x, ((![v8, v559] : Fin 2 → IVec S16 32) a x).toNat < S64x128.size a) ∧
  (∀ a x, ((![v11, v559] : Fin 2 → IVec S16 32) a x).toNat < S64x128.size a) ∧
  (∀ a x, ((![v14, v559] : Fin 2 → IVec S16 32) a x).toNat < S64x128.size a)
theorem k0_idx17_inb : ∀ (v5 : IVec S16 32) (v8 : IVec S16 32) (v11 : IVec S16 32) (v14 : IVec S16 32) (v559 : IVec S16 32) (k0_hw17 : k0_chk17 v5 v8 v11 v14 v559), ∀ a x, ((![v5, v559] : Fin 2 → IVec S16 32) a x).toNat < S64x128.size a := fun v5 v8 v11 v14 v559 k0_hw17 => k0_hw17.1
theorem k0_idx18_inb : ∀ (v5 : IVec S16 32) (v8 : IVec S16 32) (v11 : IVec S16 32) (v14 : IVec S16 32) (v559 : IVec S16 32) (k0_hw17 : k0_chk17 v5 v8 v11 v14 v559), ∀ a x, ((![v8, v559] : Fin 2 → IVec S16 32) a x).toNat < S64x128.size a := fun v5 v8 v11 v14 v559 k0_hw17 => k0_hw17.2.1
theorem k0_idx19_inb : ∀ (v5 : IVec S16 32) (v8 : IVec S16 32) (v11 : IVec S16 32) (v14 : IVec S16 32) (v559 : IVec S16 32) (k0_hw17 : k0_chk17 v5 v8 v11 v14 v559), ∀ a x, ((![v11, v559] : Fin 2 → IVec S16 32) a x).toNat < S64x128.size a := fun v5 v8 v11 v14 v559 k0_hw17 => k0_hw17.2.2.1
theorem k0_idx20_inb : ∀ (v5 : IVec S16 32) (v8 : IVec S16 32) (v11 : IVec S16 32) (v14 : IVec S16 32) (v559 : IVec S16 32) (k0_hw17 : k0_chk17 v5 v8 v11 v14 v559), ∀ a x, ((![v14, v559] : Fin 2 → IVec S16 32) a x).toNat < S64x128.size a := fun v5 v8 v11 v14 v559 k0_hw17 => k0_hw17.2.2.2
def k0_mult13 (v585 : BitVec 32) : BitVec 32 :=
  let c0_i32_390 : BitVec 32 := 0#32
  let v587 : BitVec 1 := Scalar.cmpi .sgt v585 c0_i32_390
  let v588 : BitVec 32 := Scalar.extui v587
  let c0_i32_391 : BitVec 32 := 0#32
  let v589 : BitVec 1 := Scalar.cmpi .slt v585 c0_i32_391
  let v590 : BitVec 32 := Scalar.extui v589
  let v591 : BitVec 32 := Scalar.subi v588 v590
  let c128_i32_389 : BitVec 32 := 128#32
  let c0_i32_392 : BitVec 32 := 0#32
  let v592 : BitVec 1 := Scalar.cmpi .sgt c128_i32_389 c0_i32_392
  let v593 : BitVec 32 := Scalar.extui v592
  let c0_i32_393 : BitVec 32 := 0#32
  let v594 : BitVec 1 := Scalar.cmpi .slt c128_i32_389 c0_i32_393
  let v595 : BitVec 32 := Scalar.extui v594
  let v596 : BitVec 32 := Scalar.subi v593 v595
  let v597 : BitVec 1 := Scalar.cmpi .ne v591 v596
  let v598 : BitVec 32 := Scalar.remsi v585 c128_i32_389
  let c0_i32_394 : BitVec 32 := 0#32
  let v599 : BitVec 1 := Scalar.cmpi .ne v598 c0_i32_394
  let v600 : BitVec 1 := Scalar.andi v597 v599
  let v586 : BitVec 32 := Scalar.divsi v585 c128_i32_389
  let c1_i32_395 : BitVec 32 := 1#32
  let v601 : BitVec 32 := Scalar.subi v586 c1_i32_395
  let v602 : BitVec 32 := Scalar.select v600 v601 v586
  let c128_i32_396 : BitVec 32 := 128#32
  let v603 : BitVec 32 := Scalar.muli v602 c128_i32_396
  v603

def k0_off17 (v585 : BitVec 32) : Fin 2 → Nat :=
  let c0_i32_400 : BitVec 32 := 0#32
  let c0_i32_390 : BitVec 32 := 0#32
  let v587 : BitVec 1 := Scalar.cmpi .sgt v585 c0_i32_390
  let v588 : BitVec 32 := Scalar.extui v587
  let c0_i32_391 : BitVec 32 := 0#32
  let v589 : BitVec 1 := Scalar.cmpi .slt v585 c0_i32_391
  let v590 : BitVec 32 := Scalar.extui v589
  let v591 : BitVec 32 := Scalar.subi v588 v590
  let c128_i32_389 : BitVec 32 := 128#32
  let c0_i32_392 : BitVec 32 := 0#32
  let v592 : BitVec 1 := Scalar.cmpi .sgt c128_i32_389 c0_i32_392
  let v593 : BitVec 32 := Scalar.extui v592
  let c0_i32_393 : BitVec 32 := 0#32
  let v594 : BitVec 1 := Scalar.cmpi .slt c128_i32_389 c0_i32_393
  let v595 : BitVec 32 := Scalar.extui v594
  let v596 : BitVec 32 := Scalar.subi v593 v595
  let v597 : BitVec 1 := Scalar.cmpi .ne v591 v596
  let v598 : BitVec 32 := Scalar.remsi v585 c128_i32_389
  let c0_i32_394 : BitVec 32 := 0#32
  let v599 : BitVec 1 := Scalar.cmpi .ne v598 c0_i32_394
  let v600 : BitVec 1 := Scalar.andi v597 v599
  let v586 : BitVec 32 := Scalar.divsi v585 c128_i32_389
  let c1_i32_395 : BitVec 32 := 1#32
  let v601 : BitVec 32 := Scalar.subi v586 c1_i32_395
  let v602 : BitVec 32 := Scalar.select v600 v601 v586
  let c128_i32_396 : BitVec 32 := 128#32
  let v603 : BitVec 32 := Scalar.muli v602 c128_i32_396
  let v604 : BitVec 32 := v603
  ![0, v604.toNat]

def k0_chk18 (v585 : BitVec 32) : Prop :=
  (128 ∣ (k0_mult13 v585).toNat) ∧
  (∀ a, (k0_off17 v585) a + S64x128.size a ≤ S64x1000064.size a)
theorem k0_mult13_dvd : ∀ (v585 : BitVec 32) (k0_hw18 : k0_chk18 v585), 128 ∣ (k0_mult13 v585).toNat := fun v585 k0_hw18 => k0_hw18.1
theorem k0_off17_inb : ∀ (v585 : BitVec 32) (k0_hw18 : k0_chk18 v585), ∀ a, (k0_off17 v585) a + S64x128.size a ≤ S64x1000064.size a := fun v585 k0_hw18 => k0_hw18.2

def k0_chk19 (v5 : IVec S16 32) (v8 : IVec S16 32) (v11 : IVec S16 32) (v14 : IVec S16 32) (v629 : IVec S16 32) : Prop :=
  (∀ a x, ((![v5, v629] : Fin 2 → IVec S16 32) a x).toNat < S64x128.size a) ∧
  (∀ a x, ((![v8, v629] : Fin 2 → IVec S16 32) a x).toNat < S64x128.size a) ∧
  (∀ a x, ((![v11, v629] : Fin 2 → IVec S16 32) a x).toNat < S64x128.size a) ∧
  (∀ a x, ((![v14, v629] : Fin 2 → IVec S16 32) a x).toNat < S64x128.size a)
theorem k0_idx21_inb : ∀ (v5 : IVec S16 32) (v8 : IVec S16 32) (v11 : IVec S16 32) (v14 : IVec S16 32) (v629 : IVec S16 32) (k0_hw19 : k0_chk19 v5 v8 v11 v14 v629), ∀ a x, ((![v5, v629] : Fin 2 → IVec S16 32) a x).toNat < S64x128.size a := fun v5 v8 v11 v14 v629 k0_hw19 => k0_hw19.1
theorem k0_idx22_inb : ∀ (v5 : IVec S16 32) (v8 : IVec S16 32) (v11 : IVec S16 32) (v14 : IVec S16 32) (v629 : IVec S16 32) (k0_hw19 : k0_chk19 v5 v8 v11 v14 v629), ∀ a x, ((![v8, v629] : Fin 2 → IVec S16 32) a x).toNat < S64x128.size a := fun v5 v8 v11 v14 v629 k0_hw19 => k0_hw19.2.1
theorem k0_idx23_inb : ∀ (v5 : IVec S16 32) (v8 : IVec S16 32) (v11 : IVec S16 32) (v14 : IVec S16 32) (v629 : IVec S16 32) (k0_hw19 : k0_chk19 v5 v8 v11 v14 v629), ∀ a x, ((![v11, v629] : Fin 2 → IVec S16 32) a x).toNat < S64x128.size a := fun v5 v8 v11 v14 v629 k0_hw19 => k0_hw19.2.2.1
theorem k0_idx24_inb : ∀ (v5 : IVec S16 32) (v8 : IVec S16 32) (v11 : IVec S16 32) (v14 : IVec S16 32) (v629 : IVec S16 32) (k0_hw19 : k0_chk19 v5 v8 v11 v14 v629), ∀ a x, ((![v14, v629] : Fin 2 → IVec S16 32) a x).toNat < S64x128.size a := fun v5 v8 v11 v14 v629 k0_hw19 => k0_hw19.2.2.2
def k0_mult14 (v655 : BitVec 32) : BitVec 32 :=
  let c0_i32_444 : BitVec 32 := 0#32
  let v657 : BitVec 1 := Scalar.cmpi .sgt v655 c0_i32_444
  let v658 : BitVec 32 := Scalar.extui v657
  let c0_i32_445 : BitVec 32 := 0#32
  let v659 : BitVec 1 := Scalar.cmpi .slt v655 c0_i32_445
  let v660 : BitVec 32 := Scalar.extui v659
  let v661 : BitVec 32 := Scalar.subi v658 v660
  let c128_i32_443 : BitVec 32 := 128#32
  let c0_i32_446 : BitVec 32 := 0#32
  let v662 : BitVec 1 := Scalar.cmpi .sgt c128_i32_443 c0_i32_446
  let v663 : BitVec 32 := Scalar.extui v662
  let c0_i32_447 : BitVec 32 := 0#32
  let v664 : BitVec 1 := Scalar.cmpi .slt c128_i32_443 c0_i32_447
  let v665 : BitVec 32 := Scalar.extui v664
  let v666 : BitVec 32 := Scalar.subi v663 v665
  let v667 : BitVec 1 := Scalar.cmpi .ne v661 v666
  let v668 : BitVec 32 := Scalar.remsi v655 c128_i32_443
  let c0_i32_448 : BitVec 32 := 0#32
  let v669 : BitVec 1 := Scalar.cmpi .ne v668 c0_i32_448
  let v670 : BitVec 1 := Scalar.andi v667 v669
  let v656 : BitVec 32 := Scalar.divsi v655 c128_i32_443
  let c1_i32_449 : BitVec 32 := 1#32
  let v671 : BitVec 32 := Scalar.subi v656 c1_i32_449
  let v672 : BitVec 32 := Scalar.select v670 v671 v656
  let c128_i32_450 : BitVec 32 := 128#32
  let v673 : BitVec 32 := Scalar.muli v672 c128_i32_450
  v673

def k0_off18 (v655 : BitVec 32) : Fin 2 → Nat :=
  let c0_i32_454 : BitVec 32 := 0#32
  let c0_i32_444 : BitVec 32 := 0#32
  let v657 : BitVec 1 := Scalar.cmpi .sgt v655 c0_i32_444
  let v658 : BitVec 32 := Scalar.extui v657
  let c0_i32_445 : BitVec 32 := 0#32
  let v659 : BitVec 1 := Scalar.cmpi .slt v655 c0_i32_445
  let v660 : BitVec 32 := Scalar.extui v659
  let v661 : BitVec 32 := Scalar.subi v658 v660
  let c128_i32_443 : BitVec 32 := 128#32
  let c0_i32_446 : BitVec 32 := 0#32
  let v662 : BitVec 1 := Scalar.cmpi .sgt c128_i32_443 c0_i32_446
  let v663 : BitVec 32 := Scalar.extui v662
  let c0_i32_447 : BitVec 32 := 0#32
  let v664 : BitVec 1 := Scalar.cmpi .slt c128_i32_443 c0_i32_447
  let v665 : BitVec 32 := Scalar.extui v664
  let v666 : BitVec 32 := Scalar.subi v663 v665
  let v667 : BitVec 1 := Scalar.cmpi .ne v661 v666
  let v668 : BitVec 32 := Scalar.remsi v655 c128_i32_443
  let c0_i32_448 : BitVec 32 := 0#32
  let v669 : BitVec 1 := Scalar.cmpi .ne v668 c0_i32_448
  let v670 : BitVec 1 := Scalar.andi v667 v669
  let v656 : BitVec 32 := Scalar.divsi v655 c128_i32_443
  let c1_i32_449 : BitVec 32 := 1#32
  let v671 : BitVec 32 := Scalar.subi v656 c1_i32_449
  let v672 : BitVec 32 := Scalar.select v670 v671 v656
  let c128_i32_450 : BitVec 32 := 128#32
  let v673 : BitVec 32 := Scalar.muli v672 c128_i32_450
  let v674 : BitVec 32 := v673
  ![0, v674.toNat]

def k0_chk20 (v655 : BitVec 32) : Prop :=
  (128 ∣ (k0_mult14 v655).toNat) ∧
  (∀ a, (k0_off18 v655) a + S64x128.size a ≤ S64x1000064.size a)
theorem k0_mult14_dvd : ∀ (v655 : BitVec 32) (k0_hw20 : k0_chk20 v655), 128 ∣ (k0_mult14 v655).toNat := fun v655 k0_hw20 => k0_hw20.1
theorem k0_off18_inb : ∀ (v655 : BitVec 32) (k0_hw20 : k0_chk20 v655), ∀ a, (k0_off18 v655) a + S64x128.size a ≤ S64x1000064.size a := fun v655 k0_hw20 => k0_hw20.2

def k0_chk21 (v5 : IVec S16 32) (v8 : IVec S16 32) (v11 : IVec S16 32) (v14 : IVec S16 32) (v699 : IVec S16 32) : Prop :=
  (∀ a x, ((![v5, v699] : Fin 2 → IVec S16 32) a x).toNat < S64x128.size a) ∧
  (∀ a x, ((![v8, v699] : Fin 2 → IVec S16 32) a x).toNat < S64x128.size a) ∧
  (∀ a x, ((![v11, v699] : Fin 2 → IVec S16 32) a x).toNat < S64x128.size a) ∧
  (∀ a x, ((![v14, v699] : Fin 2 → IVec S16 32) a x).toNat < S64x128.size a)
theorem k0_idx25_inb : ∀ (v5 : IVec S16 32) (v8 : IVec S16 32) (v11 : IVec S16 32) (v14 : IVec S16 32) (v699 : IVec S16 32) (k0_hw21 : k0_chk21 v5 v8 v11 v14 v699), ∀ a x, ((![v5, v699] : Fin 2 → IVec S16 32) a x).toNat < S64x128.size a := fun v5 v8 v11 v14 v699 k0_hw21 => k0_hw21.1
theorem k0_idx26_inb : ∀ (v5 : IVec S16 32) (v8 : IVec S16 32) (v11 : IVec S16 32) (v14 : IVec S16 32) (v699 : IVec S16 32) (k0_hw21 : k0_chk21 v5 v8 v11 v14 v699), ∀ a x, ((![v8, v699] : Fin 2 → IVec S16 32) a x).toNat < S64x128.size a := fun v5 v8 v11 v14 v699 k0_hw21 => k0_hw21.2.1
theorem k0_idx27_inb : ∀ (v5 : IVec S16 32) (v8 : IVec S16 32) (v11 : IVec S16 32) (v14 : IVec S16 32) (v699 : IVec S16 32) (k0_hw21 : k0_chk21 v5 v8 v11 v14 v699), ∀ a x, ((![v11, v699] : Fin 2 → IVec S16 32) a x).toNat < S64x128.size a := fun v5 v8 v11 v14 v699 k0_hw21 => k0_hw21.2.2.1
theorem k0_idx28_inb : ∀ (v5 : IVec S16 32) (v8 : IVec S16 32) (v11 : IVec S16 32) (v14 : IVec S16 32) (v699 : IVec S16 32) (k0_hw21 : k0_chk21 v5 v8 v11 v14 v699), ∀ a x, ((![v14, v699] : Fin 2 → IVec S16 32) a x).toNat < S64x128.size a := fun v5 v8 v11 v14 v699 k0_hw21 => k0_hw21.2.2.2
def k0_mult15 (v725 : BitVec 32) : BitVec 32 :=
  let c0_i32_498 : BitVec 32 := 0#32
  let v727 : BitVec 1 := Scalar.cmpi .sgt v725 c0_i32_498
  let v728 : BitVec 32 := Scalar.extui v727
  let c0_i32_499 : BitVec 32 := 0#32
  let v729 : BitVec 1 := Scalar.cmpi .slt v725 c0_i32_499
  let v730 : BitVec 32 := Scalar.extui v729
  let v731 : BitVec 32 := Scalar.subi v728 v730
  let c128_i32_497 : BitVec 32 := 128#32
  let c0_i32_500 : BitVec 32 := 0#32
  let v732 : BitVec 1 := Scalar.cmpi .sgt c128_i32_497 c0_i32_500
  let v733 : BitVec 32 := Scalar.extui v732
  let c0_i32_501 : BitVec 32 := 0#32
  let v734 : BitVec 1 := Scalar.cmpi .slt c128_i32_497 c0_i32_501
  let v735 : BitVec 32 := Scalar.extui v734
  let v736 : BitVec 32 := Scalar.subi v733 v735
  let v737 : BitVec 1 := Scalar.cmpi .ne v731 v736
  let v738 : BitVec 32 := Scalar.remsi v725 c128_i32_497
  let c0_i32_502 : BitVec 32 := 0#32
  let v739 : BitVec 1 := Scalar.cmpi .ne v738 c0_i32_502
  let v740 : BitVec 1 := Scalar.andi v737 v739
  let v726 : BitVec 32 := Scalar.divsi v725 c128_i32_497
  let c1_i32_503 : BitVec 32 := 1#32
  let v741 : BitVec 32 := Scalar.subi v726 c1_i32_503
  let v742 : BitVec 32 := Scalar.select v740 v741 v726
  let c128_i32_504 : BitVec 32 := 128#32
  let v743 : BitVec 32 := Scalar.muli v742 c128_i32_504
  v743

def k0_off19 (v725 : BitVec 32) : Fin 2 → Nat :=
  let c0_i32_508 : BitVec 32 := 0#32
  let c0_i32_498 : BitVec 32 := 0#32
  let v727 : BitVec 1 := Scalar.cmpi .sgt v725 c0_i32_498
  let v728 : BitVec 32 := Scalar.extui v727
  let c0_i32_499 : BitVec 32 := 0#32
  let v729 : BitVec 1 := Scalar.cmpi .slt v725 c0_i32_499
  let v730 : BitVec 32 := Scalar.extui v729
  let v731 : BitVec 32 := Scalar.subi v728 v730
  let c128_i32_497 : BitVec 32 := 128#32
  let c0_i32_500 : BitVec 32 := 0#32
  let v732 : BitVec 1 := Scalar.cmpi .sgt c128_i32_497 c0_i32_500
  let v733 : BitVec 32 := Scalar.extui v732
  let c0_i32_501 : BitVec 32 := 0#32
  let v734 : BitVec 1 := Scalar.cmpi .slt c128_i32_497 c0_i32_501
  let v735 : BitVec 32 := Scalar.extui v734
  let v736 : BitVec 32 := Scalar.subi v733 v735
  let v737 : BitVec 1 := Scalar.cmpi .ne v731 v736
  let v738 : BitVec 32 := Scalar.remsi v725 c128_i32_497
  let c0_i32_502 : BitVec 32 := 0#32
  let v739 : BitVec 1 := Scalar.cmpi .ne v738 c0_i32_502
  let v740 : BitVec 1 := Scalar.andi v737 v739
  let v726 : BitVec 32 := Scalar.divsi v725 c128_i32_497
  let c1_i32_503 : BitVec 32 := 1#32
  let v741 : BitVec 32 := Scalar.subi v726 c1_i32_503
  let v742 : BitVec 32 := Scalar.select v740 v741 v726
  let c128_i32_504 : BitVec 32 := 128#32
  let v743 : BitVec 32 := Scalar.muli v742 c128_i32_504
  let v744 : BitVec 32 := v743
  ![0, v744.toNat]

def k0_chk22 (v725 : BitVec 32) : Prop :=
  (128 ∣ (k0_mult15 v725).toNat) ∧
  (∀ a, (k0_off19 v725) a + S64x128.size a ≤ S64x1000064.size a)
theorem k0_mult15_dvd : ∀ (v725 : BitVec 32) (k0_hw22 : k0_chk22 v725), 128 ∣ (k0_mult15 v725).toNat := fun v725 k0_hw22 => k0_hw22.1
theorem k0_off19_inb : ∀ (v725 : BitVec 32) (k0_hw22 : k0_chk22 v725), ∀ a, (k0_off19 v725) a + S64x128.size a ≤ S64x1000064.size a := fun v725 k0_hw22 => k0_hw22.2

def k0_chk23 (v5 : IVec S16 32) (v8 : IVec S16 32) (v11 : IVec S16 32) (v14 : IVec S16 32) (v769 : IVec S16 32) : Prop :=
  (∀ a x, ((![v5, v769] : Fin 2 → IVec S16 32) a x).toNat < S64x128.size a) ∧
  (∀ a x, ((![v8, v769] : Fin 2 → IVec S16 32) a x).toNat < S64x128.size a) ∧
  (∀ a x, ((![v11, v769] : Fin 2 → IVec S16 32) a x).toNat < S64x128.size a) ∧
  (∀ a x, ((![v14, v769] : Fin 2 → IVec S16 32) a x).toNat < S64x128.size a)
theorem k0_idx29_inb : ∀ (v5 : IVec S16 32) (v8 : IVec S16 32) (v11 : IVec S16 32) (v14 : IVec S16 32) (v769 : IVec S16 32) (k0_hw23 : k0_chk23 v5 v8 v11 v14 v769), ∀ a x, ((![v5, v769] : Fin 2 → IVec S16 32) a x).toNat < S64x128.size a := fun v5 v8 v11 v14 v769 k0_hw23 => k0_hw23.1
theorem k0_idx30_inb : ∀ (v5 : IVec S16 32) (v8 : IVec S16 32) (v11 : IVec S16 32) (v14 : IVec S16 32) (v769 : IVec S16 32) (k0_hw23 : k0_chk23 v5 v8 v11 v14 v769), ∀ a x, ((![v8, v769] : Fin 2 → IVec S16 32) a x).toNat < S64x128.size a := fun v5 v8 v11 v14 v769 k0_hw23 => k0_hw23.2.1
theorem k0_idx31_inb : ∀ (v5 : IVec S16 32) (v8 : IVec S16 32) (v11 : IVec S16 32) (v14 : IVec S16 32) (v769 : IVec S16 32) (k0_hw23 : k0_chk23 v5 v8 v11 v14 v769), ∀ a x, ((![v11, v769] : Fin 2 → IVec S16 32) a x).toNat < S64x128.size a := fun v5 v8 v11 v14 v769 k0_hw23 => k0_hw23.2.2.1
theorem k0_idx32_inb : ∀ (v5 : IVec S16 32) (v8 : IVec S16 32) (v11 : IVec S16 32) (v14 : IVec S16 32) (v769 : IVec S16 32) (k0_hw23 : k0_chk23 v5 v8 v11 v14 v769), ∀ a x, ((![v14, v769] : Fin 2 → IVec S16 32) a x).toNat < S64x128.size a := fun v5 v8 v11 v14 v769 k0_hw23 => k0_hw23.2.2.2
def k0_mult16 (v795 : BitVec 32) : BitVec 32 :=
  let c0_i32_552 : BitVec 32 := 0#32
  let v797 : BitVec 1 := Scalar.cmpi .sgt v795 c0_i32_552
  let v798 : BitVec 32 := Scalar.extui v797
  let c0_i32_553 : BitVec 32 := 0#32
  let v799 : BitVec 1 := Scalar.cmpi .slt v795 c0_i32_553
  let v800 : BitVec 32 := Scalar.extui v799
  let v801 : BitVec 32 := Scalar.subi v798 v800
  let c128_i32_551 : BitVec 32 := 128#32
  let c0_i32_554 : BitVec 32 := 0#32
  let v802 : BitVec 1 := Scalar.cmpi .sgt c128_i32_551 c0_i32_554
  let v803 : BitVec 32 := Scalar.extui v802
  let c0_i32_555 : BitVec 32 := 0#32
  let v804 : BitVec 1 := Scalar.cmpi .slt c128_i32_551 c0_i32_555
  let v805 : BitVec 32 := Scalar.extui v804
  let v806 : BitVec 32 := Scalar.subi v803 v805
  let v807 : BitVec 1 := Scalar.cmpi .ne v801 v806
  let v808 : BitVec 32 := Scalar.remsi v795 c128_i32_551
  let c0_i32_556 : BitVec 32 := 0#32
  let v809 : BitVec 1 := Scalar.cmpi .ne v808 c0_i32_556
  let v810 : BitVec 1 := Scalar.andi v807 v809
  let v796 : BitVec 32 := Scalar.divsi v795 c128_i32_551
  let c1_i32_557 : BitVec 32 := 1#32
  let v811 : BitVec 32 := Scalar.subi v796 c1_i32_557
  let v812 : BitVec 32 := Scalar.select v810 v811 v796
  let c128_i32_558 : BitVec 32 := 128#32
  let v813 : BitVec 32 := Scalar.muli v812 c128_i32_558
  v813

def k0_off20 (v795 : BitVec 32) : Fin 2 → Nat :=
  let c0_i32_562 : BitVec 32 := 0#32
  let c0_i32_552 : BitVec 32 := 0#32
  let v797 : BitVec 1 := Scalar.cmpi .sgt v795 c0_i32_552
  let v798 : BitVec 32 := Scalar.extui v797
  let c0_i32_553 : BitVec 32 := 0#32
  let v799 : BitVec 1 := Scalar.cmpi .slt v795 c0_i32_553
  let v800 : BitVec 32 := Scalar.extui v799
  let v801 : BitVec 32 := Scalar.subi v798 v800
  let c128_i32_551 : BitVec 32 := 128#32
  let c0_i32_554 : BitVec 32 := 0#32
  let v802 : BitVec 1 := Scalar.cmpi .sgt c128_i32_551 c0_i32_554
  let v803 : BitVec 32 := Scalar.extui v802
  let c0_i32_555 : BitVec 32 := 0#32
  let v804 : BitVec 1 := Scalar.cmpi .slt c128_i32_551 c0_i32_555
  let v805 : BitVec 32 := Scalar.extui v804
  let v806 : BitVec 32 := Scalar.subi v803 v805
  let v807 : BitVec 1 := Scalar.cmpi .ne v801 v806
  let v808 : BitVec 32 := Scalar.remsi v795 c128_i32_551
  let c0_i32_556 : BitVec 32 := 0#32
  let v809 : BitVec 1 := Scalar.cmpi .ne v808 c0_i32_556
  let v810 : BitVec 1 := Scalar.andi v807 v809
  let v796 : BitVec 32 := Scalar.divsi v795 c128_i32_551
  let c1_i32_557 : BitVec 32 := 1#32
  let v811 : BitVec 32 := Scalar.subi v796 c1_i32_557
  let v812 : BitVec 32 := Scalar.select v810 v811 v796
  let c128_i32_558 : BitVec 32 := 128#32
  let v813 : BitVec 32 := Scalar.muli v812 c128_i32_558
  let v814 : BitVec 32 := v813
  ![0, v814.toNat]

def k0_chk24 (v795 : BitVec 32) : Prop :=
  (128 ∣ (k0_mult16 v795).toNat) ∧
  (∀ a, (k0_off20 v795) a + S64x128.size a ≤ S64x1000064.size a)
theorem k0_mult16_dvd : ∀ (v795 : BitVec 32) (k0_hw24 : k0_chk24 v795), 128 ∣ (k0_mult16 v795).toNat := fun v795 k0_hw24 => k0_hw24.1
theorem k0_off20_inb : ∀ (v795 : BitVec 32) (k0_hw24 : k0_chk24 v795), ∀ a, (k0_off20 v795) a + S64x128.size a ≤ S64x1000064.size a := fun v795 k0_hw24 => k0_hw24.2

def k0_chk25 (v5 : IVec S16 32) (v8 : IVec S16 32) (v11 : IVec S16 32) (v14 : IVec S16 32) (v839 : IVec S16 32) : Prop :=
  (∀ a x, ((![v5, v839] : Fin 2 → IVec S16 32) a x).toNat < S64x128.size a) ∧
  (∀ a x, ((![v8, v839] : Fin 2 → IVec S16 32) a x).toNat < S64x128.size a) ∧
  (∀ a x, ((![v11, v839] : Fin 2 → IVec S16 32) a x).toNat < S64x128.size a) ∧
  (∀ a x, ((![v14, v839] : Fin 2 → IVec S16 32) a x).toNat < S64x128.size a)
theorem k0_idx33_inb : ∀ (v5 : IVec S16 32) (v8 : IVec S16 32) (v11 : IVec S16 32) (v14 : IVec S16 32) (v839 : IVec S16 32) (k0_hw25 : k0_chk25 v5 v8 v11 v14 v839), ∀ a x, ((![v5, v839] : Fin 2 → IVec S16 32) a x).toNat < S64x128.size a := fun v5 v8 v11 v14 v839 k0_hw25 => k0_hw25.1
theorem k0_idx34_inb : ∀ (v5 : IVec S16 32) (v8 : IVec S16 32) (v11 : IVec S16 32) (v14 : IVec S16 32) (v839 : IVec S16 32) (k0_hw25 : k0_chk25 v5 v8 v11 v14 v839), ∀ a x, ((![v8, v839] : Fin 2 → IVec S16 32) a x).toNat < S64x128.size a := fun v5 v8 v11 v14 v839 k0_hw25 => k0_hw25.2.1
theorem k0_idx35_inb : ∀ (v5 : IVec S16 32) (v8 : IVec S16 32) (v11 : IVec S16 32) (v14 : IVec S16 32) (v839 : IVec S16 32) (k0_hw25 : k0_chk25 v5 v8 v11 v14 v839), ∀ a x, ((![v11, v839] : Fin 2 → IVec S16 32) a x).toNat < S64x128.size a := fun v5 v8 v11 v14 v839 k0_hw25 => k0_hw25.2.2.1
theorem k0_idx36_inb : ∀ (v5 : IVec S16 32) (v8 : IVec S16 32) (v11 : IVec S16 32) (v14 : IVec S16 32) (v839 : IVec S16 32) (k0_hw25 : k0_chk25 v5 v8 v11 v14 v839), ∀ a x, ((![v14, v839] : Fin 2 → IVec S16 32) a x).toNat < S64x128.size a := fun v5 v8 v11 v14 v839 k0_hw25 => k0_hw25.2.2.2
def k0_mult17 (v865 : BitVec 32) : BitVec 32 :=
  let c0_i32_605 : BitVec 32 := 0#32
  let v867 : BitVec 1 := Scalar.cmpi .sgt v865 c0_i32_605
  let v868 : BitVec 32 := Scalar.extui v867
  let c0_i32_606 : BitVec 32 := 0#32
  let v869 : BitVec 1 := Scalar.cmpi .slt v865 c0_i32_606
  let v870 : BitVec 32 := Scalar.extui v869
  let v871 : BitVec 32 := Scalar.subi v868 v870
  let c128_i32_604 : BitVec 32 := 128#32
  let c0_i32_607 : BitVec 32 := 0#32
  let v872 : BitVec 1 := Scalar.cmpi .sgt c128_i32_604 c0_i32_607
  let v873 : BitVec 32 := Scalar.extui v872
  let c0_i32_608 : BitVec 32 := 0#32
  let v874 : BitVec 1 := Scalar.cmpi .slt c128_i32_604 c0_i32_608
  let v875 : BitVec 32 := Scalar.extui v874
  let v876 : BitVec 32 := Scalar.subi v873 v875
  let v877 : BitVec 1 := Scalar.cmpi .ne v871 v876
  let v878 : BitVec 32 := Scalar.remsi v865 c128_i32_604
  let c0_i32_609 : BitVec 32 := 0#32
  let v879 : BitVec 1 := Scalar.cmpi .ne v878 c0_i32_609
  let v880 : BitVec 1 := Scalar.andi v877 v879
  let v866 : BitVec 32 := Scalar.divsi v865 c128_i32_604
  let c1_i32_610 : BitVec 32 := 1#32
  let v881 : BitVec 32 := Scalar.subi v866 c1_i32_610
  let v882 : BitVec 32 := Scalar.select v880 v881 v866
  let c128_i32_611 : BitVec 32 := 128#32
  let v883 : BitVec 32 := Scalar.muli v882 c128_i32_611
  v883

def k0_off21 (v865 : BitVec 32) : Fin 2 → Nat :=
  let c0_i32_615 : BitVec 32 := 0#32
  let c0_i32_605 : BitVec 32 := 0#32
  let v867 : BitVec 1 := Scalar.cmpi .sgt v865 c0_i32_605
  let v868 : BitVec 32 := Scalar.extui v867
  let c0_i32_606 : BitVec 32 := 0#32
  let v869 : BitVec 1 := Scalar.cmpi .slt v865 c0_i32_606
  let v870 : BitVec 32 := Scalar.extui v869
  let v871 : BitVec 32 := Scalar.subi v868 v870
  let c128_i32_604 : BitVec 32 := 128#32
  let c0_i32_607 : BitVec 32 := 0#32
  let v872 : BitVec 1 := Scalar.cmpi .sgt c128_i32_604 c0_i32_607
  let v873 : BitVec 32 := Scalar.extui v872
  let c0_i32_608 : BitVec 32 := 0#32
  let v874 : BitVec 1 := Scalar.cmpi .slt c128_i32_604 c0_i32_608
  let v875 : BitVec 32 := Scalar.extui v874
  let v876 : BitVec 32 := Scalar.subi v873 v875
  let v877 : BitVec 1 := Scalar.cmpi .ne v871 v876
  let v878 : BitVec 32 := Scalar.remsi v865 c128_i32_604
  let c0_i32_609 : BitVec 32 := 0#32
  let v879 : BitVec 1 := Scalar.cmpi .ne v878 c0_i32_609
  let v880 : BitVec 1 := Scalar.andi v877 v879
  let v866 : BitVec 32 := Scalar.divsi v865 c128_i32_604
  let c1_i32_610 : BitVec 32 := 1#32
  let v881 : BitVec 32 := Scalar.subi v866 c1_i32_610
  let v882 : BitVec 32 := Scalar.select v880 v881 v866
  let c128_i32_611 : BitVec 32 := 128#32
  let v883 : BitVec 32 := Scalar.muli v882 c128_i32_611
  let v884 : BitVec 32 := v883
  ![0, v884.toNat]

def k0_chk26 (v865 : BitVec 32) : Prop :=
  (128 ∣ (k0_mult17 v865).toNat) ∧
  (∀ a, (k0_off21 v865) a + S64x128.size a ≤ S64x1000064.size a)
theorem k0_mult17_dvd : ∀ (v865 : BitVec 32) (k0_hw26 : k0_chk26 v865), 128 ∣ (k0_mult17 v865).toNat := fun v865 k0_hw26 => k0_hw26.1
theorem k0_off21_inb : ∀ (v865 : BitVec 32) (k0_hw26 : k0_chk26 v865), ∀ a, (k0_off21 v865) a + S64x128.size a ≤ S64x1000064.size a := fun v865 k0_hw26 => k0_hw26.2

def k0_chk27 (v5 : IVec S16 32) (v8 : IVec S16 32) (v11 : IVec S16 32) (v14 : IVec S16 32) (v909 : IVec S16 32) : Prop :=
  (∀ a x, ((![v5, v909] : Fin 2 → IVec S16 32) a x).toNat < S64x128.size a) ∧
  (∀ a x, ((![v8, v909] : Fin 2 → IVec S16 32) a x).toNat < S64x128.size a) ∧
  (∀ a x, ((![v11, v909] : Fin 2 → IVec S16 32) a x).toNat < S64x128.size a) ∧
  (∀ a x, ((![v14, v909] : Fin 2 → IVec S16 32) a x).toNat < S64x128.size a)
theorem k0_idx37_inb : ∀ (v5 : IVec S16 32) (v8 : IVec S16 32) (v11 : IVec S16 32) (v14 : IVec S16 32) (v909 : IVec S16 32) (k0_hw27 : k0_chk27 v5 v8 v11 v14 v909), ∀ a x, ((![v5, v909] : Fin 2 → IVec S16 32) a x).toNat < S64x128.size a := fun v5 v8 v11 v14 v909 k0_hw27 => k0_hw27.1
theorem k0_idx38_inb : ∀ (v5 : IVec S16 32) (v8 : IVec S16 32) (v11 : IVec S16 32) (v14 : IVec S16 32) (v909 : IVec S16 32) (k0_hw27 : k0_chk27 v5 v8 v11 v14 v909), ∀ a x, ((![v8, v909] : Fin 2 → IVec S16 32) a x).toNat < S64x128.size a := fun v5 v8 v11 v14 v909 k0_hw27 => k0_hw27.2.1
theorem k0_idx39_inb : ∀ (v5 : IVec S16 32) (v8 : IVec S16 32) (v11 : IVec S16 32) (v14 : IVec S16 32) (v909 : IVec S16 32) (k0_hw27 : k0_chk27 v5 v8 v11 v14 v909), ∀ a x, ((![v11, v909] : Fin 2 → IVec S16 32) a x).toNat < S64x128.size a := fun v5 v8 v11 v14 v909 k0_hw27 => k0_hw27.2.2.1
theorem k0_idx40_inb : ∀ (v5 : IVec S16 32) (v8 : IVec S16 32) (v11 : IVec S16 32) (v14 : IVec S16 32) (v909 : IVec S16 32) (k0_hw27 : k0_chk27 v5 v8 v11 v14 v909), ∀ a x, ((![v14, v909] : Fin 2 → IVec S16 32) a x).toNat < S64x128.size a := fun v5 v8 v11 v14 v909 k0_hw27 => k0_hw27.2.2.2
def k0_mult18 (v935 : BitVec 32) : BitVec 32 :=
  let c0_i32_658 : BitVec 32 := 0#32
  let v937 : BitVec 1 := Scalar.cmpi .sgt v935 c0_i32_658
  let v938 : BitVec 32 := Scalar.extui v937
  let c0_i32_659 : BitVec 32 := 0#32
  let v939 : BitVec 1 := Scalar.cmpi .slt v935 c0_i32_659
  let v940 : BitVec 32 := Scalar.extui v939
  let v941 : BitVec 32 := Scalar.subi v938 v940
  let c128_i32_657 : BitVec 32 := 128#32
  let c0_i32_660 : BitVec 32 := 0#32
  let v942 : BitVec 1 := Scalar.cmpi .sgt c128_i32_657 c0_i32_660
  let v943 : BitVec 32 := Scalar.extui v942
  let c0_i32_661 : BitVec 32 := 0#32
  let v944 : BitVec 1 := Scalar.cmpi .slt c128_i32_657 c0_i32_661
  let v945 : BitVec 32 := Scalar.extui v944
  let v946 : BitVec 32 := Scalar.subi v943 v945
  let v947 : BitVec 1 := Scalar.cmpi .ne v941 v946
  let v948 : BitVec 32 := Scalar.remsi v935 c128_i32_657
  let c0_i32_662 : BitVec 32 := 0#32
  let v949 : BitVec 1 := Scalar.cmpi .ne v948 c0_i32_662
  let v950 : BitVec 1 := Scalar.andi v947 v949
  let v936 : BitVec 32 := Scalar.divsi v935 c128_i32_657
  let c1_i32_663 : BitVec 32 := 1#32
  let v951 : BitVec 32 := Scalar.subi v936 c1_i32_663
  let v952 : BitVec 32 := Scalar.select v950 v951 v936
  let c128_i32_664 : BitVec 32 := 128#32
  let v953 : BitVec 32 := Scalar.muli v952 c128_i32_664
  v953

def k0_off22 (v935 : BitVec 32) : Fin 2 → Nat :=
  let c0_i32_668 : BitVec 32 := 0#32
  let c0_i32_658 : BitVec 32 := 0#32
  let v937 : BitVec 1 := Scalar.cmpi .sgt v935 c0_i32_658
  let v938 : BitVec 32 := Scalar.extui v937
  let c0_i32_659 : BitVec 32 := 0#32
  let v939 : BitVec 1 := Scalar.cmpi .slt v935 c0_i32_659
  let v940 : BitVec 32 := Scalar.extui v939
  let v941 : BitVec 32 := Scalar.subi v938 v940
  let c128_i32_657 : BitVec 32 := 128#32
  let c0_i32_660 : BitVec 32 := 0#32
  let v942 : BitVec 1 := Scalar.cmpi .sgt c128_i32_657 c0_i32_660
  let v943 : BitVec 32 := Scalar.extui v942
  let c0_i32_661 : BitVec 32 := 0#32
  let v944 : BitVec 1 := Scalar.cmpi .slt c128_i32_657 c0_i32_661
  let v945 : BitVec 32 := Scalar.extui v944
  let v946 : BitVec 32 := Scalar.subi v943 v945
  let v947 : BitVec 1 := Scalar.cmpi .ne v941 v946
  let v948 : BitVec 32 := Scalar.remsi v935 c128_i32_657
  let c0_i32_662 : BitVec 32 := 0#32
  let v949 : BitVec 1 := Scalar.cmpi .ne v948 c0_i32_662
  let v950 : BitVec 1 := Scalar.andi v947 v949
  let v936 : BitVec 32 := Scalar.divsi v935 c128_i32_657
  let c1_i32_663 : BitVec 32 := 1#32
  let v951 : BitVec 32 := Scalar.subi v936 c1_i32_663
  let v952 : BitVec 32 := Scalar.select v950 v951 v936
  let c128_i32_664 : BitVec 32 := 128#32
  let v953 : BitVec 32 := Scalar.muli v952 c128_i32_664
  let v954 : BitVec 32 := v953
  ![0, v954.toNat]

def k0_chk28 (v935 : BitVec 32) : Prop :=
  (128 ∣ (k0_mult18 v935).toNat) ∧
  (∀ a, (k0_off22 v935) a + S64x128.size a ≤ S64x1000064.size a)
theorem k0_mult18_dvd : ∀ (v935 : BitVec 32) (k0_hw28 : k0_chk28 v935), 128 ∣ (k0_mult18 v935).toNat := fun v935 k0_hw28 => k0_hw28.1
theorem k0_off22_inb : ∀ (v935 : BitVec 32) (k0_hw28 : k0_chk28 v935), ∀ a, (k0_off22 v935) a + S64x128.size a ≤ S64x1000064.size a := fun v935 k0_hw28 => k0_hw28.2

def k0_chk29 (v5 : IVec S16 32) (v8 : IVec S16 32) (v11 : IVec S16 32) (v14 : IVec S16 32) (v979 : IVec S16 32) : Prop :=
  (∀ a x, ((![v5, v979] : Fin 2 → IVec S16 32) a x).toNat < S64x128.size a) ∧
  (∀ a x, ((![v8, v979] : Fin 2 → IVec S16 32) a x).toNat < S64x128.size a) ∧
  (∀ a x, ((![v11, v979] : Fin 2 → IVec S16 32) a x).toNat < S64x128.size a) ∧
  (∀ a x, ((![v14, v979] : Fin 2 → IVec S16 32) a x).toNat < S64x128.size a)
theorem k0_idx41_inb : ∀ (v5 : IVec S16 32) (v8 : IVec S16 32) (v11 : IVec S16 32) (v14 : IVec S16 32) (v979 : IVec S16 32) (k0_hw29 : k0_chk29 v5 v8 v11 v14 v979), ∀ a x, ((![v5, v979] : Fin 2 → IVec S16 32) a x).toNat < S64x128.size a := fun v5 v8 v11 v14 v979 k0_hw29 => k0_hw29.1
theorem k0_idx42_inb : ∀ (v5 : IVec S16 32) (v8 : IVec S16 32) (v11 : IVec S16 32) (v14 : IVec S16 32) (v979 : IVec S16 32) (k0_hw29 : k0_chk29 v5 v8 v11 v14 v979), ∀ a x, ((![v8, v979] : Fin 2 → IVec S16 32) a x).toNat < S64x128.size a := fun v5 v8 v11 v14 v979 k0_hw29 => k0_hw29.2.1
theorem k0_idx43_inb : ∀ (v5 : IVec S16 32) (v8 : IVec S16 32) (v11 : IVec S16 32) (v14 : IVec S16 32) (v979 : IVec S16 32) (k0_hw29 : k0_chk29 v5 v8 v11 v14 v979), ∀ a x, ((![v11, v979] : Fin 2 → IVec S16 32) a x).toNat < S64x128.size a := fun v5 v8 v11 v14 v979 k0_hw29 => k0_hw29.2.2.1
theorem k0_idx44_inb : ∀ (v5 : IVec S16 32) (v8 : IVec S16 32) (v11 : IVec S16 32) (v14 : IVec S16 32) (v979 : IVec S16 32) (k0_hw29 : k0_chk29 v5 v8 v11 v14 v979), ∀ a x, ((![v14, v979] : Fin 2 → IVec S16 32) a x).toNat < S64x128.size a := fun v5 v8 v11 v14 v979 k0_hw29 => k0_hw29.2.2.2
def k0_mult19 (v1005 : BitVec 32) : BitVec 32 :=
  let c0_i32_711 : BitVec 32 := 0#32
  let v1007 : BitVec 1 := Scalar.cmpi .sgt v1005 c0_i32_711
  let v1008 : BitVec 32 := Scalar.extui v1007
  let c0_i32_712 : BitVec 32 := 0#32
  let v1009 : BitVec 1 := Scalar.cmpi .slt v1005 c0_i32_712
  let v1010 : BitVec 32 := Scalar.extui v1009
  let v1011 : BitVec 32 := Scalar.subi v1008 v1010
  let c128_i32_710 : BitVec 32 := 128#32
  let c0_i32_713 : BitVec 32 := 0#32
  let v1012 : BitVec 1 := Scalar.cmpi .sgt c128_i32_710 c0_i32_713
  let v1013 : BitVec 32 := Scalar.extui v1012
  let c0_i32_714 : BitVec 32 := 0#32
  let v1014 : BitVec 1 := Scalar.cmpi .slt c128_i32_710 c0_i32_714
  let v1015 : BitVec 32 := Scalar.extui v1014
  let v1016 : BitVec 32 := Scalar.subi v1013 v1015
  let v1017 : BitVec 1 := Scalar.cmpi .ne v1011 v1016
  let v1018 : BitVec 32 := Scalar.remsi v1005 c128_i32_710
  let c0_i32_715 : BitVec 32 := 0#32
  let v1019 : BitVec 1 := Scalar.cmpi .ne v1018 c0_i32_715
  let v1020 : BitVec 1 := Scalar.andi v1017 v1019
  let v1006 : BitVec 32 := Scalar.divsi v1005 c128_i32_710
  let c1_i32_716 : BitVec 32 := 1#32
  let v1021 : BitVec 32 := Scalar.subi v1006 c1_i32_716
  let v1022 : BitVec 32 := Scalar.select v1020 v1021 v1006
  let c128_i32_717 : BitVec 32 := 128#32
  let v1023 : BitVec 32 := Scalar.muli v1022 c128_i32_717
  v1023

def k0_off23 (v1005 : BitVec 32) : Fin 2 → Nat :=
  let c0_i32_721 : BitVec 32 := 0#32
  let c0_i32_711 : BitVec 32 := 0#32
  let v1007 : BitVec 1 := Scalar.cmpi .sgt v1005 c0_i32_711
  let v1008 : BitVec 32 := Scalar.extui v1007
  let c0_i32_712 : BitVec 32 := 0#32
  let v1009 : BitVec 1 := Scalar.cmpi .slt v1005 c0_i32_712
  let v1010 : BitVec 32 := Scalar.extui v1009
  let v1011 : BitVec 32 := Scalar.subi v1008 v1010
  let c128_i32_710 : BitVec 32 := 128#32
  let c0_i32_713 : BitVec 32 := 0#32
  let v1012 : BitVec 1 := Scalar.cmpi .sgt c128_i32_710 c0_i32_713
  let v1013 : BitVec 32 := Scalar.extui v1012
  let c0_i32_714 : BitVec 32 := 0#32
  let v1014 : BitVec 1 := Scalar.cmpi .slt c128_i32_710 c0_i32_714
  let v1015 : BitVec 32 := Scalar.extui v1014
  let v1016 : BitVec 32 := Scalar.subi v1013 v1015
  let v1017 : BitVec 1 := Scalar.cmpi .ne v1011 v1016
  let v1018 : BitVec 32 := Scalar.remsi v1005 c128_i32_710
  let c0_i32_715 : BitVec 32 := 0#32
  let v1019 : BitVec 1 := Scalar.cmpi .ne v1018 c0_i32_715
  let v1020 : BitVec 1 := Scalar.andi v1017 v1019
  let v1006 : BitVec 32 := Scalar.divsi v1005 c128_i32_710
  let c1_i32_716 : BitVec 32 := 1#32
  let v1021 : BitVec 32 := Scalar.subi v1006 c1_i32_716
  let v1022 : BitVec 32 := Scalar.select v1020 v1021 v1006
  let c128_i32_717 : BitVec 32 := 128#32
  let v1023 : BitVec 32 := Scalar.muli v1022 c128_i32_717
  let v1024 : BitVec 32 := v1023
  ![0, v1024.toNat]

def k0_chk30 (v1005 : BitVec 32) : Prop :=
  (128 ∣ (k0_mult19 v1005).toNat) ∧
  (∀ a, (k0_off23 v1005) a + S64x128.size a ≤ S64x1000064.size a)
theorem k0_mult19_dvd : ∀ (v1005 : BitVec 32) (k0_hw30 : k0_chk30 v1005), 128 ∣ (k0_mult19 v1005).toNat := fun v1005 k0_hw30 => k0_hw30.1
theorem k0_off23_inb : ∀ (v1005 : BitVec 32) (k0_hw30 : k0_chk30 v1005), ∀ a, (k0_off23 v1005) a + S64x128.size a ≤ S64x1000064.size a := fun v1005 k0_hw30 => k0_hw30.2

def k0_chk31 (v5 : IVec S16 32) (v8 : IVec S16 32) (v11 : IVec S16 32) (v14 : IVec S16 32) (v1049 : IVec S16 32) : Prop :=
  (∀ a x, ((![v5, v1049] : Fin 2 → IVec S16 32) a x).toNat < S64x128.size a) ∧
  (∀ a x, ((![v8, v1049] : Fin 2 → IVec S16 32) a x).toNat < S64x128.size a) ∧
  (∀ a x, ((![v11, v1049] : Fin 2 → IVec S16 32) a x).toNat < S64x128.size a) ∧
  (∀ a x, ((![v14, v1049] : Fin 2 → IVec S16 32) a x).toNat < S64x128.size a)
theorem k0_idx45_inb : ∀ (v5 : IVec S16 32) (v8 : IVec S16 32) (v11 : IVec S16 32) (v14 : IVec S16 32) (v1049 : IVec S16 32) (k0_hw31 : k0_chk31 v5 v8 v11 v14 v1049), ∀ a x, ((![v5, v1049] : Fin 2 → IVec S16 32) a x).toNat < S64x128.size a := fun v5 v8 v11 v14 v1049 k0_hw31 => k0_hw31.1
theorem k0_idx46_inb : ∀ (v5 : IVec S16 32) (v8 : IVec S16 32) (v11 : IVec S16 32) (v14 : IVec S16 32) (v1049 : IVec S16 32) (k0_hw31 : k0_chk31 v5 v8 v11 v14 v1049), ∀ a x, ((![v8, v1049] : Fin 2 → IVec S16 32) a x).toNat < S64x128.size a := fun v5 v8 v11 v14 v1049 k0_hw31 => k0_hw31.2.1
theorem k0_idx47_inb : ∀ (v5 : IVec S16 32) (v8 : IVec S16 32) (v11 : IVec S16 32) (v14 : IVec S16 32) (v1049 : IVec S16 32) (k0_hw31 : k0_chk31 v5 v8 v11 v14 v1049), ∀ a x, ((![v11, v1049] : Fin 2 → IVec S16 32) a x).toNat < S64x128.size a := fun v5 v8 v11 v14 v1049 k0_hw31 => k0_hw31.2.2.1
theorem k0_idx48_inb : ∀ (v5 : IVec S16 32) (v8 : IVec S16 32) (v11 : IVec S16 32) (v14 : IVec S16 32) (v1049 : IVec S16 32) (k0_hw31 : k0_chk31 v5 v8 v11 v14 v1049), ∀ a x, ((![v14, v1049] : Fin 2 → IVec S16 32) a x).toNat < S64x128.size a := fun v5 v8 v11 v14 v1049 k0_hw31 => k0_hw31.2.2.2
def k0_mult20 (v1075 : BitVec 32) : BitVec 32 :=
  let c0_i32_764 : BitVec 32 := 0#32
  let v1077 : BitVec 1 := Scalar.cmpi .sgt v1075 c0_i32_764
  let v1078 : BitVec 32 := Scalar.extui v1077
  let c0_i32_765 : BitVec 32 := 0#32
  let v1079 : BitVec 1 := Scalar.cmpi .slt v1075 c0_i32_765
  let v1080 : BitVec 32 := Scalar.extui v1079
  let v1081 : BitVec 32 := Scalar.subi v1078 v1080
  let c128_i32_763 : BitVec 32 := 128#32
  let c0_i32_766 : BitVec 32 := 0#32
  let v1082 : BitVec 1 := Scalar.cmpi .sgt c128_i32_763 c0_i32_766
  let v1083 : BitVec 32 := Scalar.extui v1082
  let c0_i32_767 : BitVec 32 := 0#32
  let v1084 : BitVec 1 := Scalar.cmpi .slt c128_i32_763 c0_i32_767
  let v1085 : BitVec 32 := Scalar.extui v1084
  let v1086 : BitVec 32 := Scalar.subi v1083 v1085
  let v1087 : BitVec 1 := Scalar.cmpi .ne v1081 v1086
  let v1088 : BitVec 32 := Scalar.remsi v1075 c128_i32_763
  let c0_i32_768 : BitVec 32 := 0#32
  let v1089 : BitVec 1 := Scalar.cmpi .ne v1088 c0_i32_768
  let v1090 : BitVec 1 := Scalar.andi v1087 v1089
  let v1076 : BitVec 32 := Scalar.divsi v1075 c128_i32_763
  let c1_i32_769 : BitVec 32 := 1#32
  let v1091 : BitVec 32 := Scalar.subi v1076 c1_i32_769
  let v1092 : BitVec 32 := Scalar.select v1090 v1091 v1076
  let c128_i32_770 : BitVec 32 := 128#32
  let v1093 : BitVec 32 := Scalar.muli v1092 c128_i32_770
  v1093

def k0_off24 (v1075 : BitVec 32) : Fin 2 → Nat :=
  let c0_i32_774 : BitVec 32 := 0#32
  let c0_i32_764 : BitVec 32 := 0#32
  let v1077 : BitVec 1 := Scalar.cmpi .sgt v1075 c0_i32_764
  let v1078 : BitVec 32 := Scalar.extui v1077
  let c0_i32_765 : BitVec 32 := 0#32
  let v1079 : BitVec 1 := Scalar.cmpi .slt v1075 c0_i32_765
  let v1080 : BitVec 32 := Scalar.extui v1079
  let v1081 : BitVec 32 := Scalar.subi v1078 v1080
  let c128_i32_763 : BitVec 32 := 128#32
  let c0_i32_766 : BitVec 32 := 0#32
  let v1082 : BitVec 1 := Scalar.cmpi .sgt c128_i32_763 c0_i32_766
  let v1083 : BitVec 32 := Scalar.extui v1082
  let c0_i32_767 : BitVec 32 := 0#32
  let v1084 : BitVec 1 := Scalar.cmpi .slt c128_i32_763 c0_i32_767
  let v1085 : BitVec 32 := Scalar.extui v1084
  let v1086 : BitVec 32 := Scalar.subi v1083 v1085
  let v1087 : BitVec 1 := Scalar.cmpi .ne v1081 v1086
  let v1088 : BitVec 32 := Scalar.remsi v1075 c128_i32_763
  let c0_i32_768 : BitVec 32 := 0#32
  let v1089 : BitVec 1 := Scalar.cmpi .ne v1088 c0_i32_768
  let v1090 : BitVec 1 := Scalar.andi v1087 v1089
  let v1076 : BitVec 32 := Scalar.divsi v1075 c128_i32_763
  let c1_i32_769 : BitVec 32 := 1#32
  let v1091 : BitVec 32 := Scalar.subi v1076 c1_i32_769
  let v1092 : BitVec 32 := Scalar.select v1090 v1091 v1076
  let c128_i32_770 : BitVec 32 := 128#32
  let v1093 : BitVec 32 := Scalar.muli v1092 c128_i32_770
  let v1094 : BitVec 32 := v1093
  ![0, v1094.toNat]

def k0_chk32 (v1075 : BitVec 32) : Prop :=
  (128 ∣ (k0_mult20 v1075).toNat) ∧
  (∀ a, (k0_off24 v1075) a + S64x128.size a ≤ S64x1000064.size a)
theorem k0_mult20_dvd : ∀ (v1075 : BitVec 32) (k0_hw32 : k0_chk32 v1075), 128 ∣ (k0_mult20 v1075).toNat := fun v1075 k0_hw32 => k0_hw32.1
theorem k0_off24_inb : ∀ (v1075 : BitVec 32) (k0_hw32 : k0_chk32 v1075), ∀ a, (k0_off24 v1075) a + S64x128.size a ≤ S64x1000064.size a := fun v1075 k0_hw32 => k0_hw32.2

def k0_chk33 (v5 : IVec S16 32) (v8 : IVec S16 32) (v11 : IVec S16 32) (v14 : IVec S16 32) (v1119 : IVec S16 32) : Prop :=
  (∀ a x, ((![v5, v1119] : Fin 2 → IVec S16 32) a x).toNat < S64x128.size a) ∧
  (∀ a x, ((![v8, v1119] : Fin 2 → IVec S16 32) a x).toNat < S64x128.size a) ∧
  (∀ a x, ((![v11, v1119] : Fin 2 → IVec S16 32) a x).toNat < S64x128.size a) ∧
  (∀ a x, ((![v14, v1119] : Fin 2 → IVec S16 32) a x).toNat < S64x128.size a)
theorem k0_idx49_inb : ∀ (v5 : IVec S16 32) (v8 : IVec S16 32) (v11 : IVec S16 32) (v14 : IVec S16 32) (v1119 : IVec S16 32) (k0_hw33 : k0_chk33 v5 v8 v11 v14 v1119), ∀ a x, ((![v5, v1119] : Fin 2 → IVec S16 32) a x).toNat < S64x128.size a := fun v5 v8 v11 v14 v1119 k0_hw33 => k0_hw33.1
theorem k0_idx50_inb : ∀ (v5 : IVec S16 32) (v8 : IVec S16 32) (v11 : IVec S16 32) (v14 : IVec S16 32) (v1119 : IVec S16 32) (k0_hw33 : k0_chk33 v5 v8 v11 v14 v1119), ∀ a x, ((![v8, v1119] : Fin 2 → IVec S16 32) a x).toNat < S64x128.size a := fun v5 v8 v11 v14 v1119 k0_hw33 => k0_hw33.2.1
theorem k0_idx51_inb : ∀ (v5 : IVec S16 32) (v8 : IVec S16 32) (v11 : IVec S16 32) (v14 : IVec S16 32) (v1119 : IVec S16 32) (k0_hw33 : k0_chk33 v5 v8 v11 v14 v1119), ∀ a x, ((![v11, v1119] : Fin 2 → IVec S16 32) a x).toNat < S64x128.size a := fun v5 v8 v11 v14 v1119 k0_hw33 => k0_hw33.2.2.1
theorem k0_idx52_inb : ∀ (v5 : IVec S16 32) (v8 : IVec S16 32) (v11 : IVec S16 32) (v14 : IVec S16 32) (v1119 : IVec S16 32) (k0_hw33 : k0_chk33 v5 v8 v11 v14 v1119), ∀ a x, ((![v14, v1119] : Fin 2 → IVec S16 32) a x).toNat < S64x128.size a := fun v5 v8 v11 v14 v1119 k0_hw33 => k0_hw33.2.2.2
def k0_mult21 (v1145 : BitVec 32) : BitVec 32 :=
  let c0_i32_817 : BitVec 32 := 0#32
  let v1147 : BitVec 1 := Scalar.cmpi .sgt v1145 c0_i32_817
  let v1148 : BitVec 32 := Scalar.extui v1147
  let c0_i32_818 : BitVec 32 := 0#32
  let v1149 : BitVec 1 := Scalar.cmpi .slt v1145 c0_i32_818
  let v1150 : BitVec 32 := Scalar.extui v1149
  let v1151 : BitVec 32 := Scalar.subi v1148 v1150
  let c128_i32_816 : BitVec 32 := 128#32
  let c0_i32_819 : BitVec 32 := 0#32
  let v1152 : BitVec 1 := Scalar.cmpi .sgt c128_i32_816 c0_i32_819
  let v1153 : BitVec 32 := Scalar.extui v1152
  let c0_i32_820 : BitVec 32 := 0#32
  let v1154 : BitVec 1 := Scalar.cmpi .slt c128_i32_816 c0_i32_820
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_816
  let c0_i32_821 : BitVec 32 := 0#32
  let v1159 : BitVec 1 := Scalar.cmpi .ne v1158 c0_i32_821
  let v1160 : BitVec 1 := Scalar.andi v1157 v1159
  let v1146 : BitVec 32 := Scalar.divsi v1145 c128_i32_816
  let c1_i32_822 : BitVec 32 := 1#32
  let v1161 : BitVec 32 := Scalar.subi v1146 c1_i32_822
  let v1162 : BitVec 32 := Scalar.select v1160 v1161 v1146
  let c128_i32_823 : BitVec 32 := 128#32
  let v1163 : BitVec 32 := Scalar.muli v1162 c128_i32_823
  v1163

def k0_off25 (v1145 : BitVec 32) : Fin 2 → Nat :=
  let c0_i32_827 : BitVec 32 := 0#32
  let c0_i32_817 : BitVec 32 := 0#32
  let v1147 : BitVec 1 := Scalar.cmpi .sgt v1145 c0_i32_817
  let v1148 : BitVec 32 := Scalar.extui v1147
  let c0_i32_818 : BitVec 32 := 0#32
  let v1149 : BitVec 1 := Scalar.cmpi .slt v1145 c0_i32_818
  let v1150 : BitVec 32 := Scalar.extui v1149
  let v1151 : BitVec 32 := Scalar.subi v1148 v1150
  let c128_i32_816 : BitVec 32 := 128#32
  let c0_i32_819 : BitVec 32 := 0#32
  let v1152 : BitVec 1 := Scalar.cmpi .sgt c128_i32_816 c0_i32_819
  let v1153 : BitVec 32 := Scalar.extui v1152
  let c0_i32_820 : BitVec 32 := 0#32
  let v1154 : BitVec 1 := Scalar.cmpi .slt c128_i32_816 c0_i32_820
  let v1155 : BitVec 32 := Scalar.extui v1154
  let v1156 : BitVec 32 := Scalar.subi v1153 v1155
  let v1157 : BitVec 1 := Scalar.cmpi .ne v1151 v1156
  let v1158 : BitVec 32 := Scalar.remsi v1145 c128_i32_816
  let c0_i32_821 : BitVec 32 := 0#32
  let v1159 : BitVec 1 := Scalar.cmpi .ne v1158 c0_i32_821
  let v1160 : BitVec 1 := Scalar.andi v1157 v1159
  let v1146 : BitVec 32 := Scalar.divsi v1145 c128_i32_816
  let c1_i32_822 : BitVec 32 := 1#32
  let v1161 : BitVec 32 := Scalar.subi v1146 c1_i32_822
  let v1162 : BitVec 32 := Scalar.select v1160 v1161 v1146
  let c128_i32_823 : BitVec 32 := 128#32
  let v1163 : BitVec 32 := Scalar.muli v1162 c128_i32_823
  let v1164 : BitVec 32 := v1163
  ![0, v1164.toNat]

def k0_chk34 (v1145 : BitVec 32) : Prop :=
  (128 ∣ (k0_mult21 v1145).toNat) ∧
  (∀ a, (k0_off25 v1145) a + S64x128.size a ≤ S64x1000064.size a)
theorem k0_mult21_dvd : ∀ (v1145 : BitVec 32) (k0_hw34 : k0_chk34 v1145), 128 ∣ (k0_mult21 v1145).toNat := fun v1145 k0_hw34 => k0_hw34.1
theorem k0_off25_inb : ∀ (v1145 : BitVec 32) (k0_hw34 : k0_chk34 v1145), ∀ a, (k0_off25 v1145) a + S64x128.size a ≤ S64x1000064.size a := fun v1145 k0_hw34 => k0_hw34.2

def k0_chk35 (v5 : IVec S16 32) (v8 : IVec S16 32) (v11 : IVec S16 32) (v14 : IVec S16 32) (v1189 : IVec S16 32) : Prop :=
  (∀ a x, ((![v5, v1189] : Fin 2 → IVec S16 32) a x).toNat < S64x128.size a) ∧
  (∀ a x, ((![v8, v1189] : Fin 2 → IVec S16 32) a x).toNat < S64x128.size a) ∧
  (∀ a x, ((![v11, v1189] : Fin 2 → IVec S16 32) a x).toNat < S64x128.size a) ∧
  (∀ a x, ((![v14, v1189] : Fin 2 → IVec S16 32) a x).toNat < S64x128.size a)
theorem k0_idx53_inb : ∀ (v5 : IVec S16 32) (v8 : IVec S16 32) (v11 : IVec S16 32) (v14 : IVec S16 32) (v1189 : IVec S16 32) (k0_hw35 : k0_chk35 v5 v8 v11 v14 v1189), ∀ a x, ((![v5, v1189] : Fin 2 → IVec S16 32) a x).toNat < S64x128.size a := fun v5 v8 v11 v14 v1189 k0_hw35 => k0_hw35.1
theorem k0_idx54_inb : ∀ (v5 : IVec S16 32) (v8 : IVec S16 32) (v11 : IVec S16 32) (v14 : IVec S16 32) (v1189 : IVec S16 32) (k0_hw35 : k0_chk35 v5 v8 v11 v14 v1189), ∀ a x, ((![v8, v1189] : Fin 2 → IVec S16 32) a x).toNat < S64x128.size a := fun v5 v8 v11 v14 v1189 k0_hw35 => k0_hw35.2.1
theorem k0_idx55_inb : ∀ (v5 : IVec S16 32) (v8 : IVec S16 32) (v11 : IVec S16 32) (v14 : IVec S16 32) (v1189 : IVec S16 32) (k0_hw35 : k0_chk35 v5 v8 v11 v14 v1189), ∀ a x, ((![v11, v1189] : Fin 2 → IVec S16 32) a x).toNat < S64x128.size a := fun v5 v8 v11 v14 v1189 k0_hw35 => k0_hw35.2.2.1
theorem k0_idx56_inb : ∀ (v5 : IVec S16 32) (v8 : IVec S16 32) (v11 : IVec S16 32) (v14 : IVec S16 32) (v1189 : IVec S16 32) (k0_hw35 : k0_chk35 v5 v8 v11 v14 v1189), ∀ a x, ((![v14, v1189] : Fin 2 → IVec S16 32) a x).toNat < S64x128.size a := fun v5 v8 v11 v14 v1189 k0_hw35 => k0_hw35.2.2.2
def k0_mult22 (v1215 : BitVec 32) : BitVec 32 :=
  let c0_i32_870 : BitVec 32 := 0#32
  let v1217 : BitVec 1 := Scalar.cmpi .sgt v1215 c0_i32_870
  let v1218 : BitVec 32 := Scalar.extui v1217
  let c0_i32_871 : BitVec 32 := 0#32
  let v1219 : BitVec 1 := Scalar.cmpi .slt v1215 c0_i32_871
  let v1220 : BitVec 32 := Scalar.extui v1219
  let v1221 : BitVec 32 := Scalar.subi v1218 v1220
  let c128_i32_869 : BitVec 32 := 128#32
  let c0_i32_872 : BitVec 32 := 0#32
  let v1222 : BitVec 1 := Scalar.cmpi .sgt c128_i32_869 c0_i32_872
  let v1223 : BitVec 32 := Scalar.extui v1222
  let c0_i32_873 : BitVec 32 := 0#32
  let v1224 : BitVec 1 := Scalar.cmpi .slt c128_i32_869 c0_i32_873
  let v1225 : BitVec 32 := Scalar.extui v1224
  let v1226 : BitVec 32 := Scalar.subi v1223 v1225
  let v1227 : BitVec 1 := Scalar.cmpi .ne v1221 v1226
  let v1228 : BitVec 32 := Scalar.remsi v1215 c128_i32_869
  let c0_i32_874 : BitVec 32 := 0#32
  let v1229 : BitVec 1 := Scalar.cmpi .ne v1228 c0_i32_874
  let v1230 : BitVec 1 := Scalar.andi v1227 v1229
  let v1216 : BitVec 32 := Scalar.divsi v1215 c128_i32_869
  let c1_i32_875 : BitVec 32 := 1#32
  let v1231 : BitVec 32 := Scalar.subi v1216 c1_i32_875
  let v1232 : BitVec 32 := Scalar.select v1230 v1231 v1216
  let c128_i32_876 : BitVec 32 := 128#32
  let v1233 : BitVec 32 := Scalar.muli v1232 c128_i32_876
  v1233

def k0_off26 (v1215 : BitVec 32) : Fin 2 → Nat :=
  let c0_i32_880 : BitVec 32 := 0#32
  let c0_i32_870 : BitVec 32 := 0#32
  let v1217 : BitVec 1 := Scalar.cmpi .sgt v1215 c0_i32_870
  let v1218 : BitVec 32 := Scalar.extui v1217
  let c0_i32_871 : BitVec 32 := 0#32
  let v1219 : BitVec 1 := Scalar.cmpi .slt v1215 c0_i32_871
  let v1220 : BitVec 32 := Scalar.extui v1219
  let v1221 : BitVec 32 := Scalar.subi v1218 v1220
  let c128_i32_869 : BitVec 32 := 128#32
  let c0_i32_872 : BitVec 32 := 0#32
  let v1222 : BitVec 1 := Scalar.cmpi .sgt c128_i32_869 c0_i32_872
  let v1223 : BitVec 32 := Scalar.extui v1222
  let c0_i32_873 : BitVec 32 := 0#32
  let v1224 : BitVec 1 := Scalar.cmpi .slt c128_i32_869 c0_i32_873
  let v1225 : BitVec 32 := Scalar.extui v1224
  let v1226 : BitVec 32 := Scalar.subi v1223 v1225
  let v1227 : BitVec 1 := Scalar.cmpi .ne v1221 v1226
  let v1228 : BitVec 32 := Scalar.remsi v1215 c128_i32_869
  let c0_i32_874 : BitVec 32 := 0#32
  let v1229 : BitVec 1 := Scalar.cmpi .ne v1228 c0_i32_874
  let v1230 : BitVec 1 := Scalar.andi v1227 v1229
  let v1216 : BitVec 32 := Scalar.divsi v1215 c128_i32_869
  let c1_i32_875 : BitVec 32 := 1#32
  let v1231 : BitVec 32 := Scalar.subi v1216 c1_i32_875
  let v1232 : BitVec 32 := Scalar.select v1230 v1231 v1216
  let c128_i32_876 : BitVec 32 := 128#32
  let v1233 : BitVec 32 := Scalar.muli v1232 c128_i32_876
  let v1234 : BitVec 32 := v1233
  ![0, v1234.toNat]

def k0_chk36 (v1215 : BitVec 32) : Prop :=
  (128 ∣ (k0_mult22 v1215).toNat) ∧
  (∀ a, (k0_off26 v1215) a + S64x128.size a ≤ S64x1000064.size a)
theorem k0_mult22_dvd : ∀ (v1215 : BitVec 32) (k0_hw36 : k0_chk36 v1215), 128 ∣ (k0_mult22 v1215).toNat := fun v1215 k0_hw36 => k0_hw36.1
theorem k0_off26_inb : ∀ (v1215 : BitVec 32) (k0_hw36 : k0_chk36 v1215), ∀ a, (k0_off26 v1215) a + S64x128.size a ≤ S64x1000064.size a := fun v1215 k0_hw36 => k0_hw36.2

def k0_chk37 (v5 : IVec S16 32) (v8 : IVec S16 32) (v11 : IVec S16 32) (v14 : IVec S16 32) (v1259 : IVec S16 32) : Prop :=
  (∀ a x, ((![v5, v1259] : Fin 2 → IVec S16 32) a x).toNat < S64x128.size a) ∧
  (∀ a x, ((![v8, v1259] : Fin 2 → IVec S16 32) a x).toNat < S64x128.size a) ∧
  (∀ a x, ((![v11, v1259] : Fin 2 → IVec S16 32) a x).toNat < S64x128.size a) ∧
  (∀ a x, ((![v14, v1259] : Fin 2 → IVec S16 32) a x).toNat < S64x128.size a)
theorem k0_idx57_inb : ∀ (v5 : IVec S16 32) (v8 : IVec S16 32) (v11 : IVec S16 32) (v14 : IVec S16 32) (v1259 : IVec S16 32) (k0_hw37 : k0_chk37 v5 v8 v11 v14 v1259), ∀ a x, ((![v5, v1259] : Fin 2 → IVec S16 32) a x).toNat < S64x128.size a := fun v5 v8 v11 v14 v1259 k0_hw37 => k0_hw37.1
theorem k0_idx58_inb : ∀ (v5 : IVec S16 32) (v8 : IVec S16 32) (v11 : IVec S16 32) (v14 : IVec S16 32) (v1259 : IVec S16 32) (k0_hw37 : k0_chk37 v5 v8 v11 v14 v1259), ∀ a x, ((![v8, v1259] : Fin 2 → IVec S16 32) a x).toNat < S64x128.size a := fun v5 v8 v11 v14 v1259 k0_hw37 => k0_hw37.2.1
theorem k0_idx59_inb : ∀ (v5 : IVec S16 32) (v8 : IVec S16 32) (v11 : IVec S16 32) (v14 : IVec S16 32) (v1259 : IVec S16 32) (k0_hw37 : k0_chk37 v5 v8 v11 v14 v1259), ∀ a x, ((![v11, v1259] : Fin 2 → IVec S16 32) a x).toNat < S64x128.size a := fun v5 v8 v11 v14 v1259 k0_hw37 => k0_hw37.2.2.1
theorem k0_idx60_inb : ∀ (v5 : IVec S16 32) (v8 : IVec S16 32) (v11 : IVec S16 32) (v14 : IVec S16 32) (v1259 : IVec S16 32) (k0_hw37 : k0_chk37 v5 v8 v11 v14 v1259), ∀ a x, ((![v14, v1259] : Fin 2 → IVec S16 32) a x).toNat < S64x128.size a := fun v5 v8 v11 v14 v1259 k0_hw37 => k0_hw37.2.2.2
def k0_mult23 (v1285 : BitVec 32) : BitVec 32 :=
  let c0_i32_923 : BitVec 32 := 0#32
  let v1287 : BitVec 1 := Scalar.cmpi .sgt v1285 c0_i32_923
  let v1288 : BitVec 32 := Scalar.extui v1287
  let c0_i32_924 : BitVec 32 := 0#32
  let v1289 : BitVec 1 := Scalar.cmpi .slt v1285 c0_i32_924
  let v1290 : BitVec 32 := Scalar.extui v1289
  let v1291 : BitVec 32 := Scalar.subi v1288 v1290
  let c128_i32_922 : BitVec 32 := 128#32
  let c0_i32_925 : BitVec 32 := 0#32
  let v1292 : BitVec 1 := Scalar.cmpi .sgt c128_i32_922 c0_i32_925
  let v1293 : BitVec 32 := Scalar.extui v1292
  let c0_i32_926 : BitVec 32 := 0#32
  let v1294 : BitVec 1 := Scalar.cmpi .slt c128_i32_922 c0_i32_926
  let v1295 : BitVec 32 := Scalar.extui v1294
  let v1296 : BitVec 32 := Scalar.subi v1293 v1295
  let v1297 : BitVec 1 := Scalar.cmpi .ne v1291 v1296
  let v1298 : BitVec 32 := Scalar.remsi v1285 c128_i32_922
  let c0_i32_927 : BitVec 32 := 0#32
  let v1299 : BitVec 1 := Scalar.cmpi .ne v1298 c0_i32_927
  let v1300 : BitVec 1 := Scalar.andi v1297 v1299
  let v1286 : BitVec 32 := Scalar.divsi v1285 c128_i32_922
  let c1_i32_928 : BitVec 32 := 1#32
  let v1301 : BitVec 32 := Scalar.subi v1286 c1_i32_928
  let v1302 : BitVec 32 := Scalar.select v1300 v1301 v1286
  let c128_i32_929 : BitVec 32 := 128#32
  let v1303 : BitVec 32 := Scalar.muli v1302 c128_i32_929
  v1303

def k0_off27 (v1285 : BitVec 32) : Fin 2 → Nat :=
  let c0_i32_933 : BitVec 32 := 0#32
  let c0_i32_923 : BitVec 32 := 0#32
  let v1287 : BitVec 1 := Scalar.cmpi .sgt v1285 c0_i32_923
  let v1288 : BitVec 32 := Scalar.extui v1287
  let c0_i32_924 : BitVec 32 := 0#32
  let v1289 : BitVec 1 := Scalar.cmpi .slt v1285 c0_i32_924
  let v1290 : BitVec 32 := Scalar.extui v1289
  let v1291 : BitVec 32 := Scalar.subi v1288 v1290
  let c128_i32_922 : BitVec 32 := 128#32
  let c0_i32_925 : BitVec 32 := 0#32
  let v1292 : BitVec 1 := Scalar.cmpi .sgt c128_i32_922 c0_i32_925
  let v1293 : BitVec 32 := Scalar.extui v1292
  let c0_i32_926 : BitVec 32 := 0#32
  let v1294 : BitVec 1 := Scalar.cmpi .slt c128_i32_922 c0_i32_926
  let v1295 : BitVec 32 := Scalar.extui v1294
  let v1296 : BitVec 32 := Scalar.subi v1293 v1295
  let v1297 : BitVec 1 := Scalar.cmpi .ne v1291 v1296
  let v1298 : BitVec 32 := Scalar.remsi v1285 c128_i32_922
  let c0_i32_927 : BitVec 32 := 0#32
  let v1299 : BitVec 1 := Scalar.cmpi .ne v1298 c0_i32_927
  let v1300 : BitVec 1 := Scalar.andi v1297 v1299
  let v1286 : BitVec 32 := Scalar.divsi v1285 c128_i32_922
  let c1_i32_928 : BitVec 32 := 1#32
  let v1301 : BitVec 32 := Scalar.subi v1286 c1_i32_928
  let v1302 : BitVec 32 := Scalar.select v1300 v1301 v1286
  let c128_i32_929 : BitVec 32 := 128#32
  let v1303 : BitVec 32 := Scalar.muli v1302 c128_i32_929
  let v1304 : BitVec 32 := v1303
  ![0, v1304.toNat]

def k0_chk38 (v1285 : BitVec 32) : Prop :=
  (128 ∣ (k0_mult23 v1285).toNat) ∧
  (∀ a, (k0_off27 v1285) a + S64x128.size a ≤ S64x1000064.size a)
theorem k0_mult23_dvd : ∀ (v1285 : BitVec 32) (k0_hw38 : k0_chk38 v1285), 128 ∣ (k0_mult23 v1285).toNat := fun v1285 k0_hw38 => k0_hw38.1
theorem k0_off27_inb : ∀ (v1285 : BitVec 32) (k0_hw38 : k0_chk38 v1285), ∀ a, (k0_off27 v1285) a + S64x128.size a ≤ S64x1000064.size a := fun v1285 k0_hw38 => k0_hw38.2

def k0_chk39 (v5 : IVec S16 32) (v8 : IVec S16 32) (v11 : IVec S16 32) (v14 : IVec S16 32) (v1329 : IVec S16 32) : Prop :=
  (∀ a x, ((![v5, v1329] : Fin 2 → IVec S16 32) a x).toNat < S64x128.size a) ∧
  (∀ a x, ((![v8, v1329] : Fin 2 → IVec S16 32) a x).toNat < S64x128.size a) ∧
  (∀ a x, ((![v11, v1329] : Fin 2 → IVec S16 32) a x).toNat < S64x128.size a) ∧
  (∀ a x, ((![v14, v1329] : Fin 2 → IVec S16 32) a x).toNat < S64x128.size a)
theorem k0_idx61_inb : ∀ (v5 : IVec S16 32) (v8 : IVec S16 32) (v11 : IVec S16 32) (v14 : IVec S16 32) (v1329 : IVec S16 32) (k0_hw39 : k0_chk39 v5 v8 v11 v14 v1329), ∀ a x, ((![v5, v1329] : Fin 2 → IVec S16 32) a x).toNat < S64x128.size a := fun v5 v8 v11 v14 v1329 k0_hw39 => k0_hw39.1
theorem k0_idx62_inb : ∀ (v5 : IVec S16 32) (v8 : IVec S16 32) (v11 : IVec S16 32) (v14 : IVec S16 32) (v1329 : IVec S16 32) (k0_hw39 : k0_chk39 v5 v8 v11 v14 v1329), ∀ a x, ((![v8, v1329] : Fin 2 → IVec S16 32) a x).toNat < S64x128.size a := fun v5 v8 v11 v14 v1329 k0_hw39 => k0_hw39.2.1
theorem k0_idx63_inb : ∀ (v5 : IVec S16 32) (v8 : IVec S16 32) (v11 : IVec S16 32) (v14 : IVec S16 32) (v1329 : IVec S16 32) (k0_hw39 : k0_chk39 v5 v8 v11 v14 v1329), ∀ a x, ((![v11, v1329] : Fin 2 → IVec S16 32) a x).toNat < S64x128.size a := fun v5 v8 v11 v14 v1329 k0_hw39 => k0_hw39.2.2.1
theorem k0_idx64_inb : ∀ (v5 : IVec S16 32) (v8 : IVec S16 32) (v11 : IVec S16 32) (v14 : IVec S16 32) (v1329 : IVec S16 32) (k0_hw39 : k0_chk39 v5 v8 v11 v14 v1329), ∀ a x, ((![v14, v1329] : Fin 2 → IVec S16 32) a x).toNat < S64x128.size a := fun v5 v8 v11 v14 v1329 k0_hw39 => k0_hw39.2.2.2
def k0_mult24 (v1355 : BitVec 32) : BitVec 32 :=
  let c0_i32_976 : BitVec 32 := 0#32
  let v1357 : BitVec 1 := Scalar.cmpi .sgt v1355 c0_i32_976
  let v1358 : BitVec 32 := Scalar.extui v1357
  let c0_i32_977 : BitVec 32 := 0#32
  let v1359 : BitVec 1 := Scalar.cmpi .slt v1355 c0_i32_977
  let v1360 : BitVec 32 := Scalar.extui v1359
  let v1361 : BitVec 32 := Scalar.subi v1358 v1360
  let c128_i32_975 : BitVec 32 := 128#32
  let c0_i32_978 : BitVec 32 := 0#32
  let v1362 : BitVec 1 := Scalar.cmpi .sgt c128_i32_975 c0_i32_978
  let v1363 : BitVec 32 := Scalar.extui v1362
  let c0_i32_979 : BitVec 32 := 0#32
  let v1364 : BitVec 1 := Scalar.cmpi .slt c128_i32_975 c0_i32_979
  let v1365 : BitVec 32 := Scalar.extui v1364
  let v1366 : BitVec 32 := Scalar.subi v1363 v1365
  let v1367 : BitVec 1 := Scalar.cmpi .ne v1361 v1366
  let v1368 : BitVec 32 := Scalar.remsi v1355 c128_i32_975
  let c0_i32_980 : BitVec 32 := 0#32
  let v1369 : BitVec 1 := Scalar.cmpi .ne v1368 c0_i32_980
  let v1370 : BitVec 1 := Scalar.andi v1367 v1369
  let v1356 : BitVec 32 := Scalar.divsi v1355 c128_i32_975
  let c1_i32_981 : BitVec 32 := 1#32
  let v1371 : BitVec 32 := Scalar.subi v1356 c1_i32_981
  let v1372 : BitVec 32 := Scalar.select v1370 v1371 v1356
  let c128_i32_982 : BitVec 32 := 128#32
  let v1373 : BitVec 32 := Scalar.muli v1372 c128_i32_982
  v1373

def k0_off28 (v1355 : BitVec 32) : Fin 2 → Nat :=
  let c0_i32_986 : BitVec 32 := 0#32
  let c0_i32_976 : BitVec 32 := 0#32
  let v1357 : BitVec 1 := Scalar.cmpi .sgt v1355 c0_i32_976
  let v1358 : BitVec 32 := Scalar.extui v1357
  let c0_i32_977 : BitVec 32 := 0#32
  let v1359 : BitVec 1 := Scalar.cmpi .slt v1355 c0_i32_977
  let v1360 : BitVec 32 := Scalar.extui v1359
  let v1361 : BitVec 32 := Scalar.subi v1358 v1360
  let c128_i32_975 : BitVec 32 := 128#32
  let c0_i32_978 : BitVec 32 := 0#32
  let v1362 : BitVec 1 := Scalar.cmpi .sgt c128_i32_975 c0_i32_978
  let v1363 : BitVec 32 := Scalar.extui v1362
  let c0_i32_979 : BitVec 32 := 0#32
  let v1364 : BitVec 1 := Scalar.cmpi .slt c128_i32_975 c0_i32_979
  let v1365 : BitVec 32 := Scalar.extui v1364
  let v1366 : BitVec 32 := Scalar.subi v1363 v1365
  let v1367 : BitVec 1 := Scalar.cmpi .ne v1361 v1366
  let v1368 : BitVec 32 := Scalar.remsi v1355 c128_i32_975
  let c0_i32_980 : BitVec 32 := 0#32
  let v1369 : BitVec 1 := Scalar.cmpi .ne v1368 c0_i32_980
  let v1370 : BitVec 1 := Scalar.andi v1367 v1369
  let v1356 : BitVec 32 := Scalar.divsi v1355 c128_i32_975
  let c1_i32_981 : BitVec 32 := 1#32
  let v1371 : BitVec 32 := Scalar.subi v1356 c1_i32_981
  let v1372 : BitVec 32 := Scalar.select v1370 v1371 v1356
  let c128_i32_982 : BitVec 32 := 128#32
  let v1373 : BitVec 32 := Scalar.muli v1372 c128_i32_982
  let v1374 : BitVec 32 := v1373
  ![0, v1374.toNat]

def k0_chk40 (v1355 : BitVec 32) : Prop :=
  (128 ∣ (k0_mult24 v1355).toNat) ∧
  (∀ a, (k0_off28 v1355) a + S64x128.size a ≤ S64x1000064.size a)
theorem k0_mult24_dvd : ∀ (v1355 : BitVec 32) (k0_hw40 : k0_chk40 v1355), 128 ∣ (k0_mult24 v1355).toNat := fun v1355 k0_hw40 => k0_hw40.1
theorem k0_off28_inb : ∀ (v1355 : BitVec 32) (k0_hw40 : k0_chk40 v1355), ∀ a, (k0_off28 v1355) a + S64x128.size a ≤ S64x1000064.size a := fun v1355 k0_hw40 => k0_hw40.2

def k0_chk41 (v5 : IVec S16 32) (v8 : IVec S16 32) (v11 : IVec S16 32) (v14 : IVec S16 32) (v1400 : IVec S16 32) : Prop :=
  (∀ a x, ((![v5, v1400] : Fin 2 → IVec S16 32) a x).toNat < S64x128.size a) ∧
  (∀ a x, ((![v8, v1400] : Fin 2 → IVec S16 32) a x).toNat < S64x128.size a) ∧
  (∀ a x, ((![v11, v1400] : Fin 2 → IVec S16 32) a x).toNat < S64x128.size a) ∧
  (∀ a x, ((![v14, v1400] : Fin 2 → IVec S16 32) a x).toNat < S64x128.size a)
theorem k0_idx65_inb : ∀ (v5 : IVec S16 32) (v8 : IVec S16 32) (v11 : IVec S16 32) (v14 : IVec S16 32) (v1400 : IVec S16 32) (k0_hw41 : k0_chk41 v5 v8 v11 v14 v1400), ∀ a x, ((![v5, v1400] : Fin 2 → IVec S16 32) a x).toNat < S64x128.size a := fun v5 v8 v11 v14 v1400 k0_hw41 => k0_hw41.1
theorem k0_idx66_inb : ∀ (v5 : IVec S16 32) (v8 : IVec S16 32) (v11 : IVec S16 32) (v14 : IVec S16 32) (v1400 : IVec S16 32) (k0_hw41 : k0_chk41 v5 v8 v11 v14 v1400), ∀ a x, ((![v8, v1400] : Fin 2 → IVec S16 32) a x).toNat < S64x128.size a := fun v5 v8 v11 v14 v1400 k0_hw41 => k0_hw41.2.1
theorem k0_idx67_inb : ∀ (v5 : IVec S16 32) (v8 : IVec S16 32) (v11 : IVec S16 32) (v14 : IVec S16 32) (v1400 : IVec S16 32) (k0_hw41 : k0_chk41 v5 v8 v11 v14 v1400), ∀ a x, ((![v11, v1400] : Fin 2 → IVec S16 32) a x).toNat < S64x128.size a := fun v5 v8 v11 v14 v1400 k0_hw41 => k0_hw41.2.2.1
theorem k0_idx68_inb : ∀ (v5 : IVec S16 32) (v8 : IVec S16 32) (v11 : IVec S16 32) (v14 : IVec S16 32) (v1400 : IVec S16 32) (k0_hw41 : k0_chk41 v5 v8 v11 v14 v1400), ∀ a x, ((![v14, v1400] : Fin 2 → IVec S16 32) a x).toNat < S64x128.size a := fun v5 v8 v11 v14 v1400 k0_hw41 => k0_hw41.2.2.2
def k0_mult25 (v1426 : BitVec 32) : BitVec 32 :=
  let c0_i32_1027 : BitVec 32 := 0#32
  let v1428 : BitVec 1 := Scalar.cmpi .sgt v1426 c0_i32_1027
  let v1429 : BitVec 32 := Scalar.extui v1428
  let c0_i32_1028 : BitVec 32 := 0#32
  let v1430 : BitVec 1 := Scalar.cmpi .slt v1426 c0_i32_1028
  let v1431 : BitVec 32 := Scalar.extui v1430
  let v1432 : BitVec 32 := Scalar.subi v1429 v1431
  let c128_i32_1026 : BitVec 32 := 128#32
  let c0_i32_1029 : BitVec 32 := 0#32
  let v1433 : BitVec 1 := Scalar.cmpi .sgt c128_i32_1026 c0_i32_1029
  let v1434 : BitVec 32 := Scalar.extui v1433
  let c0_i32_1030 : BitVec 32 := 0#32
  let v1435 : BitVec 1 := Scalar.cmpi .slt c128_i32_1026 c0_i32_1030
  let v1436 : BitVec 32 := Scalar.extui v1435
  let v1437 : BitVec 32 := Scalar.subi v1434 v1436
  let v1438 : BitVec 1 := Scalar.cmpi .ne v1432 v1437
  let v1439 : BitVec 32 := Scalar.remsi v1426 c128_i32_1026
  let c0_i32_1031 : BitVec 32 := 0#32
  let v1440 : BitVec 1 := Scalar.cmpi .ne v1439 c0_i32_1031
  let v1441 : BitVec 1 := Scalar.andi v1438 v1440
  let v1427 : BitVec 32 := Scalar.divsi v1426 c128_i32_1026
  let c1_i32_1032 : BitVec 32 := 1#32
  let v1442 : BitVec 32 := Scalar.subi v1427 c1_i32_1032
  let v1443 : BitVec 32 := Scalar.select v1441 v1442 v1427
  let c128_i32_1033 : BitVec 32 := 128#32
  let v1444 : BitVec 32 := Scalar.muli v1443 c128_i32_1033
  v1444

def k0_off29 (v1426 : BitVec 32) : Fin 2 → Nat :=
  let c0_i32_1037 : BitVec 32 := 0#32
  let c0_i32_1027 : BitVec 32 := 0#32
  let v1428 : BitVec 1 := Scalar.cmpi .sgt v1426 c0_i32_1027
  let v1429 : BitVec 32 := Scalar.extui v1428
  let c0_i32_1028 : BitVec 32 := 0#32
  let v1430 : BitVec 1 := Scalar.cmpi .slt v1426 c0_i32_1028
  let v1431 : BitVec 32 := Scalar.extui v1430
  let v1432 : BitVec 32 := Scalar.subi v1429 v1431
  let c128_i32_1026 : BitVec 32 := 128#32
  let c0_i32_1029 : BitVec 32 := 0#32
  let v1433 : BitVec 1 := Scalar.cmpi .sgt c128_i32_1026 c0_i32_1029
  let v1434 : BitVec 32 := Scalar.extui v1433
  let c0_i32_1030 : BitVec 32 := 0#32
  let v1435 : BitVec 1 := Scalar.cmpi .slt c128_i32_1026 c0_i32_1030
  let v1436 : BitVec 32 := Scalar.extui v1435
  let v1437 : BitVec 32 := Scalar.subi v1434 v1436
  let v1438 : BitVec 1 := Scalar.cmpi .ne v1432 v1437
  let v1439 : BitVec 32 := Scalar.remsi v1426 c128_i32_1026
  let c0_i32_1031 : BitVec 32 := 0#32
  let v1440 : BitVec 1 := Scalar.cmpi .ne v1439 c0_i32_1031
  let v1441 : BitVec 1 := Scalar.andi v1438 v1440
  let v1427 : BitVec 32 := Scalar.divsi v1426 c128_i32_1026
  let c1_i32_1032 : BitVec 32 := 1#32
  let v1442 : BitVec 32 := Scalar.subi v1427 c1_i32_1032
  let v1443 : BitVec 32 := Scalar.select v1441 v1442 v1427
  let c128_i32_1033 : BitVec 32 := 128#32
  let v1444 : BitVec 32 := Scalar.muli v1443 c128_i32_1033
  let v1445 : BitVec 32 := v1444
  ![0, v1445.toNat]

def k0_chk42 (v1426 : BitVec 32) : Prop :=
  (128 ∣ (k0_mult25 v1426).toNat) ∧
  (∀ a, (k0_off29 v1426) a + S64x128.size a ≤ S64x1000064.size a)
theorem k0_mult25_dvd : ∀ (v1426 : BitVec 32) (k0_hw42 : k0_chk42 v1426), 128 ∣ (k0_mult25 v1426).toNat := fun v1426 k0_hw42 => k0_hw42.1
theorem k0_off29_inb : ∀ (v1426 : BitVec 32) (k0_hw42 : k0_chk42 v1426), ∀ a, (k0_off29 v1426) a + S64x128.size a ≤ S64x1000064.size a := fun v1426 k0_hw42 => k0_hw42.2

def k0_chk43 (v5 : IVec S16 32) (v8 : IVec S16 32) (v11 : IVec S16 32) (v14 : IVec S16 32) (v1470 : IVec S16 32) : Prop :=
  (∀ a x, ((![v5, v1470] : Fin 2 → IVec S16 32) a x).toNat < S64x128.size a) ∧
  (∀ a x, ((![v8, v1470] : Fin 2 → IVec S16 32) a x).toNat < S64x128.size a) ∧
  (∀ a x, ((![v11, v1470] : Fin 2 → IVec S16 32) a x).toNat < S64x128.size a) ∧
  (∀ a x, ((![v14, v1470] : Fin 2 → IVec S16 32) a x).toNat < S64x128.size a)
theorem k0_idx69_inb : ∀ (v5 : IVec S16 32) (v8 : IVec S16 32) (v11 : IVec S16 32) (v14 : IVec S16 32) (v1470 : IVec S16 32) (k0_hw43 : k0_chk43 v5 v8 v11 v14 v1470), ∀ a x, ((![v5, v1470] : Fin 2 → IVec S16 32) a x).toNat < S64x128.size a := fun v5 v8 v11 v14 v1470 k0_hw43 => k0_hw43.1
theorem k0_idx70_inb : ∀ (v5 : IVec S16 32) (v8 : IVec S16 32) (v11 : IVec S16 32) (v14 : IVec S16 32) (v1470 : IVec S16 32) (k0_hw43 : k0_chk43 v5 v8 v11 v14 v1470), ∀ a x, ((![v8, v1470] : Fin 2 → IVec S16 32) a x).toNat < S64x128.size a := fun v5 v8 v11 v14 v1470 k0_hw43 => k0_hw43.2.1
theorem k0_idx71_inb : ∀ (v5 : IVec S16 32) (v8 : IVec S16 32) (v11 : IVec S16 32) (v14 : IVec S16 32) (v1470 : IVec S16 32) (k0_hw43 : k0_chk43 v5 v8 v11 v14 v1470), ∀ a x, ((![v11, v1470] : Fin 2 → IVec S16 32) a x).toNat < S64x128.size a := fun v5 v8 v11 v14 v1470 k0_hw43 => k0_hw43.2.2.1
theorem k0_idx72_inb : ∀ (v5 : IVec S16 32) (v8 : IVec S16 32) (v11 : IVec S16 32) (v14 : IVec S16 32) (v1470 : IVec S16 32) (k0_hw43 : k0_chk43 v5 v8 v11 v14 v1470), ∀ a x, ((![v14, v1470] : Fin 2 → IVec S16 32) a x).toNat < S64x128.size a := fun v5 v8 v11 v14 v1470 k0_hw43 => k0_hw43.2.2.2
def k0_mult26 (v1496 : BitVec 32) : BitVec 32 :=
  let c0_i32_1081 : BitVec 32 := 0#32
  let v1498 : BitVec 1 := Scalar.cmpi .sgt v1496 c0_i32_1081
  let v1499 : BitVec 32 := Scalar.extui v1498
  let c0_i32_1082 : BitVec 32 := 0#32
  let v1500 : BitVec 1 := Scalar.cmpi .slt v1496 c0_i32_1082
  let v1501 : BitVec 32 := Scalar.extui v1500
  let v1502 : BitVec 32 := Scalar.subi v1499 v1501
  let c128_i32_1080 : BitVec 32 := 128#32
  let c0_i32_1083 : BitVec 32 := 0#32
  let v1503 : BitVec 1 := Scalar.cmpi .sgt c128_i32_1080 c0_i32_1083
  let v1504 : BitVec 32 := Scalar.extui v1503
  let c0_i32_1084 : BitVec 32 := 0#32
  let v1505 : BitVec 1 := Scalar.cmpi .slt c128_i32_1080 c0_i32_1084
  let v1506 : BitVec 32 := Scalar.extui v1505
  let v1507 : BitVec 32 := Scalar.subi v1504 v1506
  let v1508 : BitVec 1 := Scalar.cmpi .ne v1502 v1507
  let v1509 : BitVec 32 := Scalar.remsi v1496 c128_i32_1080
  let c0_i32_1085 : BitVec 32 := 0#32
  let v1510 : BitVec 1 := Scalar.cmpi .ne v1509 c0_i32_1085
  let v1511 : BitVec 1 := Scalar.andi v1508 v1510
  let v1497 : BitVec 32 := Scalar.divsi v1496 c128_i32_1080
  let c1_i32_1086 : BitVec 32 := 1#32
  let v1512 : BitVec 32 := Scalar.subi v1497 c1_i32_1086
  let v1513 : BitVec 32 := Scalar.select v1511 v1512 v1497
  let c128_i32_1087 : BitVec 32 := 128#32
  let v1514 : BitVec 32 := Scalar.muli v1513 c128_i32_1087
  v1514

def k0_off30 (v1496 : BitVec 32) : Fin 2 → Nat :=
  let c0_i32_1091 : BitVec 32 := 0#32
  let c0_i32_1081 : BitVec 32 := 0#32
  let v1498 : BitVec 1 := Scalar.cmpi .sgt v1496 c0_i32_1081
  let v1499 : BitVec 32 := Scalar.extui v1498
  let c0_i32_1082 : BitVec 32 := 0#32
  let v1500 : BitVec 1 := Scalar.cmpi .slt v1496 c0_i32_1082
  let v1501 : BitVec 32 := Scalar.extui v1500
  let v1502 : BitVec 32 := Scalar.subi v1499 v1501
  let c128_i32_1080 : BitVec 32 := 128#32
  let c0_i32_1083 : BitVec 32 := 0#32
  let v1503 : BitVec 1 := Scalar.cmpi .sgt c128_i32_1080 c0_i32_1083
  let v1504 : BitVec 32 := Scalar.extui v1503
  let c0_i32_1084 : BitVec 32 := 0#32
  let v1505 : BitVec 1 := Scalar.cmpi .slt c128_i32_1080 c0_i32_1084
  let v1506 : BitVec 32 := Scalar.extui v1505
  let v1507 : BitVec 32 := Scalar.subi v1504 v1506
  let v1508 : BitVec 1 := Scalar.cmpi .ne v1502 v1507
  let v1509 : BitVec 32 := Scalar.remsi v1496 c128_i32_1080
  let c0_i32_1085 : BitVec 32 := 0#32
  let v1510 : BitVec 1 := Scalar.cmpi .ne v1509 c0_i32_1085
  let v1511 : BitVec 1 := Scalar.andi v1508 v1510
  let v1497 : BitVec 32 := Scalar.divsi v1496 c128_i32_1080
  let c1_i32_1086 : BitVec 32 := 1#32
  let v1512 : BitVec 32 := Scalar.subi v1497 c1_i32_1086
  let v1513 : BitVec 32 := Scalar.select v1511 v1512 v1497
  let c128_i32_1087 : BitVec 32 := 128#32
  let v1514 : BitVec 32 := Scalar.muli v1513 c128_i32_1087
  let v1515 : BitVec 32 := v1514
  ![0, v1515.toNat]

def k0_chk44 (v1496 : BitVec 32) : Prop :=
  (128 ∣ (k0_mult26 v1496).toNat) ∧
  (∀ a, (k0_off30 v1496) a + S64x128.size a ≤ S64x1000064.size a)
theorem k0_mult26_dvd : ∀ (v1496 : BitVec 32) (k0_hw44 : k0_chk44 v1496), 128 ∣ (k0_mult26 v1496).toNat := fun v1496 k0_hw44 => k0_hw44.1
theorem k0_off30_inb : ∀ (v1496 : BitVec 32) (k0_hw44 : k0_chk44 v1496), ∀ a, (k0_off30 v1496) a + S64x128.size a ≤ S64x1000064.size a := fun v1496 k0_hw44 => k0_hw44.2

def k0_chk45 (v5 : IVec S16 32) (v8 : IVec S16 32) (v11 : IVec S16 32) (v14 : IVec S16 32) (v1540 : IVec S16 32) : Prop :=
  (∀ a x, ((![v5, v1540] : Fin 2 → IVec S16 32) a x).toNat < S64x128.size a) ∧
  (∀ a x, ((![v8, v1540] : Fin 2 → IVec S16 32) a x).toNat < S64x128.size a) ∧
  (∀ a x, ((![v11, v1540] : Fin 2 → IVec S16 32) a x).toNat < S64x128.size a) ∧
  (∀ a x, ((![v14, v1540] : Fin 2 → IVec S16 32) a x).toNat < S64x128.size a)
theorem k0_idx73_inb : ∀ (v5 : IVec S16 32) (v8 : IVec S16 32) (v11 : IVec S16 32) (v14 : IVec S16 32) (v1540 : IVec S16 32) (k0_hw45 : k0_chk45 v5 v8 v11 v14 v1540), ∀ a x, ((![v5, v1540] : Fin 2 → IVec S16 32) a x).toNat < S64x128.size a := fun v5 v8 v11 v14 v1540 k0_hw45 => k0_hw45.1
theorem k0_idx74_inb : ∀ (v5 : IVec S16 32) (v8 : IVec S16 32) (v11 : IVec S16 32) (v14 : IVec S16 32) (v1540 : IVec S16 32) (k0_hw45 : k0_chk45 v5 v8 v11 v14 v1540), ∀ a x, ((![v8, v1540] : Fin 2 → IVec S16 32) a x).toNat < S64x128.size a := fun v5 v8 v11 v14 v1540 k0_hw45 => k0_hw45.2.1
theorem k0_idx75_inb : ∀ (v5 : IVec S16 32) (v8 : IVec S16 32) (v11 : IVec S16 32) (v14 : IVec S16 32) (v1540 : IVec S16 32) (k0_hw45 : k0_chk45 v5 v8 v11 v14 v1540), ∀ a x, ((![v11, v1540] : Fin 2 → IVec S16 32) a x).toNat < S64x128.size a := fun v5 v8 v11 v14 v1540 k0_hw45 => k0_hw45.2.2.1
theorem k0_idx76_inb : ∀ (v5 : IVec S16 32) (v8 : IVec S16 32) (v11 : IVec S16 32) (v14 : IVec S16 32) (v1540 : IVec S16 32) (k0_hw45 : k0_chk45 v5 v8 v11 v14 v1540), ∀ a x, ((![v14, v1540] : Fin 2 → IVec S16 32) a x).toNat < S64x128.size a := fun v5 v8 v11 v14 v1540 k0_hw45 => k0_hw45.2.2.2
def k0_mult27 (v1566 : BitVec 32) : BitVec 32 :=
  let c0_i32_1135 : BitVec 32 := 0#32
  let v1568 : BitVec 1 := Scalar.cmpi .sgt v1566 c0_i32_1135
  let v1569 : BitVec 32 := Scalar.extui v1568
  let c0_i32_1136 : BitVec 32 := 0#32
  let v1570 : BitVec 1 := Scalar.cmpi .slt v1566 c0_i32_1136
  let v1571 : BitVec 32 := Scalar.extui v1570
  let v1572 : BitVec 32 := Scalar.subi v1569 v1571
  let c128_i32_1134 : BitVec 32 := 128#32
  let c0_i32_1137 : BitVec 32 := 0#32
  let v1573 : BitVec 1 := Scalar.cmpi .sgt c128_i32_1134 c0_i32_1137
  let v1574 : BitVec 32 := Scalar.extui v1573
  let c0_i32_1138 : BitVec 32 := 0#32
  let v1575 : BitVec 1 := Scalar.cmpi .slt c128_i32_1134 c0_i32_1138
  let v1576 : BitVec 32 := Scalar.extui v1575
  let v1577 : BitVec 32 := Scalar.subi v1574 v1576
  let v1578 : BitVec 1 := Scalar.cmpi .ne v1572 v1577
  let v1579 : BitVec 32 := Scalar.remsi v1566 c128_i32_1134
  let c0_i32_1139 : BitVec 32 := 0#32
  let v1580 : BitVec 1 := Scalar.cmpi .ne v1579 c0_i32_1139
  let v1581 : BitVec 1 := Scalar.andi v1578 v1580
  let v1567 : BitVec 32 := Scalar.divsi v1566 c128_i32_1134
  let c1_i32_1140 : BitVec 32 := 1#32
  let v1582 : BitVec 32 := Scalar.subi v1567 c1_i32_1140
  let v1583 : BitVec 32 := Scalar.select v1581 v1582 v1567
  let c128_i32_1141 : BitVec 32 := 128#32
  let v1584 : BitVec 32 := Scalar.muli v1583 c128_i32_1141
  v1584

def k0_off31 (v1566 : BitVec 32) : Fin 2 → Nat :=
  let c0_i32_1145 : BitVec 32 := 0#32
  let c0_i32_1135 : BitVec 32 := 0#32
  let v1568 : BitVec 1 := Scalar.cmpi .sgt v1566 c0_i32_1135
  let v1569 : BitVec 32 := Scalar.extui v1568
  let c0_i32_1136 : BitVec 32 := 0#32
  let v1570 : BitVec 1 := Scalar.cmpi .slt v1566 c0_i32_1136
  let v1571 : BitVec 32 := Scalar.extui v1570
  let v1572 : BitVec 32 := Scalar.subi v1569 v1571
  let c128_i32_1134 : BitVec 32 := 128#32
  let c0_i32_1137 : BitVec 32 := 0#32
  let v1573 : BitVec 1 := Scalar.cmpi .sgt c128_i32_1134 c0_i32_1137
  let v1574 : BitVec 32 := Scalar.extui v1573
  let c0_i32_1138 : BitVec 32 := 0#32
  let v1575 : BitVec 1 := Scalar.cmpi .slt c128_i32_1134 c0_i32_1138
  let v1576 : BitVec 32 := Scalar.extui v1575
  let v1577 : BitVec 32 := Scalar.subi v1574 v1576
  let v1578 : BitVec 1 := Scalar.cmpi .ne v1572 v1577
  let v1579 : BitVec 32 := Scalar.remsi v1566 c128_i32_1134
  let c0_i32_1139 : BitVec 32 := 0#32
  let v1580 : BitVec 1 := Scalar.cmpi .ne v1579 c0_i32_1139
  let v1581 : BitVec 1 := Scalar.andi v1578 v1580
  let v1567 : BitVec 32 := Scalar.divsi v1566 c128_i32_1134
  let c1_i32_1140 : BitVec 32 := 1#32
  let v1582 : BitVec 32 := Scalar.subi v1567 c1_i32_1140
  let v1583 : BitVec 32 := Scalar.select v1581 v1582 v1567
  let c128_i32_1141 : BitVec 32 := 128#32
  let v1584 : BitVec 32 := Scalar.muli v1583 c128_i32_1141
  let v1585 : BitVec 32 := v1584
  ![0, v1585.toNat]

def k0_chk46 (v1566 : BitVec 32) : Prop :=
  (128 ∣ (k0_mult27 v1566).toNat) ∧
  (∀ a, (k0_off31 v1566) a + S64x128.size a ≤ S64x1000064.size a)
theorem k0_mult27_dvd : ∀ (v1566 : BitVec 32) (k0_hw46 : k0_chk46 v1566), 128 ∣ (k0_mult27 v1566).toNat := fun v1566 k0_hw46 => k0_hw46.1
theorem k0_off31_inb : ∀ (v1566 : BitVec 32) (k0_hw46 : k0_chk46 v1566), ∀ a, (k0_off31 v1566) a + S64x128.size a ≤ S64x1000064.size a := fun v1566 k0_hw46 => k0_hw46.2

def k0_chk47 (v5 : IVec S16 32) (v8 : IVec S16 32) (v11 : IVec S16 32) (v14 : IVec S16 32) (v1610 : IVec S16 32) : Prop :=
  (∀ a x, ((![v5, v1610] : Fin 2 → IVec S16 32) a x).toNat < S64x128.size a) ∧
  (∀ a x, ((![v8, v1610] : Fin 2 → IVec S16 32) a x).toNat < S64x128.size a) ∧
  (∀ a x, ((![v11, v1610] : Fin 2 → IVec S16 32) a x).toNat < S64x128.size a) ∧
  (∀ a x, ((![v14, v1610] : Fin 2 → IVec S16 32) a x).toNat < S64x128.size a)
theorem k0_idx77_inb : ∀ (v5 : IVec S16 32) (v8 : IVec S16 32) (v11 : IVec S16 32) (v14 : IVec S16 32) (v1610 : IVec S16 32) (k0_hw47 : k0_chk47 v5 v8 v11 v14 v1610), ∀ a x, ((![v5, v1610] : Fin 2 → IVec S16 32) a x).toNat < S64x128.size a := fun v5 v8 v11 v14 v1610 k0_hw47 => k0_hw47.1
theorem k0_idx78_inb : ∀ (v5 : IVec S16 32) (v8 : IVec S16 32) (v11 : IVec S16 32) (v14 : IVec S16 32) (v1610 : IVec S16 32) (k0_hw47 : k0_chk47 v5 v8 v11 v14 v1610), ∀ a x, ((![v8, v1610] : Fin 2 → IVec S16 32) a x).toNat < S64x128.size a := fun v5 v8 v11 v14 v1610 k0_hw47 => k0_hw47.2.1
theorem k0_idx79_inb : ∀ (v5 : IVec S16 32) (v8 : IVec S16 32) (v11 : IVec S16 32) (v14 : IVec S16 32) (v1610 : IVec S16 32) (k0_hw47 : k0_chk47 v5 v8 v11 v14 v1610), ∀ a x, ((![v11, v1610] : Fin 2 → IVec S16 32) a x).toNat < S64x128.size a := fun v5 v8 v11 v14 v1610 k0_hw47 => k0_hw47.2.2.1
theorem k0_idx80_inb : ∀ (v5 : IVec S16 32) (v8 : IVec S16 32) (v11 : IVec S16 32) (v14 : IVec S16 32) (v1610 : IVec S16 32) (k0_hw47 : k0_chk47 v5 v8 v11 v14 v1610), ∀ a x, ((![v14, v1610] : Fin 2 → IVec S16 32) a x).toNat < S64x128.size a := fun v5 v8 v11 v14 v1610 k0_hw47 => k0_hw47.2.2.2
def k0_mult28 (v1636 : BitVec 32) : BitVec 32 :=
  let c0_i32_1189 : BitVec 32 := 0#32
  let v1638 : BitVec 1 := Scalar.cmpi .sgt v1636 c0_i32_1189
  let v1639 : BitVec 32 := Scalar.extui v1638
  let c0_i32_1190 : BitVec 32 := 0#32
  let v1640 : BitVec 1 := Scalar.cmpi .slt v1636 c0_i32_1190
  let v1641 : BitVec 32 := Scalar.extui v1640
  let v1642 : BitVec 32 := Scalar.subi v1639 v1641
  let c128_i32_1188 : BitVec 32 := 128#32
  let c0_i32_1191 : BitVec 32 := 0#32
  let v1643 : BitVec 1 := Scalar.cmpi .sgt c128_i32_1188 c0_i32_1191
  let v1644 : BitVec 32 := Scalar.extui v1643
  let c0_i32_1192 : BitVec 32 := 0#32
  let v1645 : BitVec 1 := Scalar.cmpi .slt c128_i32_1188 c0_i32_1192
  let v1646 : BitVec 32 := Scalar.extui v1645
  let v1647 : BitVec 32 := Scalar.subi v1644 v1646
  let v1648 : BitVec 1 := Scalar.cmpi .ne v1642 v1647
  let v1649 : BitVec 32 := Scalar.remsi v1636 c128_i32_1188
  let c0_i32_1193 : BitVec 32 := 0#32
  let v1650 : BitVec 1 := Scalar.cmpi .ne v1649 c0_i32_1193
  let v1651 : BitVec 1 := Scalar.andi v1648 v1650
  let v1637 : BitVec 32 := Scalar.divsi v1636 c128_i32_1188
  let c1_i32_1194 : BitVec 32 := 1#32
  let v1652 : BitVec 32 := Scalar.subi v1637 c1_i32_1194
  let v1653 : BitVec 32 := Scalar.select v1651 v1652 v1637
  let c128_i32_1195 : BitVec 32 := 128#32
  let v1654 : BitVec 32 := Scalar.muli v1653 c128_i32_1195
  v1654

def k0_off32 (v1636 : BitVec 32) : Fin 2 → Nat :=
  let c0_i32_1199 : BitVec 32 := 0#32
  let c0_i32_1189 : BitVec 32 := 0#32
  let v1638 : BitVec 1 := Scalar.cmpi .sgt v1636 c0_i32_1189
  let v1639 : BitVec 32 := Scalar.extui v1638
  let c0_i32_1190 : BitVec 32 := 0#32
  let v1640 : BitVec 1 := Scalar.cmpi .slt v1636 c0_i32_1190
  let v1641 : BitVec 32 := Scalar.extui v1640
  let v1642 : BitVec 32 := Scalar.subi v1639 v1641
  let c128_i32_1188 : BitVec 32 := 128#32
  let c0_i32_1191 : BitVec 32 := 0#32
  let v1643 : BitVec 1 := Scalar.cmpi .sgt c128_i32_1188 c0_i32_1191
  let v1644 : BitVec 32 := Scalar.extui v1643
  let c0_i32_1192 : BitVec 32 := 0#32
  let v1645 : BitVec 1 := Scalar.cmpi .slt c128_i32_1188 c0_i32_1192
  let v1646 : BitVec 32 := Scalar.extui v1645
  let v1647 : BitVec 32 := Scalar.subi v1644 v1646
  let v1648 : BitVec 1 := Scalar.cmpi .ne v1642 v1647
  let v1649 : BitVec 32 := Scalar.remsi v1636 c128_i32_1188
  let c0_i32_1193 : BitVec 32 := 0#32
  let v1650 : BitVec 1 := Scalar.cmpi .ne v1649 c0_i32_1193
  let v1651 : BitVec 1 := Scalar.andi v1648 v1650
  let v1637 : BitVec 32 := Scalar.divsi v1636 c128_i32_1188
  let c1_i32_1194 : BitVec 32 := 1#32
  let v1652 : BitVec 32 := Scalar.subi v1637 c1_i32_1194
  let v1653 : BitVec 32 := Scalar.select v1651 v1652 v1637
  let c128_i32_1195 : BitVec 32 := 128#32
  let v1654 : BitVec 32 := Scalar.muli v1653 c128_i32_1195
  let v1655 : BitVec 32 := v1654
  ![0, v1655.toNat]

def k0_chk48 (v1636 : BitVec 32) : Prop :=
  (128 ∣ (k0_mult28 v1636).toNat) ∧
  (∀ a, (k0_off32 v1636) a + S64x128.size a ≤ S64x1000064.size a)
theorem k0_mult28_dvd : ∀ (v1636 : BitVec 32) (k0_hw48 : k0_chk48 v1636), 128 ∣ (k0_mult28 v1636).toNat := fun v1636 k0_hw48 => k0_hw48.1
theorem k0_off32_inb : ∀ (v1636 : BitVec 32) (k0_hw48 : k0_chk48 v1636), ∀ a, (k0_off32 v1636) a + S64x128.size a ≤ S64x1000064.size a := fun v1636 k0_hw48 => k0_hw48.2

def k0_chk49 (v5 : IVec S16 32) (v8 : IVec S16 32) (v11 : IVec S16 32) (v14 : IVec S16 32) (v1680 : IVec S16 32) : Prop :=
  (∀ a x, ((![v5, v1680] : Fin 2 → IVec S16 32) a x).toNat < S64x128.size a) ∧
  (∀ a x, ((![v8, v1680] : Fin 2 → IVec S16 32) a x).toNat < S64x128.size a) ∧
  (∀ a x, ((![v11, v1680] : Fin 2 → IVec S16 32) a x).toNat < S64x128.size a) ∧
  (∀ a x, ((![v14, v1680] : Fin 2 → IVec S16 32) a x).toNat < S64x128.size a)
theorem k0_idx81_inb : ∀ (v5 : IVec S16 32) (v8 : IVec S16 32) (v11 : IVec S16 32) (v14 : IVec S16 32) (v1680 : IVec S16 32) (k0_hw49 : k0_chk49 v5 v8 v11 v14 v1680), ∀ a x, ((![v5, v1680] : Fin 2 → IVec S16 32) a x).toNat < S64x128.size a := fun v5 v8 v11 v14 v1680 k0_hw49 => k0_hw49.1
theorem k0_idx82_inb : ∀ (v5 : IVec S16 32) (v8 : IVec S16 32) (v11 : IVec S16 32) (v14 : IVec S16 32) (v1680 : IVec S16 32) (k0_hw49 : k0_chk49 v5 v8 v11 v14 v1680), ∀ a x, ((![v8, v1680] : Fin 2 → IVec S16 32) a x).toNat < S64x128.size a := fun v5 v8 v11 v14 v1680 k0_hw49 => k0_hw49.2.1
theorem k0_idx83_inb : ∀ (v5 : IVec S16 32) (v8 : IVec S16 32) (v11 : IVec S16 32) (v14 : IVec S16 32) (v1680 : IVec S16 32) (k0_hw49 : k0_chk49 v5 v8 v11 v14 v1680), ∀ a x, ((![v11, v1680] : Fin 2 → IVec S16 32) a x).toNat < S64x128.size a := fun v5 v8 v11 v14 v1680 k0_hw49 => k0_hw49.2.2.1
theorem k0_idx84_inb : ∀ (v5 : IVec S16 32) (v8 : IVec S16 32) (v11 : IVec S16 32) (v14 : IVec S16 32) (v1680 : IVec S16 32) (k0_hw49 : k0_chk49 v5 v8 v11 v14 v1680), ∀ a x, ((![v14, v1680] : Fin 2 → IVec S16 32) a x).toNat < S64x128.size a := fun v5 v8 v11 v14 v1680 k0_hw49 => k0_hw49.2.2.2
def k0_mult29 (v1706 : BitVec 32) : BitVec 32 :=
  let c0_i32_1243 : BitVec 32 := 0#32
  let v1708 : BitVec 1 := Scalar.cmpi .sgt v1706 c0_i32_1243
  let v1709 : BitVec 32 := Scalar.extui v1708
  let c0_i32_1244 : BitVec 32 := 0#32
  let v1710 : BitVec 1 := Scalar.cmpi .slt v1706 c0_i32_1244
  let v1711 : BitVec 32 := Scalar.extui v1710
  let v1712 : BitVec 32 := Scalar.subi v1709 v1711
  let c128_i32_1242 : BitVec 32 := 128#32
  let c0_i32_1245 : BitVec 32 := 0#32
  let v1713 : BitVec 1 := Scalar.cmpi .sgt c128_i32_1242 c0_i32_1245
  let v1714 : BitVec 32 := Scalar.extui v1713
  let c0_i32_1246 : BitVec 32 := 0#32
  let v1715 : BitVec 1 := Scalar.cmpi .slt c128_i32_1242 c0_i32_1246
  let v1716 : BitVec 32 := Scalar.extui v1715
  let v1717 : BitVec 32 := Scalar.subi v1714 v1716
  let v1718 : BitVec 1 := Scalar.cmpi .ne v1712 v1717
  let v1719 : BitVec 32 := Scalar.remsi v1706 c128_i32_1242
  let c0_i32_1247 : BitVec 32 := 0#32
  let v1720 : BitVec 1 := Scalar.cmpi .ne v1719 c0_i32_1247
  let v1721 : BitVec 1 := Scalar.andi v1718 v1720
  let v1707 : BitVec 32 := Scalar.divsi v1706 c128_i32_1242
  let c1_i32_1248 : BitVec 32 := 1#32
  let v1722 : BitVec 32 := Scalar.subi v1707 c1_i32_1248
  let v1723 : BitVec 32 := Scalar.select v1721 v1722 v1707
  let c128_i32_1249 : BitVec 32 := 128#32
  let v1724 : BitVec 32 := Scalar.muli v1723 c128_i32_1249
  v1724

def k0_off33 (v1706 : BitVec 32) : Fin 2 → Nat :=
  let c0_i32_1253 : BitVec 32 := 0#32
  let c0_i32_1243 : BitVec 32 := 0#32
  let v1708 : BitVec 1 := Scalar.cmpi .sgt v1706 c0_i32_1243
  let v1709 : BitVec 32 := Scalar.extui v1708
  let c0_i32_1244 : BitVec 32 := 0#32
  let v1710 : BitVec 1 := Scalar.cmpi .slt v1706 c0_i32_1244
  let v1711 : BitVec 32 := Scalar.extui v1710
  let v1712 : BitVec 32 := Scalar.subi v1709 v1711
  let c128_i32_1242 : BitVec 32 := 128#32
  let c0_i32_1245 : BitVec 32 := 0#32
  let v1713 : BitVec 1 := Scalar.cmpi .sgt c128_i32_1242 c0_i32_1245
  let v1714 : BitVec 32 := Scalar.extui v1713
  let c0_i32_1246 : BitVec 32 := 0#32
  let v1715 : BitVec 1 := Scalar.cmpi .slt c128_i32_1242 c0_i32_1246
  let v1716 : BitVec 32 := Scalar.extui v1715
  let v1717 : BitVec 32 := Scalar.subi v1714 v1716
  let v1718 : BitVec 1 := Scalar.cmpi .ne v1712 v1717
  let v1719 : BitVec 32 := Scalar.remsi v1706 c128_i32_1242
  let c0_i32_1247 : BitVec 32 := 0#32
  let v1720 : BitVec 1 := Scalar.cmpi .ne v1719 c0_i32_1247
  let v1721 : BitVec 1 := Scalar.andi v1718 v1720
  let v1707 : BitVec 32 := Scalar.divsi v1706 c128_i32_1242
  let c1_i32_1248 : BitVec 32 := 1#32
  let v1722 : BitVec 32 := Scalar.subi v1707 c1_i32_1248
  let v1723 : BitVec 32 := Scalar.select v1721 v1722 v1707
  let c128_i32_1249 : BitVec 32 := 128#32
  let v1724 : BitVec 32 := Scalar.muli v1723 c128_i32_1249
  let v1725 : BitVec 32 := v1724
  ![0, v1725.toNat]

def k0_chk50 (v1706 : BitVec 32) : Prop :=
  (128 ∣ (k0_mult29 v1706).toNat) ∧
  (∀ a, (k0_off33 v1706) a + S64x128.size a ≤ S64x1000064.size a)
theorem k0_mult29_dvd : ∀ (v1706 : BitVec 32) (k0_hw50 : k0_chk50 v1706), 128 ∣ (k0_mult29 v1706).toNat := fun v1706 k0_hw50 => k0_hw50.1
theorem k0_off33_inb : ∀ (v1706 : BitVec 32) (k0_hw50 : k0_chk50 v1706), ∀ a, (k0_off33 v1706) a + S64x128.size a ≤ S64x1000064.size a := fun v1706 k0_hw50 => k0_hw50.2

def k0_chk51 (v5 : IVec S16 32) (v8 : IVec S16 32) (v11 : IVec S16 32) (v14 : IVec S16 32) (v1750 : IVec S16 32) : Prop :=
  (∀ a x, ((![v5, v1750] : Fin 2 → IVec S16 32) a x).toNat < S64x128.size a) ∧
  (∀ a x, ((![v8, v1750] : Fin 2 → IVec S16 32) a x).toNat < S64x128.size a) ∧
  (∀ a x, ((![v11, v1750] : Fin 2 → IVec S16 32) a x).toNat < S64x128.size a) ∧
  (∀ a x, ((![v14, v1750] : Fin 2 → IVec S16 32) a x).toNat < S64x128.size a)
theorem k0_idx85_inb : ∀ (v5 : IVec S16 32) (v8 : IVec S16 32) (v11 : IVec S16 32) (v14 : IVec S16 32) (v1750 : IVec S16 32) (k0_hw51 : k0_chk51 v5 v8 v11 v14 v1750), ∀ a x, ((![v5, v1750] : Fin 2 → IVec S16 32) a x).toNat < S64x128.size a := fun v5 v8 v11 v14 v1750 k0_hw51 => k0_hw51.1
theorem k0_idx86_inb : ∀ (v5 : IVec S16 32) (v8 : IVec S16 32) (v11 : IVec S16 32) (v14 : IVec S16 32) (v1750 : IVec S16 32) (k0_hw51 : k0_chk51 v5 v8 v11 v14 v1750), ∀ a x, ((![v8, v1750] : Fin 2 → IVec S16 32) a x).toNat < S64x128.size a := fun v5 v8 v11 v14 v1750 k0_hw51 => k0_hw51.2.1
theorem k0_idx87_inb : ∀ (v5 : IVec S16 32) (v8 : IVec S16 32) (v11 : IVec S16 32) (v14 : IVec S16 32) (v1750 : IVec S16 32) (k0_hw51 : k0_chk51 v5 v8 v11 v14 v1750), ∀ a x, ((![v11, v1750] : Fin 2 → IVec S16 32) a x).toNat < S64x128.size a := fun v5 v8 v11 v14 v1750 k0_hw51 => k0_hw51.2.2.1
theorem k0_idx88_inb : ∀ (v5 : IVec S16 32) (v8 : IVec S16 32) (v11 : IVec S16 32) (v14 : IVec S16 32) (v1750 : IVec S16 32) (k0_hw51 : k0_chk51 v5 v8 v11 v14 v1750), ∀ a x, ((![v14, v1750] : Fin 2 → IVec S16 32) a x).toNat < S64x128.size a := fun v5 v8 v11 v14 v1750 k0_hw51 => k0_hw51.2.2.2
def k0_mult30 (v1776 : BitVec 32) : BitVec 32 :=
  let c0_i32_1297 : BitVec 32 := 0#32
  let v1778 : BitVec 1 := Scalar.cmpi .sgt v1776 c0_i32_1297
  let v1779 : BitVec 32 := Scalar.extui v1778
  let c0_i32_1298 : BitVec 32 := 0#32
  let v1780 : BitVec 1 := Scalar.cmpi .slt v1776 c0_i32_1298
  let v1781 : BitVec 32 := Scalar.extui v1780
  let v1782 : BitVec 32 := Scalar.subi v1779 v1781
  let c128_i32_1296 : BitVec 32 := 128#32
  let c0_i32_1299 : BitVec 32 := 0#32
  let v1783 : BitVec 1 := Scalar.cmpi .sgt c128_i32_1296 c0_i32_1299
  let v1784 : BitVec 32 := Scalar.extui v1783
  let c0_i32_1300 : BitVec 32 := 0#32
  let v1785 : BitVec 1 := Scalar.cmpi .slt c128_i32_1296 c0_i32_1300
  let v1786 : BitVec 32 := Scalar.extui v1785
  let v1787 : BitVec 32 := Scalar.subi v1784 v1786
  let v1788 : BitVec 1 := Scalar.cmpi .ne v1782 v1787
  let v1789 : BitVec 32 := Scalar.remsi v1776 c128_i32_1296
  let c0_i32_1301 : BitVec 32 := 0#32
  let v1790 : BitVec 1 := Scalar.cmpi .ne v1789 c0_i32_1301
  let v1791 : BitVec 1 := Scalar.andi v1788 v1790
  let v1777 : BitVec 32 := Scalar.divsi v1776 c128_i32_1296
  let c1_i32_1302 : BitVec 32 := 1#32
  let v1792 : BitVec 32 := Scalar.subi v1777 c1_i32_1302
  let v1793 : BitVec 32 := Scalar.select v1791 v1792 v1777
  let c128_i32_1303 : BitVec 32 := 128#32
  let v1794 : BitVec 32 := Scalar.muli v1793 c128_i32_1303
  v1794

def k0_off34 (v1776 : BitVec 32) : Fin 2 → Nat :=
  let c0_i32_1307 : BitVec 32 := 0#32
  let c0_i32_1297 : BitVec 32 := 0#32
  let v1778 : BitVec 1 := Scalar.cmpi .sgt v1776 c0_i32_1297
  let v1779 : BitVec 32 := Scalar.extui v1778
  let c0_i32_1298 : BitVec 32 := 0#32
  let v1780 : BitVec 1 := Scalar.cmpi .slt v1776 c0_i32_1298
  let v1781 : BitVec 32 := Scalar.extui v1780
  let v1782 : BitVec 32 := Scalar.subi v1779 v1781
  let c128_i32_1296 : BitVec 32 := 128#32
  let c0_i32_1299 : BitVec 32 := 0#32
  let v1783 : BitVec 1 := Scalar.cmpi .sgt c128_i32_1296 c0_i32_1299
  let v1784 : BitVec 32 := Scalar.extui v1783
  let c0_i32_1300 : BitVec 32 := 0#32
  let v1785 : BitVec 1 := Scalar.cmpi .slt c128_i32_1296 c0_i32_1300
  let v1786 : BitVec 32 := Scalar.extui v1785
  let v1787 : BitVec 32 := Scalar.subi v1784 v1786
  let v1788 : BitVec 1 := Scalar.cmpi .ne v1782 v1787
  let v1789 : BitVec 32 := Scalar.remsi v1776 c128_i32_1296
  let c0_i32_1301 : BitVec 32 := 0#32
  let v1790 : BitVec 1 := Scalar.cmpi .ne v1789 c0_i32_1301
  let v1791 : BitVec 1 := Scalar.andi v1788 v1790
  let v1777 : BitVec 32 := Scalar.divsi v1776 c128_i32_1296
  let c1_i32_1302 : BitVec 32 := 1#32
  let v1792 : BitVec 32 := Scalar.subi v1777 c1_i32_1302
  let v1793 : BitVec 32 := Scalar.select v1791 v1792 v1777
  let c128_i32_1303 : BitVec 32 := 128#32
  let v1794 : BitVec 32 := Scalar.muli v1793 c128_i32_1303
  let v1795 : BitVec 32 := v1794
  ![0, v1795.toNat]

def k0_chk52 (v1776 : BitVec 32) : Prop :=
  (128 ∣ (k0_mult30 v1776).toNat) ∧
  (∀ a, (k0_off34 v1776) a + S64x128.size a ≤ S64x1000064.size a)
theorem k0_mult30_dvd : ∀ (v1776 : BitVec 32) (k0_hw52 : k0_chk52 v1776), 128 ∣ (k0_mult30 v1776).toNat := fun v1776 k0_hw52 => k0_hw52.1
theorem k0_off34_inb : ∀ (v1776 : BitVec 32) (k0_hw52 : k0_chk52 v1776), ∀ a, (k0_off34 v1776) a + S64x128.size a ≤ S64x1000064.size a := fun v1776 k0_hw52 => k0_hw52.2

def k0_chk53 (v5 : IVec S16 32) (v8 : IVec S16 32) (v11 : IVec S16 32) (v14 : IVec S16 32) (v1820 : IVec S16 32) : Prop :=
  (∀ a x, ((![v5, v1820] : Fin 2 → IVec S16 32) a x).toNat < S64x128.size a) ∧
  (∀ a x, ((![v8, v1820] : Fin 2 → IVec S16 32) a x).toNat < S64x128.size a) ∧
  (∀ a x, ((![v11, v1820] : Fin 2 → IVec S16 32) a x).toNat < S64x128.size a) ∧
  (∀ a x, ((![v14, v1820] : Fin 2 → IVec S16 32) a x).toNat < S64x128.size a)
theorem k0_idx89_inb : ∀ (v5 : IVec S16 32) (v8 : IVec S16 32) (v11 : IVec S16 32) (v14 : IVec S16 32) (v1820 : IVec S16 32) (k0_hw53 : k0_chk53 v5 v8 v11 v14 v1820), ∀ a x, ((![v5, v1820] : Fin 2 → IVec S16 32) a x).toNat < S64x128.size a := fun v5 v8 v11 v14 v1820 k0_hw53 => k0_hw53.1
theorem k0_idx90_inb : ∀ (v5 : IVec S16 32) (v8 : IVec S16 32) (v11 : IVec S16 32) (v14 : IVec S16 32) (v1820 : IVec S16 32) (k0_hw53 : k0_chk53 v5 v8 v11 v14 v1820), ∀ a x, ((![v8, v1820] : Fin 2 → IVec S16 32) a x).toNat < S64x128.size a := fun v5 v8 v11 v14 v1820 k0_hw53 => k0_hw53.2.1
theorem k0_idx91_inb : ∀ (v5 : IVec S16 32) (v8 : IVec S16 32) (v11 : IVec S16 32) (v14 : IVec S16 32) (v1820 : IVec S16 32) (k0_hw53 : k0_chk53 v5 v8 v11 v14 v1820), ∀ a x, ((![v11, v1820] : Fin 2 → IVec S16 32) a x).toNat < S64x128.size a := fun v5 v8 v11 v14 v1820 k0_hw53 => k0_hw53.2.2.1
theorem k0_idx92_inb : ∀ (v5 : IVec S16 32) (v8 : IVec S16 32) (v11 : IVec S16 32) (v14 : IVec S16 32) (v1820 : IVec S16 32) (k0_hw53 : k0_chk53 v5 v8 v11 v14 v1820), ∀ a x, ((![v14, v1820] : Fin 2 → IVec S16 32) a x).toNat < S64x128.size a := fun v5 v8 v11 v14 v1820 k0_hw53 => k0_hw53.2.2.2
def k0_mult31 (v1846 : BitVec 32) : BitVec 32 :=
  let c0_i32_1351 : BitVec 32 := 0#32
  let v1848 : BitVec 1 := Scalar.cmpi .sgt v1846 c0_i32_1351
  let v1849 : BitVec 32 := Scalar.extui v1848
  let c0_i32_1352 : BitVec 32 := 0#32
  let v1850 : BitVec 1 := Scalar.cmpi .slt v1846 c0_i32_1352
  let v1851 : BitVec 32 := Scalar.extui v1850
  let v1852 : BitVec 32 := Scalar.subi v1849 v1851
  let c128_i32_1350 : BitVec 32 := 128#32
  let c0_i32_1353 : BitVec 32 := 0#32
  let v1853 : BitVec 1 := Scalar.cmpi .sgt c128_i32_1350 c0_i32_1353
  let v1854 : BitVec 32 := Scalar.extui v1853
  let c0_i32_1354 : BitVec 32 := 0#32
  let v1855 : BitVec 1 := Scalar.cmpi .slt c128_i32_1350 c0_i32_1354
  let v1856 : BitVec 32 := Scalar.extui v1855
  let v1857 : BitVec 32 := Scalar.subi v1854 v1856
  let v1858 : BitVec 1 := Scalar.cmpi .ne v1852 v1857
  let v1859 : BitVec 32 := Scalar.remsi v1846 c128_i32_1350
  let c0_i32_1355 : BitVec 32 := 0#32
  let v1860 : BitVec 1 := Scalar.cmpi .ne v1859 c0_i32_1355
  let v1861 : BitVec 1 := Scalar.andi v1858 v1860
  let v1847 : BitVec 32 := Scalar.divsi v1846 c128_i32_1350
  let c1_i32_1356 : BitVec 32 := 1#32
  let v1862 : BitVec 32 := Scalar.subi v1847 c1_i32_1356
  let v1863 : BitVec 32 := Scalar.select v1861 v1862 v1847
  let c128_i32_1357 : BitVec 32 := 128#32
  let v1864 : BitVec 32 := Scalar.muli v1863 c128_i32_1357
  v1864

def k0_off35 (v1846 : BitVec 32) : Fin 2 → Nat :=
  let c0_i32_1361 : BitVec 32 := 0#32
  let c0_i32_1351 : BitVec 32 := 0#32
  let v1848 : BitVec 1 := Scalar.cmpi .sgt v1846 c0_i32_1351
  let v1849 : BitVec 32 := Scalar.extui v1848
  let c0_i32_1352 : BitVec 32 := 0#32
  let v1850 : BitVec 1 := Scalar.cmpi .slt v1846 c0_i32_1352
  let v1851 : BitVec 32 := Scalar.extui v1850
  let v1852 : BitVec 32 := Scalar.subi v1849 v1851
  let c128_i32_1350 : BitVec 32 := 128#32
  let c0_i32_1353 : BitVec 32 := 0#32
  let v1853 : BitVec 1 := Scalar.cmpi .sgt c128_i32_1350 c0_i32_1353
  let v1854 : BitVec 32 := Scalar.extui v1853
  let c0_i32_1354 : BitVec 32 := 0#32
  let v1855 : BitVec 1 := Scalar.cmpi .slt c128_i32_1350 c0_i32_1354
  let v1856 : BitVec 32 := Scalar.extui v1855
  let v1857 : BitVec 32 := Scalar.subi v1854 v1856
  let v1858 : BitVec 1 := Scalar.cmpi .ne v1852 v1857
  let v1859 : BitVec 32 := Scalar.remsi v1846 c128_i32_1350
  let c0_i32_1355 : BitVec 32 := 0#32
  let v1860 : BitVec 1 := Scalar.cmpi .ne v1859 c0_i32_1355
  let v1861 : BitVec 1 := Scalar.andi v1858 v1860
  let v1847 : BitVec 32 := Scalar.divsi v1846 c128_i32_1350
  let c1_i32_1356 : BitVec 32 := 1#32
  let v1862 : BitVec 32 := Scalar.subi v1847 c1_i32_1356
  let v1863 : BitVec 32 := Scalar.select v1861 v1862 v1847
  let c128_i32_1357 : BitVec 32 := 128#32
  let v1864 : BitVec 32 := Scalar.muli v1863 c128_i32_1357
  let v1865 : BitVec 32 := v1864
  ![0, v1865.toNat]

def k0_chk54 (v1846 : BitVec 32) : Prop :=
  (128 ∣ (k0_mult31 v1846).toNat) ∧
  (∀ a, (k0_off35 v1846) a + S64x128.size a ≤ S64x1000064.size a)
theorem k0_mult31_dvd : ∀ (v1846 : BitVec 32) (k0_hw54 : k0_chk54 v1846), 128 ∣ (k0_mult31 v1846).toNat := fun v1846 k0_hw54 => k0_hw54.1
theorem k0_off35_inb : ∀ (v1846 : BitVec 32) (k0_hw54 : k0_chk54 v1846), ∀ a, (k0_off35 v1846) a + S64x128.size a ≤ S64x1000064.size a := fun v1846 k0_hw54 => k0_hw54.2

def k0_chk55 (v5 : IVec S16 32) (v8 : IVec S16 32) (v11 : IVec S16 32) (v14 : IVec S16 32) (v1890 : IVec S16 32) : Prop :=
  (∀ a x, ((![v5, v1890] : Fin 2 → IVec S16 32) a x).toNat < S64x128.size a) ∧
  (∀ a x, ((![v8, v1890] : Fin 2 → IVec S16 32) a x).toNat < S64x128.size a) ∧
  (∀ a x, ((![v11, v1890] : Fin 2 → IVec S16 32) a x).toNat < S64x128.size a) ∧
  (∀ a x, ((![v14, v1890] : Fin 2 → IVec S16 32) a x).toNat < S64x128.size a)
theorem k0_idx93_inb : ∀ (v5 : IVec S16 32) (v8 : IVec S16 32) (v11 : IVec S16 32) (v14 : IVec S16 32) (v1890 : IVec S16 32) (k0_hw55 : k0_chk55 v5 v8 v11 v14 v1890), ∀ a x, ((![v5, v1890] : Fin 2 → IVec S16 32) a x).toNat < S64x128.size a := fun v5 v8 v11 v14 v1890 k0_hw55 => k0_hw55.1
theorem k0_idx94_inb : ∀ (v5 : IVec S16 32) (v8 : IVec S16 32) (v11 : IVec S16 32) (v14 : IVec S16 32) (v1890 : IVec S16 32) (k0_hw55 : k0_chk55 v5 v8 v11 v14 v1890), ∀ a x, ((![v8, v1890] : Fin 2 → IVec S16 32) a x).toNat < S64x128.size a := fun v5 v8 v11 v14 v1890 k0_hw55 => k0_hw55.2.1
theorem k0_idx95_inb : ∀ (v5 : IVec S16 32) (v8 : IVec S16 32) (v11 : IVec S16 32) (v14 : IVec S16 32) (v1890 : IVec S16 32) (k0_hw55 : k0_chk55 v5 v8 v11 v14 v1890), ∀ a x, ((![v11, v1890] : Fin 2 → IVec S16 32) a x).toNat < S64x128.size a := fun v5 v8 v11 v14 v1890 k0_hw55 => k0_hw55.2.2.1
theorem k0_idx96_inb : ∀ (v5 : IVec S16 32) (v8 : IVec S16 32) (v11 : IVec S16 32) (v14 : IVec S16 32) (v1890 : IVec S16 32) (k0_hw55 : k0_chk55 v5 v8 v11 v14 v1890), ∀ a x, ((![v14, v1890] : Fin 2 → IVec S16 32) a x).toNat < S64x128.size a := fun v5 v8 v11 v14 v1890 k0_hw55 => k0_hw55.2.2.2
def k0_mult32 (v1916 : BitVec 32) : BitVec 32 :=
  let c0_i32_1405 : BitVec 32 := 0#32
  let v1918 : BitVec 1 := Scalar.cmpi .sgt v1916 c0_i32_1405
  let v1919 : BitVec 32 := Scalar.extui v1918
  let c0_i32_1406 : BitVec 32 := 0#32
  let v1920 : BitVec 1 := Scalar.cmpi .slt v1916 c0_i32_1406
  let v1921 : BitVec 32 := Scalar.extui v1920
  let v1922 : BitVec 32 := Scalar.subi v1919 v1921
  let c128_i32_1404 : BitVec 32 := 128#32
  let c0_i32_1407 : BitVec 32 := 0#32
  let v1923 : BitVec 1 := Scalar.cmpi .sgt c128_i32_1404 c0_i32_1407
  let v1924 : BitVec 32 := Scalar.extui v1923
  let c0_i32_1408 : BitVec 32 := 0#32
  let v1925 : BitVec 1 := Scalar.cmpi .slt c128_i32_1404 c0_i32_1408
  let v1926 : BitVec 32 := Scalar.extui v1925
  let v1927 : BitVec 32 := Scalar.subi v1924 v1926
  let v1928 : BitVec 1 := Scalar.cmpi .ne v1922 v1927
  let v1929 : BitVec 32 := Scalar.remsi v1916 c128_i32_1404
  let c0_i32_1409 : BitVec 32 := 0#32
  let v1930 : BitVec 1 := Scalar.cmpi .ne v1929 c0_i32_1409
  let v1931 : BitVec 1 := Scalar.andi v1928 v1930
  let v1917 : BitVec 32 := Scalar.divsi v1916 c128_i32_1404
  let c1_i32_1410 : BitVec 32 := 1#32
  let v1932 : BitVec 32 := Scalar.subi v1917 c1_i32_1410
  let v1933 : BitVec 32 := Scalar.select v1931 v1932 v1917
  let c128_i32_1411 : BitVec 32 := 128#32
  let v1934 : BitVec 32 := Scalar.muli v1933 c128_i32_1411
  v1934

def k0_off36 (v1916 : BitVec 32) : Fin 2 → Nat :=
  let c0_i32_1415 : BitVec 32 := 0#32
  let c0_i32_1405 : BitVec 32 := 0#32
  let v1918 : BitVec 1 := Scalar.cmpi .sgt v1916 c0_i32_1405
  let v1919 : BitVec 32 := Scalar.extui v1918
  let c0_i32_1406 : BitVec 32 := 0#32
  let v1920 : BitVec 1 := Scalar.cmpi .slt v1916 c0_i32_1406
  let v1921 : BitVec 32 := Scalar.extui v1920
  let v1922 : BitVec 32 := Scalar.subi v1919 v1921
  let c128_i32_1404 : BitVec 32 := 128#32
  let c0_i32_1407 : BitVec 32 := 0#32
  let v1923 : BitVec 1 := Scalar.cmpi .sgt c128_i32_1404 c0_i32_1407
  let v1924 : BitVec 32 := Scalar.extui v1923
  let c0_i32_1408 : BitVec 32 := 0#32
  let v1925 : BitVec 1 := Scalar.cmpi .slt c128_i32_1404 c0_i32_1408
  let v1926 : BitVec 32 := Scalar.extui v1925
  let v1927 : BitVec 32 := Scalar.subi v1924 v1926
  let v1928 : BitVec 1 := Scalar.cmpi .ne v1922 v1927
  let v1929 : BitVec 32 := Scalar.remsi v1916 c128_i32_1404
  let c0_i32_1409 : BitVec 32 := 0#32
  let v1930 : BitVec 1 := Scalar.cmpi .ne v1929 c0_i32_1409
  let v1931 : BitVec 1 := Scalar.andi v1928 v1930
  let v1917 : BitVec 32 := Scalar.divsi v1916 c128_i32_1404
  let c1_i32_1410 : BitVec 32 := 1#32
  let v1932 : BitVec 32 := Scalar.subi v1917 c1_i32_1410
  let v1933 : BitVec 32 := Scalar.select v1931 v1932 v1917
  let c128_i32_1411 : BitVec 32 := 128#32
  let v1934 : BitVec 32 := Scalar.muli v1933 c128_i32_1411
  let v1935 : BitVec 32 := v1934
  ![0, v1935.toNat]

def k0_chk56 (v1916 : BitVec 32) : Prop :=
  (128 ∣ (k0_mult32 v1916).toNat) ∧
  (∀ a, (k0_off36 v1916) a + S64x128.size a ≤ S64x1000064.size a)
theorem k0_mult32_dvd : ∀ (v1916 : BitVec 32) (k0_hw56 : k0_chk56 v1916), 128 ∣ (k0_mult32 v1916).toNat := fun v1916 k0_hw56 => k0_hw56.1
theorem k0_off36_inb : ∀ (v1916 : BitVec 32) (k0_hw56 : k0_chk56 v1916), ∀ a, (k0_off36 v1916) a + S64x128.size a ≤ S64x1000064.size a := fun v1916 k0_hw56 => k0_hw56.2

def k0_chk57 (v5 : IVec S16 32) (v8 : IVec S16 32) (v11 : IVec S16 32) (v14 : IVec S16 32) (v1960 : IVec S16 32) : Prop :=
  (∀ a x, ((![v5, v1960] : Fin 2 → IVec S16 32) a x).toNat < S64x128.size a) ∧
  (∀ a x, ((![v8, v1960] : Fin 2 → IVec S16 32) a x).toNat < S64x128.size a) ∧
  (∀ a x, ((![v11, v1960] : Fin 2 → IVec S16 32) a x).toNat < S64x128.size a) ∧
  (∀ a x, ((![v14, v1960] : Fin 2 → IVec S16 32) a x).toNat < S64x128.size a)
theorem k0_idx97_inb : ∀ (v5 : IVec S16 32) (v8 : IVec S16 32) (v11 : IVec S16 32) (v14 : IVec S16 32) (v1960 : IVec S16 32) (k0_hw57 : k0_chk57 v5 v8 v11 v14 v1960), ∀ a x, ((![v5, v1960] : Fin 2 → IVec S16 32) a x).toNat < S64x128.size a := fun v5 v8 v11 v14 v1960 k0_hw57 => k0_hw57.1
theorem k0_idx98_inb : ∀ (v5 : IVec S16 32) (v8 : IVec S16 32) (v11 : IVec S16 32) (v14 : IVec S16 32) (v1960 : IVec S16 32) (k0_hw57 : k0_chk57 v5 v8 v11 v14 v1960), ∀ a x, ((![v8, v1960] : Fin 2 → IVec S16 32) a x).toNat < S64x128.size a := fun v5 v8 v11 v14 v1960 k0_hw57 => k0_hw57.2.1
theorem k0_idx99_inb : ∀ (v5 : IVec S16 32) (v8 : IVec S16 32) (v11 : IVec S16 32) (v14 : IVec S16 32) (v1960 : IVec S16 32) (k0_hw57 : k0_chk57 v5 v8 v11 v14 v1960), ∀ a x, ((![v11, v1960] : Fin 2 → IVec S16 32) a x).toNat < S64x128.size a := fun v5 v8 v11 v14 v1960 k0_hw57 => k0_hw57.2.2.1
theorem k0_idx100_inb : ∀ (v5 : IVec S16 32) (v8 : IVec S16 32) (v11 : IVec S16 32) (v14 : IVec S16 32) (v1960 : IVec S16 32) (k0_hw57 : k0_chk57 v5 v8 v11 v14 v1960), ∀ a x, ((![v14, v1960] : Fin 2 → IVec S16 32) a x).toNat < S64x128.size a := fun v5 v8 v11 v14 v1960 k0_hw57 => k0_hw57.2.2.2
def k0_cond2 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v1987 : BitVec 32 := Scalar.extui v1381
  let c0_i32_1458 : BitVec 32 := 0#32
  let v1988 : BitVec 1 := Scalar.cmpi .ne v1987 c0_i32_1458
  v1988

def k0_mult33 (v1986 : BitVec 32) : BitVec 32 :=
  let c0_i32_3381 : BitVec 32 := 0#32
  let v4407 : BitVec 1 := Scalar.cmpi .sgt v1986 c0_i32_3381
  let v4408 : BitVec 32 := Scalar.extui v4407
  let c0_i32_3382 : BitVec 32 := 0#32
  let v4409 : BitVec 1 := Scalar.cmpi .slt v1986 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v1986 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v1986 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off37 (v1986 : BitVec 32) : Fin 2 → Nat :=
  let c0_i32_3391 : BitVec 32 := 0#32
  let c0_i32_3381 : BitVec 32 := 0#32
  let v4407 : BitVec 1 := Scalar.cmpi .sgt v1986 c0_i32_3381
  let v4408 : BitVec 32 := Scalar.extui v4407
  let c0_i32_3382 : BitVec 32 := 0#32
  let v4409 : BitVec 1 := Scalar.cmpi .slt v1986 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v1986 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v1986 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk58 (k0_t1 : Fin k0_t1_loop.trips) (v1986 : BitVec 32) : Prop :=
  (∀ (k0_h2 : k0_cond2 k0_t1 = 1#1), 128 ∣ (k0_mult33 v1986).toNat) ∧
  (∀ (k0_h2 : k0_cond2 k0_t1 = 1#1), ∀ a, (k0_off37 v1986) a + S64x128.size a ≤ S64x1000064.size a)
theorem k0_mult33_dvd : ∀ (k0_t1 : Fin k0_t1_loop.trips) (v1986 : BitVec 32) (k0_hw58 : k0_chk58 k0_t1 v1986), ∀ (k0_h2 : k0_cond2 k0_t1 = 1#1), 128 ∣ (k0_mult33 v1986).toNat := fun k0_t1 v1986 k0_hw58 k0_h2 => k0_hw58.1 k0_h2
theorem k0_off37_inb : ∀ (k0_t1 : Fin k0_t1_loop.trips) (v1986 : BitVec 32) (k0_hw58 : k0_chk58 k0_t1 v1986), ∀ (k0_h2 : k0_cond2 k0_t1 = 1#1), ∀ a, (k0_off37 v1986) a + S64x128.size a ≤ S64x1000064.size a := fun k0_t1 v1986 k0_hw58 k0_h2 => k0_hw58.2 k0_h2

def k0_chk59 (v5 : IVec S16 32) (v8 : IVec S16 32) (v11 : IVec S16 32) (v14 : IVec S16 32) (v2007 : IVec S16 32) : Prop :=
  (∀ a x, ((![v5, v2007] : Fin 2 → IVec S16 32) a x).toNat < S64x128.size a) ∧
  (∀ a x, ((![v8, v2007] : Fin 2 → IVec S16 32) a x).toNat < S64x128.size a) ∧
  (∀ a x, ((![v11, v2007] : Fin 2 → IVec S16 32) a x).toNat < S64x128.size a) ∧
  (∀ a x, ((![v14, v2007] : Fin 2 → IVec S16 32) a x).toNat < S64x128.size a)
theorem k0_idx101_inb : ∀ (v5 : IVec S16 32) (v8 : IVec S16 32) (v11 : IVec S16 32) (v14 : IVec S16 32) (v2007 : IVec S16 32) (k0_hw59 : k0_chk59 v5 v8 v11 v14 v2007), ∀ a x, ((![v5, v2007] : Fin 2 → IVec S16 32) a x).toNat < S64x128.size a := fun v5 v8 v11 v14 v2007 k0_hw59 => k0_hw59.1
theorem k0_idx102_inb : ∀ (v5 : IVec S16 32) (v8 : IVec S16 32) (v11 : IVec S16 32) (v14 : IVec S16 32) (v2007 : IVec S16 32) (k0_hw59 : k0_chk59 v5 v8 v11 v14 v2007), ∀ a x, ((![v8, v2007] : Fin 2 → IVec S16 32) a x).toNat < S64x128.size a := fun v5 v8 v11 v14 v2007 k0_hw59 => k0_hw59.2.1
theorem k0_idx103_inb : ∀ (v5 : IVec S16 32) (v8 : IVec S16 32) (v11 : IVec S16 32) (v14 : IVec S16 32) (v2007 : IVec S16 32) (k0_hw59 : k0_chk59 v5 v8 v11 v14 v2007), ∀ a x, ((![v11, v2007] : Fin 2 → IVec S16 32) a x).toNat < S64x128.size a := fun v5 v8 v11 v14 v2007 k0_hw59 => k0_hw59.2.2.1
theorem k0_idx104_inb : ∀ (v5 : IVec S16 32) (v8 : IVec S16 32) (v11 : IVec S16 32) (v14 : IVec S16 32) (v2007 : IVec S16 32) (k0_hw59 : k0_chk59 v5 v8 v11 v14 v2007), ∀ a x, ((![v14, v2007] : Fin 2 → IVec S16 32) a x).toNat < S64x128.size a := fun v5 v8 v11 v14 v2007 k0_hw59 => k0_hw59.2.2.2
def k0_cond3 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2034 : BitVec 32 := Scalar.extui v1381
  let c0_i32_1498 : BitVec 32 := 0#32
  let v2035 : BitVec 1 := Scalar.cmpi .ne v2034 c0_i32_1498
  v2035

def k0_mult34 (v2033 : BitVec 32) : BitVec 32 :=
  let c0_i32_3381 : BitVec 32 := 0#32
  let v4407 : BitVec 1 := Scalar.cmpi .sgt v2033 c0_i32_3381
  let v4408 : BitVec 32 := Scalar.extui v4407
  let c0_i32_3382 : BitVec 32 := 0#32
  let v4409 : BitVec 1 := Scalar.cmpi .slt v2033 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2033 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2033 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off38 (v2033 : BitVec 32) : Fin 2 → Nat :=
  let c0_i32_3391 : BitVec 32 := 0#32
  let c0_i32_3381 : BitVec 32 := 0#32
  let v4407 : BitVec 1 := Scalar.cmpi .sgt v2033 c0_i32_3381
  let v4408 : BitVec 32 := Scalar.extui v4407
  let c0_i32_3382 : BitVec 32 := 0#32
  let v4409 : BitVec 1 := Scalar.cmpi .slt v2033 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2033 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2033 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk60 (k0_t1 : Fin k0_t1_loop.trips) (v2033 : BitVec 32) : Prop :=
  (∀ (k0_h3 : k0_cond3 k0_t1 = 1#1), 128 ∣ (k0_mult34 v2033).toNat) ∧
  (∀ (k0_h3 : k0_cond3 k0_t1 = 1#1), ∀ a, (k0_off38 v2033) a + S64x128.size a ≤ S64x1000064.size a)
theorem k0_mult34_dvd : ∀ (k0_t1 : Fin k0_t1_loop.trips) (v2033 : BitVec 32) (k0_hw60 : k0_chk60 k0_t1 v2033), ∀ (k0_h3 : k0_cond3 k0_t1 = 1#1), 128 ∣ (k0_mult34 v2033).toNat := fun k0_t1 v2033 k0_hw60 k0_h3 => k0_hw60.1 k0_h3
theorem k0_off38_inb : ∀ (k0_t1 : Fin k0_t1_loop.trips) (v2033 : BitVec 32) (k0_hw60 : k0_chk60 k0_t1 v2033), ∀ (k0_h3 : k0_cond3 k0_t1 = 1#1), ∀ a, (k0_off38 v2033) a + S64x128.size a ≤ S64x1000064.size a := fun k0_t1 v2033 k0_hw60 k0_h3 => k0_hw60.2 k0_h3

def k0_chk61 (v5 : IVec S16 32) (v8 : IVec S16 32) (v11 : IVec S16 32) (v14 : IVec S16 32) (v2054 : IVec S16 32) : Prop :=
  (∀ a x, ((![v5, v2054] : Fin 2 → IVec S16 32) a x).toNat < S64x128.size a) ∧
  (∀ a x, ((![v8, v2054] : Fin 2 → IVec S16 32) a x).toNat < S64x128.size a) ∧
  (∀ a x, ((![v11, v2054] : Fin 2 → IVec S16 32) a x).toNat < S64x128.size a) ∧
  (∀ a x, ((![v14, v2054] : Fin 2 → IVec S16 32) a x).toNat < S64x128.size a)
theorem k0_idx105_inb : ∀ (v5 : IVec S16 32) (v8 : IVec S16 32) (v11 : IVec S16 32) (v14 : IVec S16 32) (v2054 : IVec S16 32) (k0_hw61 : k0_chk61 v5 v8 v11 v14 v2054), ∀ a x, ((![v5, v2054] : Fin 2 → IVec S16 32) a x).toNat < S64x128.size a := fun v5 v8 v11 v14 v2054 k0_hw61 => k0_hw61.1
theorem k0_idx106_inb : ∀ (v5 : IVec S16 32) (v8 : IVec S16 32) (v11 : IVec S16 32) (v14 : IVec S16 32) (v2054 : IVec S16 32) (k0_hw61 : k0_chk61 v5 v8 v11 v14 v2054), ∀ a x, ((![v8, v2054] : Fin 2 → IVec S16 32) a x).toNat < S64x128.size a := fun v5 v8 v11 v14 v2054 k0_hw61 => k0_hw61.2.1
theorem k0_idx107_inb : ∀ (v5 : IVec S16 32) (v8 : IVec S16 32) (v11 : IVec S16 32) (v14 : IVec S16 32) (v2054 : IVec S16 32) (k0_hw61 : k0_chk61 v5 v8 v11 v14 v2054), ∀ a x, ((![v11, v2054] : Fin 2 → IVec S16 32) a x).toNat < S64x128.size a := fun v5 v8 v11 v14 v2054 k0_hw61 => k0_hw61.2.2.1
theorem k0_idx108_inb : ∀ (v5 : IVec S16 32) (v8 : IVec S16 32) (v11 : IVec S16 32) (v14 : IVec S16 32) (v2054 : IVec S16 32) (k0_hw61 : k0_chk61 v5 v8 v11 v14 v2054), ∀ a x, ((![v14, v2054] : Fin 2 → IVec S16 32) a x).toNat < S64x128.size a := fun v5 v8 v11 v14 v2054 k0_hw61 => k0_hw61.2.2.2
def k0_cond4 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2081 : BitVec 32 := Scalar.extui v1381
  let c0_i32_1538 : BitVec 32 := 0#32
  let v2082 : BitVec 1 := Scalar.cmpi .ne v2081 c0_i32_1538
  v2082

def k0_mult35 (v2080 : BitVec 32) : BitVec 32 :=
  let c0_i32_3381 : BitVec 32 := 0#32
  let v4407 : BitVec 1 := Scalar.cmpi .sgt v2080 c0_i32_3381
  let v4408 : BitVec 32 := Scalar.extui v4407
  let c0_i32_3382 : BitVec 32 := 0#32
  let v4409 : BitVec 1 := Scalar.cmpi .slt v2080 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2080 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2080 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off39 (v2080 : BitVec 32) : Fin 2 → Nat :=
  let c0_i32_3391 : BitVec 32 := 0#32
  let c0_i32_3381 : BitVec 32 := 0#32
  let v4407 : BitVec 1 := Scalar.cmpi .sgt v2080 c0_i32_3381
  let v4408 : BitVec 32 := Scalar.extui v4407
  let c0_i32_3382 : BitVec 32 := 0#32
  let v4409 : BitVec 1 := Scalar.cmpi .slt v2080 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2080 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2080 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk62 (k0_t1 : Fin k0_t1_loop.trips) (v2080 : BitVec 32) : Prop :=
  (∀ (k0_h4 : k0_cond4 k0_t1 = 1#1), 128 ∣ (k0_mult35 v2080).toNat) ∧
  (∀ (k0_h4 : k0_cond4 k0_t1 = 1#1), ∀ a, (k0_off39 v2080) a + S64x128.size a ≤ S64x1000064.size a)
theorem k0_mult35_dvd : ∀ (k0_t1 : Fin k0_t1_loop.trips) (v2080 : BitVec 32) (k0_hw62 : k0_chk62 k0_t1 v2080), ∀ (k0_h4 : k0_cond4 k0_t1 = 1#1), 128 ∣ (k0_mult35 v2080).toNat := fun k0_t1 v2080 k0_hw62 k0_h4 => k0_hw62.1 k0_h4
theorem k0_off39_inb : ∀ (k0_t1 : Fin k0_t1_loop.trips) (v2080 : BitVec 32) (k0_hw62 : k0_chk62 k0_t1 v2080), ∀ (k0_h4 : k0_cond4 k0_t1 = 1#1), ∀ a, (k0_off39 v2080) a + S64x128.size a ≤ S64x1000064.size a := fun k0_t1 v2080 k0_hw62 k0_h4 => k0_hw62.2 k0_h4

def k0_chk63 (v5 : IVec S16 32) (v8 : IVec S16 32) (v11 : IVec S16 32) (v14 : IVec S16 32) (v2101 : IVec S16 32) : Prop :=
  (∀ a x, ((![v5, v2101] : Fin 2 → IVec S16 32) a x).toNat < S64x128.size a) ∧
  (∀ a x, ((![v8, v2101] : Fin 2 → IVec S16 32) a x).toNat < S64x128.size a) ∧
  (∀ a x, ((![v11, v2101] : Fin 2 → IVec S16 32) a x).toNat < S64x128.size a) ∧
  (∀ a x, ((![v14, v2101] : Fin 2 → IVec S16 32) a x).toNat < S64x128.size a)
theorem k0_idx109_inb : ∀ (v5 : IVec S16 32) (v8 : IVec S16 32) (v11 : IVec S16 32) (v14 : IVec S16 32) (v2101 : IVec S16 32) (k0_hw63 : k0_chk63 v5 v8 v11 v14 v2101), ∀ a x, ((![v5, v2101] : Fin 2 → IVec S16 32) a x).toNat < S64x128.size a := fun v5 v8 v11 v14 v2101 k0_hw63 => k0_hw63.1
theorem k0_idx110_inb : ∀ (v5 : IVec S16 32) (v8 : IVec S16 32) (v11 : IVec S16 32) (v14 : IVec S16 32) (v2101 : IVec S16 32) (k0_hw63 : k0_chk63 v5 v8 v11 v14 v2101), ∀ a x, ((![v8, v2101] : Fin 2 → IVec S16 32) a x).toNat < S64x128.size a := fun v5 v8 v11 v14 v2101 k0_hw63 => k0_hw63.2.1
theorem k0_idx111_inb : ∀ (v5 : IVec S16 32) (v8 : IVec S16 32) (v11 : IVec S16 32) (v14 : IVec S16 32) (v2101 : IVec S16 32) (k0_hw63 : k0_chk63 v5 v8 v11 v14 v2101), ∀ a x, ((![v11, v2101] : Fin 2 → IVec S16 32) a x).toNat < S64x128.size a := fun v5 v8 v11 v14 v2101 k0_hw63 => k0_hw63.2.2.1
theorem k0_idx112_inb : ∀ (v5 : IVec S16 32) (v8 : IVec S16 32) (v11 : IVec S16 32) (v14 : IVec S16 32) (v2101 : IVec S16 32) (k0_hw63 : k0_chk63 v5 v8 v11 v14 v2101), ∀ a x, ((![v14, v2101] : Fin 2 → IVec S16 32) a x).toNat < S64x128.size a := fun v5 v8 v11 v14 v2101 k0_hw63 => k0_hw63.2.2.2
def k0_cond5 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2128 : BitVec 32 := Scalar.extui v1381
  let c0_i32_1578 : BitVec 32 := 0#32
  let v2129 : BitVec 1 := Scalar.cmpi .ne v2128 c0_i32_1578
  v2129

def k0_mult36 (v2127 : BitVec 32) : BitVec 32 :=
  let c0_i32_3381 : BitVec 32 := 0#32
  let v4407 : BitVec 1 := Scalar.cmpi .sgt v2127 c0_i32_3381
  let v4408 : BitVec 32 := Scalar.extui v4407
  let c0_i32_3382 : BitVec 32 := 0#32
  let v4409 : BitVec 1 := Scalar.cmpi .slt v2127 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2127 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2127 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off40 (v2127 : BitVec 32) : Fin 2 → Nat :=
  let c0_i32_3391 : BitVec 32 := 0#32
  let c0_i32_3381 : BitVec 32 := 0#32
  let v4407 : BitVec 1 := Scalar.cmpi .sgt v2127 c0_i32_3381
  let v4408 : BitVec 32 := Scalar.extui v4407
  let c0_i32_3382 : BitVec 32 := 0#32
  let v4409 : BitVec 1 := Scalar.cmpi .slt v2127 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2127 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2127 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk64 (k0_t1 : Fin k0_t1_loop.trips) (v2127 : BitVec 32) : Prop :=
  (∀ (k0_h5 : k0_cond5 k0_t1 = 1#1), 128 ∣ (k0_mult36 v2127).toNat) ∧
  (∀ (k0_h5 : k0_cond5 k0_t1 = 1#1), ∀ a, (k0_off40 v2127) a + S64x128.size a ≤ S64x1000064.size a)
theorem k0_mult36_dvd : ∀ (k0_t1 : Fin k0_t1_loop.trips) (v2127 : BitVec 32) (k0_hw64 : k0_chk64 k0_t1 v2127), ∀ (k0_h5 : k0_cond5 k0_t1 = 1#1), 128 ∣ (k0_mult36 v2127).toNat := fun k0_t1 v2127 k0_hw64 k0_h5 => k0_hw64.1 k0_h5
theorem k0_off40_inb : ∀ (k0_t1 : Fin k0_t1_loop.trips) (v2127 : BitVec 32) (k0_hw64 : k0_chk64 k0_t1 v2127), ∀ (k0_h5 : k0_cond5 k0_t1 = 1#1), ∀ a, (k0_off40 v2127) a + S64x128.size a ≤ S64x1000064.size a := fun k0_t1 v2127 k0_hw64 k0_h5 => k0_hw64.2 k0_h5

def k0_chk65 (v5 : IVec S16 32) (v8 : IVec S16 32) (v11 : IVec S16 32) (v14 : IVec S16 32) (v2148 : IVec S16 32) : Prop :=
  (∀ a x, ((![v5, v2148] : Fin 2 → IVec S16 32) a x).toNat < S64x128.size a) ∧
  (∀ a x, ((![v8, v2148] : Fin 2 → IVec S16 32) a x).toNat < S64x128.size a) ∧
  (∀ a x, ((![v11, v2148] : Fin 2 → IVec S16 32) a x).toNat < S64x128.size a) ∧
  (∀ a x, ((![v14, v2148] : Fin 2 → IVec S16 32) a x).toNat < S64x128.size a)
theorem k0_idx113_inb : ∀ (v5 : IVec S16 32) (v8 : IVec S16 32) (v11 : IVec S16 32) (v14 : IVec S16 32) (v2148 : IVec S16 32) (k0_hw65 : k0_chk65 v5 v8 v11 v14 v2148), ∀ a x, ((![v5, v2148] : Fin 2 → IVec S16 32) a x).toNat < S64x128.size a := fun v5 v8 v11 v14 v2148 k0_hw65 => k0_hw65.1
theorem k0_idx114_inb : ∀ (v5 : IVec S16 32) (v8 : IVec S16 32) (v11 : IVec S16 32) (v14 : IVec S16 32) (v2148 : IVec S16 32) (k0_hw65 : k0_chk65 v5 v8 v11 v14 v2148), ∀ a x, ((![v8, v2148] : Fin 2 → IVec S16 32) a x).toNat < S64x128.size a := fun v5 v8 v11 v14 v2148 k0_hw65 => k0_hw65.2.1
theorem k0_idx115_inb : ∀ (v5 : IVec S16 32) (v8 : IVec S16 32) (v11 : IVec S16 32) (v14 : IVec S16 32) (v2148 : IVec S16 32) (k0_hw65 : k0_chk65 v5 v8 v11 v14 v2148), ∀ a x, ((![v11, v2148] : Fin 2 → IVec S16 32) a x).toNat < S64x128.size a := fun v5 v8 v11 v14 v2148 k0_hw65 => k0_hw65.2.2.1
theorem k0_idx116_inb : ∀ (v5 : IVec S16 32) (v8 : IVec S16 32) (v11 : IVec S16 32) (v14 : IVec S16 32) (v2148 : IVec S16 32) (k0_hw65 : k0_chk65 v5 v8 v11 v14 v2148), ∀ a x, ((![v14, v2148] : Fin 2 → IVec S16 32) a x).toNat < S64x128.size a := fun v5 v8 v11 v14 v2148 k0_hw65 => k0_hw65.2.2.2
def k0_cond6 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2175 : BitVec 32 := Scalar.extui v1381
  let c0_i32_1618 : BitVec 32 := 0#32
  let v2176 : BitVec 1 := Scalar.cmpi .ne v2175 c0_i32_1618
  v2176

def k0_mult37 (v2174 : BitVec 32) : BitVec 32 :=
  let c0_i32_3381 : BitVec 32 := 0#32
  let v4407 : BitVec 1 := Scalar.cmpi .sgt v2174 c0_i32_3381
  let v4408 : BitVec 32 := Scalar.extui v4407
  let c0_i32_3382 : BitVec 32 := 0#32
  let v4409 : BitVec 1 := Scalar.cmpi .slt v2174 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2174 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2174 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off41 (v2174 : BitVec 32) : Fin 2 → Nat :=
  let c0_i32_3391 : BitVec 32 := 0#32
  let c0_i32_3381 : BitVec 32 := 0#32
  let v4407 : BitVec 1 := Scalar.cmpi .sgt v2174 c0_i32_3381
  let v4408 : BitVec 32 := Scalar.extui v4407
  let c0_i32_3382 : BitVec 32 := 0#32
  let v4409 : BitVec 1 := Scalar.cmpi .slt v2174 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2174 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2174 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk66 (k0_t1 : Fin k0_t1_loop.trips) (v2174 : BitVec 32) : Prop :=
  (∀ (k0_h6 : k0_cond6 k0_t1 = 1#1), 128 ∣ (k0_mult37 v2174).toNat) ∧
  (∀ (k0_h6 : k0_cond6 k0_t1 = 1#1), ∀ a, (k0_off41 v2174) a + S64x128.size a ≤ S64x1000064.size a)
theorem k0_mult37_dvd : ∀ (k0_t1 : Fin k0_t1_loop.trips) (v2174 : BitVec 32) (k0_hw66 : k0_chk66 k0_t1 v2174), ∀ (k0_h6 : k0_cond6 k0_t1 = 1#1), 128 ∣ (k0_mult37 v2174).toNat := fun k0_t1 v2174 k0_hw66 k0_h6 => k0_hw66.1 k0_h6
theorem k0_off41_inb : ∀ (k0_t1 : Fin k0_t1_loop.trips) (v2174 : BitVec 32) (k0_hw66 : k0_chk66 k0_t1 v2174), ∀ (k0_h6 : k0_cond6 k0_t1 = 1#1), ∀ a, (k0_off41 v2174) a + S64x128.size a ≤ S64x1000064.size a := fun k0_t1 v2174 k0_hw66 k0_h6 => k0_hw66.2 k0_h6

def k0_chk67 (v5 : IVec S16 32) (v8 : IVec S16 32) (v11 : IVec S16 32) (v14 : IVec S16 32) (v2195 : IVec S16 32) : Prop :=
  (∀ a x, ((![v5, v2195] : Fin 2 → IVec S16 32) a x).toNat < S64x128.size a) ∧
  (∀ a x, ((![v8, v2195] : Fin 2 → IVec S16 32) a x).toNat < S64x128.size a) ∧
  (∀ a x, ((![v11, v2195] : Fin 2 → IVec S16 32) a x).toNat < S64x128.size a) ∧
  (∀ a x, ((![v14, v2195] : Fin 2 → IVec S16 32) a x).toNat < S64x128.size a)
theorem k0_idx117_inb : ∀ (v5 : IVec S16 32) (v8 : IVec S16 32) (v11 : IVec S16 32) (v14 : IVec S16 32) (v2195 : IVec S16 32) (k0_hw67 : k0_chk67 v5 v8 v11 v14 v2195), ∀ a x, ((![v5, v2195] : Fin 2 → IVec S16 32) a x).toNat < S64x128.size a := fun v5 v8 v11 v14 v2195 k0_hw67 => k0_hw67.1
theorem k0_idx118_inb : ∀ (v5 : IVec S16 32) (v8 : IVec S16 32) (v11 : IVec S16 32) (v14 : IVec S16 32) (v2195 : IVec S16 32) (k0_hw67 : k0_chk67 v5 v8 v11 v14 v2195), ∀ a x, ((![v8, v2195] : Fin 2 → IVec S16 32) a x).toNat < S64x128.size a := fun v5 v8 v11 v14 v2195 k0_hw67 => k0_hw67.2.1
theorem k0_idx119_inb : ∀ (v5 : IVec S16 32) (v8 : IVec S16 32) (v11 : IVec S16 32) (v14 : IVec S16 32) (v2195 : IVec S16 32) (k0_hw67 : k0_chk67 v5 v8 v11 v14 v2195), ∀ a x, ((![v11, v2195] : Fin 2 → IVec S16 32) a x).toNat < S64x128.size a := fun v5 v8 v11 v14 v2195 k0_hw67 => k0_hw67.2.2.1
theorem k0_idx120_inb : ∀ (v5 : IVec S16 32) (v8 : IVec S16 32) (v11 : IVec S16 32) (v14 : IVec S16 32) (v2195 : IVec S16 32) (k0_hw67 : k0_chk67 v5 v8 v11 v14 v2195), ∀ a x, ((![v14, v2195] : Fin 2 → IVec S16 32) a x).toNat < S64x128.size a := fun v5 v8 v11 v14 v2195 k0_hw67 => k0_hw67.2.2.2
def k0_cond7 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2222 : BitVec 32 := Scalar.extui v1381
  let c0_i32_1658 : BitVec 32 := 0#32
  let v2223 : BitVec 1 := Scalar.cmpi .ne v2222 c0_i32_1658
  v2223

def k0_mult38 (v2221 : BitVec 32) : BitVec 32 :=
  let c0_i32_3381 : BitVec 32 := 0#32
  let v4407 : BitVec 1 := Scalar.cmpi .sgt v2221 c0_i32_3381
  let v4408 : BitVec 32 := Scalar.extui v4407
  let c0_i32_3382 : BitVec 32 := 0#32
  let v4409 : BitVec 1 := Scalar.cmpi .slt v2221 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2221 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2221 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off42 (v2221 : BitVec 32) : Fin 2 → Nat :=
  let c0_i32_3391 : BitVec 32 := 0#32
  let c0_i32_3381 : BitVec 32 := 0#32
  let v4407 : BitVec 1 := Scalar.cmpi .sgt v2221 c0_i32_3381
  let v4408 : BitVec 32 := Scalar.extui v4407
  let c0_i32_3382 : BitVec 32 := 0#32
  let v4409 : BitVec 1 := Scalar.cmpi .slt v2221 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2221 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2221 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk68 (k0_t1 : Fin k0_t1_loop.trips) (v2221 : BitVec 32) : Prop :=
  (∀ (k0_h7 : k0_cond7 k0_t1 = 1#1), 128 ∣ (k0_mult38 v2221).toNat) ∧
  (∀ (k0_h7 : k0_cond7 k0_t1 = 1#1), ∀ a, (k0_off42 v2221) a + S64x128.size a ≤ S64x1000064.size a)
theorem k0_mult38_dvd : ∀ (k0_t1 : Fin k0_t1_loop.trips) (v2221 : BitVec 32) (k0_hw68 : k0_chk68 k0_t1 v2221), ∀ (k0_h7 : k0_cond7 k0_t1 = 1#1), 128 ∣ (k0_mult38 v2221).toNat := fun k0_t1 v2221 k0_hw68 k0_h7 => k0_hw68.1 k0_h7
theorem k0_off42_inb : ∀ (k0_t1 : Fin k0_t1_loop.trips) (v2221 : BitVec 32) (k0_hw68 : k0_chk68 k0_t1 v2221), ∀ (k0_h7 : k0_cond7 k0_t1 = 1#1), ∀ a, (k0_off42 v2221) a + S64x128.size a ≤ S64x1000064.size a := fun k0_t1 v2221 k0_hw68 k0_h7 => k0_hw68.2 k0_h7

def k0_chk69 (v5 : IVec S16 32) (v8 : IVec S16 32) (v11 : IVec S16 32) (v14 : IVec S16 32) (v2242 : IVec S16 32) : Prop :=
  (∀ a x, ((![v5, v2242] : Fin 2 → IVec S16 32) a x).toNat < S64x128.size a) ∧
  (∀ a x, ((![v8, v2242] : Fin 2 → IVec S16 32) a x).toNat < S64x128.size a) ∧
  (∀ a x, ((![v11, v2242] : Fin 2 → IVec S16 32) a x).toNat < S64x128.size a) ∧
  (∀ a x, ((![v14, v2242] : Fin 2 → IVec S16 32) a x).toNat < S64x128.size a)
theorem k0_idx121_inb : ∀ (v5 : IVec S16 32) (v8 : IVec S16 32) (v11 : IVec S16 32) (v14 : IVec S16 32) (v2242 : IVec S16 32) (k0_hw69 : k0_chk69 v5 v8 v11 v14 v2242), ∀ a x, ((![v5, v2242] : Fin 2 → IVec S16 32) a x).toNat < S64x128.size a := fun v5 v8 v11 v14 v2242 k0_hw69 => k0_hw69.1
theorem k0_idx122_inb : ∀ (v5 : IVec S16 32) (v8 : IVec S16 32) (v11 : IVec S16 32) (v14 : IVec S16 32) (v2242 : IVec S16 32) (k0_hw69 : k0_chk69 v5 v8 v11 v14 v2242), ∀ a x, ((![v8, v2242] : Fin 2 → IVec S16 32) a x).toNat < S64x128.size a := fun v5 v8 v11 v14 v2242 k0_hw69 => k0_hw69.2.1
theorem k0_idx123_inb : ∀ (v5 : IVec S16 32) (v8 : IVec S16 32) (v11 : IVec S16 32) (v14 : IVec S16 32) (v2242 : IVec S16 32) (k0_hw69 : k0_chk69 v5 v8 v11 v14 v2242), ∀ a x, ((![v11, v2242] : Fin 2 → IVec S16 32) a x).toNat < S64x128.size a := fun v5 v8 v11 v14 v2242 k0_hw69 => k0_hw69.2.2.1
theorem k0_idx124_inb : ∀ (v5 : IVec S16 32) (v8 : IVec S16 32) (v11 : IVec S16 32) (v14 : IVec S16 32) (v2242 : IVec S16 32) (k0_hw69 : k0_chk69 v5 v8 v11 v14 v2242), ∀ a x, ((![v14, v2242] : Fin 2 → IVec S16 32) a x).toNat < S64x128.size a := fun v5 v8 v11 v14 v2242 k0_hw69 => k0_hw69.2.2.2
def k0_cond8 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2269 : BitVec 32 := Scalar.extui v1381
  let c0_i32_1698 : BitVec 32 := 0#32
  let v2270 : BitVec 1 := Scalar.cmpi .ne v2269 c0_i32_1698
  v2270

def k0_mult39 (v2268 : BitVec 32) : BitVec 32 :=
  let c0_i32_3381 : BitVec 32 := 0#32
  let v4407 : BitVec 1 := Scalar.cmpi .sgt v2268 c0_i32_3381
  let v4408 : BitVec 32 := Scalar.extui v4407
  let c0_i32_3382 : BitVec 32 := 0#32
  let v4409 : BitVec 1 := Scalar.cmpi .slt v2268 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2268 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2268 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off43 (v2268 : BitVec 32) : Fin 2 → Nat :=
  let c0_i32_3391 : BitVec 32 := 0#32
  let c0_i32_3381 : BitVec 32 := 0#32
  let v4407 : BitVec 1 := Scalar.cmpi .sgt v2268 c0_i32_3381
  let v4408 : BitVec 32 := Scalar.extui v4407
  let c0_i32_3382 : BitVec 32 := 0#32
  let v4409 : BitVec 1 := Scalar.cmpi .slt v2268 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2268 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2268 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk70 (k0_t1 : Fin k0_t1_loop.trips) (v2268 : BitVec 32) : Prop :=
  (∀ (k0_h8 : k0_cond8 k0_t1 = 1#1), 128 ∣ (k0_mult39 v2268).toNat) ∧
  (∀ (k0_h8 : k0_cond8 k0_t1 = 1#1), ∀ a, (k0_off43 v2268) a + S64x128.size a ≤ S64x1000064.size a)
theorem k0_mult39_dvd : ∀ (k0_t1 : Fin k0_t1_loop.trips) (v2268 : BitVec 32) (k0_hw70 : k0_chk70 k0_t1 v2268), ∀ (k0_h8 : k0_cond8 k0_t1 = 1#1), 128 ∣ (k0_mult39 v2268).toNat := fun k0_t1 v2268 k0_hw70 k0_h8 => k0_hw70.1 k0_h8
theorem k0_off43_inb : ∀ (k0_t1 : Fin k0_t1_loop.trips) (v2268 : BitVec 32) (k0_hw70 : k0_chk70 k0_t1 v2268), ∀ (k0_h8 : k0_cond8 k0_t1 = 1#1), ∀ a, (k0_off43 v2268) a + S64x128.size a ≤ S64x1000064.size a := fun k0_t1 v2268 k0_hw70 k0_h8 => k0_hw70.2 k0_h8

def k0_chk71 (v5 : IVec S16 32) (v8 : IVec S16 32) (v11 : IVec S16 32) (v14 : IVec S16 32) (v2289 : IVec S16 32) : Prop :=
  (∀ a x, ((![v5, v2289] : Fin 2 → IVec S16 32) a x).toNat < S64x128.size a) ∧
  (∀ a x, ((![v8, v2289] : Fin 2 → IVec S16 32) a x).toNat < S64x128.size a) ∧
  (∀ a x, ((![v11, v2289] : Fin 2 → IVec S16 32) a x).toNat < S64x128.size a) ∧
  (∀ a x, ((![v14, v2289] : Fin 2 → IVec S16 32) a x).toNat < S64x128.size a)
theorem k0_idx125_inb : ∀ (v5 : IVec S16 32) (v8 : IVec S16 32) (v11 : IVec S16 32) (v14 : IVec S16 32) (v2289 : IVec S16 32) (k0_hw71 : k0_chk71 v5 v8 v11 v14 v2289), ∀ a x, ((![v5, v2289] : Fin 2 → IVec S16 32) a x).toNat < S64x128.size a := fun v5 v8 v11 v14 v2289 k0_hw71 => k0_hw71.1
theorem k0_idx126_inb : ∀ (v5 : IVec S16 32) (v8 : IVec S16 32) (v11 : IVec S16 32) (v14 : IVec S16 32) (v2289 : IVec S16 32) (k0_hw71 : k0_chk71 v5 v8 v11 v14 v2289), ∀ a x, ((![v8, v2289] : Fin 2 → IVec S16 32) a x).toNat < S64x128.size a := fun v5 v8 v11 v14 v2289 k0_hw71 => k0_hw71.2.1
theorem k0_idx127_inb : ∀ (v5 : IVec S16 32) (v8 : IVec S16 32) (v11 : IVec S16 32) (v14 : IVec S16 32) (v2289 : IVec S16 32) (k0_hw71 : k0_chk71 v5 v8 v11 v14 v2289), ∀ a x, ((![v11, v2289] : Fin 2 → IVec S16 32) a x).toNat < S64x128.size a := fun v5 v8 v11 v14 v2289 k0_hw71 => k0_hw71.2.2.1
theorem k0_idx128_inb : ∀ (v5 : IVec S16 32) (v8 : IVec S16 32) (v11 : IVec S16 32) (v14 : IVec S16 32) (v2289 : IVec S16 32) (k0_hw71 : k0_chk71 v5 v8 v11 v14 v2289), ∀ a x, ((![v14, v2289] : Fin 2 → IVec S16 32) a x).toNat < S64x128.size a := fun v5 v8 v11 v14 v2289 k0_hw71 => k0_hw71.2.2.2
def k0_cond9 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c31_i32_990 : BitVec 32 := 31#32
  let v1381 : BitVec 1 := Scalar.cmpi .slt v247 c31_i32_990
  let v2316 : BitVec 32 := Scalar.extui v1381
  let c0_i32_1738 : BitVec 32 := 0#32
  let v2317 : BitVec 1 := Scalar.cmpi .ne v2316 c0_i32_1738
  v2317

def k0_mult40 (v2315 : BitVec 32) : BitVec 32 :=
  let c0_i32_3381 : BitVec 32 := 0#32
  let v4407 : BitVec 1 := Scalar.cmpi .sgt v2315 c0_i32_3381
  let v4408 : BitVec 32 := Scalar.extui v4407
  let c0_i32_3382 : BitVec 32 := 0#32
  let v4409 : BitVec 1 := Scalar.cmpi .slt v2315 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2315 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2315 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off44 (v2315 : BitVec 32) : Fin 2 → Nat :=
  let c0_i32_3391 : BitVec 32 := 0#32
  let c0_i32_3381 : BitVec 32 := 0#32
  let v4407 : BitVec 1 := Scalar.cmpi .sgt v2315 c0_i32_3381
  let v4408 : BitVec 32 := Scalar.extui v4407
  let c0_i32_3382 : BitVec 32 := 0#32
  let v4409 : BitVec 1 := Scalar.cmpi .slt v2315 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v2315 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v2315 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk72 (k0_t1 : Fin k0_t1_loop.trips) (v2315 : BitVec 32) : Prop :=
  (∀ (k0_h9 : k0_cond9 k0_t1 = 1#1), 128 ∣ (k0_mult40 v2315).toNat) ∧
  (∀ (k0_h9 : k0_cond9 k0_t1 = 1#1), ∀ a, (k0_off44 v2315) a + S64x128.size a ≤ S64x1000064.size a)
theorem k0_mult40_dvd : ∀ (k0_t1 : Fin k0_t1_loop.trips) (v2315 : BitVec 32) (k0_hw72 : k0_chk72 k0_t1 v2315), ∀ (k0_h9 : k0_cond9 k0_t1 = 1#1), 128 ∣ (k0_mult40 v2315).toNat := fun k0_t1 v2315 k0_hw72 k0_h9 => k0_hw72.1 k0_h9
theorem k0_off44_inb : ∀ (k0_t1 : Fin k0_t1_loop.trips) (v2315 : BitVec 32) (k0_hw72 : k0_chk72 k0_t1 v2315), ∀ (k0_h9 : k0_cond9 k0_t1 = 1#1), ∀ a, (k0_off44 v2315) a + S64x128.size a ≤ S64x1000064.size a := fun k0_t1 v2315 k0_hw72 k0_h9 => k0_hw72.2 k0_h9

def k0_off45 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg21 : BitVec 32 := Scf.iv c0_i32_113 c1_i32_115 k0_t1
  let c2_i32_131 : BitVec 32 := 2#32
  let v247 : BitVec 32 := Scalar.muli arg21 c2_i32_131
  let c16_i32_1739 : BitVec 32 := 16#32
  let v2318 : BitVec 32 := Scalar.muli v247 c16_i32_1739
  let v2319 : BitVec 32 := Scalar.addi v2 v2318
  let c0_i32_1743 : BitVec 32 := 0#32
  ![v2319.toNat, 0]
def k0_off46 (k0_t1 : Fin k0_t1_loop.trips) : Fin 1 → Nat :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c16_i32_1749 : BitVec 32 := 16#32
  let v2328 : BitVec 32 := Scalar.muli v2327 c16_i32_1749
  let v2332 : Index := Scalar.indexCast v2328
  ![v2332.toNat]
def k0_off47 (k0_t1 : Fin k0_t1_loop.trips) : Fin 1 → Nat :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c1_i32_1750 : BitVec 32 := 1#32
  let v2329 : BitVec 32 := Scalar.addi v2327 c1_i32_1750
  let c31_i32_1751 : BitVec 32 := 31#32
  let v2330 : BitVec 32 := Scalar.minsi v2329 c31_i32_1751
  let c16_i32_1752 : BitVec 32 := 16#32
  let v2331 : BitVec 32 := Scalar.muli v2330 c16_i32_1752
  let v2336 : Index := Scalar.indexCast v2331
  ![v2336.toNat]
def k0_cond10 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c2_i32_1753 : BitVec 32 := 2#32
  let v2338 : BitVec 1 := Scalar.cmpi .sge v2327 c2_i32_1753
  let v2339 : BitVec 32 := Scalar.extui v2338
  let c0_i32_1754 : BitVec 32 := 0#32
  let v2340 : BitVec 1 := Scalar.cmpi .ne v2339 c0_i32_1754
  v2340

def k0_off48 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c2_i32_3380 : BitVec 32 := 2#32
  let v4406 : BitVec 32 := Scalar.subi v2327 c2_i32_3380
  let c16_i32_3381 : BitVec 32 := 16#32
  let v4407 : BitVec 32 := Scalar.muli v4406 c16_i32_3381
  let v4408 : BitVec 32 := Scalar.addi v2 v4407
  let c0_i32_3385 : BitVec 32 := 0#32
  ![v4408.toNat, 0]

def k0_chk73 (v5 : IVec S16 32) (v8 : IVec S16 32) (v11 : IVec S16 32) (v14 : IVec S16 32) (v2359 : IVec S16 32) : Prop :=
  (∀ a x, ((![v5, v2359] : Fin 2 → IVec S16 32) a x).toNat < S64x128.size a) ∧
  (∀ a x, ((![v8, v2359] : Fin 2 → IVec S16 32) a x).toNat < S64x128.size a) ∧
  (∀ a x, ((![v11, v2359] : Fin 2 → IVec S16 32) a x).toNat < S64x128.size a) ∧
  (∀ a x, ((![v14, v2359] : Fin 2 → IVec S16 32) a x).toNat < S64x128.size a)
theorem k0_idx129_inb : ∀ (v5 : IVec S16 32) (v8 : IVec S16 32) (v11 : IVec S16 32) (v14 : IVec S16 32) (v2359 : IVec S16 32) (k0_hw73 : k0_chk73 v5 v8 v11 v14 v2359), ∀ a x, ((![v5, v2359] : Fin 2 → IVec S16 32) a x).toNat < S64x128.size a := fun v5 v8 v11 v14 v2359 k0_hw73 => k0_hw73.1
theorem k0_idx130_inb : ∀ (v5 : IVec S16 32) (v8 : IVec S16 32) (v11 : IVec S16 32) (v14 : IVec S16 32) (v2359 : IVec S16 32) (k0_hw73 : k0_chk73 v5 v8 v11 v14 v2359), ∀ a x, ((![v8, v2359] : Fin 2 → IVec S16 32) a x).toNat < S64x128.size a := fun v5 v8 v11 v14 v2359 k0_hw73 => k0_hw73.2.1
theorem k0_idx131_inb : ∀ (v5 : IVec S16 32) (v8 : IVec S16 32) (v11 : IVec S16 32) (v14 : IVec S16 32) (v2359 : IVec S16 32) (k0_hw73 : k0_chk73 v5 v8 v11 v14 v2359), ∀ a x, ((![v11, v2359] : Fin 2 → IVec S16 32) a x).toNat < S64x128.size a := fun v5 v8 v11 v14 v2359 k0_hw73 => k0_hw73.2.2.1
theorem k0_idx132_inb : ∀ (v5 : IVec S16 32) (v8 : IVec S16 32) (v11 : IVec S16 32) (v14 : IVec S16 32) (v2359 : IVec S16 32) (k0_hw73 : k0_chk73 v5 v8 v11 v14 v2359), ∀ a x, ((![v14, v2359] : Fin 2 → IVec S16 32) a x).toNat < S64x128.size a := fun v5 v8 v11 v14 v2359 k0_hw73 => k0_hw73.2.2.2
def k0_mult41 (v2385 : BitVec 32) : BitVec 32 :=
  let c0_i32_1795 : BitVec 32 := 0#32
  let v2387 : BitVec 1 := Scalar.cmpi .sgt v2385 c0_i32_1795
  let v2388 : BitVec 32 := Scalar.extui v2387
  let c0_i32_1796 : BitVec 32 := 0#32
  let v2389 : BitVec 1 := Scalar.cmpi .slt v2385 c0_i32_1796
  let v2390 : BitVec 32 := Scalar.extui v2389
  let v2391 : BitVec 32 := Scalar.subi v2388 v2390
  let c128_i32_1794 : BitVec 32 := 128#32
  let c0_i32_1797 : BitVec 32 := 0#32
  let v2392 : BitVec 1 := Scalar.cmpi .sgt c128_i32_1794 c0_i32_1797
  let v2393 : BitVec 32 := Scalar.extui v2392
  let c0_i32_1798 : BitVec 32 := 0#32
  let v2394 : BitVec 1 := Scalar.cmpi .slt c128_i32_1794 c0_i32_1798
  let v2395 : BitVec 32 := Scalar.extui v2394
  let v2396 : BitVec 32 := Scalar.subi v2393 v2395
  let v2397 : BitVec 1 := Scalar.cmpi .ne v2391 v2396
  let v2398 : BitVec 32 := Scalar.remsi v2385 c128_i32_1794
  let c0_i32_1799 : BitVec 32 := 0#32
  let v2399 : BitVec 1 := Scalar.cmpi .ne v2398 c0_i32_1799
  let v2400 : BitVec 1 := Scalar.andi v2397 v2399
  let v2386 : BitVec 32 := Scalar.divsi v2385 c128_i32_1794
  let c1_i32_1800 : BitVec 32 := 1#32
  let v2401 : BitVec 32 := Scalar.subi v2386 c1_i32_1800
  let v2402 : BitVec 32 := Scalar.select v2400 v2401 v2386
  let c128_i32_1801 : BitVec 32 := 128#32
  let v2403 : BitVec 32 := Scalar.muli v2402 c128_i32_1801
  v2403

def k0_off49 (v2385 : BitVec 32) : Fin 2 → Nat :=
  let c0_i32_1805 : BitVec 32 := 0#32
  let c0_i32_1795 : BitVec 32 := 0#32
  let v2387 : BitVec 1 := Scalar.cmpi .sgt v2385 c0_i32_1795
  let v2388 : BitVec 32 := Scalar.extui v2387
  let c0_i32_1796 : BitVec 32 := 0#32
  let v2389 : BitVec 1 := Scalar.cmpi .slt v2385 c0_i32_1796
  let v2390 : BitVec 32 := Scalar.extui v2389
  let v2391 : BitVec 32 := Scalar.subi v2388 v2390
  let c128_i32_1794 : BitVec 32 := 128#32
  let c0_i32_1797 : BitVec 32 := 0#32
  let v2392 : BitVec 1 := Scalar.cmpi .sgt c128_i32_1794 c0_i32_1797
  let v2393 : BitVec 32 := Scalar.extui v2392
  let c0_i32_1798 : BitVec 32 := 0#32
  let v2394 : BitVec 1 := Scalar.cmpi .slt c128_i32_1794 c0_i32_1798
  let v2395 : BitVec 32 := Scalar.extui v2394
  let v2396 : BitVec 32 := Scalar.subi v2393 v2395
  let v2397 : BitVec 1 := Scalar.cmpi .ne v2391 v2396
  let v2398 : BitVec 32 := Scalar.remsi v2385 c128_i32_1794
  let c0_i32_1799 : BitVec 32 := 0#32
  let v2399 : BitVec 1 := Scalar.cmpi .ne v2398 c0_i32_1799
  let v2400 : BitVec 1 := Scalar.andi v2397 v2399
  let v2386 : BitVec 32 := Scalar.divsi v2385 c128_i32_1794
  let c1_i32_1800 : BitVec 32 := 1#32
  let v2401 : BitVec 32 := Scalar.subi v2386 c1_i32_1800
  let v2402 : BitVec 32 := Scalar.select v2400 v2401 v2386
  let c128_i32_1801 : BitVec 32 := 128#32
  let v2403 : BitVec 32 := Scalar.muli v2402 c128_i32_1801
  let v2404 : BitVec 32 := v2403
  ![0, v2404.toNat]

def k0_chk74 (v2385 : BitVec 32) : Prop :=
  (128 ∣ (k0_mult41 v2385).toNat) ∧
  (∀ a, (k0_off49 v2385) a + S64x128.size a ≤ S64x1000064.size a)
theorem k0_mult41_dvd : ∀ (v2385 : BitVec 32) (k0_hw74 : k0_chk74 v2385), 128 ∣ (k0_mult41 v2385).toNat := fun v2385 k0_hw74 => k0_hw74.1
theorem k0_off49_inb : ∀ (v2385 : BitVec 32) (k0_hw74 : k0_chk74 v2385), ∀ a, (k0_off49 v2385) a + S64x128.size a ≤ S64x1000064.size a := fun v2385 k0_hw74 => k0_hw74.2

def k0_chk75 (v5 : IVec S16 32) (v8 : IVec S16 32) (v11 : IVec S16 32) (v14 : IVec S16 32) (v2429 : IVec S16 32) : Prop :=
  (∀ a x, ((![v5, v2429] : Fin 2 → IVec S16 32) a x).toNat < S64x128.size a) ∧
  (∀ a x, ((![v8, v2429] : Fin 2 → IVec S16 32) a x).toNat < S64x128.size a) ∧
  (∀ a x, ((![v11, v2429] : Fin 2 → IVec S16 32) a x).toNat < S64x128.size a) ∧
  (∀ a x, ((![v14, v2429] : Fin 2 → IVec S16 32) a x).toNat < S64x128.size a)
theorem k0_idx133_inb : ∀ (v5 : IVec S16 32) (v8 : IVec S16 32) (v11 : IVec S16 32) (v14 : IVec S16 32) (v2429 : IVec S16 32) (k0_hw75 : k0_chk75 v5 v8 v11 v14 v2429), ∀ a x, ((![v5, v2429] : Fin 2 → IVec S16 32) a x).toNat < S64x128.size a := fun v5 v8 v11 v14 v2429 k0_hw75 => k0_hw75.1
theorem k0_idx134_inb : ∀ (v5 : IVec S16 32) (v8 : IVec S16 32) (v11 : IVec S16 32) (v14 : IVec S16 32) (v2429 : IVec S16 32) (k0_hw75 : k0_chk75 v5 v8 v11 v14 v2429), ∀ a x, ((![v8, v2429] : Fin 2 → IVec S16 32) a x).toNat < S64x128.size a := fun v5 v8 v11 v14 v2429 k0_hw75 => k0_hw75.2.1
theorem k0_idx135_inb : ∀ (v5 : IVec S16 32) (v8 : IVec S16 32) (v11 : IVec S16 32) (v14 : IVec S16 32) (v2429 : IVec S16 32) (k0_hw75 : k0_chk75 v5 v8 v11 v14 v2429), ∀ a x, ((![v11, v2429] : Fin 2 → IVec S16 32) a x).toNat < S64x128.size a := fun v5 v8 v11 v14 v2429 k0_hw75 => k0_hw75.2.2.1
theorem k0_idx136_inb : ∀ (v5 : IVec S16 32) (v8 : IVec S16 32) (v11 : IVec S16 32) (v14 : IVec S16 32) (v2429 : IVec S16 32) (k0_hw75 : k0_chk75 v5 v8 v11 v14 v2429), ∀ a x, ((![v14, v2429] : Fin 2 → IVec S16 32) a x).toNat < S64x128.size a := fun v5 v8 v11 v14 v2429 k0_hw75 => k0_hw75.2.2.2
def k0_mult42 (v2455 : BitVec 32) : BitVec 32 :=
  let c0_i32_1849 : BitVec 32 := 0#32
  let v2457 : BitVec 1 := Scalar.cmpi .sgt v2455 c0_i32_1849
  let v2458 : BitVec 32 := Scalar.extui v2457
  let c0_i32_1850 : BitVec 32 := 0#32
  let v2459 : BitVec 1 := Scalar.cmpi .slt v2455 c0_i32_1850
  let v2460 : BitVec 32 := Scalar.extui v2459
  let v2461 : BitVec 32 := Scalar.subi v2458 v2460
  let c128_i32_1848 : BitVec 32 := 128#32
  let c0_i32_1851 : BitVec 32 := 0#32
  let v2462 : BitVec 1 := Scalar.cmpi .sgt c128_i32_1848 c0_i32_1851
  let v2463 : BitVec 32 := Scalar.extui v2462
  let c0_i32_1852 : BitVec 32 := 0#32
  let v2464 : BitVec 1 := Scalar.cmpi .slt c128_i32_1848 c0_i32_1852
  let v2465 : BitVec 32 := Scalar.extui v2464
  let v2466 : BitVec 32 := Scalar.subi v2463 v2465
  let v2467 : BitVec 1 := Scalar.cmpi .ne v2461 v2466
  let v2468 : BitVec 32 := Scalar.remsi v2455 c128_i32_1848
  let c0_i32_1853 : BitVec 32 := 0#32
  let v2469 : BitVec 1 := Scalar.cmpi .ne v2468 c0_i32_1853
  let v2470 : BitVec 1 := Scalar.andi v2467 v2469
  let v2456 : BitVec 32 := Scalar.divsi v2455 c128_i32_1848
  let c1_i32_1854 : BitVec 32 := 1#32
  let v2471 : BitVec 32 := Scalar.subi v2456 c1_i32_1854
  let v2472 : BitVec 32 := Scalar.select v2470 v2471 v2456
  let c128_i32_1855 : BitVec 32 := 128#32
  let v2473 : BitVec 32 := Scalar.muli v2472 c128_i32_1855
  v2473

def k0_off50 (v2455 : BitVec 32) : Fin 2 → Nat :=
  let c0_i32_1859 : BitVec 32 := 0#32
  let c0_i32_1849 : BitVec 32 := 0#32
  let v2457 : BitVec 1 := Scalar.cmpi .sgt v2455 c0_i32_1849
  let v2458 : BitVec 32 := Scalar.extui v2457
  let c0_i32_1850 : BitVec 32 := 0#32
  let v2459 : BitVec 1 := Scalar.cmpi .slt v2455 c0_i32_1850
  let v2460 : BitVec 32 := Scalar.extui v2459
  let v2461 : BitVec 32 := Scalar.subi v2458 v2460
  let c128_i32_1848 : BitVec 32 := 128#32
  let c0_i32_1851 : BitVec 32 := 0#32
  let v2462 : BitVec 1 := Scalar.cmpi .sgt c128_i32_1848 c0_i32_1851
  let v2463 : BitVec 32 := Scalar.extui v2462
  let c0_i32_1852 : BitVec 32 := 0#32
  let v2464 : BitVec 1 := Scalar.cmpi .slt c128_i32_1848 c0_i32_1852
  let v2465 : BitVec 32 := Scalar.extui v2464
  let v2466 : BitVec 32 := Scalar.subi v2463 v2465
  let v2467 : BitVec 1 := Scalar.cmpi .ne v2461 v2466
  let v2468 : BitVec 32 := Scalar.remsi v2455 c128_i32_1848
  let c0_i32_1853 : BitVec 32 := 0#32
  let v2469 : BitVec 1 := Scalar.cmpi .ne v2468 c0_i32_1853
  let v2470 : BitVec 1 := Scalar.andi v2467 v2469
  let v2456 : BitVec 32 := Scalar.divsi v2455 c128_i32_1848
  let c1_i32_1854 : BitVec 32 := 1#32
  let v2471 : BitVec 32 := Scalar.subi v2456 c1_i32_1854
  let v2472 : BitVec 32 := Scalar.select v2470 v2471 v2456
  let c128_i32_1855 : BitVec 32 := 128#32
  let v2473 : BitVec 32 := Scalar.muli v2472 c128_i32_1855
  let v2474 : BitVec 32 := v2473
  ![0, v2474.toNat]

def k0_chk76 (v2455 : BitVec 32) : Prop :=
  (128 ∣ (k0_mult42 v2455).toNat) ∧
  (∀ a, (k0_off50 v2455) a + S64x128.size a ≤ S64x1000064.size a)
theorem k0_mult42_dvd : ∀ (v2455 : BitVec 32) (k0_hw76 : k0_chk76 v2455), 128 ∣ (k0_mult42 v2455).toNat := fun v2455 k0_hw76 => k0_hw76.1
theorem k0_off50_inb : ∀ (v2455 : BitVec 32) (k0_hw76 : k0_chk76 v2455), ∀ a, (k0_off50 v2455) a + S64x128.size a ≤ S64x1000064.size a := fun v2455 k0_hw76 => k0_hw76.2

def k0_chk77 (v5 : IVec S16 32) (v8 : IVec S16 32) (v11 : IVec S16 32) (v14 : IVec S16 32) (v2499 : IVec S16 32) : Prop :=
  (∀ a x, ((![v5, v2499] : Fin 2 → IVec S16 32) a x).toNat < S64x128.size a) ∧
  (∀ a x, ((![v8, v2499] : Fin 2 → IVec S16 32) a x).toNat < S64x128.size a) ∧
  (∀ a x, ((![v11, v2499] : Fin 2 → IVec S16 32) a x).toNat < S64x128.size a) ∧
  (∀ a x, ((![v14, v2499] : Fin 2 → IVec S16 32) a x).toNat < S64x128.size a)
theorem k0_idx137_inb : ∀ (v5 : IVec S16 32) (v8 : IVec S16 32) (v11 : IVec S16 32) (v14 : IVec S16 32) (v2499 : IVec S16 32) (k0_hw77 : k0_chk77 v5 v8 v11 v14 v2499), ∀ a x, ((![v5, v2499] : Fin 2 → IVec S16 32) a x).toNat < S64x128.size a := fun v5 v8 v11 v14 v2499 k0_hw77 => k0_hw77.1
theorem k0_idx138_inb : ∀ (v5 : IVec S16 32) (v8 : IVec S16 32) (v11 : IVec S16 32) (v14 : IVec S16 32) (v2499 : IVec S16 32) (k0_hw77 : k0_chk77 v5 v8 v11 v14 v2499), ∀ a x, ((![v8, v2499] : Fin 2 → IVec S16 32) a x).toNat < S64x128.size a := fun v5 v8 v11 v14 v2499 k0_hw77 => k0_hw77.2.1
theorem k0_idx139_inb : ∀ (v5 : IVec S16 32) (v8 : IVec S16 32) (v11 : IVec S16 32) (v14 : IVec S16 32) (v2499 : IVec S16 32) (k0_hw77 : k0_chk77 v5 v8 v11 v14 v2499), ∀ a x, ((![v11, v2499] : Fin 2 → IVec S16 32) a x).toNat < S64x128.size a := fun v5 v8 v11 v14 v2499 k0_hw77 => k0_hw77.2.2.1
theorem k0_idx140_inb : ∀ (v5 : IVec S16 32) (v8 : IVec S16 32) (v11 : IVec S16 32) (v14 : IVec S16 32) (v2499 : IVec S16 32) (k0_hw77 : k0_chk77 v5 v8 v11 v14 v2499), ∀ a x, ((![v14, v2499] : Fin 2 → IVec S16 32) a x).toNat < S64x128.size a := fun v5 v8 v11 v14 v2499 k0_hw77 => k0_hw77.2.2.2
def k0_mult43 (v2525 : BitVec 32) : BitVec 32 :=
  let c0_i32_1903 : BitVec 32 := 0#32
  let v2527 : BitVec 1 := Scalar.cmpi .sgt v2525 c0_i32_1903
  let v2528 : BitVec 32 := Scalar.extui v2527
  let c0_i32_1904 : BitVec 32 := 0#32
  let v2529 : BitVec 1 := Scalar.cmpi .slt v2525 c0_i32_1904
  let v2530 : BitVec 32 := Scalar.extui v2529
  let v2531 : BitVec 32 := Scalar.subi v2528 v2530
  let c128_i32_1902 : BitVec 32 := 128#32
  let c0_i32_1905 : BitVec 32 := 0#32
  let v2532 : BitVec 1 := Scalar.cmpi .sgt c128_i32_1902 c0_i32_1905
  let v2533 : BitVec 32 := Scalar.extui v2532
  let c0_i32_1906 : BitVec 32 := 0#32
  let v2534 : BitVec 1 := Scalar.cmpi .slt c128_i32_1902 c0_i32_1906
  let v2535 : BitVec 32 := Scalar.extui v2534
  let v2536 : BitVec 32 := Scalar.subi v2533 v2535
  let v2537 : BitVec 1 := Scalar.cmpi .ne v2531 v2536
  let v2538 : BitVec 32 := Scalar.remsi v2525 c128_i32_1902
  let c0_i32_1907 : BitVec 32 := 0#32
  let v2539 : BitVec 1 := Scalar.cmpi .ne v2538 c0_i32_1907
  let v2540 : BitVec 1 := Scalar.andi v2537 v2539
  let v2526 : BitVec 32 := Scalar.divsi v2525 c128_i32_1902
  let c1_i32_1908 : BitVec 32 := 1#32
  let v2541 : BitVec 32 := Scalar.subi v2526 c1_i32_1908
  let v2542 : BitVec 32 := Scalar.select v2540 v2541 v2526
  let c128_i32_1909 : BitVec 32 := 128#32
  let v2543 : BitVec 32 := Scalar.muli v2542 c128_i32_1909
  v2543

def k0_off51 (v2525 : BitVec 32) : Fin 2 → Nat :=
  let c0_i32_1913 : BitVec 32 := 0#32
  let c0_i32_1903 : BitVec 32 := 0#32
  let v2527 : BitVec 1 := Scalar.cmpi .sgt v2525 c0_i32_1903
  let v2528 : BitVec 32 := Scalar.extui v2527
  let c0_i32_1904 : BitVec 32 := 0#32
  let v2529 : BitVec 1 := Scalar.cmpi .slt v2525 c0_i32_1904
  let v2530 : BitVec 32 := Scalar.extui v2529
  let v2531 : BitVec 32 := Scalar.subi v2528 v2530
  let c128_i32_1902 : BitVec 32 := 128#32
  let c0_i32_1905 : BitVec 32 := 0#32
  let v2532 : BitVec 1 := Scalar.cmpi .sgt c128_i32_1902 c0_i32_1905
  let v2533 : BitVec 32 := Scalar.extui v2532
  let c0_i32_1906 : BitVec 32 := 0#32
  let v2534 : BitVec 1 := Scalar.cmpi .slt c128_i32_1902 c0_i32_1906
  let v2535 : BitVec 32 := Scalar.extui v2534
  let v2536 : BitVec 32 := Scalar.subi v2533 v2535
  let v2537 : BitVec 1 := Scalar.cmpi .ne v2531 v2536
  let v2538 : BitVec 32 := Scalar.remsi v2525 c128_i32_1902
  let c0_i32_1907 : BitVec 32 := 0#32
  let v2539 : BitVec 1 := Scalar.cmpi .ne v2538 c0_i32_1907
  let v2540 : BitVec 1 := Scalar.andi v2537 v2539
  let v2526 : BitVec 32 := Scalar.divsi v2525 c128_i32_1902
  let c1_i32_1908 : BitVec 32 := 1#32
  let v2541 : BitVec 32 := Scalar.subi v2526 c1_i32_1908
  let v2542 : BitVec 32 := Scalar.select v2540 v2541 v2526
  let c128_i32_1909 : BitVec 32 := 128#32
  let v2543 : BitVec 32 := Scalar.muli v2542 c128_i32_1909
  let v2544 : BitVec 32 := v2543
  ![0, v2544.toNat]

def k0_chk78 (v2525 : BitVec 32) : Prop :=
  (128 ∣ (k0_mult43 v2525).toNat) ∧
  (∀ a, (k0_off51 v2525) a + S64x128.size a ≤ S64x1000064.size a)
theorem k0_mult43_dvd : ∀ (v2525 : BitVec 32) (k0_hw78 : k0_chk78 v2525), 128 ∣ (k0_mult43 v2525).toNat := fun v2525 k0_hw78 => k0_hw78.1
theorem k0_off51_inb : ∀ (v2525 : BitVec 32) (k0_hw78 : k0_chk78 v2525), ∀ a, (k0_off51 v2525) a + S64x128.size a ≤ S64x1000064.size a := fun v2525 k0_hw78 => k0_hw78.2

def k0_chk79 (v5 : IVec S16 32) (v8 : IVec S16 32) (v11 : IVec S16 32) (v14 : IVec S16 32) (v2569 : IVec S16 32) : Prop :=
  (∀ a x, ((![v5, v2569] : Fin 2 → IVec S16 32) a x).toNat < S64x128.size a) ∧
  (∀ a x, ((![v8, v2569] : Fin 2 → IVec S16 32) a x).toNat < S64x128.size a) ∧
  (∀ a x, ((![v11, v2569] : Fin 2 → IVec S16 32) a x).toNat < S64x128.size a) ∧
  (∀ a x, ((![v14, v2569] : Fin 2 → IVec S16 32) a x).toNat < S64x128.size a)
theorem k0_idx141_inb : ∀ (v5 : IVec S16 32) (v8 : IVec S16 32) (v11 : IVec S16 32) (v14 : IVec S16 32) (v2569 : IVec S16 32) (k0_hw79 : k0_chk79 v5 v8 v11 v14 v2569), ∀ a x, ((![v5, v2569] : Fin 2 → IVec S16 32) a x).toNat < S64x128.size a := fun v5 v8 v11 v14 v2569 k0_hw79 => k0_hw79.1
theorem k0_idx142_inb : ∀ (v5 : IVec S16 32) (v8 : IVec S16 32) (v11 : IVec S16 32) (v14 : IVec S16 32) (v2569 : IVec S16 32) (k0_hw79 : k0_chk79 v5 v8 v11 v14 v2569), ∀ a x, ((![v8, v2569] : Fin 2 → IVec S16 32) a x).toNat < S64x128.size a := fun v5 v8 v11 v14 v2569 k0_hw79 => k0_hw79.2.1
theorem k0_idx143_inb : ∀ (v5 : IVec S16 32) (v8 : IVec S16 32) (v11 : IVec S16 32) (v14 : IVec S16 32) (v2569 : IVec S16 32) (k0_hw79 : k0_chk79 v5 v8 v11 v14 v2569), ∀ a x, ((![v11, v2569] : Fin 2 → IVec S16 32) a x).toNat < S64x128.size a := fun v5 v8 v11 v14 v2569 k0_hw79 => k0_hw79.2.2.1
theorem k0_idx144_inb : ∀ (v5 : IVec S16 32) (v8 : IVec S16 32) (v11 : IVec S16 32) (v14 : IVec S16 32) (v2569 : IVec S16 32) (k0_hw79 : k0_chk79 v5 v8 v11 v14 v2569), ∀ a x, ((![v14, v2569] : Fin 2 → IVec S16 32) a x).toNat < S64x128.size a := fun v5 v8 v11 v14 v2569 k0_hw79 => k0_hw79.2.2.2
def k0_mult44 (v2595 : BitVec 32) : BitVec 32 :=
  let c0_i32_1957 : BitVec 32 := 0#32
  let v2597 : BitVec 1 := Scalar.cmpi .sgt v2595 c0_i32_1957
  let v2598 : BitVec 32 := Scalar.extui v2597
  let c0_i32_1958 : BitVec 32 := 0#32
  let v2599 : BitVec 1 := Scalar.cmpi .slt v2595 c0_i32_1958
  let v2600 : BitVec 32 := Scalar.extui v2599
  let v2601 : BitVec 32 := Scalar.subi v2598 v2600
  let c128_i32_1956 : BitVec 32 := 128#32
  let c0_i32_1959 : BitVec 32 := 0#32
  let v2602 : BitVec 1 := Scalar.cmpi .sgt c128_i32_1956 c0_i32_1959
  let v2603 : BitVec 32 := Scalar.extui v2602
  let c0_i32_1960 : BitVec 32 := 0#32
  let v2604 : BitVec 1 := Scalar.cmpi .slt c128_i32_1956 c0_i32_1960
  let v2605 : BitVec 32 := Scalar.extui v2604
  let v2606 : BitVec 32 := Scalar.subi v2603 v2605
  let v2607 : BitVec 1 := Scalar.cmpi .ne v2601 v2606
  let v2608 : BitVec 32 := Scalar.remsi v2595 c128_i32_1956
  let c0_i32_1961 : BitVec 32 := 0#32
  let v2609 : BitVec 1 := Scalar.cmpi .ne v2608 c0_i32_1961
  let v2610 : BitVec 1 := Scalar.andi v2607 v2609
  let v2596 : BitVec 32 := Scalar.divsi v2595 c128_i32_1956
  let c1_i32_1962 : BitVec 32 := 1#32
  let v2611 : BitVec 32 := Scalar.subi v2596 c1_i32_1962
  let v2612 : BitVec 32 := Scalar.select v2610 v2611 v2596
  let c128_i32_1963 : BitVec 32 := 128#32
  let v2613 : BitVec 32 := Scalar.muli v2612 c128_i32_1963
  v2613

def k0_off52 (v2595 : BitVec 32) : Fin 2 → Nat :=
  let c0_i32_1967 : BitVec 32 := 0#32
  let c0_i32_1957 : BitVec 32 := 0#32
  let v2597 : BitVec 1 := Scalar.cmpi .sgt v2595 c0_i32_1957
  let v2598 : BitVec 32 := Scalar.extui v2597
  let c0_i32_1958 : BitVec 32 := 0#32
  let v2599 : BitVec 1 := Scalar.cmpi .slt v2595 c0_i32_1958
  let v2600 : BitVec 32 := Scalar.extui v2599
  let v2601 : BitVec 32 := Scalar.subi v2598 v2600
  let c128_i32_1956 : BitVec 32 := 128#32
  let c0_i32_1959 : BitVec 32 := 0#32
  let v2602 : BitVec 1 := Scalar.cmpi .sgt c128_i32_1956 c0_i32_1959
  let v2603 : BitVec 32 := Scalar.extui v2602
  let c0_i32_1960 : BitVec 32 := 0#32
  let v2604 : BitVec 1 := Scalar.cmpi .slt c128_i32_1956 c0_i32_1960
  let v2605 : BitVec 32 := Scalar.extui v2604
  let v2606 : BitVec 32 := Scalar.subi v2603 v2605
  let v2607 : BitVec 1 := Scalar.cmpi .ne v2601 v2606
  let v2608 : BitVec 32 := Scalar.remsi v2595 c128_i32_1956
  let c0_i32_1961 : BitVec 32 := 0#32
  let v2609 : BitVec 1 := Scalar.cmpi .ne v2608 c0_i32_1961
  let v2610 : BitVec 1 := Scalar.andi v2607 v2609
  let v2596 : BitVec 32 := Scalar.divsi v2595 c128_i32_1956
  let c1_i32_1962 : BitVec 32 := 1#32
  let v2611 : BitVec 32 := Scalar.subi v2596 c1_i32_1962
  let v2612 : BitVec 32 := Scalar.select v2610 v2611 v2596
  let c128_i32_1963 : BitVec 32 := 128#32
  let v2613 : BitVec 32 := Scalar.muli v2612 c128_i32_1963
  let v2614 : BitVec 32 := v2613
  ![0, v2614.toNat]

def k0_chk80 (v2595 : BitVec 32) : Prop :=
  (128 ∣ (k0_mult44 v2595).toNat) ∧
  (∀ a, (k0_off52 v2595) a + S64x128.size a ≤ S64x1000064.size a)
theorem k0_mult44_dvd : ∀ (v2595 : BitVec 32) (k0_hw80 : k0_chk80 v2595), 128 ∣ (k0_mult44 v2595).toNat := fun v2595 k0_hw80 => k0_hw80.1
theorem k0_off52_inb : ∀ (v2595 : BitVec 32) (k0_hw80 : k0_chk80 v2595), ∀ a, (k0_off52 v2595) a + S64x128.size a ≤ S64x1000064.size a := fun v2595 k0_hw80 => k0_hw80.2

def k0_chk81 (v5 : IVec S16 32) (v8 : IVec S16 32) (v11 : IVec S16 32) (v14 : IVec S16 32) (v2639 : IVec S16 32) : Prop :=
  (∀ a x, ((![v5, v2639] : Fin 2 → IVec S16 32) a x).toNat < S64x128.size a) ∧
  (∀ a x, ((![v8, v2639] : Fin 2 → IVec S16 32) a x).toNat < S64x128.size a) ∧
  (∀ a x, ((![v11, v2639] : Fin 2 → IVec S16 32) a x).toNat < S64x128.size a) ∧
  (∀ a x, ((![v14, v2639] : Fin 2 → IVec S16 32) a x).toNat < S64x128.size a)
theorem k0_idx145_inb : ∀ (v5 : IVec S16 32) (v8 : IVec S16 32) (v11 : IVec S16 32) (v14 : IVec S16 32) (v2639 : IVec S16 32) (k0_hw81 : k0_chk81 v5 v8 v11 v14 v2639), ∀ a x, ((![v5, v2639] : Fin 2 → IVec S16 32) a x).toNat < S64x128.size a := fun v5 v8 v11 v14 v2639 k0_hw81 => k0_hw81.1
theorem k0_idx146_inb : ∀ (v5 : IVec S16 32) (v8 : IVec S16 32) (v11 : IVec S16 32) (v14 : IVec S16 32) (v2639 : IVec S16 32) (k0_hw81 : k0_chk81 v5 v8 v11 v14 v2639), ∀ a x, ((![v8, v2639] : Fin 2 → IVec S16 32) a x).toNat < S64x128.size a := fun v5 v8 v11 v14 v2639 k0_hw81 => k0_hw81.2.1
theorem k0_idx147_inb : ∀ (v5 : IVec S16 32) (v8 : IVec S16 32) (v11 : IVec S16 32) (v14 : IVec S16 32) (v2639 : IVec S16 32) (k0_hw81 : k0_chk81 v5 v8 v11 v14 v2639), ∀ a x, ((![v11, v2639] : Fin 2 → IVec S16 32) a x).toNat < S64x128.size a := fun v5 v8 v11 v14 v2639 k0_hw81 => k0_hw81.2.2.1
theorem k0_idx148_inb : ∀ (v5 : IVec S16 32) (v8 : IVec S16 32) (v11 : IVec S16 32) (v14 : IVec S16 32) (v2639 : IVec S16 32) (k0_hw81 : k0_chk81 v5 v8 v11 v14 v2639), ∀ a x, ((![v14, v2639] : Fin 2 → IVec S16 32) a x).toNat < S64x128.size a := fun v5 v8 v11 v14 v2639 k0_hw81 => k0_hw81.2.2.2
def k0_mult45 (v2665 : BitVec 32) : BitVec 32 :=
  let c0_i32_2011 : BitVec 32 := 0#32
  let v2667 : BitVec 1 := Scalar.cmpi .sgt v2665 c0_i32_2011
  let v2668 : BitVec 32 := Scalar.extui v2667
  let c0_i32_2012 : BitVec 32 := 0#32
  let v2669 : BitVec 1 := Scalar.cmpi .slt v2665 c0_i32_2012
  let v2670 : BitVec 32 := Scalar.extui v2669
  let v2671 : BitVec 32 := Scalar.subi v2668 v2670
  let c128_i32_2010 : BitVec 32 := 128#32
  let c0_i32_2013 : BitVec 32 := 0#32
  let v2672 : BitVec 1 := Scalar.cmpi .sgt c128_i32_2010 c0_i32_2013
  let v2673 : BitVec 32 := Scalar.extui v2672
  let c0_i32_2014 : BitVec 32 := 0#32
  let v2674 : BitVec 1 := Scalar.cmpi .slt c128_i32_2010 c0_i32_2014
  let v2675 : BitVec 32 := Scalar.extui v2674
  let v2676 : BitVec 32 := Scalar.subi v2673 v2675
  let v2677 : BitVec 1 := Scalar.cmpi .ne v2671 v2676
  let v2678 : BitVec 32 := Scalar.remsi v2665 c128_i32_2010
  let c0_i32_2015 : BitVec 32 := 0#32
  let v2679 : BitVec 1 := Scalar.cmpi .ne v2678 c0_i32_2015
  let v2680 : BitVec 1 := Scalar.andi v2677 v2679
  let v2666 : BitVec 32 := Scalar.divsi v2665 c128_i32_2010
  let c1_i32_2016 : BitVec 32 := 1#32
  let v2681 : BitVec 32 := Scalar.subi v2666 c1_i32_2016
  let v2682 : BitVec 32 := Scalar.select v2680 v2681 v2666
  let c128_i32_2017 : BitVec 32 := 128#32
  let v2683 : BitVec 32 := Scalar.muli v2682 c128_i32_2017
  v2683

def k0_off53 (v2665 : BitVec 32) : Fin 2 → Nat :=
  let c0_i32_2021 : BitVec 32 := 0#32
  let c0_i32_2011 : BitVec 32 := 0#32
  let v2667 : BitVec 1 := Scalar.cmpi .sgt v2665 c0_i32_2011
  let v2668 : BitVec 32 := Scalar.extui v2667
  let c0_i32_2012 : BitVec 32 := 0#32
  let v2669 : BitVec 1 := Scalar.cmpi .slt v2665 c0_i32_2012
  let v2670 : BitVec 32 := Scalar.extui v2669
  let v2671 : BitVec 32 := Scalar.subi v2668 v2670
  let c128_i32_2010 : BitVec 32 := 128#32
  let c0_i32_2013 : BitVec 32 := 0#32
  let v2672 : BitVec 1 := Scalar.cmpi .sgt c128_i32_2010 c0_i32_2013
  let v2673 : BitVec 32 := Scalar.extui v2672
  let c0_i32_2014 : BitVec 32 := 0#32
  let v2674 : BitVec 1 := Scalar.cmpi .slt c128_i32_2010 c0_i32_2014
  let v2675 : BitVec 32 := Scalar.extui v2674
  let v2676 : BitVec 32 := Scalar.subi v2673 v2675
  let v2677 : BitVec 1 := Scalar.cmpi .ne v2671 v2676
  let v2678 : BitVec 32 := Scalar.remsi v2665 c128_i32_2010
  let c0_i32_2015 : BitVec 32 := 0#32
  let v2679 : BitVec 1 := Scalar.cmpi .ne v2678 c0_i32_2015
  let v2680 : BitVec 1 := Scalar.andi v2677 v2679
  let v2666 : BitVec 32 := Scalar.divsi v2665 c128_i32_2010
  let c1_i32_2016 : BitVec 32 := 1#32
  let v2681 : BitVec 32 := Scalar.subi v2666 c1_i32_2016
  let v2682 : BitVec 32 := Scalar.select v2680 v2681 v2666
  let c128_i32_2017 : BitVec 32 := 128#32
  let v2683 : BitVec 32 := Scalar.muli v2682 c128_i32_2017
  let v2684 : BitVec 32 := v2683
  ![0, v2684.toNat]

def k0_chk82 (v2665 : BitVec 32) : Prop :=
  (128 ∣ (k0_mult45 v2665).toNat) ∧
  (∀ a, (k0_off53 v2665) a + S64x128.size a ≤ S64x1000064.size a)
theorem k0_mult45_dvd : ∀ (v2665 : BitVec 32) (k0_hw82 : k0_chk82 v2665), 128 ∣ (k0_mult45 v2665).toNat := fun v2665 k0_hw82 => k0_hw82.1
theorem k0_off53_inb : ∀ (v2665 : BitVec 32) (k0_hw82 : k0_chk82 v2665), ∀ a, (k0_off53 v2665) a + S64x128.size a ≤ S64x1000064.size a := fun v2665 k0_hw82 => k0_hw82.2

def k0_chk83 (v5 : IVec S16 32) (v8 : IVec S16 32) (v11 : IVec S16 32) (v14 : IVec S16 32) (v2709 : IVec S16 32) : Prop :=
  (∀ a x, ((![v5, v2709] : Fin 2 → IVec S16 32) a x).toNat < S64x128.size a) ∧
  (∀ a x, ((![v8, v2709] : Fin 2 → IVec S16 32) a x).toNat < S64x128.size a) ∧
  (∀ a x, ((![v11, v2709] : Fin 2 → IVec S16 32) a x).toNat < S64x128.size a) ∧
  (∀ a x, ((![v14, v2709] : Fin 2 → IVec S16 32) a x).toNat < S64x128.size a)
theorem k0_idx149_inb : ∀ (v5 : IVec S16 32) (v8 : IVec S16 32) (v11 : IVec S16 32) (v14 : IVec S16 32) (v2709 : IVec S16 32) (k0_hw83 : k0_chk83 v5 v8 v11 v14 v2709), ∀ a x, ((![v5, v2709] : Fin 2 → IVec S16 32) a x).toNat < S64x128.size a := fun v5 v8 v11 v14 v2709 k0_hw83 => k0_hw83.1
theorem k0_idx150_inb : ∀ (v5 : IVec S16 32) (v8 : IVec S16 32) (v11 : IVec S16 32) (v14 : IVec S16 32) (v2709 : IVec S16 32) (k0_hw83 : k0_chk83 v5 v8 v11 v14 v2709), ∀ a x, ((![v8, v2709] : Fin 2 → IVec S16 32) a x).toNat < S64x128.size a := fun v5 v8 v11 v14 v2709 k0_hw83 => k0_hw83.2.1
theorem k0_idx151_inb : ∀ (v5 : IVec S16 32) (v8 : IVec S16 32) (v11 : IVec S16 32) (v14 : IVec S16 32) (v2709 : IVec S16 32) (k0_hw83 : k0_chk83 v5 v8 v11 v14 v2709), ∀ a x, ((![v11, v2709] : Fin 2 → IVec S16 32) a x).toNat < S64x128.size a := fun v5 v8 v11 v14 v2709 k0_hw83 => k0_hw83.2.2.1
theorem k0_idx152_inb : ∀ (v5 : IVec S16 32) (v8 : IVec S16 32) (v11 : IVec S16 32) (v14 : IVec S16 32) (v2709 : IVec S16 32) (k0_hw83 : k0_chk83 v5 v8 v11 v14 v2709), ∀ a x, ((![v14, v2709] : Fin 2 → IVec S16 32) a x).toNat < S64x128.size a := fun v5 v8 v11 v14 v2709 k0_hw83 => k0_hw83.2.2.2
def k0_mult46 (v2735 : BitVec 32) : BitVec 32 :=
  let c0_i32_2065 : BitVec 32 := 0#32
  let v2737 : BitVec 1 := Scalar.cmpi .sgt v2735 c0_i32_2065
  let v2738 : BitVec 32 := Scalar.extui v2737
  let c0_i32_2066 : BitVec 32 := 0#32
  let v2739 : BitVec 1 := Scalar.cmpi .slt v2735 c0_i32_2066
  let v2740 : BitVec 32 := Scalar.extui v2739
  let v2741 : BitVec 32 := Scalar.subi v2738 v2740
  let c128_i32_2064 : BitVec 32 := 128#32
  let c0_i32_2067 : BitVec 32 := 0#32
  let v2742 : BitVec 1 := Scalar.cmpi .sgt c128_i32_2064 c0_i32_2067
  let v2743 : BitVec 32 := Scalar.extui v2742
  let c0_i32_2068 : BitVec 32 := 0#32
  let v2744 : BitVec 1 := Scalar.cmpi .slt c128_i32_2064 c0_i32_2068
  let v2745 : BitVec 32 := Scalar.extui v2744
  let v2746 : BitVec 32 := Scalar.subi v2743 v2745
  let v2747 : BitVec 1 := Scalar.cmpi .ne v2741 v2746
  let v2748 : BitVec 32 := Scalar.remsi v2735 c128_i32_2064
  let c0_i32_2069 : BitVec 32 := 0#32
  let v2749 : BitVec 1 := Scalar.cmpi .ne v2748 c0_i32_2069
  let v2750 : BitVec 1 := Scalar.andi v2747 v2749
  let v2736 : BitVec 32 := Scalar.divsi v2735 c128_i32_2064
  let c1_i32_2070 : BitVec 32 := 1#32
  let v2751 : BitVec 32 := Scalar.subi v2736 c1_i32_2070
  let v2752 : BitVec 32 := Scalar.select v2750 v2751 v2736
  let c128_i32_2071 : BitVec 32 := 128#32
  let v2753 : BitVec 32 := Scalar.muli v2752 c128_i32_2071
  v2753

def k0_off54 (v2735 : BitVec 32) : Fin 2 → Nat :=
  let c0_i32_2075 : BitVec 32 := 0#32
  let c0_i32_2065 : BitVec 32 := 0#32
  let v2737 : BitVec 1 := Scalar.cmpi .sgt v2735 c0_i32_2065
  let v2738 : BitVec 32 := Scalar.extui v2737
  let c0_i32_2066 : BitVec 32 := 0#32
  let v2739 : BitVec 1 := Scalar.cmpi .slt v2735 c0_i32_2066
  let v2740 : BitVec 32 := Scalar.extui v2739
  let v2741 : BitVec 32 := Scalar.subi v2738 v2740
  let c128_i32_2064 : BitVec 32 := 128#32
  let c0_i32_2067 : BitVec 32 := 0#32
  let v2742 : BitVec 1 := Scalar.cmpi .sgt c128_i32_2064 c0_i32_2067
  let v2743 : BitVec 32 := Scalar.extui v2742
  let c0_i32_2068 : BitVec 32 := 0#32
  let v2744 : BitVec 1 := Scalar.cmpi .slt c128_i32_2064 c0_i32_2068
  let v2745 : BitVec 32 := Scalar.extui v2744
  let v2746 : BitVec 32 := Scalar.subi v2743 v2745
  let v2747 : BitVec 1 := Scalar.cmpi .ne v2741 v2746
  let v2748 : BitVec 32 := Scalar.remsi v2735 c128_i32_2064
  let c0_i32_2069 : BitVec 32 := 0#32
  let v2749 : BitVec 1 := Scalar.cmpi .ne v2748 c0_i32_2069
  let v2750 : BitVec 1 := Scalar.andi v2747 v2749
  let v2736 : BitVec 32 := Scalar.divsi v2735 c128_i32_2064
  let c1_i32_2070 : BitVec 32 := 1#32
  let v2751 : BitVec 32 := Scalar.subi v2736 c1_i32_2070
  let v2752 : BitVec 32 := Scalar.select v2750 v2751 v2736
  let c128_i32_2071 : BitVec 32 := 128#32
  let v2753 : BitVec 32 := Scalar.muli v2752 c128_i32_2071
  let v2754 : BitVec 32 := v2753
  ![0, v2754.toNat]

def k0_chk84 (v2735 : BitVec 32) : Prop :=
  (128 ∣ (k0_mult46 v2735).toNat) ∧
  (∀ a, (k0_off54 v2735) a + S64x128.size a ≤ S64x1000064.size a)
theorem k0_mult46_dvd : ∀ (v2735 : BitVec 32) (k0_hw84 : k0_chk84 v2735), 128 ∣ (k0_mult46 v2735).toNat := fun v2735 k0_hw84 => k0_hw84.1
theorem k0_off54_inb : ∀ (v2735 : BitVec 32) (k0_hw84 : k0_chk84 v2735), ∀ a, (k0_off54 v2735) a + S64x128.size a ≤ S64x1000064.size a := fun v2735 k0_hw84 => k0_hw84.2

def k0_chk85 (v5 : IVec S16 32) (v8 : IVec S16 32) (v11 : IVec S16 32) (v14 : IVec S16 32) (v2779 : IVec S16 32) : Prop :=
  (∀ a x, ((![v5, v2779] : Fin 2 → IVec S16 32) a x).toNat < S64x128.size a) ∧
  (∀ a x, ((![v8, v2779] : Fin 2 → IVec S16 32) a x).toNat < S64x128.size a) ∧
  (∀ a x, ((![v11, v2779] : Fin 2 → IVec S16 32) a x).toNat < S64x128.size a) ∧
  (∀ a x, ((![v14, v2779] : Fin 2 → IVec S16 32) a x).toNat < S64x128.size a)
theorem k0_idx153_inb : ∀ (v5 : IVec S16 32) (v8 : IVec S16 32) (v11 : IVec S16 32) (v14 : IVec S16 32) (v2779 : IVec S16 32) (k0_hw85 : k0_chk85 v5 v8 v11 v14 v2779), ∀ a x, ((![v5, v2779] : Fin 2 → IVec S16 32) a x).toNat < S64x128.size a := fun v5 v8 v11 v14 v2779 k0_hw85 => k0_hw85.1
theorem k0_idx154_inb : ∀ (v5 : IVec S16 32) (v8 : IVec S16 32) (v11 : IVec S16 32) (v14 : IVec S16 32) (v2779 : IVec S16 32) (k0_hw85 : k0_chk85 v5 v8 v11 v14 v2779), ∀ a x, ((![v8, v2779] : Fin 2 → IVec S16 32) a x).toNat < S64x128.size a := fun v5 v8 v11 v14 v2779 k0_hw85 => k0_hw85.2.1
theorem k0_idx155_inb : ∀ (v5 : IVec S16 32) (v8 : IVec S16 32) (v11 : IVec S16 32) (v14 : IVec S16 32) (v2779 : IVec S16 32) (k0_hw85 : k0_chk85 v5 v8 v11 v14 v2779), ∀ a x, ((![v11, v2779] : Fin 2 → IVec S16 32) a x).toNat < S64x128.size a := fun v5 v8 v11 v14 v2779 k0_hw85 => k0_hw85.2.2.1
theorem k0_idx156_inb : ∀ (v5 : IVec S16 32) (v8 : IVec S16 32) (v11 : IVec S16 32) (v14 : IVec S16 32) (v2779 : IVec S16 32) (k0_hw85 : k0_chk85 v5 v8 v11 v14 v2779), ∀ a x, ((![v14, v2779] : Fin 2 → IVec S16 32) a x).toNat < S64x128.size a := fun v5 v8 v11 v14 v2779 k0_hw85 => k0_hw85.2.2.2
def k0_mult47 (v2805 : BitVec 32) : BitVec 32 :=
  let c0_i32_2119 : BitVec 32 := 0#32
  let v2807 : BitVec 1 := Scalar.cmpi .sgt v2805 c0_i32_2119
  let v2808 : BitVec 32 := Scalar.extui v2807
  let c0_i32_2120 : BitVec 32 := 0#32
  let v2809 : BitVec 1 := Scalar.cmpi .slt v2805 c0_i32_2120
  let v2810 : BitVec 32 := Scalar.extui v2809
  let v2811 : BitVec 32 := Scalar.subi v2808 v2810
  let c128_i32_2118 : BitVec 32 := 128#32
  let c0_i32_2121 : BitVec 32 := 0#32
  let v2812 : BitVec 1 := Scalar.cmpi .sgt c128_i32_2118 c0_i32_2121
  let v2813 : BitVec 32 := Scalar.extui v2812
  let c0_i32_2122 : BitVec 32 := 0#32
  let v2814 : BitVec 1 := Scalar.cmpi .slt c128_i32_2118 c0_i32_2122
  let v2815 : BitVec 32 := Scalar.extui v2814
  let v2816 : BitVec 32 := Scalar.subi v2813 v2815
  let v2817 : BitVec 1 := Scalar.cmpi .ne v2811 v2816
  let v2818 : BitVec 32 := Scalar.remsi v2805 c128_i32_2118
  let c0_i32_2123 : BitVec 32 := 0#32
  let v2819 : BitVec 1 := Scalar.cmpi .ne v2818 c0_i32_2123
  let v2820 : BitVec 1 := Scalar.andi v2817 v2819
  let v2806 : BitVec 32 := Scalar.divsi v2805 c128_i32_2118
  let c1_i32_2124 : BitVec 32 := 1#32
  let v2821 : BitVec 32 := Scalar.subi v2806 c1_i32_2124
  let v2822 : BitVec 32 := Scalar.select v2820 v2821 v2806
  let c128_i32_2125 : BitVec 32 := 128#32
  let v2823 : BitVec 32 := Scalar.muli v2822 c128_i32_2125
  v2823

def k0_off55 (v2805 : BitVec 32) : Fin 2 → Nat :=
  let c0_i32_2129 : BitVec 32 := 0#32
  let c0_i32_2119 : BitVec 32 := 0#32
  let v2807 : BitVec 1 := Scalar.cmpi .sgt v2805 c0_i32_2119
  let v2808 : BitVec 32 := Scalar.extui v2807
  let c0_i32_2120 : BitVec 32 := 0#32
  let v2809 : BitVec 1 := Scalar.cmpi .slt v2805 c0_i32_2120
  let v2810 : BitVec 32 := Scalar.extui v2809
  let v2811 : BitVec 32 := Scalar.subi v2808 v2810
  let c128_i32_2118 : BitVec 32 := 128#32
  let c0_i32_2121 : BitVec 32 := 0#32
  let v2812 : BitVec 1 := Scalar.cmpi .sgt c128_i32_2118 c0_i32_2121
  let v2813 : BitVec 32 := Scalar.extui v2812
  let c0_i32_2122 : BitVec 32 := 0#32
  let v2814 : BitVec 1 := Scalar.cmpi .slt c128_i32_2118 c0_i32_2122
  let v2815 : BitVec 32 := Scalar.extui v2814
  let v2816 : BitVec 32 := Scalar.subi v2813 v2815
  let v2817 : BitVec 1 := Scalar.cmpi .ne v2811 v2816
  let v2818 : BitVec 32 := Scalar.remsi v2805 c128_i32_2118
  let c0_i32_2123 : BitVec 32 := 0#32
  let v2819 : BitVec 1 := Scalar.cmpi .ne v2818 c0_i32_2123
  let v2820 : BitVec 1 := Scalar.andi v2817 v2819
  let v2806 : BitVec 32 := Scalar.divsi v2805 c128_i32_2118
  let c1_i32_2124 : BitVec 32 := 1#32
  let v2821 : BitVec 32 := Scalar.subi v2806 c1_i32_2124
  let v2822 : BitVec 32 := Scalar.select v2820 v2821 v2806
  let c128_i32_2125 : BitVec 32 := 128#32
  let v2823 : BitVec 32 := Scalar.muli v2822 c128_i32_2125
  let v2824 : BitVec 32 := v2823
  ![0, v2824.toNat]

def k0_chk86 (v2805 : BitVec 32) : Prop :=
  (128 ∣ (k0_mult47 v2805).toNat) ∧
  (∀ a, (k0_off55 v2805) a + S64x128.size a ≤ S64x1000064.size a)
theorem k0_mult47_dvd : ∀ (v2805 : BitVec 32) (k0_hw86 : k0_chk86 v2805), 128 ∣ (k0_mult47 v2805).toNat := fun v2805 k0_hw86 => k0_hw86.1
theorem k0_off55_inb : ∀ (v2805 : BitVec 32) (k0_hw86 : k0_chk86 v2805), ∀ a, (k0_off55 v2805) a + S64x128.size a ≤ S64x1000064.size a := fun v2805 k0_hw86 => k0_hw86.2

def k0_chk87 (v5 : IVec S16 32) (v8 : IVec S16 32) (v11 : IVec S16 32) (v14 : IVec S16 32) (v2849 : IVec S16 32) : Prop :=
  (∀ a x, ((![v5, v2849] : Fin 2 → IVec S16 32) a x).toNat < S64x128.size a) ∧
  (∀ a x, ((![v8, v2849] : Fin 2 → IVec S16 32) a x).toNat < S64x128.size a) ∧
  (∀ a x, ((![v11, v2849] : Fin 2 → IVec S16 32) a x).toNat < S64x128.size a) ∧
  (∀ a x, ((![v14, v2849] : Fin 2 → IVec S16 32) a x).toNat < S64x128.size a)
theorem k0_idx157_inb : ∀ (v5 : IVec S16 32) (v8 : IVec S16 32) (v11 : IVec S16 32) (v14 : IVec S16 32) (v2849 : IVec S16 32) (k0_hw87 : k0_chk87 v5 v8 v11 v14 v2849), ∀ a x, ((![v5, v2849] : Fin 2 → IVec S16 32) a x).toNat < S64x128.size a := fun v5 v8 v11 v14 v2849 k0_hw87 => k0_hw87.1
theorem k0_idx158_inb : ∀ (v5 : IVec S16 32) (v8 : IVec S16 32) (v11 : IVec S16 32) (v14 : IVec S16 32) (v2849 : IVec S16 32) (k0_hw87 : k0_chk87 v5 v8 v11 v14 v2849), ∀ a x, ((![v8, v2849] : Fin 2 → IVec S16 32) a x).toNat < S64x128.size a := fun v5 v8 v11 v14 v2849 k0_hw87 => k0_hw87.2.1
theorem k0_idx159_inb : ∀ (v5 : IVec S16 32) (v8 : IVec S16 32) (v11 : IVec S16 32) (v14 : IVec S16 32) (v2849 : IVec S16 32) (k0_hw87 : k0_chk87 v5 v8 v11 v14 v2849), ∀ a x, ((![v11, v2849] : Fin 2 → IVec S16 32) a x).toNat < S64x128.size a := fun v5 v8 v11 v14 v2849 k0_hw87 => k0_hw87.2.2.1
theorem k0_idx160_inb : ∀ (v5 : IVec S16 32) (v8 : IVec S16 32) (v11 : IVec S16 32) (v14 : IVec S16 32) (v2849 : IVec S16 32) (k0_hw87 : k0_chk87 v5 v8 v11 v14 v2849), ∀ a x, ((![v14, v2849] : Fin 2 → IVec S16 32) a x).toNat < S64x128.size a := fun v5 v8 v11 v14 v2849 k0_hw87 => k0_hw87.2.2.2
def k0_mult48 (v2875 : BitVec 32) : BitVec 32 :=
  let c0_i32_2173 : BitVec 32 := 0#32
  let v2877 : BitVec 1 := Scalar.cmpi .sgt v2875 c0_i32_2173
  let v2878 : BitVec 32 := Scalar.extui v2877
  let c0_i32_2174 : BitVec 32 := 0#32
  let v2879 : BitVec 1 := Scalar.cmpi .slt v2875 c0_i32_2174
  let v2880 : BitVec 32 := Scalar.extui v2879
  let v2881 : BitVec 32 := Scalar.subi v2878 v2880
  let c128_i32_2172 : BitVec 32 := 128#32
  let c0_i32_2175 : BitVec 32 := 0#32
  let v2882 : BitVec 1 := Scalar.cmpi .sgt c128_i32_2172 c0_i32_2175
  let v2883 : BitVec 32 := Scalar.extui v2882
  let c0_i32_2176 : BitVec 32 := 0#32
  let v2884 : BitVec 1 := Scalar.cmpi .slt c128_i32_2172 c0_i32_2176
  let v2885 : BitVec 32 := Scalar.extui v2884
  let v2886 : BitVec 32 := Scalar.subi v2883 v2885
  let v2887 : BitVec 1 := Scalar.cmpi .ne v2881 v2886
  let v2888 : BitVec 32 := Scalar.remsi v2875 c128_i32_2172
  let c0_i32_2177 : BitVec 32 := 0#32
  let v2889 : BitVec 1 := Scalar.cmpi .ne v2888 c0_i32_2177
  let v2890 : BitVec 1 := Scalar.andi v2887 v2889
  let v2876 : BitVec 32 := Scalar.divsi v2875 c128_i32_2172
  let c1_i32_2178 : BitVec 32 := 1#32
  let v2891 : BitVec 32 := Scalar.subi v2876 c1_i32_2178
  let v2892 : BitVec 32 := Scalar.select v2890 v2891 v2876
  let c128_i32_2179 : BitVec 32 := 128#32
  let v2893 : BitVec 32 := Scalar.muli v2892 c128_i32_2179
  v2893

def k0_off56 (v2875 : BitVec 32) : Fin 2 → Nat :=
  let c0_i32_2183 : BitVec 32 := 0#32
  let c0_i32_2173 : BitVec 32 := 0#32
  let v2877 : BitVec 1 := Scalar.cmpi .sgt v2875 c0_i32_2173
  let v2878 : BitVec 32 := Scalar.extui v2877
  let c0_i32_2174 : BitVec 32 := 0#32
  let v2879 : BitVec 1 := Scalar.cmpi .slt v2875 c0_i32_2174
  let v2880 : BitVec 32 := Scalar.extui v2879
  let v2881 : BitVec 32 := Scalar.subi v2878 v2880
  let c128_i32_2172 : BitVec 32 := 128#32
  let c0_i32_2175 : BitVec 32 := 0#32
  let v2882 : BitVec 1 := Scalar.cmpi .sgt c128_i32_2172 c0_i32_2175
  let v2883 : BitVec 32 := Scalar.extui v2882
  let c0_i32_2176 : BitVec 32 := 0#32
  let v2884 : BitVec 1 := Scalar.cmpi .slt c128_i32_2172 c0_i32_2176
  let v2885 : BitVec 32 := Scalar.extui v2884
  let v2886 : BitVec 32 := Scalar.subi v2883 v2885
  let v2887 : BitVec 1 := Scalar.cmpi .ne v2881 v2886
  let v2888 : BitVec 32 := Scalar.remsi v2875 c128_i32_2172
  let c0_i32_2177 : BitVec 32 := 0#32
  let v2889 : BitVec 1 := Scalar.cmpi .ne v2888 c0_i32_2177
  let v2890 : BitVec 1 := Scalar.andi v2887 v2889
  let v2876 : BitVec 32 := Scalar.divsi v2875 c128_i32_2172
  let c1_i32_2178 : BitVec 32 := 1#32
  let v2891 : BitVec 32 := Scalar.subi v2876 c1_i32_2178
  let v2892 : BitVec 32 := Scalar.select v2890 v2891 v2876
  let c128_i32_2179 : BitVec 32 := 128#32
  let v2893 : BitVec 32 := Scalar.muli v2892 c128_i32_2179
  let v2894 : BitVec 32 := v2893
  ![0, v2894.toNat]

def k0_chk88 (v2875 : BitVec 32) : Prop :=
  (128 ∣ (k0_mult48 v2875).toNat) ∧
  (∀ a, (k0_off56 v2875) a + S64x128.size a ≤ S64x1000064.size a)
theorem k0_mult48_dvd : ∀ (v2875 : BitVec 32) (k0_hw88 : k0_chk88 v2875), 128 ∣ (k0_mult48 v2875).toNat := fun v2875 k0_hw88 => k0_hw88.1
theorem k0_off56_inb : ∀ (v2875 : BitVec 32) (k0_hw88 : k0_chk88 v2875), ∀ a, (k0_off56 v2875) a + S64x128.size a ≤ S64x1000064.size a := fun v2875 k0_hw88 => k0_hw88.2

def k0_chk89 (v5 : IVec S16 32) (v8 : IVec S16 32) (v11 : IVec S16 32) (v14 : IVec S16 32) (v2919 : IVec S16 32) : Prop :=
  (∀ a x, ((![v5, v2919] : Fin 2 → IVec S16 32) a x).toNat < S64x128.size a) ∧
  (∀ a x, ((![v8, v2919] : Fin 2 → IVec S16 32) a x).toNat < S64x128.size a) ∧
  (∀ a x, ((![v11, v2919] : Fin 2 → IVec S16 32) a x).toNat < S64x128.size a) ∧
  (∀ a x, ((![v14, v2919] : Fin 2 → IVec S16 32) a x).toNat < S64x128.size a)
theorem k0_idx161_inb : ∀ (v5 : IVec S16 32) (v8 : IVec S16 32) (v11 : IVec S16 32) (v14 : IVec S16 32) (v2919 : IVec S16 32) (k0_hw89 : k0_chk89 v5 v8 v11 v14 v2919), ∀ a x, ((![v5, v2919] : Fin 2 → IVec S16 32) a x).toNat < S64x128.size a := fun v5 v8 v11 v14 v2919 k0_hw89 => k0_hw89.1
theorem k0_idx162_inb : ∀ (v5 : IVec S16 32) (v8 : IVec S16 32) (v11 : IVec S16 32) (v14 : IVec S16 32) (v2919 : IVec S16 32) (k0_hw89 : k0_chk89 v5 v8 v11 v14 v2919), ∀ a x, ((![v8, v2919] : Fin 2 → IVec S16 32) a x).toNat < S64x128.size a := fun v5 v8 v11 v14 v2919 k0_hw89 => k0_hw89.2.1
theorem k0_idx163_inb : ∀ (v5 : IVec S16 32) (v8 : IVec S16 32) (v11 : IVec S16 32) (v14 : IVec S16 32) (v2919 : IVec S16 32) (k0_hw89 : k0_chk89 v5 v8 v11 v14 v2919), ∀ a x, ((![v11, v2919] : Fin 2 → IVec S16 32) a x).toNat < S64x128.size a := fun v5 v8 v11 v14 v2919 k0_hw89 => k0_hw89.2.2.1
theorem k0_idx164_inb : ∀ (v5 : IVec S16 32) (v8 : IVec S16 32) (v11 : IVec S16 32) (v14 : IVec S16 32) (v2919 : IVec S16 32) (k0_hw89 : k0_chk89 v5 v8 v11 v14 v2919), ∀ a x, ((![v14, v2919] : Fin 2 → IVec S16 32) a x).toNat < S64x128.size a := fun v5 v8 v11 v14 v2919 k0_hw89 => k0_hw89.2.2.2
def k0_mult49 (v2945 : BitVec 32) : BitVec 32 :=
  let c0_i32_2227 : BitVec 32 := 0#32
  let v2947 : BitVec 1 := Scalar.cmpi .sgt v2945 c0_i32_2227
  let v2948 : BitVec 32 := Scalar.extui v2947
  let c0_i32_2228 : BitVec 32 := 0#32
  let v2949 : BitVec 1 := Scalar.cmpi .slt v2945 c0_i32_2228
  let v2950 : BitVec 32 := Scalar.extui v2949
  let v2951 : BitVec 32 := Scalar.subi v2948 v2950
  let c128_i32_2226 : BitVec 32 := 128#32
  let c0_i32_2229 : BitVec 32 := 0#32
  let v2952 : BitVec 1 := Scalar.cmpi .sgt c128_i32_2226 c0_i32_2229
  let v2953 : BitVec 32 := Scalar.extui v2952
  let c0_i32_2230 : BitVec 32 := 0#32
  let v2954 : BitVec 1 := Scalar.cmpi .slt c128_i32_2226 c0_i32_2230
  let v2955 : BitVec 32 := Scalar.extui v2954
  let v2956 : BitVec 32 := Scalar.subi v2953 v2955
  let v2957 : BitVec 1 := Scalar.cmpi .ne v2951 v2956
  let v2958 : BitVec 32 := Scalar.remsi v2945 c128_i32_2226
  let c0_i32_2231 : BitVec 32 := 0#32
  let v2959 : BitVec 1 := Scalar.cmpi .ne v2958 c0_i32_2231
  let v2960 : BitVec 1 := Scalar.andi v2957 v2959
  let v2946 : BitVec 32 := Scalar.divsi v2945 c128_i32_2226
  let c1_i32_2232 : BitVec 32 := 1#32
  let v2961 : BitVec 32 := Scalar.subi v2946 c1_i32_2232
  let v2962 : BitVec 32 := Scalar.select v2960 v2961 v2946
  let c128_i32_2233 : BitVec 32 := 128#32
  let v2963 : BitVec 32 := Scalar.muli v2962 c128_i32_2233
  v2963

def k0_off57 (v2945 : BitVec 32) : Fin 2 → Nat :=
  let c0_i32_2237 : BitVec 32 := 0#32
  let c0_i32_2227 : BitVec 32 := 0#32
  let v2947 : BitVec 1 := Scalar.cmpi .sgt v2945 c0_i32_2227
  let v2948 : BitVec 32 := Scalar.extui v2947
  let c0_i32_2228 : BitVec 32 := 0#32
  let v2949 : BitVec 1 := Scalar.cmpi .slt v2945 c0_i32_2228
  let v2950 : BitVec 32 := Scalar.extui v2949
  let v2951 : BitVec 32 := Scalar.subi v2948 v2950
  let c128_i32_2226 : BitVec 32 := 128#32
  let c0_i32_2229 : BitVec 32 := 0#32
  let v2952 : BitVec 1 := Scalar.cmpi .sgt c128_i32_2226 c0_i32_2229
  let v2953 : BitVec 32 := Scalar.extui v2952
  let c0_i32_2230 : BitVec 32 := 0#32
  let v2954 : BitVec 1 := Scalar.cmpi .slt c128_i32_2226 c0_i32_2230
  let v2955 : BitVec 32 := Scalar.extui v2954
  let v2956 : BitVec 32 := Scalar.subi v2953 v2955
  let v2957 : BitVec 1 := Scalar.cmpi .ne v2951 v2956
  let v2958 : BitVec 32 := Scalar.remsi v2945 c128_i32_2226
  let c0_i32_2231 : BitVec 32 := 0#32
  let v2959 : BitVec 1 := Scalar.cmpi .ne v2958 c0_i32_2231
  let v2960 : BitVec 1 := Scalar.andi v2957 v2959
  let v2946 : BitVec 32 := Scalar.divsi v2945 c128_i32_2226
  let c1_i32_2232 : BitVec 32 := 1#32
  let v2961 : BitVec 32 := Scalar.subi v2946 c1_i32_2232
  let v2962 : BitVec 32 := Scalar.select v2960 v2961 v2946
  let c128_i32_2233 : BitVec 32 := 128#32
  let v2963 : BitVec 32 := Scalar.muli v2962 c128_i32_2233
  let v2964 : BitVec 32 := v2963
  ![0, v2964.toNat]

def k0_chk90 (v2945 : BitVec 32) : Prop :=
  (128 ∣ (k0_mult49 v2945).toNat) ∧
  (∀ a, (k0_off57 v2945) a + S64x128.size a ≤ S64x1000064.size a)
theorem k0_mult49_dvd : ∀ (v2945 : BitVec 32) (k0_hw90 : k0_chk90 v2945), 128 ∣ (k0_mult49 v2945).toNat := fun v2945 k0_hw90 => k0_hw90.1
theorem k0_off57_inb : ∀ (v2945 : BitVec 32) (k0_hw90 : k0_chk90 v2945), ∀ a, (k0_off57 v2945) a + S64x128.size a ≤ S64x1000064.size a := fun v2945 k0_hw90 => k0_hw90.2

def k0_chk91 (v5 : IVec S16 32) (v8 : IVec S16 32) (v11 : IVec S16 32) (v14 : IVec S16 32) (v2989 : IVec S16 32) : Prop :=
  (∀ a x, ((![v5, v2989] : Fin 2 → IVec S16 32) a x).toNat < S64x128.size a) ∧
  (∀ a x, ((![v8, v2989] : Fin 2 → IVec S16 32) a x).toNat < S64x128.size a) ∧
  (∀ a x, ((![v11, v2989] : Fin 2 → IVec S16 32) a x).toNat < S64x128.size a) ∧
  (∀ a x, ((![v14, v2989] : Fin 2 → IVec S16 32) a x).toNat < S64x128.size a)
theorem k0_idx165_inb : ∀ (v5 : IVec S16 32) (v8 : IVec S16 32) (v11 : IVec S16 32) (v14 : IVec S16 32) (v2989 : IVec S16 32) (k0_hw91 : k0_chk91 v5 v8 v11 v14 v2989), ∀ a x, ((![v5, v2989] : Fin 2 → IVec S16 32) a x).toNat < S64x128.size a := fun v5 v8 v11 v14 v2989 k0_hw91 => k0_hw91.1
theorem k0_idx166_inb : ∀ (v5 : IVec S16 32) (v8 : IVec S16 32) (v11 : IVec S16 32) (v14 : IVec S16 32) (v2989 : IVec S16 32) (k0_hw91 : k0_chk91 v5 v8 v11 v14 v2989), ∀ a x, ((![v8, v2989] : Fin 2 → IVec S16 32) a x).toNat < S64x128.size a := fun v5 v8 v11 v14 v2989 k0_hw91 => k0_hw91.2.1
theorem k0_idx167_inb : ∀ (v5 : IVec S16 32) (v8 : IVec S16 32) (v11 : IVec S16 32) (v14 : IVec S16 32) (v2989 : IVec S16 32) (k0_hw91 : k0_chk91 v5 v8 v11 v14 v2989), ∀ a x, ((![v11, v2989] : Fin 2 → IVec S16 32) a x).toNat < S64x128.size a := fun v5 v8 v11 v14 v2989 k0_hw91 => k0_hw91.2.2.1
theorem k0_idx168_inb : ∀ (v5 : IVec S16 32) (v8 : IVec S16 32) (v11 : IVec S16 32) (v14 : IVec S16 32) (v2989 : IVec S16 32) (k0_hw91 : k0_chk91 v5 v8 v11 v14 v2989), ∀ a x, ((![v14, v2989] : Fin 2 → IVec S16 32) a x).toNat < S64x128.size a := fun v5 v8 v11 v14 v2989 k0_hw91 => k0_hw91.2.2.2
def k0_mult50 (v3015 : BitVec 32) : BitVec 32 :=
  let c0_i32_2281 : BitVec 32 := 0#32
  let v3017 : BitVec 1 := Scalar.cmpi .sgt v3015 c0_i32_2281
  let v3018 : BitVec 32 := Scalar.extui v3017
  let c0_i32_2282 : BitVec 32 := 0#32
  let v3019 : BitVec 1 := Scalar.cmpi .slt v3015 c0_i32_2282
  let v3020 : BitVec 32 := Scalar.extui v3019
  let v3021 : BitVec 32 := Scalar.subi v3018 v3020
  let c128_i32_2280 : BitVec 32 := 128#32
  let c0_i32_2283 : BitVec 32 := 0#32
  let v3022 : BitVec 1 := Scalar.cmpi .sgt c128_i32_2280 c0_i32_2283
  let v3023 : BitVec 32 := Scalar.extui v3022
  let c0_i32_2284 : BitVec 32 := 0#32
  let v3024 : BitVec 1 := Scalar.cmpi .slt c128_i32_2280 c0_i32_2284
  let v3025 : BitVec 32 := Scalar.extui v3024
  let v3026 : BitVec 32 := Scalar.subi v3023 v3025
  let v3027 : BitVec 1 := Scalar.cmpi .ne v3021 v3026
  let v3028 : BitVec 32 := Scalar.remsi v3015 c128_i32_2280
  let c0_i32_2285 : BitVec 32 := 0#32
  let v3029 : BitVec 1 := Scalar.cmpi .ne v3028 c0_i32_2285
  let v3030 : BitVec 1 := Scalar.andi v3027 v3029
  let v3016 : BitVec 32 := Scalar.divsi v3015 c128_i32_2280
  let c1_i32_2286 : BitVec 32 := 1#32
  let v3031 : BitVec 32 := Scalar.subi v3016 c1_i32_2286
  let v3032 : BitVec 32 := Scalar.select v3030 v3031 v3016
  let c128_i32_2287 : BitVec 32 := 128#32
  let v3033 : BitVec 32 := Scalar.muli v3032 c128_i32_2287
  v3033

def k0_off58 (v3015 : BitVec 32) : Fin 2 → Nat :=
  let c0_i32_2291 : BitVec 32 := 0#32
  let c0_i32_2281 : BitVec 32 := 0#32
  let v3017 : BitVec 1 := Scalar.cmpi .sgt v3015 c0_i32_2281
  let v3018 : BitVec 32 := Scalar.extui v3017
  let c0_i32_2282 : BitVec 32 := 0#32
  let v3019 : BitVec 1 := Scalar.cmpi .slt v3015 c0_i32_2282
  let v3020 : BitVec 32 := Scalar.extui v3019
  let v3021 : BitVec 32 := Scalar.subi v3018 v3020
  let c128_i32_2280 : BitVec 32 := 128#32
  let c0_i32_2283 : BitVec 32 := 0#32
  let v3022 : BitVec 1 := Scalar.cmpi .sgt c128_i32_2280 c0_i32_2283
  let v3023 : BitVec 32 := Scalar.extui v3022
  let c0_i32_2284 : BitVec 32 := 0#32
  let v3024 : BitVec 1 := Scalar.cmpi .slt c128_i32_2280 c0_i32_2284
  let v3025 : BitVec 32 := Scalar.extui v3024
  let v3026 : BitVec 32 := Scalar.subi v3023 v3025
  let v3027 : BitVec 1 := Scalar.cmpi .ne v3021 v3026
  let v3028 : BitVec 32 := Scalar.remsi v3015 c128_i32_2280
  let c0_i32_2285 : BitVec 32 := 0#32
  let v3029 : BitVec 1 := Scalar.cmpi .ne v3028 c0_i32_2285
  let v3030 : BitVec 1 := Scalar.andi v3027 v3029
  let v3016 : BitVec 32 := Scalar.divsi v3015 c128_i32_2280
  let c1_i32_2286 : BitVec 32 := 1#32
  let v3031 : BitVec 32 := Scalar.subi v3016 c1_i32_2286
  let v3032 : BitVec 32 := Scalar.select v3030 v3031 v3016
  let c128_i32_2287 : BitVec 32 := 128#32
  let v3033 : BitVec 32 := Scalar.muli v3032 c128_i32_2287
  let v3034 : BitVec 32 := v3033
  ![0, v3034.toNat]

def k0_chk92 (v3015 : BitVec 32) : Prop :=
  (128 ∣ (k0_mult50 v3015).toNat) ∧
  (∀ a, (k0_off58 v3015) a + S64x128.size a ≤ S64x1000064.size a)
theorem k0_mult50_dvd : ∀ (v3015 : BitVec 32) (k0_hw92 : k0_chk92 v3015), 128 ∣ (k0_mult50 v3015).toNat := fun v3015 k0_hw92 => k0_hw92.1
theorem k0_off58_inb : ∀ (v3015 : BitVec 32) (k0_hw92 : k0_chk92 v3015), ∀ a, (k0_off58 v3015) a + S64x128.size a ≤ S64x1000064.size a := fun v3015 k0_hw92 => k0_hw92.2

def k0_chk93 (v5 : IVec S16 32) (v8 : IVec S16 32) (v11 : IVec S16 32) (v14 : IVec S16 32) (v3059 : IVec S16 32) : Prop :=
  (∀ a x, ((![v5, v3059] : Fin 2 → IVec S16 32) a x).toNat < S64x128.size a) ∧
  (∀ a x, ((![v8, v3059] : Fin 2 → IVec S16 32) a x).toNat < S64x128.size a) ∧
  (∀ a x, ((![v11, v3059] : Fin 2 → IVec S16 32) a x).toNat < S64x128.size a) ∧
  (∀ a x, ((![v14, v3059] : Fin 2 → IVec S16 32) a x).toNat < S64x128.size a)
theorem k0_idx169_inb : ∀ (v5 : IVec S16 32) (v8 : IVec S16 32) (v11 : IVec S16 32) (v14 : IVec S16 32) (v3059 : IVec S16 32) (k0_hw93 : k0_chk93 v5 v8 v11 v14 v3059), ∀ a x, ((![v5, v3059] : Fin 2 → IVec S16 32) a x).toNat < S64x128.size a := fun v5 v8 v11 v14 v3059 k0_hw93 => k0_hw93.1
theorem k0_idx170_inb : ∀ (v5 : IVec S16 32) (v8 : IVec S16 32) (v11 : IVec S16 32) (v14 : IVec S16 32) (v3059 : IVec S16 32) (k0_hw93 : k0_chk93 v5 v8 v11 v14 v3059), ∀ a x, ((![v8, v3059] : Fin 2 → IVec S16 32) a x).toNat < S64x128.size a := fun v5 v8 v11 v14 v3059 k0_hw93 => k0_hw93.2.1
theorem k0_idx171_inb : ∀ (v5 : IVec S16 32) (v8 : IVec S16 32) (v11 : IVec S16 32) (v14 : IVec S16 32) (v3059 : IVec S16 32) (k0_hw93 : k0_chk93 v5 v8 v11 v14 v3059), ∀ a x, ((![v11, v3059] : Fin 2 → IVec S16 32) a x).toNat < S64x128.size a := fun v5 v8 v11 v14 v3059 k0_hw93 => k0_hw93.2.2.1
theorem k0_idx172_inb : ∀ (v5 : IVec S16 32) (v8 : IVec S16 32) (v11 : IVec S16 32) (v14 : IVec S16 32) (v3059 : IVec S16 32) (k0_hw93 : k0_chk93 v5 v8 v11 v14 v3059), ∀ a x, ((![v14, v3059] : Fin 2 → IVec S16 32) a x).toNat < S64x128.size a := fun v5 v8 v11 v14 v3059 k0_hw93 => k0_hw93.2.2.2
def k0_mult51 (v3085 : BitVec 32) : BitVec 32 :=
  let c0_i32_2335 : BitVec 32 := 0#32
  let v3087 : BitVec 1 := Scalar.cmpi .sgt v3085 c0_i32_2335
  let v3088 : BitVec 32 := Scalar.extui v3087
  let c0_i32_2336 : BitVec 32 := 0#32
  let v3089 : BitVec 1 := Scalar.cmpi .slt v3085 c0_i32_2336
  let v3090 : BitVec 32 := Scalar.extui v3089
  let v3091 : BitVec 32 := Scalar.subi v3088 v3090
  let c128_i32_2334 : BitVec 32 := 128#32
  let c0_i32_2337 : BitVec 32 := 0#32
  let v3092 : BitVec 1 := Scalar.cmpi .sgt c128_i32_2334 c0_i32_2337
  let v3093 : BitVec 32 := Scalar.extui v3092
  let c0_i32_2338 : BitVec 32 := 0#32
  let v3094 : BitVec 1 := Scalar.cmpi .slt c128_i32_2334 c0_i32_2338
  let v3095 : BitVec 32 := Scalar.extui v3094
  let v3096 : BitVec 32 := Scalar.subi v3093 v3095
  let v3097 : BitVec 1 := Scalar.cmpi .ne v3091 v3096
  let v3098 : BitVec 32 := Scalar.remsi v3085 c128_i32_2334
  let c0_i32_2339 : BitVec 32 := 0#32
  let v3099 : BitVec 1 := Scalar.cmpi .ne v3098 c0_i32_2339
  let v3100 : BitVec 1 := Scalar.andi v3097 v3099
  let v3086 : BitVec 32 := Scalar.divsi v3085 c128_i32_2334
  let c1_i32_2340 : BitVec 32 := 1#32
  let v3101 : BitVec 32 := Scalar.subi v3086 c1_i32_2340
  let v3102 : BitVec 32 := Scalar.select v3100 v3101 v3086
  let c128_i32_2341 : BitVec 32 := 128#32
  let v3103 : BitVec 32 := Scalar.muli v3102 c128_i32_2341
  v3103

def k0_off59 (v3085 : BitVec 32) : Fin 2 → Nat :=
  let c0_i32_2345 : BitVec 32 := 0#32
  let c0_i32_2335 : BitVec 32 := 0#32
  let v3087 : BitVec 1 := Scalar.cmpi .sgt v3085 c0_i32_2335
  let v3088 : BitVec 32 := Scalar.extui v3087
  let c0_i32_2336 : BitVec 32 := 0#32
  let v3089 : BitVec 1 := Scalar.cmpi .slt v3085 c0_i32_2336
  let v3090 : BitVec 32 := Scalar.extui v3089
  let v3091 : BitVec 32 := Scalar.subi v3088 v3090
  let c128_i32_2334 : BitVec 32 := 128#32
  let c0_i32_2337 : BitVec 32 := 0#32
  let v3092 : BitVec 1 := Scalar.cmpi .sgt c128_i32_2334 c0_i32_2337
  let v3093 : BitVec 32 := Scalar.extui v3092
  let c0_i32_2338 : BitVec 32 := 0#32
  let v3094 : BitVec 1 := Scalar.cmpi .slt c128_i32_2334 c0_i32_2338
  let v3095 : BitVec 32 := Scalar.extui v3094
  let v3096 : BitVec 32 := Scalar.subi v3093 v3095
  let v3097 : BitVec 1 := Scalar.cmpi .ne v3091 v3096
  let v3098 : BitVec 32 := Scalar.remsi v3085 c128_i32_2334
  let c0_i32_2339 : BitVec 32 := 0#32
  let v3099 : BitVec 1 := Scalar.cmpi .ne v3098 c0_i32_2339
  let v3100 : BitVec 1 := Scalar.andi v3097 v3099
  let v3086 : BitVec 32 := Scalar.divsi v3085 c128_i32_2334
  let c1_i32_2340 : BitVec 32 := 1#32
  let v3101 : BitVec 32 := Scalar.subi v3086 c1_i32_2340
  let v3102 : BitVec 32 := Scalar.select v3100 v3101 v3086
  let c128_i32_2341 : BitVec 32 := 128#32
  let v3103 : BitVec 32 := Scalar.muli v3102 c128_i32_2341
  let v3104 : BitVec 32 := v3103
  ![0, v3104.toNat]

def k0_chk94 (v3085 : BitVec 32) : Prop :=
  (128 ∣ (k0_mult51 v3085).toNat) ∧
  (∀ a, (k0_off59 v3085) a + S64x128.size a ≤ S64x1000064.size a)
theorem k0_mult51_dvd : ∀ (v3085 : BitVec 32) (k0_hw94 : k0_chk94 v3085), 128 ∣ (k0_mult51 v3085).toNat := fun v3085 k0_hw94 => k0_hw94.1
theorem k0_off59_inb : ∀ (v3085 : BitVec 32) (k0_hw94 : k0_chk94 v3085), ∀ a, (k0_off59 v3085) a + S64x128.size a ≤ S64x1000064.size a := fun v3085 k0_hw94 => k0_hw94.2

def k0_chk95 (v5 : IVec S16 32) (v8 : IVec S16 32) (v11 : IVec S16 32) (v14 : IVec S16 32) (v3129 : IVec S16 32) : Prop :=
  (∀ a x, ((![v5, v3129] : Fin 2 → IVec S16 32) a x).toNat < S64x128.size a) ∧
  (∀ a x, ((![v8, v3129] : Fin 2 → IVec S16 32) a x).toNat < S64x128.size a) ∧
  (∀ a x, ((![v11, v3129] : Fin 2 → IVec S16 32) a x).toNat < S64x128.size a) ∧
  (∀ a x, ((![v14, v3129] : Fin 2 → IVec S16 32) a x).toNat < S64x128.size a)
theorem k0_idx173_inb : ∀ (v5 : IVec S16 32) (v8 : IVec S16 32) (v11 : IVec S16 32) (v14 : IVec S16 32) (v3129 : IVec S16 32) (k0_hw95 : k0_chk95 v5 v8 v11 v14 v3129), ∀ a x, ((![v5, v3129] : Fin 2 → IVec S16 32) a x).toNat < S64x128.size a := fun v5 v8 v11 v14 v3129 k0_hw95 => k0_hw95.1
theorem k0_idx174_inb : ∀ (v5 : IVec S16 32) (v8 : IVec S16 32) (v11 : IVec S16 32) (v14 : IVec S16 32) (v3129 : IVec S16 32) (k0_hw95 : k0_chk95 v5 v8 v11 v14 v3129), ∀ a x, ((![v8, v3129] : Fin 2 → IVec S16 32) a x).toNat < S64x128.size a := fun v5 v8 v11 v14 v3129 k0_hw95 => k0_hw95.2.1
theorem k0_idx175_inb : ∀ (v5 : IVec S16 32) (v8 : IVec S16 32) (v11 : IVec S16 32) (v14 : IVec S16 32) (v3129 : IVec S16 32) (k0_hw95 : k0_chk95 v5 v8 v11 v14 v3129), ∀ a x, ((![v11, v3129] : Fin 2 → IVec S16 32) a x).toNat < S64x128.size a := fun v5 v8 v11 v14 v3129 k0_hw95 => k0_hw95.2.2.1
theorem k0_idx176_inb : ∀ (v5 : IVec S16 32) (v8 : IVec S16 32) (v11 : IVec S16 32) (v14 : IVec S16 32) (v3129 : IVec S16 32) (k0_hw95 : k0_chk95 v5 v8 v11 v14 v3129), ∀ a x, ((![v14, v3129] : Fin 2 → IVec S16 32) a x).toNat < S64x128.size a := fun v5 v8 v11 v14 v3129 k0_hw95 => k0_hw95.2.2.2
def k0_mult52 (v3155 : BitVec 32) : BitVec 32 :=
  let c0_i32_2389 : BitVec 32 := 0#32
  let v3157 : BitVec 1 := Scalar.cmpi .sgt v3155 c0_i32_2389
  let v3158 : BitVec 32 := Scalar.extui v3157
  let c0_i32_2390 : BitVec 32 := 0#32
  let v3159 : BitVec 1 := Scalar.cmpi .slt v3155 c0_i32_2390
  let v3160 : BitVec 32 := Scalar.extui v3159
  let v3161 : BitVec 32 := Scalar.subi v3158 v3160
  let c128_i32_2388 : BitVec 32 := 128#32
  let c0_i32_2391 : BitVec 32 := 0#32
  let v3162 : BitVec 1 := Scalar.cmpi .sgt c128_i32_2388 c0_i32_2391
  let v3163 : BitVec 32 := Scalar.extui v3162
  let c0_i32_2392 : BitVec 32 := 0#32
  let v3164 : BitVec 1 := Scalar.cmpi .slt c128_i32_2388 c0_i32_2392
  let v3165 : BitVec 32 := Scalar.extui v3164
  let v3166 : BitVec 32 := Scalar.subi v3163 v3165
  let v3167 : BitVec 1 := Scalar.cmpi .ne v3161 v3166
  let v3168 : BitVec 32 := Scalar.remsi v3155 c128_i32_2388
  let c0_i32_2393 : BitVec 32 := 0#32
  let v3169 : BitVec 1 := Scalar.cmpi .ne v3168 c0_i32_2393
  let v3170 : BitVec 1 := Scalar.andi v3167 v3169
  let v3156 : BitVec 32 := Scalar.divsi v3155 c128_i32_2388
  let c1_i32_2394 : BitVec 32 := 1#32
  let v3171 : BitVec 32 := Scalar.subi v3156 c1_i32_2394
  let v3172 : BitVec 32 := Scalar.select v3170 v3171 v3156
  let c128_i32_2395 : BitVec 32 := 128#32
  let v3173 : BitVec 32 := Scalar.muli v3172 c128_i32_2395
  v3173

def k0_off60 (v3155 : BitVec 32) : Fin 2 → Nat :=
  let c0_i32_2399 : BitVec 32 := 0#32
  let c0_i32_2389 : BitVec 32 := 0#32
  let v3157 : BitVec 1 := Scalar.cmpi .sgt v3155 c0_i32_2389
  let v3158 : BitVec 32 := Scalar.extui v3157
  let c0_i32_2390 : BitVec 32 := 0#32
  let v3159 : BitVec 1 := Scalar.cmpi .slt v3155 c0_i32_2390
  let v3160 : BitVec 32 := Scalar.extui v3159
  let v3161 : BitVec 32 := Scalar.subi v3158 v3160
  let c128_i32_2388 : BitVec 32 := 128#32
  let c0_i32_2391 : BitVec 32 := 0#32
  let v3162 : BitVec 1 := Scalar.cmpi .sgt c128_i32_2388 c0_i32_2391
  let v3163 : BitVec 32 := Scalar.extui v3162
  let c0_i32_2392 : BitVec 32 := 0#32
  let v3164 : BitVec 1 := Scalar.cmpi .slt c128_i32_2388 c0_i32_2392
  let v3165 : BitVec 32 := Scalar.extui v3164
  let v3166 : BitVec 32 := Scalar.subi v3163 v3165
  let v3167 : BitVec 1 := Scalar.cmpi .ne v3161 v3166
  let v3168 : BitVec 32 := Scalar.remsi v3155 c128_i32_2388
  let c0_i32_2393 : BitVec 32 := 0#32
  let v3169 : BitVec 1 := Scalar.cmpi .ne v3168 c0_i32_2393
  let v3170 : BitVec 1 := Scalar.andi v3167 v3169
  let v3156 : BitVec 32 := Scalar.divsi v3155 c128_i32_2388
  let c1_i32_2394 : BitVec 32 := 1#32
  let v3171 : BitVec 32 := Scalar.subi v3156 c1_i32_2394
  let v3172 : BitVec 32 := Scalar.select v3170 v3171 v3156
  let c128_i32_2395 : BitVec 32 := 128#32
  let v3173 : BitVec 32 := Scalar.muli v3172 c128_i32_2395
  let v3174 : BitVec 32 := v3173
  ![0, v3174.toNat]

def k0_chk96 (v3155 : BitVec 32) : Prop :=
  (128 ∣ (k0_mult52 v3155).toNat) ∧
  (∀ a, (k0_off60 v3155) a + S64x128.size a ≤ S64x1000064.size a)
theorem k0_mult52_dvd : ∀ (v3155 : BitVec 32) (k0_hw96 : k0_chk96 v3155), 128 ∣ (k0_mult52 v3155).toNat := fun v3155 k0_hw96 => k0_hw96.1
theorem k0_off60_inb : ∀ (v3155 : BitVec 32) (k0_hw96 : k0_chk96 v3155), ∀ a, (k0_off60 v3155) a + S64x128.size a ≤ S64x1000064.size a := fun v3155 k0_hw96 => k0_hw96.2

def k0_chk97 (v5 : IVec S16 32) (v8 : IVec S16 32) (v11 : IVec S16 32) (v14 : IVec S16 32) (v3199 : IVec S16 32) : Prop :=
  (∀ a x, ((![v5, v3199] : Fin 2 → IVec S16 32) a x).toNat < S64x128.size a) ∧
  (∀ a x, ((![v8, v3199] : Fin 2 → IVec S16 32) a x).toNat < S64x128.size a) ∧
  (∀ a x, ((![v11, v3199] : Fin 2 → IVec S16 32) a x).toNat < S64x128.size a) ∧
  (∀ a x, ((![v14, v3199] : Fin 2 → IVec S16 32) a x).toNat < S64x128.size a)
theorem k0_idx177_inb : ∀ (v5 : IVec S16 32) (v8 : IVec S16 32) (v11 : IVec S16 32) (v14 : IVec S16 32) (v3199 : IVec S16 32) (k0_hw97 : k0_chk97 v5 v8 v11 v14 v3199), ∀ a x, ((![v5, v3199] : Fin 2 → IVec S16 32) a x).toNat < S64x128.size a := fun v5 v8 v11 v14 v3199 k0_hw97 => k0_hw97.1
theorem k0_idx178_inb : ∀ (v5 : IVec S16 32) (v8 : IVec S16 32) (v11 : IVec S16 32) (v14 : IVec S16 32) (v3199 : IVec S16 32) (k0_hw97 : k0_chk97 v5 v8 v11 v14 v3199), ∀ a x, ((![v8, v3199] : Fin 2 → IVec S16 32) a x).toNat < S64x128.size a := fun v5 v8 v11 v14 v3199 k0_hw97 => k0_hw97.2.1
theorem k0_idx179_inb : ∀ (v5 : IVec S16 32) (v8 : IVec S16 32) (v11 : IVec S16 32) (v14 : IVec S16 32) (v3199 : IVec S16 32) (k0_hw97 : k0_chk97 v5 v8 v11 v14 v3199), ∀ a x, ((![v11, v3199] : Fin 2 → IVec S16 32) a x).toNat < S64x128.size a := fun v5 v8 v11 v14 v3199 k0_hw97 => k0_hw97.2.2.1
theorem k0_idx180_inb : ∀ (v5 : IVec S16 32) (v8 : IVec S16 32) (v11 : IVec S16 32) (v14 : IVec S16 32) (v3199 : IVec S16 32) (k0_hw97 : k0_chk97 v5 v8 v11 v14 v3199), ∀ a x, ((![v14, v3199] : Fin 2 → IVec S16 32) a x).toNat < S64x128.size a := fun v5 v8 v11 v14 v3199 k0_hw97 => k0_hw97.2.2.2
def k0_mult53 (v3225 : BitVec 32) : BitVec 32 :=
  let c0_i32_2443 : BitVec 32 := 0#32
  let v3227 : BitVec 1 := Scalar.cmpi .sgt v3225 c0_i32_2443
  let v3228 : BitVec 32 := Scalar.extui v3227
  let c0_i32_2444 : BitVec 32 := 0#32
  let v3229 : BitVec 1 := Scalar.cmpi .slt v3225 c0_i32_2444
  let v3230 : BitVec 32 := Scalar.extui v3229
  let v3231 : BitVec 32 := Scalar.subi v3228 v3230
  let c128_i32_2442 : BitVec 32 := 128#32
  let c0_i32_2445 : BitVec 32 := 0#32
  let v3232 : BitVec 1 := Scalar.cmpi .sgt c128_i32_2442 c0_i32_2445
  let v3233 : BitVec 32 := Scalar.extui v3232
  let c0_i32_2446 : BitVec 32 := 0#32
  let v3234 : BitVec 1 := Scalar.cmpi .slt c128_i32_2442 c0_i32_2446
  let v3235 : BitVec 32 := Scalar.extui v3234
  let v3236 : BitVec 32 := Scalar.subi v3233 v3235
  let v3237 : BitVec 1 := Scalar.cmpi .ne v3231 v3236
  let v3238 : BitVec 32 := Scalar.remsi v3225 c128_i32_2442
  let c0_i32_2447 : BitVec 32 := 0#32
  let v3239 : BitVec 1 := Scalar.cmpi .ne v3238 c0_i32_2447
  let v3240 : BitVec 1 := Scalar.andi v3237 v3239
  let v3226 : BitVec 32 := Scalar.divsi v3225 c128_i32_2442
  let c1_i32_2448 : BitVec 32 := 1#32
  let v3241 : BitVec 32 := Scalar.subi v3226 c1_i32_2448
  let v3242 : BitVec 32 := Scalar.select v3240 v3241 v3226
  let c128_i32_2449 : BitVec 32 := 128#32
  let v3243 : BitVec 32 := Scalar.muli v3242 c128_i32_2449
  v3243

def k0_off61 (v3225 : BitVec 32) : Fin 2 → Nat :=
  let c0_i32_2453 : BitVec 32 := 0#32
  let c0_i32_2443 : BitVec 32 := 0#32
  let v3227 : BitVec 1 := Scalar.cmpi .sgt v3225 c0_i32_2443
  let v3228 : BitVec 32 := Scalar.extui v3227
  let c0_i32_2444 : BitVec 32 := 0#32
  let v3229 : BitVec 1 := Scalar.cmpi .slt v3225 c0_i32_2444
  let v3230 : BitVec 32 := Scalar.extui v3229
  let v3231 : BitVec 32 := Scalar.subi v3228 v3230
  let c128_i32_2442 : BitVec 32 := 128#32
  let c0_i32_2445 : BitVec 32 := 0#32
  let v3232 : BitVec 1 := Scalar.cmpi .sgt c128_i32_2442 c0_i32_2445
  let v3233 : BitVec 32 := Scalar.extui v3232
  let c0_i32_2446 : BitVec 32 := 0#32
  let v3234 : BitVec 1 := Scalar.cmpi .slt c128_i32_2442 c0_i32_2446
  let v3235 : BitVec 32 := Scalar.extui v3234
  let v3236 : BitVec 32 := Scalar.subi v3233 v3235
  let v3237 : BitVec 1 := Scalar.cmpi .ne v3231 v3236
  let v3238 : BitVec 32 := Scalar.remsi v3225 c128_i32_2442
  let c0_i32_2447 : BitVec 32 := 0#32
  let v3239 : BitVec 1 := Scalar.cmpi .ne v3238 c0_i32_2447
  let v3240 : BitVec 1 := Scalar.andi v3237 v3239
  let v3226 : BitVec 32 := Scalar.divsi v3225 c128_i32_2442
  let c1_i32_2448 : BitVec 32 := 1#32
  let v3241 : BitVec 32 := Scalar.subi v3226 c1_i32_2448
  let v3242 : BitVec 32 := Scalar.select v3240 v3241 v3226
  let c128_i32_2449 : BitVec 32 := 128#32
  let v3243 : BitVec 32 := Scalar.muli v3242 c128_i32_2449
  let v3244 : BitVec 32 := v3243
  ![0, v3244.toNat]

def k0_chk98 (v3225 : BitVec 32) : Prop :=
  (128 ∣ (k0_mult53 v3225).toNat) ∧
  (∀ a, (k0_off61 v3225) a + S64x128.size a ≤ S64x1000064.size a)
theorem k0_mult53_dvd : ∀ (v3225 : BitVec 32) (k0_hw98 : k0_chk98 v3225), 128 ∣ (k0_mult53 v3225).toNat := fun v3225 k0_hw98 => k0_hw98.1
theorem k0_off61_inb : ∀ (v3225 : BitVec 32) (k0_hw98 : k0_chk98 v3225), ∀ a, (k0_off61 v3225) a + S64x128.size a ≤ S64x1000064.size a := fun v3225 k0_hw98 => k0_hw98.2

def k0_chk99 (v5 : IVec S16 32) (v8 : IVec S16 32) (v11 : IVec S16 32) (v14 : IVec S16 32) (v3269 : IVec S16 32) : Prop :=
  (∀ a x, ((![v5, v3269] : Fin 2 → IVec S16 32) a x).toNat < S64x128.size a) ∧
  (∀ a x, ((![v8, v3269] : Fin 2 → IVec S16 32) a x).toNat < S64x128.size a) ∧
  (∀ a x, ((![v11, v3269] : Fin 2 → IVec S16 32) a x).toNat < S64x128.size a) ∧
  (∀ a x, ((![v14, v3269] : Fin 2 → IVec S16 32) a x).toNat < S64x128.size a)
theorem k0_idx181_inb : ∀ (v5 : IVec S16 32) (v8 : IVec S16 32) (v11 : IVec S16 32) (v14 : IVec S16 32) (v3269 : IVec S16 32) (k0_hw99 : k0_chk99 v5 v8 v11 v14 v3269), ∀ a x, ((![v5, v3269] : Fin 2 → IVec S16 32) a x).toNat < S64x128.size a := fun v5 v8 v11 v14 v3269 k0_hw99 => k0_hw99.1
theorem k0_idx182_inb : ∀ (v5 : IVec S16 32) (v8 : IVec S16 32) (v11 : IVec S16 32) (v14 : IVec S16 32) (v3269 : IVec S16 32) (k0_hw99 : k0_chk99 v5 v8 v11 v14 v3269), ∀ a x, ((![v8, v3269] : Fin 2 → IVec S16 32) a x).toNat < S64x128.size a := fun v5 v8 v11 v14 v3269 k0_hw99 => k0_hw99.2.1
theorem k0_idx183_inb : ∀ (v5 : IVec S16 32) (v8 : IVec S16 32) (v11 : IVec S16 32) (v14 : IVec S16 32) (v3269 : IVec S16 32) (k0_hw99 : k0_chk99 v5 v8 v11 v14 v3269), ∀ a x, ((![v11, v3269] : Fin 2 → IVec S16 32) a x).toNat < S64x128.size a := fun v5 v8 v11 v14 v3269 k0_hw99 => k0_hw99.2.2.1
theorem k0_idx184_inb : ∀ (v5 : IVec S16 32) (v8 : IVec S16 32) (v11 : IVec S16 32) (v14 : IVec S16 32) (v3269 : IVec S16 32) (k0_hw99 : k0_chk99 v5 v8 v11 v14 v3269), ∀ a x, ((![v14, v3269] : Fin 2 → IVec S16 32) a x).toNat < S64x128.size a := fun v5 v8 v11 v14 v3269 k0_hw99 => k0_hw99.2.2.2
def k0_mult54 (v3295 : BitVec 32) : BitVec 32 :=
  let c0_i32_2497 : BitVec 32 := 0#32
  let v3297 : BitVec 1 := Scalar.cmpi .sgt v3295 c0_i32_2497
  let v3298 : BitVec 32 := Scalar.extui v3297
  let c0_i32_2498 : BitVec 32 := 0#32
  let v3299 : BitVec 1 := Scalar.cmpi .slt v3295 c0_i32_2498
  let v3300 : BitVec 32 := Scalar.extui v3299
  let v3301 : BitVec 32 := Scalar.subi v3298 v3300
  let c128_i32_2496 : BitVec 32 := 128#32
  let c0_i32_2499 : BitVec 32 := 0#32
  let v3302 : BitVec 1 := Scalar.cmpi .sgt c128_i32_2496 c0_i32_2499
  let v3303 : BitVec 32 := Scalar.extui v3302
  let c0_i32_2500 : BitVec 32 := 0#32
  let v3304 : BitVec 1 := Scalar.cmpi .slt c128_i32_2496 c0_i32_2500
  let v3305 : BitVec 32 := Scalar.extui v3304
  let v3306 : BitVec 32 := Scalar.subi v3303 v3305
  let v3307 : BitVec 1 := Scalar.cmpi .ne v3301 v3306
  let v3308 : BitVec 32 := Scalar.remsi v3295 c128_i32_2496
  let c0_i32_2501 : BitVec 32 := 0#32
  let v3309 : BitVec 1 := Scalar.cmpi .ne v3308 c0_i32_2501
  let v3310 : BitVec 1 := Scalar.andi v3307 v3309
  let v3296 : BitVec 32 := Scalar.divsi v3295 c128_i32_2496
  let c1_i32_2502 : BitVec 32 := 1#32
  let v3311 : BitVec 32 := Scalar.subi v3296 c1_i32_2502
  let v3312 : BitVec 32 := Scalar.select v3310 v3311 v3296
  let c128_i32_2503 : BitVec 32 := 128#32
  let v3313 : BitVec 32 := Scalar.muli v3312 c128_i32_2503
  v3313

def k0_off62 (v3295 : BitVec 32) : Fin 2 → Nat :=
  let c0_i32_2507 : BitVec 32 := 0#32
  let c0_i32_2497 : BitVec 32 := 0#32
  let v3297 : BitVec 1 := Scalar.cmpi .sgt v3295 c0_i32_2497
  let v3298 : BitVec 32 := Scalar.extui v3297
  let c0_i32_2498 : BitVec 32 := 0#32
  let v3299 : BitVec 1 := Scalar.cmpi .slt v3295 c0_i32_2498
  let v3300 : BitVec 32 := Scalar.extui v3299
  let v3301 : BitVec 32 := Scalar.subi v3298 v3300
  let c128_i32_2496 : BitVec 32 := 128#32
  let c0_i32_2499 : BitVec 32 := 0#32
  let v3302 : BitVec 1 := Scalar.cmpi .sgt c128_i32_2496 c0_i32_2499
  let v3303 : BitVec 32 := Scalar.extui v3302
  let c0_i32_2500 : BitVec 32 := 0#32
  let v3304 : BitVec 1 := Scalar.cmpi .slt c128_i32_2496 c0_i32_2500
  let v3305 : BitVec 32 := Scalar.extui v3304
  let v3306 : BitVec 32 := Scalar.subi v3303 v3305
  let v3307 : BitVec 1 := Scalar.cmpi .ne v3301 v3306
  let v3308 : BitVec 32 := Scalar.remsi v3295 c128_i32_2496
  let c0_i32_2501 : BitVec 32 := 0#32
  let v3309 : BitVec 1 := Scalar.cmpi .ne v3308 c0_i32_2501
  let v3310 : BitVec 1 := Scalar.andi v3307 v3309
  let v3296 : BitVec 32 := Scalar.divsi v3295 c128_i32_2496
  let c1_i32_2502 : BitVec 32 := 1#32
  let v3311 : BitVec 32 := Scalar.subi v3296 c1_i32_2502
  let v3312 : BitVec 32 := Scalar.select v3310 v3311 v3296
  let c128_i32_2503 : BitVec 32 := 128#32
  let v3313 : BitVec 32 := Scalar.muli v3312 c128_i32_2503
  let v3314 : BitVec 32 := v3313
  ![0, v3314.toNat]

def k0_chk100 (v3295 : BitVec 32) : Prop :=
  (128 ∣ (k0_mult54 v3295).toNat) ∧
  (∀ a, (k0_off62 v3295) a + S64x128.size a ≤ S64x1000064.size a)
theorem k0_mult54_dvd : ∀ (v3295 : BitVec 32) (k0_hw100 : k0_chk100 v3295), 128 ∣ (k0_mult54 v3295).toNat := fun v3295 k0_hw100 => k0_hw100.1
theorem k0_off62_inb : ∀ (v3295 : BitVec 32) (k0_hw100 : k0_chk100 v3295), ∀ a, (k0_off62 v3295) a + S64x128.size a ≤ S64x1000064.size a := fun v3295 k0_hw100 => k0_hw100.2

def k0_chk101 (v5 : IVec S16 32) (v8 : IVec S16 32) (v11 : IVec S16 32) (v14 : IVec S16 32) (v3339 : IVec S16 32) : Prop :=
  (∀ a x, ((![v5, v3339] : Fin 2 → IVec S16 32) a x).toNat < S64x128.size a) ∧
  (∀ a x, ((![v8, v3339] : Fin 2 → IVec S16 32) a x).toNat < S64x128.size a) ∧
  (∀ a x, ((![v11, v3339] : Fin 2 → IVec S16 32) a x).toNat < S64x128.size a) ∧
  (∀ a x, ((![v14, v3339] : Fin 2 → IVec S16 32) a x).toNat < S64x128.size a)
theorem k0_idx185_inb : ∀ (v5 : IVec S16 32) (v8 : IVec S16 32) (v11 : IVec S16 32) (v14 : IVec S16 32) (v3339 : IVec S16 32) (k0_hw101 : k0_chk101 v5 v8 v11 v14 v3339), ∀ a x, ((![v5, v3339] : Fin 2 → IVec S16 32) a x).toNat < S64x128.size a := fun v5 v8 v11 v14 v3339 k0_hw101 => k0_hw101.1
theorem k0_idx186_inb : ∀ (v5 : IVec S16 32) (v8 : IVec S16 32) (v11 : IVec S16 32) (v14 : IVec S16 32) (v3339 : IVec S16 32) (k0_hw101 : k0_chk101 v5 v8 v11 v14 v3339), ∀ a x, ((![v8, v3339] : Fin 2 → IVec S16 32) a x).toNat < S64x128.size a := fun v5 v8 v11 v14 v3339 k0_hw101 => k0_hw101.2.1
theorem k0_idx187_inb : ∀ (v5 : IVec S16 32) (v8 : IVec S16 32) (v11 : IVec S16 32) (v14 : IVec S16 32) (v3339 : IVec S16 32) (k0_hw101 : k0_chk101 v5 v8 v11 v14 v3339), ∀ a x, ((![v11, v3339] : Fin 2 → IVec S16 32) a x).toNat < S64x128.size a := fun v5 v8 v11 v14 v3339 k0_hw101 => k0_hw101.2.2.1
theorem k0_idx188_inb : ∀ (v5 : IVec S16 32) (v8 : IVec S16 32) (v11 : IVec S16 32) (v14 : IVec S16 32) (v3339 : IVec S16 32) (k0_hw101 : k0_chk101 v5 v8 v11 v14 v3339), ∀ a x, ((![v14, v3339] : Fin 2 → IVec S16 32) a x).toNat < S64x128.size a := fun v5 v8 v11 v14 v3339 k0_hw101 => k0_hw101.2.2.2
def k0_mult55 (v3365 : BitVec 32) : BitVec 32 :=
  let c0_i32_2551 : BitVec 32 := 0#32
  let v3367 : BitVec 1 := Scalar.cmpi .sgt v3365 c0_i32_2551
  let v3368 : BitVec 32 := Scalar.extui v3367
  let c0_i32_2552 : BitVec 32 := 0#32
  let v3369 : BitVec 1 := Scalar.cmpi .slt v3365 c0_i32_2552
  let v3370 : BitVec 32 := Scalar.extui v3369
  let v3371 : BitVec 32 := Scalar.subi v3368 v3370
  let c128_i32_2550 : BitVec 32 := 128#32
  let c0_i32_2553 : BitVec 32 := 0#32
  let v3372 : BitVec 1 := Scalar.cmpi .sgt c128_i32_2550 c0_i32_2553
  let v3373 : BitVec 32 := Scalar.extui v3372
  let c0_i32_2554 : BitVec 32 := 0#32
  let v3374 : BitVec 1 := Scalar.cmpi .slt c128_i32_2550 c0_i32_2554
  let v3375 : BitVec 32 := Scalar.extui v3374
  let v3376 : BitVec 32 := Scalar.subi v3373 v3375
  let v3377 : BitVec 1 := Scalar.cmpi .ne v3371 v3376
  let v3378 : BitVec 32 := Scalar.remsi v3365 c128_i32_2550
  let c0_i32_2555 : BitVec 32 := 0#32
  let v3379 : BitVec 1 := Scalar.cmpi .ne v3378 c0_i32_2555
  let v3380 : BitVec 1 := Scalar.andi v3377 v3379
  let v3366 : BitVec 32 := Scalar.divsi v3365 c128_i32_2550
  let c1_i32_2556 : BitVec 32 := 1#32
  let v3381 : BitVec 32 := Scalar.subi v3366 c1_i32_2556
  let v3382 : BitVec 32 := Scalar.select v3380 v3381 v3366
  let c128_i32_2557 : BitVec 32 := 128#32
  let v3383 : BitVec 32 := Scalar.muli v3382 c128_i32_2557
  v3383

def k0_off63 (v3365 : BitVec 32) : Fin 2 → Nat :=
  let c0_i32_2561 : BitVec 32 := 0#32
  let c0_i32_2551 : BitVec 32 := 0#32
  let v3367 : BitVec 1 := Scalar.cmpi .sgt v3365 c0_i32_2551
  let v3368 : BitVec 32 := Scalar.extui v3367
  let c0_i32_2552 : BitVec 32 := 0#32
  let v3369 : BitVec 1 := Scalar.cmpi .slt v3365 c0_i32_2552
  let v3370 : BitVec 32 := Scalar.extui v3369
  let v3371 : BitVec 32 := Scalar.subi v3368 v3370
  let c128_i32_2550 : BitVec 32 := 128#32
  let c0_i32_2553 : BitVec 32 := 0#32
  let v3372 : BitVec 1 := Scalar.cmpi .sgt c128_i32_2550 c0_i32_2553
  let v3373 : BitVec 32 := Scalar.extui v3372
  let c0_i32_2554 : BitVec 32 := 0#32
  let v3374 : BitVec 1 := Scalar.cmpi .slt c128_i32_2550 c0_i32_2554
  let v3375 : BitVec 32 := Scalar.extui v3374
  let v3376 : BitVec 32 := Scalar.subi v3373 v3375
  let v3377 : BitVec 1 := Scalar.cmpi .ne v3371 v3376
  let v3378 : BitVec 32 := Scalar.remsi v3365 c128_i32_2550
  let c0_i32_2555 : BitVec 32 := 0#32
  let v3379 : BitVec 1 := Scalar.cmpi .ne v3378 c0_i32_2555
  let v3380 : BitVec 1 := Scalar.andi v3377 v3379
  let v3366 : BitVec 32 := Scalar.divsi v3365 c128_i32_2550
  let c1_i32_2556 : BitVec 32 := 1#32
  let v3381 : BitVec 32 := Scalar.subi v3366 c1_i32_2556
  let v3382 : BitVec 32 := Scalar.select v3380 v3381 v3366
  let c128_i32_2557 : BitVec 32 := 128#32
  let v3383 : BitVec 32 := Scalar.muli v3382 c128_i32_2557
  let v3384 : BitVec 32 := v3383
  ![0, v3384.toNat]

def k0_chk102 (v3365 : BitVec 32) : Prop :=
  (128 ∣ (k0_mult55 v3365).toNat) ∧
  (∀ a, (k0_off63 v3365) a + S64x128.size a ≤ S64x1000064.size a)
theorem k0_mult55_dvd : ∀ (v3365 : BitVec 32) (k0_hw102 : k0_chk102 v3365), 128 ∣ (k0_mult55 v3365).toNat := fun v3365 k0_hw102 => k0_hw102.1
theorem k0_off63_inb : ∀ (v3365 : BitVec 32) (k0_hw102 : k0_chk102 v3365), ∀ a, (k0_off63 v3365) a + S64x128.size a ≤ S64x1000064.size a := fun v3365 k0_hw102 => k0_hw102.2

def k0_chk103 (v5 : IVec S16 32) (v8 : IVec S16 32) (v11 : IVec S16 32) (v14 : IVec S16 32) (v3409 : IVec S16 32) : Prop :=
  (∀ a x, ((![v5, v3409] : Fin 2 → IVec S16 32) a x).toNat < S64x128.size a) ∧
  (∀ a x, ((![v8, v3409] : Fin 2 → IVec S16 32) a x).toNat < S64x128.size a) ∧
  (∀ a x, ((![v11, v3409] : Fin 2 → IVec S16 32) a x).toNat < S64x128.size a) ∧
  (∀ a x, ((![v14, v3409] : Fin 2 → IVec S16 32) a x).toNat < S64x128.size a)
theorem k0_idx189_inb : ∀ (v5 : IVec S16 32) (v8 : IVec S16 32) (v11 : IVec S16 32) (v14 : IVec S16 32) (v3409 : IVec S16 32) (k0_hw103 : k0_chk103 v5 v8 v11 v14 v3409), ∀ a x, ((![v5, v3409] : Fin 2 → IVec S16 32) a x).toNat < S64x128.size a := fun v5 v8 v11 v14 v3409 k0_hw103 => k0_hw103.1
theorem k0_idx190_inb : ∀ (v5 : IVec S16 32) (v8 : IVec S16 32) (v11 : IVec S16 32) (v14 : IVec S16 32) (v3409 : IVec S16 32) (k0_hw103 : k0_chk103 v5 v8 v11 v14 v3409), ∀ a x, ((![v8, v3409] : Fin 2 → IVec S16 32) a x).toNat < S64x128.size a := fun v5 v8 v11 v14 v3409 k0_hw103 => k0_hw103.2.1
theorem k0_idx191_inb : ∀ (v5 : IVec S16 32) (v8 : IVec S16 32) (v11 : IVec S16 32) (v14 : IVec S16 32) (v3409 : IVec S16 32) (k0_hw103 : k0_chk103 v5 v8 v11 v14 v3409), ∀ a x, ((![v11, v3409] : Fin 2 → IVec S16 32) a x).toNat < S64x128.size a := fun v5 v8 v11 v14 v3409 k0_hw103 => k0_hw103.2.2.1
theorem k0_idx192_inb : ∀ (v5 : IVec S16 32) (v8 : IVec S16 32) (v11 : IVec S16 32) (v14 : IVec S16 32) (v3409 : IVec S16 32) (k0_hw103 : k0_chk103 v5 v8 v11 v14 v3409), ∀ a x, ((![v14, v3409] : Fin 2 → IVec S16 32) a x).toNat < S64x128.size a := fun v5 v8 v11 v14 v3409 k0_hw103 => k0_hw103.2.2.2
def k0_mult56 (v3435 : BitVec 32) : BitVec 32 :=
  let c0_i32_2605 : BitVec 32 := 0#32
  let v3437 : BitVec 1 := Scalar.cmpi .sgt v3435 c0_i32_2605
  let v3438 : BitVec 32 := Scalar.extui v3437
  let c0_i32_2606 : BitVec 32 := 0#32
  let v3439 : BitVec 1 := Scalar.cmpi .slt v3435 c0_i32_2606
  let v3440 : BitVec 32 := Scalar.extui v3439
  let v3441 : BitVec 32 := Scalar.subi v3438 v3440
  let c128_i32_2604 : BitVec 32 := 128#32
  let c0_i32_2607 : BitVec 32 := 0#32
  let v3442 : BitVec 1 := Scalar.cmpi .sgt c128_i32_2604 c0_i32_2607
  let v3443 : BitVec 32 := Scalar.extui v3442
  let c0_i32_2608 : BitVec 32 := 0#32
  let v3444 : BitVec 1 := Scalar.cmpi .slt c128_i32_2604 c0_i32_2608
  let v3445 : BitVec 32 := Scalar.extui v3444
  let v3446 : BitVec 32 := Scalar.subi v3443 v3445
  let v3447 : BitVec 1 := Scalar.cmpi .ne v3441 v3446
  let v3448 : BitVec 32 := Scalar.remsi v3435 c128_i32_2604
  let c0_i32_2609 : BitVec 32 := 0#32
  let v3449 : BitVec 1 := Scalar.cmpi .ne v3448 c0_i32_2609
  let v3450 : BitVec 1 := Scalar.andi v3447 v3449
  let v3436 : BitVec 32 := Scalar.divsi v3435 c128_i32_2604
  let c1_i32_2610 : BitVec 32 := 1#32
  let v3451 : BitVec 32 := Scalar.subi v3436 c1_i32_2610
  let v3452 : BitVec 32 := Scalar.select v3450 v3451 v3436
  let c128_i32_2611 : BitVec 32 := 128#32
  let v3453 : BitVec 32 := Scalar.muli v3452 c128_i32_2611
  v3453

def k0_off64 (v3435 : BitVec 32) : Fin 2 → Nat :=
  let c0_i32_2615 : BitVec 32 := 0#32
  let c0_i32_2605 : BitVec 32 := 0#32
  let v3437 : BitVec 1 := Scalar.cmpi .sgt v3435 c0_i32_2605
  let v3438 : BitVec 32 := Scalar.extui v3437
  let c0_i32_2606 : BitVec 32 := 0#32
  let v3439 : BitVec 1 := Scalar.cmpi .slt v3435 c0_i32_2606
  let v3440 : BitVec 32 := Scalar.extui v3439
  let v3441 : BitVec 32 := Scalar.subi v3438 v3440
  let c128_i32_2604 : BitVec 32 := 128#32
  let c0_i32_2607 : BitVec 32 := 0#32
  let v3442 : BitVec 1 := Scalar.cmpi .sgt c128_i32_2604 c0_i32_2607
  let v3443 : BitVec 32 := Scalar.extui v3442
  let c0_i32_2608 : BitVec 32 := 0#32
  let v3444 : BitVec 1 := Scalar.cmpi .slt c128_i32_2604 c0_i32_2608
  let v3445 : BitVec 32 := Scalar.extui v3444
  let v3446 : BitVec 32 := Scalar.subi v3443 v3445
  let v3447 : BitVec 1 := Scalar.cmpi .ne v3441 v3446
  let v3448 : BitVec 32 := Scalar.remsi v3435 c128_i32_2604
  let c0_i32_2609 : BitVec 32 := 0#32
  let v3449 : BitVec 1 := Scalar.cmpi .ne v3448 c0_i32_2609
  let v3450 : BitVec 1 := Scalar.andi v3447 v3449
  let v3436 : BitVec 32 := Scalar.divsi v3435 c128_i32_2604
  let c1_i32_2610 : BitVec 32 := 1#32
  let v3451 : BitVec 32 := Scalar.subi v3436 c1_i32_2610
  let v3452 : BitVec 32 := Scalar.select v3450 v3451 v3436
  let c128_i32_2611 : BitVec 32 := 128#32
  let v3453 : BitVec 32 := Scalar.muli v3452 c128_i32_2611
  let v3454 : BitVec 32 := v3453
  ![0, v3454.toNat]

def k0_chk104 (v3435 : BitVec 32) : Prop :=
  (128 ∣ (k0_mult56 v3435).toNat) ∧
  (∀ a, (k0_off64 v3435) a + S64x128.size a ≤ S64x1000064.size a)
theorem k0_mult56_dvd : ∀ (v3435 : BitVec 32) (k0_hw104 : k0_chk104 v3435), 128 ∣ (k0_mult56 v3435).toNat := fun v3435 k0_hw104 => k0_hw104.1
theorem k0_off64_inb : ∀ (v3435 : BitVec 32) (k0_hw104 : k0_chk104 v3435), ∀ a, (k0_off64 v3435) a + S64x128.size a ≤ S64x1000064.size a := fun v3435 k0_hw104 => k0_hw104.2

def k0_chk105 (v5 : IVec S16 32) (v8 : IVec S16 32) (v11 : IVec S16 32) (v14 : IVec S16 32) (v3480 : IVec S16 32) : Prop :=
  (∀ a x, ((![v5, v3480] : Fin 2 → IVec S16 32) a x).toNat < S64x128.size a) ∧
  (∀ a x, ((![v8, v3480] : Fin 2 → IVec S16 32) a x).toNat < S64x128.size a) ∧
  (∀ a x, ((![v11, v3480] : Fin 2 → IVec S16 32) a x).toNat < S64x128.size a) ∧
  (∀ a x, ((![v14, v3480] : Fin 2 → IVec S16 32) a x).toNat < S64x128.size a)
theorem k0_idx193_inb : ∀ (v5 : IVec S16 32) (v8 : IVec S16 32) (v11 : IVec S16 32) (v14 : IVec S16 32) (v3480 : IVec S16 32) (k0_hw105 : k0_chk105 v5 v8 v11 v14 v3480), ∀ a x, ((![v5, v3480] : Fin 2 → IVec S16 32) a x).toNat < S64x128.size a := fun v5 v8 v11 v14 v3480 k0_hw105 => k0_hw105.1
theorem k0_idx194_inb : ∀ (v5 : IVec S16 32) (v8 : IVec S16 32) (v11 : IVec S16 32) (v14 : IVec S16 32) (v3480 : IVec S16 32) (k0_hw105 : k0_chk105 v5 v8 v11 v14 v3480), ∀ a x, ((![v8, v3480] : Fin 2 → IVec S16 32) a x).toNat < S64x128.size a := fun v5 v8 v11 v14 v3480 k0_hw105 => k0_hw105.2.1
theorem k0_idx195_inb : ∀ (v5 : IVec S16 32) (v8 : IVec S16 32) (v11 : IVec S16 32) (v14 : IVec S16 32) (v3480 : IVec S16 32) (k0_hw105 : k0_chk105 v5 v8 v11 v14 v3480), ∀ a x, ((![v11, v3480] : Fin 2 → IVec S16 32) a x).toNat < S64x128.size a := fun v5 v8 v11 v14 v3480 k0_hw105 => k0_hw105.2.2.1
theorem k0_idx196_inb : ∀ (v5 : IVec S16 32) (v8 : IVec S16 32) (v11 : IVec S16 32) (v14 : IVec S16 32) (v3480 : IVec S16 32) (k0_hw105 : k0_chk105 v5 v8 v11 v14 v3480), ∀ a x, ((![v14, v3480] : Fin 2 → IVec S16 32) a x).toNat < S64x128.size a := fun v5 v8 v11 v14 v3480 k0_hw105 => k0_hw105.2.2.2
def k0_mult57 (v3506 : BitVec 32) : BitVec 32 :=
  let c0_i32_2660 : BitVec 32 := 0#32
  let v3508 : BitVec 1 := Scalar.cmpi .sgt v3506 c0_i32_2660
  let v3509 : BitVec 32 := Scalar.extui v3508
  let c0_i32_2661 : BitVec 32 := 0#32
  let v3510 : BitVec 1 := Scalar.cmpi .slt v3506 c0_i32_2661
  let v3511 : BitVec 32 := Scalar.extui v3510
  let v3512 : BitVec 32 := Scalar.subi v3509 v3511
  let c128_i32_2659 : BitVec 32 := 128#32
  let c0_i32_2662 : BitVec 32 := 0#32
  let v3513 : BitVec 1 := Scalar.cmpi .sgt c128_i32_2659 c0_i32_2662
  let v3514 : BitVec 32 := Scalar.extui v3513
  let c0_i32_2663 : BitVec 32 := 0#32
  let v3515 : BitVec 1 := Scalar.cmpi .slt c128_i32_2659 c0_i32_2663
  let v3516 : BitVec 32 := Scalar.extui v3515
  let v3517 : BitVec 32 := Scalar.subi v3514 v3516
  let v3518 : BitVec 1 := Scalar.cmpi .ne v3512 v3517
  let v3519 : BitVec 32 := Scalar.remsi v3506 c128_i32_2659
  let c0_i32_2664 : BitVec 32 := 0#32
  let v3520 : BitVec 1 := Scalar.cmpi .ne v3519 c0_i32_2664
  let v3521 : BitVec 1 := Scalar.andi v3518 v3520
  let v3507 : BitVec 32 := Scalar.divsi v3506 c128_i32_2659
  let c1_i32_2665 : BitVec 32 := 1#32
  let v3522 : BitVec 32 := Scalar.subi v3507 c1_i32_2665
  let v3523 : BitVec 32 := Scalar.select v3521 v3522 v3507
  let c128_i32_2666 : BitVec 32 := 128#32
  let v3524 : BitVec 32 := Scalar.muli v3523 c128_i32_2666
  v3524

def k0_off65 (v3506 : BitVec 32) : Fin 2 → Nat :=
  let c0_i32_2670 : BitVec 32 := 0#32
  let c0_i32_2660 : BitVec 32 := 0#32
  let v3508 : BitVec 1 := Scalar.cmpi .sgt v3506 c0_i32_2660
  let v3509 : BitVec 32 := Scalar.extui v3508
  let c0_i32_2661 : BitVec 32 := 0#32
  let v3510 : BitVec 1 := Scalar.cmpi .slt v3506 c0_i32_2661
  let v3511 : BitVec 32 := Scalar.extui v3510
  let v3512 : BitVec 32 := Scalar.subi v3509 v3511
  let c128_i32_2659 : BitVec 32 := 128#32
  let c0_i32_2662 : BitVec 32 := 0#32
  let v3513 : BitVec 1 := Scalar.cmpi .sgt c128_i32_2659 c0_i32_2662
  let v3514 : BitVec 32 := Scalar.extui v3513
  let c0_i32_2663 : BitVec 32 := 0#32
  let v3515 : BitVec 1 := Scalar.cmpi .slt c128_i32_2659 c0_i32_2663
  let v3516 : BitVec 32 := Scalar.extui v3515
  let v3517 : BitVec 32 := Scalar.subi v3514 v3516
  let v3518 : BitVec 1 := Scalar.cmpi .ne v3512 v3517
  let v3519 : BitVec 32 := Scalar.remsi v3506 c128_i32_2659
  let c0_i32_2664 : BitVec 32 := 0#32
  let v3520 : BitVec 1 := Scalar.cmpi .ne v3519 c0_i32_2664
  let v3521 : BitVec 1 := Scalar.andi v3518 v3520
  let v3507 : BitVec 32 := Scalar.divsi v3506 c128_i32_2659
  let c1_i32_2665 : BitVec 32 := 1#32
  let v3522 : BitVec 32 := Scalar.subi v3507 c1_i32_2665
  let v3523 : BitVec 32 := Scalar.select v3521 v3522 v3507
  let c128_i32_2666 : BitVec 32 := 128#32
  let v3524 : BitVec 32 := Scalar.muli v3523 c128_i32_2666
  let v3525 : BitVec 32 := v3524
  ![0, v3525.toNat]

def k0_chk106 (v3506 : BitVec 32) : Prop :=
  (128 ∣ (k0_mult57 v3506).toNat) ∧
  (∀ a, (k0_off65 v3506) a + S64x128.size a ≤ S64x1000064.size a)
theorem k0_mult57_dvd : ∀ (v3506 : BitVec 32) (k0_hw106 : k0_chk106 v3506), 128 ∣ (k0_mult57 v3506).toNat := fun v3506 k0_hw106 => k0_hw106.1
theorem k0_off65_inb : ∀ (v3506 : BitVec 32) (k0_hw106 : k0_chk106 v3506), ∀ a, (k0_off65 v3506) a + S64x128.size a ≤ S64x1000064.size a := fun v3506 k0_hw106 => k0_hw106.2

def k0_chk107 (v5 : IVec S16 32) (v8 : IVec S16 32) (v11 : IVec S16 32) (v14 : IVec S16 32) (v3550 : IVec S16 32) : Prop :=
  (∀ a x, ((![v5, v3550] : Fin 2 → IVec S16 32) a x).toNat < S64x128.size a) ∧
  (∀ a x, ((![v8, v3550] : Fin 2 → IVec S16 32) a x).toNat < S64x128.size a) ∧
  (∀ a x, ((![v11, v3550] : Fin 2 → IVec S16 32) a x).toNat < S64x128.size a) ∧
  (∀ a x, ((![v14, v3550] : Fin 2 → IVec S16 32) a x).toNat < S64x128.size a)
theorem k0_idx197_inb : ∀ (v5 : IVec S16 32) (v8 : IVec S16 32) (v11 : IVec S16 32) (v14 : IVec S16 32) (v3550 : IVec S16 32) (k0_hw107 : k0_chk107 v5 v8 v11 v14 v3550), ∀ a x, ((![v5, v3550] : Fin 2 → IVec S16 32) a x).toNat < S64x128.size a := fun v5 v8 v11 v14 v3550 k0_hw107 => k0_hw107.1
theorem k0_idx198_inb : ∀ (v5 : IVec S16 32) (v8 : IVec S16 32) (v11 : IVec S16 32) (v14 : IVec S16 32) (v3550 : IVec S16 32) (k0_hw107 : k0_chk107 v5 v8 v11 v14 v3550), ∀ a x, ((![v8, v3550] : Fin 2 → IVec S16 32) a x).toNat < S64x128.size a := fun v5 v8 v11 v14 v3550 k0_hw107 => k0_hw107.2.1
theorem k0_idx199_inb : ∀ (v5 : IVec S16 32) (v8 : IVec S16 32) (v11 : IVec S16 32) (v14 : IVec S16 32) (v3550 : IVec S16 32) (k0_hw107 : k0_chk107 v5 v8 v11 v14 v3550), ∀ a x, ((![v11, v3550] : Fin 2 → IVec S16 32) a x).toNat < S64x128.size a := fun v5 v8 v11 v14 v3550 k0_hw107 => k0_hw107.2.2.1
theorem k0_idx200_inb : ∀ (v5 : IVec S16 32) (v8 : IVec S16 32) (v11 : IVec S16 32) (v14 : IVec S16 32) (v3550 : IVec S16 32) (k0_hw107 : k0_chk107 v5 v8 v11 v14 v3550), ∀ a x, ((![v14, v3550] : Fin 2 → IVec S16 32) a x).toNat < S64x128.size a := fun v5 v8 v11 v14 v3550 k0_hw107 => k0_hw107.2.2.2
def k0_mult58 (v3576 : BitVec 32) : BitVec 32 :=
  let c0_i32_2714 : BitVec 32 := 0#32
  let v3578 : BitVec 1 := Scalar.cmpi .sgt v3576 c0_i32_2714
  let v3579 : BitVec 32 := Scalar.extui v3578
  let c0_i32_2715 : BitVec 32 := 0#32
  let v3580 : BitVec 1 := Scalar.cmpi .slt v3576 c0_i32_2715
  let v3581 : BitVec 32 := Scalar.extui v3580
  let v3582 : BitVec 32 := Scalar.subi v3579 v3581
  let c128_i32_2713 : BitVec 32 := 128#32
  let c0_i32_2716 : BitVec 32 := 0#32
  let v3583 : BitVec 1 := Scalar.cmpi .sgt c128_i32_2713 c0_i32_2716
  let v3584 : BitVec 32 := Scalar.extui v3583
  let c0_i32_2717 : BitVec 32 := 0#32
  let v3585 : BitVec 1 := Scalar.cmpi .slt c128_i32_2713 c0_i32_2717
  let v3586 : BitVec 32 := Scalar.extui v3585
  let v3587 : BitVec 32 := Scalar.subi v3584 v3586
  let v3588 : BitVec 1 := Scalar.cmpi .ne v3582 v3587
  let v3589 : BitVec 32 := Scalar.remsi v3576 c128_i32_2713
  let c0_i32_2718 : BitVec 32 := 0#32
  let v3590 : BitVec 1 := Scalar.cmpi .ne v3589 c0_i32_2718
  let v3591 : BitVec 1 := Scalar.andi v3588 v3590
  let v3577 : BitVec 32 := Scalar.divsi v3576 c128_i32_2713
  let c1_i32_2719 : BitVec 32 := 1#32
  let v3592 : BitVec 32 := Scalar.subi v3577 c1_i32_2719
  let v3593 : BitVec 32 := Scalar.select v3591 v3592 v3577
  let c128_i32_2720 : BitVec 32 := 128#32
  let v3594 : BitVec 32 := Scalar.muli v3593 c128_i32_2720
  v3594

def k0_off66 (v3576 : BitVec 32) : Fin 2 → Nat :=
  let c0_i32_2724 : BitVec 32 := 0#32
  let c0_i32_2714 : BitVec 32 := 0#32
  let v3578 : BitVec 1 := Scalar.cmpi .sgt v3576 c0_i32_2714
  let v3579 : BitVec 32 := Scalar.extui v3578
  let c0_i32_2715 : BitVec 32 := 0#32
  let v3580 : BitVec 1 := Scalar.cmpi .slt v3576 c0_i32_2715
  let v3581 : BitVec 32 := Scalar.extui v3580
  let v3582 : BitVec 32 := Scalar.subi v3579 v3581
  let c128_i32_2713 : BitVec 32 := 128#32
  let c0_i32_2716 : BitVec 32 := 0#32
  let v3583 : BitVec 1 := Scalar.cmpi .sgt c128_i32_2713 c0_i32_2716
  let v3584 : BitVec 32 := Scalar.extui v3583
  let c0_i32_2717 : BitVec 32 := 0#32
  let v3585 : BitVec 1 := Scalar.cmpi .slt c128_i32_2713 c0_i32_2717
  let v3586 : BitVec 32 := Scalar.extui v3585
  let v3587 : BitVec 32 := Scalar.subi v3584 v3586
  let v3588 : BitVec 1 := Scalar.cmpi .ne v3582 v3587
  let v3589 : BitVec 32 := Scalar.remsi v3576 c128_i32_2713
  let c0_i32_2718 : BitVec 32 := 0#32
  let v3590 : BitVec 1 := Scalar.cmpi .ne v3589 c0_i32_2718
  let v3591 : BitVec 1 := Scalar.andi v3588 v3590
  let v3577 : BitVec 32 := Scalar.divsi v3576 c128_i32_2713
  let c1_i32_2719 : BitVec 32 := 1#32
  let v3592 : BitVec 32 := Scalar.subi v3577 c1_i32_2719
  let v3593 : BitVec 32 := Scalar.select v3591 v3592 v3577
  let c128_i32_2720 : BitVec 32 := 128#32
  let v3594 : BitVec 32 := Scalar.muli v3593 c128_i32_2720
  let v3595 : BitVec 32 := v3594
  ![0, v3595.toNat]

def k0_chk108 (v3576 : BitVec 32) : Prop :=
  (128 ∣ (k0_mult58 v3576).toNat) ∧
  (∀ a, (k0_off66 v3576) a + S64x128.size a ≤ S64x1000064.size a)
theorem k0_mult58_dvd : ∀ (v3576 : BitVec 32) (k0_hw108 : k0_chk108 v3576), 128 ∣ (k0_mult58 v3576).toNat := fun v3576 k0_hw108 => k0_hw108.1
theorem k0_off66_inb : ∀ (v3576 : BitVec 32) (k0_hw108 : k0_chk108 v3576), ∀ a, (k0_off66 v3576) a + S64x128.size a ≤ S64x1000064.size a := fun v3576 k0_hw108 => k0_hw108.2

def k0_chk109 (v5 : IVec S16 32) (v8 : IVec S16 32) (v11 : IVec S16 32) (v14 : IVec S16 32) (v3620 : IVec S16 32) : Prop :=
  (∀ a x, ((![v5, v3620] : Fin 2 → IVec S16 32) a x).toNat < S64x128.size a) ∧
  (∀ a x, ((![v8, v3620] : Fin 2 → IVec S16 32) a x).toNat < S64x128.size a) ∧
  (∀ a x, ((![v11, v3620] : Fin 2 → IVec S16 32) a x).toNat < S64x128.size a) ∧
  (∀ a x, ((![v14, v3620] : Fin 2 → IVec S16 32) a x).toNat < S64x128.size a)
theorem k0_idx201_inb : ∀ (v5 : IVec S16 32) (v8 : IVec S16 32) (v11 : IVec S16 32) (v14 : IVec S16 32) (v3620 : IVec S16 32) (k0_hw109 : k0_chk109 v5 v8 v11 v14 v3620), ∀ a x, ((![v5, v3620] : Fin 2 → IVec S16 32) a x).toNat < S64x128.size a := fun v5 v8 v11 v14 v3620 k0_hw109 => k0_hw109.1
theorem k0_idx202_inb : ∀ (v5 : IVec S16 32) (v8 : IVec S16 32) (v11 : IVec S16 32) (v14 : IVec S16 32) (v3620 : IVec S16 32) (k0_hw109 : k0_chk109 v5 v8 v11 v14 v3620), ∀ a x, ((![v8, v3620] : Fin 2 → IVec S16 32) a x).toNat < S64x128.size a := fun v5 v8 v11 v14 v3620 k0_hw109 => k0_hw109.2.1
theorem k0_idx203_inb : ∀ (v5 : IVec S16 32) (v8 : IVec S16 32) (v11 : IVec S16 32) (v14 : IVec S16 32) (v3620 : IVec S16 32) (k0_hw109 : k0_chk109 v5 v8 v11 v14 v3620), ∀ a x, ((![v11, v3620] : Fin 2 → IVec S16 32) a x).toNat < S64x128.size a := fun v5 v8 v11 v14 v3620 k0_hw109 => k0_hw109.2.2.1
theorem k0_idx204_inb : ∀ (v5 : IVec S16 32) (v8 : IVec S16 32) (v11 : IVec S16 32) (v14 : IVec S16 32) (v3620 : IVec S16 32) (k0_hw109 : k0_chk109 v5 v8 v11 v14 v3620), ∀ a x, ((![v14, v3620] : Fin 2 → IVec S16 32) a x).toNat < S64x128.size a := fun v5 v8 v11 v14 v3620 k0_hw109 => k0_hw109.2.2.2
def k0_mult59 (v3646 : BitVec 32) : BitVec 32 :=
  let c0_i32_2768 : BitVec 32 := 0#32
  let v3648 : BitVec 1 := Scalar.cmpi .sgt v3646 c0_i32_2768
  let v3649 : BitVec 32 := Scalar.extui v3648
  let c0_i32_2769 : BitVec 32 := 0#32
  let v3650 : BitVec 1 := Scalar.cmpi .slt v3646 c0_i32_2769
  let v3651 : BitVec 32 := Scalar.extui v3650
  let v3652 : BitVec 32 := Scalar.subi v3649 v3651
  let c128_i32_2767 : BitVec 32 := 128#32
  let c0_i32_2770 : BitVec 32 := 0#32
  let v3653 : BitVec 1 := Scalar.cmpi .sgt c128_i32_2767 c0_i32_2770
  let v3654 : BitVec 32 := Scalar.extui v3653
  let c0_i32_2771 : BitVec 32 := 0#32
  let v3655 : BitVec 1 := Scalar.cmpi .slt c128_i32_2767 c0_i32_2771
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_2767
  let c0_i32_2772 : BitVec 32 := 0#32
  let v3660 : BitVec 1 := Scalar.cmpi .ne v3659 c0_i32_2772
  let v3661 : BitVec 1 := Scalar.andi v3658 v3660
  let v3647 : BitVec 32 := Scalar.divsi v3646 c128_i32_2767
  let c1_i32_2773 : BitVec 32 := 1#32
  let v3662 : BitVec 32 := Scalar.subi v3647 c1_i32_2773
  let v3663 : BitVec 32 := Scalar.select v3661 v3662 v3647
  let c128_i32_2774 : BitVec 32 := 128#32
  let v3664 : BitVec 32 := Scalar.muli v3663 c128_i32_2774
  v3664

def k0_off67 (v3646 : BitVec 32) : Fin 2 → Nat :=
  let c0_i32_2778 : BitVec 32 := 0#32
  let c0_i32_2768 : BitVec 32 := 0#32
  let v3648 : BitVec 1 := Scalar.cmpi .sgt v3646 c0_i32_2768
  let v3649 : BitVec 32 := Scalar.extui v3648
  let c0_i32_2769 : BitVec 32 := 0#32
  let v3650 : BitVec 1 := Scalar.cmpi .slt v3646 c0_i32_2769
  let v3651 : BitVec 32 := Scalar.extui v3650
  let v3652 : BitVec 32 := Scalar.subi v3649 v3651
  let c128_i32_2767 : BitVec 32 := 128#32
  let c0_i32_2770 : BitVec 32 := 0#32
  let v3653 : BitVec 1 := Scalar.cmpi .sgt c128_i32_2767 c0_i32_2770
  let v3654 : BitVec 32 := Scalar.extui v3653
  let c0_i32_2771 : BitVec 32 := 0#32
  let v3655 : BitVec 1 := Scalar.cmpi .slt c128_i32_2767 c0_i32_2771
  let v3656 : BitVec 32 := Scalar.extui v3655
  let v3657 : BitVec 32 := Scalar.subi v3654 v3656
  let v3658 : BitVec 1 := Scalar.cmpi .ne v3652 v3657
  let v3659 : BitVec 32 := Scalar.remsi v3646 c128_i32_2767
  let c0_i32_2772 : BitVec 32 := 0#32
  let v3660 : BitVec 1 := Scalar.cmpi .ne v3659 c0_i32_2772
  let v3661 : BitVec 1 := Scalar.andi v3658 v3660
  let v3647 : BitVec 32 := Scalar.divsi v3646 c128_i32_2767
  let c1_i32_2773 : BitVec 32 := 1#32
  let v3662 : BitVec 32 := Scalar.subi v3647 c1_i32_2773
  let v3663 : BitVec 32 := Scalar.select v3661 v3662 v3647
  let c128_i32_2774 : BitVec 32 := 128#32
  let v3664 : BitVec 32 := Scalar.muli v3663 c128_i32_2774
  let v3665 : BitVec 32 := v3664
  ![0, v3665.toNat]

def k0_chk110 (v3646 : BitVec 32) : Prop :=
  (128 ∣ (k0_mult59 v3646).toNat) ∧
  (∀ a, (k0_off67 v3646) a + S64x128.size a ≤ S64x1000064.size a)
theorem k0_mult59_dvd : ∀ (v3646 : BitVec 32) (k0_hw110 : k0_chk110 v3646), 128 ∣ (k0_mult59 v3646).toNat := fun v3646 k0_hw110 => k0_hw110.1
theorem k0_off67_inb : ∀ (v3646 : BitVec 32) (k0_hw110 : k0_chk110 v3646), ∀ a, (k0_off67 v3646) a + S64x128.size a ≤ S64x1000064.size a := fun v3646 k0_hw110 => k0_hw110.2

def k0_chk111 (v5 : IVec S16 32) (v8 : IVec S16 32) (v11 : IVec S16 32) (v14 : IVec S16 32) (v3690 : IVec S16 32) : Prop :=
  (∀ a x, ((![v5, v3690] : Fin 2 → IVec S16 32) a x).toNat < S64x128.size a) ∧
  (∀ a x, ((![v8, v3690] : Fin 2 → IVec S16 32) a x).toNat < S64x128.size a) ∧
  (∀ a x, ((![v11, v3690] : Fin 2 → IVec S16 32) a x).toNat < S64x128.size a) ∧
  (∀ a x, ((![v14, v3690] : Fin 2 → IVec S16 32) a x).toNat < S64x128.size a)
theorem k0_idx205_inb : ∀ (v5 : IVec S16 32) (v8 : IVec S16 32) (v11 : IVec S16 32) (v14 : IVec S16 32) (v3690 : IVec S16 32) (k0_hw111 : k0_chk111 v5 v8 v11 v14 v3690), ∀ a x, ((![v5, v3690] : Fin 2 → IVec S16 32) a x).toNat < S64x128.size a := fun v5 v8 v11 v14 v3690 k0_hw111 => k0_hw111.1
theorem k0_idx206_inb : ∀ (v5 : IVec S16 32) (v8 : IVec S16 32) (v11 : IVec S16 32) (v14 : IVec S16 32) (v3690 : IVec S16 32) (k0_hw111 : k0_chk111 v5 v8 v11 v14 v3690), ∀ a x, ((![v8, v3690] : Fin 2 → IVec S16 32) a x).toNat < S64x128.size a := fun v5 v8 v11 v14 v3690 k0_hw111 => k0_hw111.2.1
theorem k0_idx207_inb : ∀ (v5 : IVec S16 32) (v8 : IVec S16 32) (v11 : IVec S16 32) (v14 : IVec S16 32) (v3690 : IVec S16 32) (k0_hw111 : k0_chk111 v5 v8 v11 v14 v3690), ∀ a x, ((![v11, v3690] : Fin 2 → IVec S16 32) a x).toNat < S64x128.size a := fun v5 v8 v11 v14 v3690 k0_hw111 => k0_hw111.2.2.1
theorem k0_idx208_inb : ∀ (v5 : IVec S16 32) (v8 : IVec S16 32) (v11 : IVec S16 32) (v14 : IVec S16 32) (v3690 : IVec S16 32) (k0_hw111 : k0_chk111 v5 v8 v11 v14 v3690), ∀ a x, ((![v14, v3690] : Fin 2 → IVec S16 32) a x).toNat < S64x128.size a := fun v5 v8 v11 v14 v3690 k0_hw111 => k0_hw111.2.2.2
def k0_mult60 (v3716 : BitVec 32) : BitVec 32 :=
  let c0_i32_2822 : BitVec 32 := 0#32
  let v3718 : BitVec 1 := Scalar.cmpi .sgt v3716 c0_i32_2822
  let v3719 : BitVec 32 := Scalar.extui v3718
  let c0_i32_2823 : BitVec 32 := 0#32
  let v3720 : BitVec 1 := Scalar.cmpi .slt v3716 c0_i32_2823
  let v3721 : BitVec 32 := Scalar.extui v3720
  let v3722 : BitVec 32 := Scalar.subi v3719 v3721
  let c128_i32_2821 : BitVec 32 := 128#32
  let c0_i32_2824 : BitVec 32 := 0#32
  let v3723 : BitVec 1 := Scalar.cmpi .sgt c128_i32_2821 c0_i32_2824
  let v3724 : BitVec 32 := Scalar.extui v3723
  let c0_i32_2825 : BitVec 32 := 0#32
  let v3725 : BitVec 1 := Scalar.cmpi .slt c128_i32_2821 c0_i32_2825
  let v3726 : BitVec 32 := Scalar.extui v3725
  let v3727 : BitVec 32 := Scalar.subi v3724 v3726
  let v3728 : BitVec 1 := Scalar.cmpi .ne v3722 v3727
  let v3729 : BitVec 32 := Scalar.remsi v3716 c128_i32_2821
  let c0_i32_2826 : BitVec 32 := 0#32
  let v3730 : BitVec 1 := Scalar.cmpi .ne v3729 c0_i32_2826
  let v3731 : BitVec 1 := Scalar.andi v3728 v3730
  let v3717 : BitVec 32 := Scalar.divsi v3716 c128_i32_2821
  let c1_i32_2827 : BitVec 32 := 1#32
  let v3732 : BitVec 32 := Scalar.subi v3717 c1_i32_2827
  let v3733 : BitVec 32 := Scalar.select v3731 v3732 v3717
  let c128_i32_2828 : BitVec 32 := 128#32
  let v3734 : BitVec 32 := Scalar.muli v3733 c128_i32_2828
  v3734

def k0_off68 (v3716 : BitVec 32) : Fin 2 → Nat :=
  let c0_i32_2832 : BitVec 32 := 0#32
  let c0_i32_2822 : BitVec 32 := 0#32
  let v3718 : BitVec 1 := Scalar.cmpi .sgt v3716 c0_i32_2822
  let v3719 : BitVec 32 := Scalar.extui v3718
  let c0_i32_2823 : BitVec 32 := 0#32
  let v3720 : BitVec 1 := Scalar.cmpi .slt v3716 c0_i32_2823
  let v3721 : BitVec 32 := Scalar.extui v3720
  let v3722 : BitVec 32 := Scalar.subi v3719 v3721
  let c128_i32_2821 : BitVec 32 := 128#32
  let c0_i32_2824 : BitVec 32 := 0#32
  let v3723 : BitVec 1 := Scalar.cmpi .sgt c128_i32_2821 c0_i32_2824
  let v3724 : BitVec 32 := Scalar.extui v3723
  let c0_i32_2825 : BitVec 32 := 0#32
  let v3725 : BitVec 1 := Scalar.cmpi .slt c128_i32_2821 c0_i32_2825
  let v3726 : BitVec 32 := Scalar.extui v3725
  let v3727 : BitVec 32 := Scalar.subi v3724 v3726
  let v3728 : BitVec 1 := Scalar.cmpi .ne v3722 v3727
  let v3729 : BitVec 32 := Scalar.remsi v3716 c128_i32_2821
  let c0_i32_2826 : BitVec 32 := 0#32
  let v3730 : BitVec 1 := Scalar.cmpi .ne v3729 c0_i32_2826
  let v3731 : BitVec 1 := Scalar.andi v3728 v3730
  let v3717 : BitVec 32 := Scalar.divsi v3716 c128_i32_2821
  let c1_i32_2827 : BitVec 32 := 1#32
  let v3732 : BitVec 32 := Scalar.subi v3717 c1_i32_2827
  let v3733 : BitVec 32 := Scalar.select v3731 v3732 v3717
  let c128_i32_2828 : BitVec 32 := 128#32
  let v3734 : BitVec 32 := Scalar.muli v3733 c128_i32_2828
  let v3735 : BitVec 32 := v3734
  ![0, v3735.toNat]

def k0_chk112 (v3716 : BitVec 32) : Prop :=
  (128 ∣ (k0_mult60 v3716).toNat) ∧
  (∀ a, (k0_off68 v3716) a + S64x128.size a ≤ S64x1000064.size a)
theorem k0_mult60_dvd : ∀ (v3716 : BitVec 32) (k0_hw112 : k0_chk112 v3716), 128 ∣ (k0_mult60 v3716).toNat := fun v3716 k0_hw112 => k0_hw112.1
theorem k0_off68_inb : ∀ (v3716 : BitVec 32) (k0_hw112 : k0_chk112 v3716), ∀ a, (k0_off68 v3716) a + S64x128.size a ≤ S64x1000064.size a := fun v3716 k0_hw112 => k0_hw112.2

def k0_chk113 (v5 : IVec S16 32) (v8 : IVec S16 32) (v11 : IVec S16 32) (v14 : IVec S16 32) (v3760 : IVec S16 32) : Prop :=
  (∀ a x, ((![v5, v3760] : Fin 2 → IVec S16 32) a x).toNat < S64x128.size a) ∧
  (∀ a x, ((![v8, v3760] : Fin 2 → IVec S16 32) a x).toNat < S64x128.size a) ∧
  (∀ a x, ((![v11, v3760] : Fin 2 → IVec S16 32) a x).toNat < S64x128.size a) ∧
  (∀ a x, ((![v14, v3760] : Fin 2 → IVec S16 32) a x).toNat < S64x128.size a)
theorem k0_idx209_inb : ∀ (v5 : IVec S16 32) (v8 : IVec S16 32) (v11 : IVec S16 32) (v14 : IVec S16 32) (v3760 : IVec S16 32) (k0_hw113 : k0_chk113 v5 v8 v11 v14 v3760), ∀ a x, ((![v5, v3760] : Fin 2 → IVec S16 32) a x).toNat < S64x128.size a := fun v5 v8 v11 v14 v3760 k0_hw113 => k0_hw113.1
theorem k0_idx210_inb : ∀ (v5 : IVec S16 32) (v8 : IVec S16 32) (v11 : IVec S16 32) (v14 : IVec S16 32) (v3760 : IVec S16 32) (k0_hw113 : k0_chk113 v5 v8 v11 v14 v3760), ∀ a x, ((![v8, v3760] : Fin 2 → IVec S16 32) a x).toNat < S64x128.size a := fun v5 v8 v11 v14 v3760 k0_hw113 => k0_hw113.2.1
theorem k0_idx211_inb : ∀ (v5 : IVec S16 32) (v8 : IVec S16 32) (v11 : IVec S16 32) (v14 : IVec S16 32) (v3760 : IVec S16 32) (k0_hw113 : k0_chk113 v5 v8 v11 v14 v3760), ∀ a x, ((![v11, v3760] : Fin 2 → IVec S16 32) a x).toNat < S64x128.size a := fun v5 v8 v11 v14 v3760 k0_hw113 => k0_hw113.2.2.1
theorem k0_idx212_inb : ∀ (v5 : IVec S16 32) (v8 : IVec S16 32) (v11 : IVec S16 32) (v14 : IVec S16 32) (v3760 : IVec S16 32) (k0_hw113 : k0_chk113 v5 v8 v11 v14 v3760), ∀ a x, ((![v14, v3760] : Fin 2 → IVec S16 32) a x).toNat < S64x128.size a := fun v5 v8 v11 v14 v3760 k0_hw113 => k0_hw113.2.2.2
def k0_mult61 (v3786 : BitVec 32) : BitVec 32 :=
  let c0_i32_2876 : BitVec 32 := 0#32
  let v3788 : BitVec 1 := Scalar.cmpi .sgt v3786 c0_i32_2876
  let v3789 : BitVec 32 := Scalar.extui v3788
  let c0_i32_2877 : BitVec 32 := 0#32
  let v3790 : BitVec 1 := Scalar.cmpi .slt v3786 c0_i32_2877
  let v3791 : BitVec 32 := Scalar.extui v3790
  let v3792 : BitVec 32 := Scalar.subi v3789 v3791
  let c128_i32_2875 : BitVec 32 := 128#32
  let c0_i32_2878 : BitVec 32 := 0#32
  let v3793 : BitVec 1 := Scalar.cmpi .sgt c128_i32_2875 c0_i32_2878
  let v3794 : BitVec 32 := Scalar.extui v3793
  let c0_i32_2879 : BitVec 32 := 0#32
  let v3795 : BitVec 1 := Scalar.cmpi .slt c128_i32_2875 c0_i32_2879
  let v3796 : BitVec 32 := Scalar.extui v3795
  let v3797 : BitVec 32 := Scalar.subi v3794 v3796
  let v3798 : BitVec 1 := Scalar.cmpi .ne v3792 v3797
  let v3799 : BitVec 32 := Scalar.remsi v3786 c128_i32_2875
  let c0_i32_2880 : BitVec 32 := 0#32
  let v3800 : BitVec 1 := Scalar.cmpi .ne v3799 c0_i32_2880
  let v3801 : BitVec 1 := Scalar.andi v3798 v3800
  let v3787 : BitVec 32 := Scalar.divsi v3786 c128_i32_2875
  let c1_i32_2881 : BitVec 32 := 1#32
  let v3802 : BitVec 32 := Scalar.subi v3787 c1_i32_2881
  let v3803 : BitVec 32 := Scalar.select v3801 v3802 v3787
  let c128_i32_2882 : BitVec 32 := 128#32
  let v3804 : BitVec 32 := Scalar.muli v3803 c128_i32_2882
  v3804

def k0_off69 (v3786 : BitVec 32) : Fin 2 → Nat :=
  let c0_i32_2886 : BitVec 32 := 0#32
  let c0_i32_2876 : BitVec 32 := 0#32
  let v3788 : BitVec 1 := Scalar.cmpi .sgt v3786 c0_i32_2876
  let v3789 : BitVec 32 := Scalar.extui v3788
  let c0_i32_2877 : BitVec 32 := 0#32
  let v3790 : BitVec 1 := Scalar.cmpi .slt v3786 c0_i32_2877
  let v3791 : BitVec 32 := Scalar.extui v3790
  let v3792 : BitVec 32 := Scalar.subi v3789 v3791
  let c128_i32_2875 : BitVec 32 := 128#32
  let c0_i32_2878 : BitVec 32 := 0#32
  let v3793 : BitVec 1 := Scalar.cmpi .sgt c128_i32_2875 c0_i32_2878
  let v3794 : BitVec 32 := Scalar.extui v3793
  let c0_i32_2879 : BitVec 32 := 0#32
  let v3795 : BitVec 1 := Scalar.cmpi .slt c128_i32_2875 c0_i32_2879
  let v3796 : BitVec 32 := Scalar.extui v3795
  let v3797 : BitVec 32 := Scalar.subi v3794 v3796
  let v3798 : BitVec 1 := Scalar.cmpi .ne v3792 v3797
  let v3799 : BitVec 32 := Scalar.remsi v3786 c128_i32_2875
  let c0_i32_2880 : BitVec 32 := 0#32
  let v3800 : BitVec 1 := Scalar.cmpi .ne v3799 c0_i32_2880
  let v3801 : BitVec 1 := Scalar.andi v3798 v3800
  let v3787 : BitVec 32 := Scalar.divsi v3786 c128_i32_2875
  let c1_i32_2881 : BitVec 32 := 1#32
  let v3802 : BitVec 32 := Scalar.subi v3787 c1_i32_2881
  let v3803 : BitVec 32 := Scalar.select v3801 v3802 v3787
  let c128_i32_2882 : BitVec 32 := 128#32
  let v3804 : BitVec 32 := Scalar.muli v3803 c128_i32_2882
  let v3805 : BitVec 32 := v3804
  ![0, v3805.toNat]

def k0_chk114 (v3786 : BitVec 32) : Prop :=
  (128 ∣ (k0_mult61 v3786).toNat) ∧
  (∀ a, (k0_off69 v3786) a + S64x128.size a ≤ S64x1000064.size a)
theorem k0_mult61_dvd : ∀ (v3786 : BitVec 32) (k0_hw114 : k0_chk114 v3786), 128 ∣ (k0_mult61 v3786).toNat := fun v3786 k0_hw114 => k0_hw114.1
theorem k0_off69_inb : ∀ (v3786 : BitVec 32) (k0_hw114 : k0_chk114 v3786), ∀ a, (k0_off69 v3786) a + S64x128.size a ≤ S64x1000064.size a := fun v3786 k0_hw114 => k0_hw114.2

def k0_chk115 (v5 : IVec S16 32) (v8 : IVec S16 32) (v11 : IVec S16 32) (v14 : IVec S16 32) (v3830 : IVec S16 32) : Prop :=
  (∀ a x, ((![v5, v3830] : Fin 2 → IVec S16 32) a x).toNat < S64x128.size a) ∧
  (∀ a x, ((![v8, v3830] : Fin 2 → IVec S16 32) a x).toNat < S64x128.size a) ∧
  (∀ a x, ((![v11, v3830] : Fin 2 → IVec S16 32) a x).toNat < S64x128.size a) ∧
  (∀ a x, ((![v14, v3830] : Fin 2 → IVec S16 32) a x).toNat < S64x128.size a)
theorem k0_idx213_inb : ∀ (v5 : IVec S16 32) (v8 : IVec S16 32) (v11 : IVec S16 32) (v14 : IVec S16 32) (v3830 : IVec S16 32) (k0_hw115 : k0_chk115 v5 v8 v11 v14 v3830), ∀ a x, ((![v5, v3830] : Fin 2 → IVec S16 32) a x).toNat < S64x128.size a := fun v5 v8 v11 v14 v3830 k0_hw115 => k0_hw115.1
theorem k0_idx214_inb : ∀ (v5 : IVec S16 32) (v8 : IVec S16 32) (v11 : IVec S16 32) (v14 : IVec S16 32) (v3830 : IVec S16 32) (k0_hw115 : k0_chk115 v5 v8 v11 v14 v3830), ∀ a x, ((![v8, v3830] : Fin 2 → IVec S16 32) a x).toNat < S64x128.size a := fun v5 v8 v11 v14 v3830 k0_hw115 => k0_hw115.2.1
theorem k0_idx215_inb : ∀ (v5 : IVec S16 32) (v8 : IVec S16 32) (v11 : IVec S16 32) (v14 : IVec S16 32) (v3830 : IVec S16 32) (k0_hw115 : k0_chk115 v5 v8 v11 v14 v3830), ∀ a x, ((![v11, v3830] : Fin 2 → IVec S16 32) a x).toNat < S64x128.size a := fun v5 v8 v11 v14 v3830 k0_hw115 => k0_hw115.2.2.1
theorem k0_idx216_inb : ∀ (v5 : IVec S16 32) (v8 : IVec S16 32) (v11 : IVec S16 32) (v14 : IVec S16 32) (v3830 : IVec S16 32) (k0_hw115 : k0_chk115 v5 v8 v11 v14 v3830), ∀ a x, ((![v14, v3830] : Fin 2 → IVec S16 32) a x).toNat < S64x128.size a := fun v5 v8 v11 v14 v3830 k0_hw115 => k0_hw115.2.2.2
def k0_mult62 (v3856 : BitVec 32) : BitVec 32 :=
  let c0_i32_2930 : BitVec 32 := 0#32
  let v3858 : BitVec 1 := Scalar.cmpi .sgt v3856 c0_i32_2930
  let v3859 : BitVec 32 := Scalar.extui v3858
  let c0_i32_2931 : BitVec 32 := 0#32
  let v3860 : BitVec 1 := Scalar.cmpi .slt v3856 c0_i32_2931
  let v3861 : BitVec 32 := Scalar.extui v3860
  let v3862 : BitVec 32 := Scalar.subi v3859 v3861
  let c128_i32_2929 : BitVec 32 := 128#32
  let c0_i32_2932 : BitVec 32 := 0#32
  let v3863 : BitVec 1 := Scalar.cmpi .sgt c128_i32_2929 c0_i32_2932
  let v3864 : BitVec 32 := Scalar.extui v3863
  let c0_i32_2933 : BitVec 32 := 0#32
  let v3865 : BitVec 1 := Scalar.cmpi .slt c128_i32_2929 c0_i32_2933
  let v3866 : BitVec 32 := Scalar.extui v3865
  let v3867 : BitVec 32 := Scalar.subi v3864 v3866
  let v3868 : BitVec 1 := Scalar.cmpi .ne v3862 v3867
  let v3869 : BitVec 32 := Scalar.remsi v3856 c128_i32_2929
  let c0_i32_2934 : BitVec 32 := 0#32
  let v3870 : BitVec 1 := Scalar.cmpi .ne v3869 c0_i32_2934
  let v3871 : BitVec 1 := Scalar.andi v3868 v3870
  let v3857 : BitVec 32 := Scalar.divsi v3856 c128_i32_2929
  let c1_i32_2935 : BitVec 32 := 1#32
  let v3872 : BitVec 32 := Scalar.subi v3857 c1_i32_2935
  let v3873 : BitVec 32 := Scalar.select v3871 v3872 v3857
  let c128_i32_2936 : BitVec 32 := 128#32
  let v3874 : BitVec 32 := Scalar.muli v3873 c128_i32_2936
  v3874

def k0_off70 (v3856 : BitVec 32) : Fin 2 → Nat :=
  let c0_i32_2940 : BitVec 32 := 0#32
  let c0_i32_2930 : BitVec 32 := 0#32
  let v3858 : BitVec 1 := Scalar.cmpi .sgt v3856 c0_i32_2930
  let v3859 : BitVec 32 := Scalar.extui v3858
  let c0_i32_2931 : BitVec 32 := 0#32
  let v3860 : BitVec 1 := Scalar.cmpi .slt v3856 c0_i32_2931
  let v3861 : BitVec 32 := Scalar.extui v3860
  let v3862 : BitVec 32 := Scalar.subi v3859 v3861
  let c128_i32_2929 : BitVec 32 := 128#32
  let c0_i32_2932 : BitVec 32 := 0#32
  let v3863 : BitVec 1 := Scalar.cmpi .sgt c128_i32_2929 c0_i32_2932
  let v3864 : BitVec 32 := Scalar.extui v3863
  let c0_i32_2933 : BitVec 32 := 0#32
  let v3865 : BitVec 1 := Scalar.cmpi .slt c128_i32_2929 c0_i32_2933
  let v3866 : BitVec 32 := Scalar.extui v3865
  let v3867 : BitVec 32 := Scalar.subi v3864 v3866
  let v3868 : BitVec 1 := Scalar.cmpi .ne v3862 v3867
  let v3869 : BitVec 32 := Scalar.remsi v3856 c128_i32_2929
  let c0_i32_2934 : BitVec 32 := 0#32
  let v3870 : BitVec 1 := Scalar.cmpi .ne v3869 c0_i32_2934
  let v3871 : BitVec 1 := Scalar.andi v3868 v3870
  let v3857 : BitVec 32 := Scalar.divsi v3856 c128_i32_2929
  let c1_i32_2935 : BitVec 32 := 1#32
  let v3872 : BitVec 32 := Scalar.subi v3857 c1_i32_2935
  let v3873 : BitVec 32 := Scalar.select v3871 v3872 v3857
  let c128_i32_2936 : BitVec 32 := 128#32
  let v3874 : BitVec 32 := Scalar.muli v3873 c128_i32_2936
  let v3875 : BitVec 32 := v3874
  ![0, v3875.toNat]

def k0_chk116 (v3856 : BitVec 32) : Prop :=
  (128 ∣ (k0_mult62 v3856).toNat) ∧
  (∀ a, (k0_off70 v3856) a + S64x128.size a ≤ S64x1000064.size a)
theorem k0_mult62_dvd : ∀ (v3856 : BitVec 32) (k0_hw116 : k0_chk116 v3856), 128 ∣ (k0_mult62 v3856).toNat := fun v3856 k0_hw116 => k0_hw116.1
theorem k0_off70_inb : ∀ (v3856 : BitVec 32) (k0_hw116 : k0_chk116 v3856), ∀ a, (k0_off70 v3856) a + S64x128.size a ≤ S64x1000064.size a := fun v3856 k0_hw116 => k0_hw116.2

def k0_chk117 (v5 : IVec S16 32) (v8 : IVec S16 32) (v11 : IVec S16 32) (v14 : IVec S16 32) (v3900 : IVec S16 32) : Prop :=
  (∀ a x, ((![v5, v3900] : Fin 2 → IVec S16 32) a x).toNat < S64x128.size a) ∧
  (∀ a x, ((![v8, v3900] : Fin 2 → IVec S16 32) a x).toNat < S64x128.size a) ∧
  (∀ a x, ((![v11, v3900] : Fin 2 → IVec S16 32) a x).toNat < S64x128.size a) ∧
  (∀ a x, ((![v14, v3900] : Fin 2 → IVec S16 32) a x).toNat < S64x128.size a)
theorem k0_idx217_inb : ∀ (v5 : IVec S16 32) (v8 : IVec S16 32) (v11 : IVec S16 32) (v14 : IVec S16 32) (v3900 : IVec S16 32) (k0_hw117 : k0_chk117 v5 v8 v11 v14 v3900), ∀ a x, ((![v5, v3900] : Fin 2 → IVec S16 32) a x).toNat < S64x128.size a := fun v5 v8 v11 v14 v3900 k0_hw117 => k0_hw117.1
theorem k0_idx218_inb : ∀ (v5 : IVec S16 32) (v8 : IVec S16 32) (v11 : IVec S16 32) (v14 : IVec S16 32) (v3900 : IVec S16 32) (k0_hw117 : k0_chk117 v5 v8 v11 v14 v3900), ∀ a x, ((![v8, v3900] : Fin 2 → IVec S16 32) a x).toNat < S64x128.size a := fun v5 v8 v11 v14 v3900 k0_hw117 => k0_hw117.2.1
theorem k0_idx219_inb : ∀ (v5 : IVec S16 32) (v8 : IVec S16 32) (v11 : IVec S16 32) (v14 : IVec S16 32) (v3900 : IVec S16 32) (k0_hw117 : k0_chk117 v5 v8 v11 v14 v3900), ∀ a x, ((![v11, v3900] : Fin 2 → IVec S16 32) a x).toNat < S64x128.size a := fun v5 v8 v11 v14 v3900 k0_hw117 => k0_hw117.2.2.1
theorem k0_idx220_inb : ∀ (v5 : IVec S16 32) (v8 : IVec S16 32) (v11 : IVec S16 32) (v14 : IVec S16 32) (v3900 : IVec S16 32) (k0_hw117 : k0_chk117 v5 v8 v11 v14 v3900), ∀ a x, ((![v14, v3900] : Fin 2 → IVec S16 32) a x).toNat < S64x128.size a := fun v5 v8 v11 v14 v3900 k0_hw117 => k0_hw117.2.2.2
def k0_mult63 (v3926 : BitVec 32) : BitVec 32 :=
  let c0_i32_2984 : BitVec 32 := 0#32
  let v3928 : BitVec 1 := Scalar.cmpi .sgt v3926 c0_i32_2984
  let v3929 : BitVec 32 := Scalar.extui v3928
  let c0_i32_2985 : BitVec 32 := 0#32
  let v3930 : BitVec 1 := Scalar.cmpi .slt v3926 c0_i32_2985
  let v3931 : BitVec 32 := Scalar.extui v3930
  let v3932 : BitVec 32 := Scalar.subi v3929 v3931
  let c128_i32_2983 : BitVec 32 := 128#32
  let c0_i32_2986 : BitVec 32 := 0#32
  let v3933 : BitVec 1 := Scalar.cmpi .sgt c128_i32_2983 c0_i32_2986
  let v3934 : BitVec 32 := Scalar.extui v3933
  let c0_i32_2987 : BitVec 32 := 0#32
  let v3935 : BitVec 1 := Scalar.cmpi .slt c128_i32_2983 c0_i32_2987
  let v3936 : BitVec 32 := Scalar.extui v3935
  let v3937 : BitVec 32 := Scalar.subi v3934 v3936
  let v3938 : BitVec 1 := Scalar.cmpi .ne v3932 v3937
  let v3939 : BitVec 32 := Scalar.remsi v3926 c128_i32_2983
  let c0_i32_2988 : BitVec 32 := 0#32
  let v3940 : BitVec 1 := Scalar.cmpi .ne v3939 c0_i32_2988
  let v3941 : BitVec 1 := Scalar.andi v3938 v3940
  let v3927 : BitVec 32 := Scalar.divsi v3926 c128_i32_2983
  let c1_i32_2989 : BitVec 32 := 1#32
  let v3942 : BitVec 32 := Scalar.subi v3927 c1_i32_2989
  let v3943 : BitVec 32 := Scalar.select v3941 v3942 v3927
  let c128_i32_2990 : BitVec 32 := 128#32
  let v3944 : BitVec 32 := Scalar.muli v3943 c128_i32_2990
  v3944

def k0_off71 (v3926 : BitVec 32) : Fin 2 → Nat :=
  let c0_i32_2994 : BitVec 32 := 0#32
  let c0_i32_2984 : BitVec 32 := 0#32
  let v3928 : BitVec 1 := Scalar.cmpi .sgt v3926 c0_i32_2984
  let v3929 : BitVec 32 := Scalar.extui v3928
  let c0_i32_2985 : BitVec 32 := 0#32
  let v3930 : BitVec 1 := Scalar.cmpi .slt v3926 c0_i32_2985
  let v3931 : BitVec 32 := Scalar.extui v3930
  let v3932 : BitVec 32 := Scalar.subi v3929 v3931
  let c128_i32_2983 : BitVec 32 := 128#32
  let c0_i32_2986 : BitVec 32 := 0#32
  let v3933 : BitVec 1 := Scalar.cmpi .sgt c128_i32_2983 c0_i32_2986
  let v3934 : BitVec 32 := Scalar.extui v3933
  let c0_i32_2987 : BitVec 32 := 0#32
  let v3935 : BitVec 1 := Scalar.cmpi .slt c128_i32_2983 c0_i32_2987
  let v3936 : BitVec 32 := Scalar.extui v3935
  let v3937 : BitVec 32 := Scalar.subi v3934 v3936
  let v3938 : BitVec 1 := Scalar.cmpi .ne v3932 v3937
  let v3939 : BitVec 32 := Scalar.remsi v3926 c128_i32_2983
  let c0_i32_2988 : BitVec 32 := 0#32
  let v3940 : BitVec 1 := Scalar.cmpi .ne v3939 c0_i32_2988
  let v3941 : BitVec 1 := Scalar.andi v3938 v3940
  let v3927 : BitVec 32 := Scalar.divsi v3926 c128_i32_2983
  let c1_i32_2989 : BitVec 32 := 1#32
  let v3942 : BitVec 32 := Scalar.subi v3927 c1_i32_2989
  let v3943 : BitVec 32 := Scalar.select v3941 v3942 v3927
  let c128_i32_2990 : BitVec 32 := 128#32
  let v3944 : BitVec 32 := Scalar.muli v3943 c128_i32_2990
  let v3945 : BitVec 32 := v3944
  ![0, v3945.toNat]

def k0_chk118 (v3926 : BitVec 32) : Prop :=
  (128 ∣ (k0_mult63 v3926).toNat) ∧
  (∀ a, (k0_off71 v3926) a + S64x128.size a ≤ S64x1000064.size a)
theorem k0_mult63_dvd : ∀ (v3926 : BitVec 32) (k0_hw118 : k0_chk118 v3926), 128 ∣ (k0_mult63 v3926).toNat := fun v3926 k0_hw118 => k0_hw118.1
theorem k0_off71_inb : ∀ (v3926 : BitVec 32) (k0_hw118 : k0_chk118 v3926), ∀ a, (k0_off71 v3926) a + S64x128.size a ≤ S64x1000064.size a := fun v3926 k0_hw118 => k0_hw118.2

def k0_chk119 (v5 : IVec S16 32) (v8 : IVec S16 32) (v11 : IVec S16 32) (v14 : IVec S16 32) (v3970 : IVec S16 32) : Prop :=
  (∀ a x, ((![v5, v3970] : Fin 2 → IVec S16 32) a x).toNat < S64x128.size a) ∧
  (∀ a x, ((![v8, v3970] : Fin 2 → IVec S16 32) a x).toNat < S64x128.size a) ∧
  (∀ a x, ((![v11, v3970] : Fin 2 → IVec S16 32) a x).toNat < S64x128.size a) ∧
  (∀ a x, ((![v14, v3970] : Fin 2 → IVec S16 32) a x).toNat < S64x128.size a)
theorem k0_idx221_inb : ∀ (v5 : IVec S16 32) (v8 : IVec S16 32) (v11 : IVec S16 32) (v14 : IVec S16 32) (v3970 : IVec S16 32) (k0_hw119 : k0_chk119 v5 v8 v11 v14 v3970), ∀ a x, ((![v5, v3970] : Fin 2 → IVec S16 32) a x).toNat < S64x128.size a := fun v5 v8 v11 v14 v3970 k0_hw119 => k0_hw119.1
theorem k0_idx222_inb : ∀ (v5 : IVec S16 32) (v8 : IVec S16 32) (v11 : IVec S16 32) (v14 : IVec S16 32) (v3970 : IVec S16 32) (k0_hw119 : k0_chk119 v5 v8 v11 v14 v3970), ∀ a x, ((![v8, v3970] : Fin 2 → IVec S16 32) a x).toNat < S64x128.size a := fun v5 v8 v11 v14 v3970 k0_hw119 => k0_hw119.2.1
theorem k0_idx223_inb : ∀ (v5 : IVec S16 32) (v8 : IVec S16 32) (v11 : IVec S16 32) (v14 : IVec S16 32) (v3970 : IVec S16 32) (k0_hw119 : k0_chk119 v5 v8 v11 v14 v3970), ∀ a x, ((![v11, v3970] : Fin 2 → IVec S16 32) a x).toNat < S64x128.size a := fun v5 v8 v11 v14 v3970 k0_hw119 => k0_hw119.2.2.1
theorem k0_idx224_inb : ∀ (v5 : IVec S16 32) (v8 : IVec S16 32) (v11 : IVec S16 32) (v14 : IVec S16 32) (v3970 : IVec S16 32) (k0_hw119 : k0_chk119 v5 v8 v11 v14 v3970), ∀ a x, ((![v14, v3970] : Fin 2 → IVec S16 32) a x).toNat < S64x128.size a := fun v5 v8 v11 v14 v3970 k0_hw119 => k0_hw119.2.2.2
def k0_mult64 (v3996 : BitVec 32) : BitVec 32 :=
  let c0_i32_3038 : BitVec 32 := 0#32
  let v3998 : BitVec 1 := Scalar.cmpi .sgt v3996 c0_i32_3038
  let v3999 : BitVec 32 := Scalar.extui v3998
  let c0_i32_3039 : BitVec 32 := 0#32
  let v4000 : BitVec 1 := Scalar.cmpi .slt v3996 c0_i32_3039
  let v4001 : BitVec 32 := Scalar.extui v4000
  let v4002 : BitVec 32 := Scalar.subi v3999 v4001
  let c128_i32_3037 : BitVec 32 := 128#32
  let c0_i32_3040 : BitVec 32 := 0#32
  let v4003 : BitVec 1 := Scalar.cmpi .sgt c128_i32_3037 c0_i32_3040
  let v4004 : BitVec 32 := Scalar.extui v4003
  let c0_i32_3041 : BitVec 32 := 0#32
  let v4005 : BitVec 1 := Scalar.cmpi .slt c128_i32_3037 c0_i32_3041
  let v4006 : BitVec 32 := Scalar.extui v4005
  let v4007 : BitVec 32 := Scalar.subi v4004 v4006
  let v4008 : BitVec 1 := Scalar.cmpi .ne v4002 v4007
  let v4009 : BitVec 32 := Scalar.remsi v3996 c128_i32_3037
  let c0_i32_3042 : BitVec 32 := 0#32
  let v4010 : BitVec 1 := Scalar.cmpi .ne v4009 c0_i32_3042
  let v4011 : BitVec 1 := Scalar.andi v4008 v4010
  let v3997 : BitVec 32 := Scalar.divsi v3996 c128_i32_3037
  let c1_i32_3043 : BitVec 32 := 1#32
  let v4012 : BitVec 32 := Scalar.subi v3997 c1_i32_3043
  let v4013 : BitVec 32 := Scalar.select v4011 v4012 v3997
  let c128_i32_3044 : BitVec 32 := 128#32
  let v4014 : BitVec 32 := Scalar.muli v4013 c128_i32_3044
  v4014

def k0_off72 (v3996 : BitVec 32) : Fin 2 → Nat :=
  let c0_i32_3048 : BitVec 32 := 0#32
  let c0_i32_3038 : BitVec 32 := 0#32
  let v3998 : BitVec 1 := Scalar.cmpi .sgt v3996 c0_i32_3038
  let v3999 : BitVec 32 := Scalar.extui v3998
  let c0_i32_3039 : BitVec 32 := 0#32
  let v4000 : BitVec 1 := Scalar.cmpi .slt v3996 c0_i32_3039
  let v4001 : BitVec 32 := Scalar.extui v4000
  let v4002 : BitVec 32 := Scalar.subi v3999 v4001
  let c128_i32_3037 : BitVec 32 := 128#32
  let c0_i32_3040 : BitVec 32 := 0#32
  let v4003 : BitVec 1 := Scalar.cmpi .sgt c128_i32_3037 c0_i32_3040
  let v4004 : BitVec 32 := Scalar.extui v4003
  let c0_i32_3041 : BitVec 32 := 0#32
  let v4005 : BitVec 1 := Scalar.cmpi .slt c128_i32_3037 c0_i32_3041
  let v4006 : BitVec 32 := Scalar.extui v4005
  let v4007 : BitVec 32 := Scalar.subi v4004 v4006
  let v4008 : BitVec 1 := Scalar.cmpi .ne v4002 v4007
  let v4009 : BitVec 32 := Scalar.remsi v3996 c128_i32_3037
  let c0_i32_3042 : BitVec 32 := 0#32
  let v4010 : BitVec 1 := Scalar.cmpi .ne v4009 c0_i32_3042
  let v4011 : BitVec 1 := Scalar.andi v4008 v4010
  let v3997 : BitVec 32 := Scalar.divsi v3996 c128_i32_3037
  let c1_i32_3043 : BitVec 32 := 1#32
  let v4012 : BitVec 32 := Scalar.subi v3997 c1_i32_3043
  let v4013 : BitVec 32 := Scalar.select v4011 v4012 v3997
  let c128_i32_3044 : BitVec 32 := 128#32
  let v4014 : BitVec 32 := Scalar.muli v4013 c128_i32_3044
  let v4015 : BitVec 32 := v4014
  ![0, v4015.toNat]

def k0_chk120 (v3996 : BitVec 32) : Prop :=
  (128 ∣ (k0_mult64 v3996).toNat) ∧
  (∀ a, (k0_off72 v3996) a + S64x128.size a ≤ S64x1000064.size a)
theorem k0_mult64_dvd : ∀ (v3996 : BitVec 32) (k0_hw120 : k0_chk120 v3996), 128 ∣ (k0_mult64 v3996).toNat := fun v3996 k0_hw120 => k0_hw120.1
theorem k0_off72_inb : ∀ (v3996 : BitVec 32) (k0_hw120 : k0_chk120 v3996), ∀ a, (k0_off72 v3996) a + S64x128.size a ≤ S64x1000064.size a := fun v3996 k0_hw120 => k0_hw120.2

def k0_chk121 (v5 : IVec S16 32) (v8 : IVec S16 32) (v11 : IVec S16 32) (v14 : IVec S16 32) (v4040 : IVec S16 32) : Prop :=
  (∀ a x, ((![v5, v4040] : Fin 2 → IVec S16 32) a x).toNat < S64x128.size a) ∧
  (∀ a x, ((![v8, v4040] : Fin 2 → IVec S16 32) a x).toNat < S64x128.size a) ∧
  (∀ a x, ((![v11, v4040] : Fin 2 → IVec S16 32) a x).toNat < S64x128.size a) ∧
  (∀ a x, ((![v14, v4040] : Fin 2 → IVec S16 32) a x).toNat < S64x128.size a)
theorem k0_idx225_inb : ∀ (v5 : IVec S16 32) (v8 : IVec S16 32) (v11 : IVec S16 32) (v14 : IVec S16 32) (v4040 : IVec S16 32) (k0_hw121 : k0_chk121 v5 v8 v11 v14 v4040), ∀ a x, ((![v5, v4040] : Fin 2 → IVec S16 32) a x).toNat < S64x128.size a := fun v5 v8 v11 v14 v4040 k0_hw121 => k0_hw121.1
theorem k0_idx226_inb : ∀ (v5 : IVec S16 32) (v8 : IVec S16 32) (v11 : IVec S16 32) (v14 : IVec S16 32) (v4040 : IVec S16 32) (k0_hw121 : k0_chk121 v5 v8 v11 v14 v4040), ∀ a x, ((![v8, v4040] : Fin 2 → IVec S16 32) a x).toNat < S64x128.size a := fun v5 v8 v11 v14 v4040 k0_hw121 => k0_hw121.2.1
theorem k0_idx227_inb : ∀ (v5 : IVec S16 32) (v8 : IVec S16 32) (v11 : IVec S16 32) (v14 : IVec S16 32) (v4040 : IVec S16 32) (k0_hw121 : k0_chk121 v5 v8 v11 v14 v4040), ∀ a x, ((![v11, v4040] : Fin 2 → IVec S16 32) a x).toNat < S64x128.size a := fun v5 v8 v11 v14 v4040 k0_hw121 => k0_hw121.2.2.1
theorem k0_idx228_inb : ∀ (v5 : IVec S16 32) (v8 : IVec S16 32) (v11 : IVec S16 32) (v14 : IVec S16 32) (v4040 : IVec S16 32) (k0_hw121 : k0_chk121 v5 v8 v11 v14 v4040), ∀ a x, ((![v14, v4040] : Fin 2 → IVec S16 32) a x).toNat < S64x128.size a := fun v5 v8 v11 v14 v4040 k0_hw121 => k0_hw121.2.2.2
def k0_cond11 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4067 : BitVec 32 := Scalar.extui v3461
  let c0_i32_3091 : BitVec 32 := 0#32
  let v4068 : BitVec 1 := Scalar.cmpi .ne v4067 c0_i32_3091
  v4068

def k0_mult65 (v4066 : BitVec 32) : BitVec 32 :=
  let c0_i32_3381 : BitVec 32 := 0#32
  let v4407 : BitVec 1 := Scalar.cmpi .sgt v4066 c0_i32_3381
  let v4408 : BitVec 32 := Scalar.extui v4407
  let c0_i32_3382 : BitVec 32 := 0#32
  let v4409 : BitVec 1 := Scalar.cmpi .slt v4066 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4066 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4066 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off73 (v4066 : BitVec 32) : Fin 2 → Nat :=
  let c0_i32_3391 : BitVec 32 := 0#32
  let c0_i32_3381 : BitVec 32 := 0#32
  let v4407 : BitVec 1 := Scalar.cmpi .sgt v4066 c0_i32_3381
  let v4408 : BitVec 32 := Scalar.extui v4407
  let c0_i32_3382 : BitVec 32 := 0#32
  let v4409 : BitVec 1 := Scalar.cmpi .slt v4066 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4066 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4066 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk122 (k0_t1 : Fin k0_t1_loop.trips) (v4066 : BitVec 32) : Prop :=
  (∀ (k0_h11 : k0_cond11 k0_t1 = 1#1), 128 ∣ (k0_mult65 v4066).toNat) ∧
  (∀ (k0_h11 : k0_cond11 k0_t1 = 1#1), ∀ a, (k0_off73 v4066) a + S64x128.size a ≤ S64x1000064.size a)
theorem k0_mult65_dvd : ∀ (k0_t1 : Fin k0_t1_loop.trips) (v4066 : BitVec 32) (k0_hw122 : k0_chk122 k0_t1 v4066), ∀ (k0_h11 : k0_cond11 k0_t1 = 1#1), 128 ∣ (k0_mult65 v4066).toNat := fun k0_t1 v4066 k0_hw122 k0_h11 => k0_hw122.1 k0_h11
theorem k0_off73_inb : ∀ (k0_t1 : Fin k0_t1_loop.trips) (v4066 : BitVec 32) (k0_hw122 : k0_chk122 k0_t1 v4066), ∀ (k0_h11 : k0_cond11 k0_t1 = 1#1), ∀ a, (k0_off73 v4066) a + S64x128.size a ≤ S64x1000064.size a := fun k0_t1 v4066 k0_hw122 k0_h11 => k0_hw122.2 k0_h11

def k0_chk123 (v5 : IVec S16 32) (v8 : IVec S16 32) (v11 : IVec S16 32) (v14 : IVec S16 32) (v4087 : IVec S16 32) : Prop :=
  (∀ a x, ((![v5, v4087] : Fin 2 → IVec S16 32) a x).toNat < S64x128.size a) ∧
  (∀ a x, ((![v8, v4087] : Fin 2 → IVec S16 32) a x).toNat < S64x128.size a) ∧
  (∀ a x, ((![v11, v4087] : Fin 2 → IVec S16 32) a x).toNat < S64x128.size a) ∧
  (∀ a x, ((![v14, v4087] : Fin 2 → IVec S16 32) a x).toNat < S64x128.size a)
theorem k0_idx229_inb : ∀ (v5 : IVec S16 32) (v8 : IVec S16 32) (v11 : IVec S16 32) (v14 : IVec S16 32) (v4087 : IVec S16 32) (k0_hw123 : k0_chk123 v5 v8 v11 v14 v4087), ∀ a x, ((![v5, v4087] : Fin 2 → IVec S16 32) a x).toNat < S64x128.size a := fun v5 v8 v11 v14 v4087 k0_hw123 => k0_hw123.1
theorem k0_idx230_inb : ∀ (v5 : IVec S16 32) (v8 : IVec S16 32) (v11 : IVec S16 32) (v14 : IVec S16 32) (v4087 : IVec S16 32) (k0_hw123 : k0_chk123 v5 v8 v11 v14 v4087), ∀ a x, ((![v8, v4087] : Fin 2 → IVec S16 32) a x).toNat < S64x128.size a := fun v5 v8 v11 v14 v4087 k0_hw123 => k0_hw123.2.1
theorem k0_idx231_inb : ∀ (v5 : IVec S16 32) (v8 : IVec S16 32) (v11 : IVec S16 32) (v14 : IVec S16 32) (v4087 : IVec S16 32) (k0_hw123 : k0_chk123 v5 v8 v11 v14 v4087), ∀ a x, ((![v11, v4087] : Fin 2 → IVec S16 32) a x).toNat < S64x128.size a := fun v5 v8 v11 v14 v4087 k0_hw123 => k0_hw123.2.2.1
theorem k0_idx232_inb : ∀ (v5 : IVec S16 32) (v8 : IVec S16 32) (v11 : IVec S16 32) (v14 : IVec S16 32) (v4087 : IVec S16 32) (k0_hw123 : k0_chk123 v5 v8 v11 v14 v4087), ∀ a x, ((![v14, v4087] : Fin 2 → IVec S16 32) a x).toNat < S64x128.size a := fun v5 v8 v11 v14 v4087 k0_hw123 => k0_hw123.2.2.2
def k0_cond12 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4114 : BitVec 32 := Scalar.extui v3461
  let c0_i32_3131 : BitVec 32 := 0#32
  let v4115 : BitVec 1 := Scalar.cmpi .ne v4114 c0_i32_3131
  v4115

def k0_mult66 (v4113 : BitVec 32) : BitVec 32 :=
  let c0_i32_3381 : BitVec 32 := 0#32
  let v4407 : BitVec 1 := Scalar.cmpi .sgt v4113 c0_i32_3381
  let v4408 : BitVec 32 := Scalar.extui v4407
  let c0_i32_3382 : BitVec 32 := 0#32
  let v4409 : BitVec 1 := Scalar.cmpi .slt v4113 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4113 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4113 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off74 (v4113 : BitVec 32) : Fin 2 → Nat :=
  let c0_i32_3391 : BitVec 32 := 0#32
  let c0_i32_3381 : BitVec 32 := 0#32
  let v4407 : BitVec 1 := Scalar.cmpi .sgt v4113 c0_i32_3381
  let v4408 : BitVec 32 := Scalar.extui v4407
  let c0_i32_3382 : BitVec 32 := 0#32
  let v4409 : BitVec 1 := Scalar.cmpi .slt v4113 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4113 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4113 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk124 (k0_t1 : Fin k0_t1_loop.trips) (v4113 : BitVec 32) : Prop :=
  (∀ (k0_h12 : k0_cond12 k0_t1 = 1#1), 128 ∣ (k0_mult66 v4113).toNat) ∧
  (∀ (k0_h12 : k0_cond12 k0_t1 = 1#1), ∀ a, (k0_off74 v4113) a + S64x128.size a ≤ S64x1000064.size a)
theorem k0_mult66_dvd : ∀ (k0_t1 : Fin k0_t1_loop.trips) (v4113 : BitVec 32) (k0_hw124 : k0_chk124 k0_t1 v4113), ∀ (k0_h12 : k0_cond12 k0_t1 = 1#1), 128 ∣ (k0_mult66 v4113).toNat := fun k0_t1 v4113 k0_hw124 k0_h12 => k0_hw124.1 k0_h12
theorem k0_off74_inb : ∀ (k0_t1 : Fin k0_t1_loop.trips) (v4113 : BitVec 32) (k0_hw124 : k0_chk124 k0_t1 v4113), ∀ (k0_h12 : k0_cond12 k0_t1 = 1#1), ∀ a, (k0_off74 v4113) a + S64x128.size a ≤ S64x1000064.size a := fun k0_t1 v4113 k0_hw124 k0_h12 => k0_hw124.2 k0_h12

def k0_chk125 (v5 : IVec S16 32) (v8 : IVec S16 32) (v11 : IVec S16 32) (v14 : IVec S16 32) (v4134 : IVec S16 32) : Prop :=
  (∀ a x, ((![v5, v4134] : Fin 2 → IVec S16 32) a x).toNat < S64x128.size a) ∧
  (∀ a x, ((![v8, v4134] : Fin 2 → IVec S16 32) a x).toNat < S64x128.size a) ∧
  (∀ a x, ((![v11, v4134] : Fin 2 → IVec S16 32) a x).toNat < S64x128.size a) ∧
  (∀ a x, ((![v14, v4134] : Fin 2 → IVec S16 32) a x).toNat < S64x128.size a)
theorem k0_idx233_inb : ∀ (v5 : IVec S16 32) (v8 : IVec S16 32) (v11 : IVec S16 32) (v14 : IVec S16 32) (v4134 : IVec S16 32) (k0_hw125 : k0_chk125 v5 v8 v11 v14 v4134), ∀ a x, ((![v5, v4134] : Fin 2 → IVec S16 32) a x).toNat < S64x128.size a := fun v5 v8 v11 v14 v4134 k0_hw125 => k0_hw125.1
theorem k0_idx234_inb : ∀ (v5 : IVec S16 32) (v8 : IVec S16 32) (v11 : IVec S16 32) (v14 : IVec S16 32) (v4134 : IVec S16 32) (k0_hw125 : k0_chk125 v5 v8 v11 v14 v4134), ∀ a x, ((![v8, v4134] : Fin 2 → IVec S16 32) a x).toNat < S64x128.size a := fun v5 v8 v11 v14 v4134 k0_hw125 => k0_hw125.2.1
theorem k0_idx235_inb : ∀ (v5 : IVec S16 32) (v8 : IVec S16 32) (v11 : IVec S16 32) (v14 : IVec S16 32) (v4134 : IVec S16 32) (k0_hw125 : k0_chk125 v5 v8 v11 v14 v4134), ∀ a x, ((![v11, v4134] : Fin 2 → IVec S16 32) a x).toNat < S64x128.size a := fun v5 v8 v11 v14 v4134 k0_hw125 => k0_hw125.2.2.1
theorem k0_idx236_inb : ∀ (v5 : IVec S16 32) (v8 : IVec S16 32) (v11 : IVec S16 32) (v14 : IVec S16 32) (v4134 : IVec S16 32) (k0_hw125 : k0_chk125 v5 v8 v11 v14 v4134), ∀ a x, ((![v14, v4134] : Fin 2 → IVec S16 32) a x).toNat < S64x128.size a := fun v5 v8 v11 v14 v4134 k0_hw125 => k0_hw125.2.2.2
def k0_cond13 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4161 : BitVec 32 := Scalar.extui v3461
  let c0_i32_3171 : BitVec 32 := 0#32
  let v4162 : BitVec 1 := Scalar.cmpi .ne v4161 c0_i32_3171
  v4162

def k0_mult67 (v4160 : BitVec 32) : BitVec 32 :=
  let c0_i32_3381 : BitVec 32 := 0#32
  let v4407 : BitVec 1 := Scalar.cmpi .sgt v4160 c0_i32_3381
  let v4408 : BitVec 32 := Scalar.extui v4407
  let c0_i32_3382 : BitVec 32 := 0#32
  let v4409 : BitVec 1 := Scalar.cmpi .slt v4160 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4160 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4160 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off75 (v4160 : BitVec 32) : Fin 2 → Nat :=
  let c0_i32_3391 : BitVec 32 := 0#32
  let c0_i32_3381 : BitVec 32 := 0#32
  let v4407 : BitVec 1 := Scalar.cmpi .sgt v4160 c0_i32_3381
  let v4408 : BitVec 32 := Scalar.extui v4407
  let c0_i32_3382 : BitVec 32 := 0#32
  let v4409 : BitVec 1 := Scalar.cmpi .slt v4160 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4160 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4160 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk126 (k0_t1 : Fin k0_t1_loop.trips) (v4160 : BitVec 32) : Prop :=
  (∀ (k0_h13 : k0_cond13 k0_t1 = 1#1), 128 ∣ (k0_mult67 v4160).toNat) ∧
  (∀ (k0_h13 : k0_cond13 k0_t1 = 1#1), ∀ a, (k0_off75 v4160) a + S64x128.size a ≤ S64x1000064.size a)
theorem k0_mult67_dvd : ∀ (k0_t1 : Fin k0_t1_loop.trips) (v4160 : BitVec 32) (k0_hw126 : k0_chk126 k0_t1 v4160), ∀ (k0_h13 : k0_cond13 k0_t1 = 1#1), 128 ∣ (k0_mult67 v4160).toNat := fun k0_t1 v4160 k0_hw126 k0_h13 => k0_hw126.1 k0_h13
theorem k0_off75_inb : ∀ (k0_t1 : Fin k0_t1_loop.trips) (v4160 : BitVec 32) (k0_hw126 : k0_chk126 k0_t1 v4160), ∀ (k0_h13 : k0_cond13 k0_t1 = 1#1), ∀ a, (k0_off75 v4160) a + S64x128.size a ≤ S64x1000064.size a := fun k0_t1 v4160 k0_hw126 k0_h13 => k0_hw126.2 k0_h13

def k0_chk127 (v5 : IVec S16 32) (v8 : IVec S16 32) (v11 : IVec S16 32) (v14 : IVec S16 32) (v4181 : IVec S16 32) : Prop :=
  (∀ a x, ((![v5, v4181] : Fin 2 → IVec S16 32) a x).toNat < S64x128.size a) ∧
  (∀ a x, ((![v8, v4181] : Fin 2 → IVec S16 32) a x).toNat < S64x128.size a) ∧
  (∀ a x, ((![v11, v4181] : Fin 2 → IVec S16 32) a x).toNat < S64x128.size a) ∧
  (∀ a x, ((![v14, v4181] : Fin 2 → IVec S16 32) a x).toNat < S64x128.size a)
theorem k0_idx237_inb : ∀ (v5 : IVec S16 32) (v8 : IVec S16 32) (v11 : IVec S16 32) (v14 : IVec S16 32) (v4181 : IVec S16 32) (k0_hw127 : k0_chk127 v5 v8 v11 v14 v4181), ∀ a x, ((![v5, v4181] : Fin 2 → IVec S16 32) a x).toNat < S64x128.size a := fun v5 v8 v11 v14 v4181 k0_hw127 => k0_hw127.1
theorem k0_idx238_inb : ∀ (v5 : IVec S16 32) (v8 : IVec S16 32) (v11 : IVec S16 32) (v14 : IVec S16 32) (v4181 : IVec S16 32) (k0_hw127 : k0_chk127 v5 v8 v11 v14 v4181), ∀ a x, ((![v8, v4181] : Fin 2 → IVec S16 32) a x).toNat < S64x128.size a := fun v5 v8 v11 v14 v4181 k0_hw127 => k0_hw127.2.1
theorem k0_idx239_inb : ∀ (v5 : IVec S16 32) (v8 : IVec S16 32) (v11 : IVec S16 32) (v14 : IVec S16 32) (v4181 : IVec S16 32) (k0_hw127 : k0_chk127 v5 v8 v11 v14 v4181), ∀ a x, ((![v11, v4181] : Fin 2 → IVec S16 32) a x).toNat < S64x128.size a := fun v5 v8 v11 v14 v4181 k0_hw127 => k0_hw127.2.2.1
theorem k0_idx240_inb : ∀ (v5 : IVec S16 32) (v8 : IVec S16 32) (v11 : IVec S16 32) (v14 : IVec S16 32) (v4181 : IVec S16 32) (k0_hw127 : k0_chk127 v5 v8 v11 v14 v4181), ∀ a x, ((![v14, v4181] : Fin 2 → IVec S16 32) a x).toNat < S64x128.size a := fun v5 v8 v11 v14 v4181 k0_hw127 => k0_hw127.2.2.2
def k0_cond14 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4208 : BitVec 32 := Scalar.extui v3461
  let c0_i32_3211 : BitVec 32 := 0#32
  let v4209 : BitVec 1 := Scalar.cmpi .ne v4208 c0_i32_3211
  v4209

def k0_mult68 (v4207 : BitVec 32) : BitVec 32 :=
  let c0_i32_3381 : BitVec 32 := 0#32
  let v4407 : BitVec 1 := Scalar.cmpi .sgt v4207 c0_i32_3381
  let v4408 : BitVec 32 := Scalar.extui v4407
  let c0_i32_3382 : BitVec 32 := 0#32
  let v4409 : BitVec 1 := Scalar.cmpi .slt v4207 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4207 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4207 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off76 (v4207 : BitVec 32) : Fin 2 → Nat :=
  let c0_i32_3391 : BitVec 32 := 0#32
  let c0_i32_3381 : BitVec 32 := 0#32
  let v4407 : BitVec 1 := Scalar.cmpi .sgt v4207 c0_i32_3381
  let v4408 : BitVec 32 := Scalar.extui v4407
  let c0_i32_3382 : BitVec 32 := 0#32
  let v4409 : BitVec 1 := Scalar.cmpi .slt v4207 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4207 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4207 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk128 (k0_t1 : Fin k0_t1_loop.trips) (v4207 : BitVec 32) : Prop :=
  (∀ (k0_h14 : k0_cond14 k0_t1 = 1#1), 128 ∣ (k0_mult68 v4207).toNat) ∧
  (∀ (k0_h14 : k0_cond14 k0_t1 = 1#1), ∀ a, (k0_off76 v4207) a + S64x128.size a ≤ S64x1000064.size a)
theorem k0_mult68_dvd : ∀ (k0_t1 : Fin k0_t1_loop.trips) (v4207 : BitVec 32) (k0_hw128 : k0_chk128 k0_t1 v4207), ∀ (k0_h14 : k0_cond14 k0_t1 = 1#1), 128 ∣ (k0_mult68 v4207).toNat := fun k0_t1 v4207 k0_hw128 k0_h14 => k0_hw128.1 k0_h14
theorem k0_off76_inb : ∀ (k0_t1 : Fin k0_t1_loop.trips) (v4207 : BitVec 32) (k0_hw128 : k0_chk128 k0_t1 v4207), ∀ (k0_h14 : k0_cond14 k0_t1 = 1#1), ∀ a, (k0_off76 v4207) a + S64x128.size a ≤ S64x1000064.size a := fun k0_t1 v4207 k0_hw128 k0_h14 => k0_hw128.2 k0_h14

def k0_chk129 (v5 : IVec S16 32) (v8 : IVec S16 32) (v11 : IVec S16 32) (v14 : IVec S16 32) (v4228 : IVec S16 32) : Prop :=
  (∀ a x, ((![v5, v4228] : Fin 2 → IVec S16 32) a x).toNat < S64x128.size a) ∧
  (∀ a x, ((![v8, v4228] : Fin 2 → IVec S16 32) a x).toNat < S64x128.size a) ∧
  (∀ a x, ((![v11, v4228] : Fin 2 → IVec S16 32) a x).toNat < S64x128.size a) ∧
  (∀ a x, ((![v14, v4228] : Fin 2 → IVec S16 32) a x).toNat < S64x128.size a)
theorem k0_idx241_inb : ∀ (v5 : IVec S16 32) (v8 : IVec S16 32) (v11 : IVec S16 32) (v14 : IVec S16 32) (v4228 : IVec S16 32) (k0_hw129 : k0_chk129 v5 v8 v11 v14 v4228), ∀ a x, ((![v5, v4228] : Fin 2 → IVec S16 32) a x).toNat < S64x128.size a := fun v5 v8 v11 v14 v4228 k0_hw129 => k0_hw129.1
theorem k0_idx242_inb : ∀ (v5 : IVec S16 32) (v8 : IVec S16 32) (v11 : IVec S16 32) (v14 : IVec S16 32) (v4228 : IVec S16 32) (k0_hw129 : k0_chk129 v5 v8 v11 v14 v4228), ∀ a x, ((![v8, v4228] : Fin 2 → IVec S16 32) a x).toNat < S64x128.size a := fun v5 v8 v11 v14 v4228 k0_hw129 => k0_hw129.2.1
theorem k0_idx243_inb : ∀ (v5 : IVec S16 32) (v8 : IVec S16 32) (v11 : IVec S16 32) (v14 : IVec S16 32) (v4228 : IVec S16 32) (k0_hw129 : k0_chk129 v5 v8 v11 v14 v4228), ∀ a x, ((![v11, v4228] : Fin 2 → IVec S16 32) a x).toNat < S64x128.size a := fun v5 v8 v11 v14 v4228 k0_hw129 => k0_hw129.2.2.1
theorem k0_idx244_inb : ∀ (v5 : IVec S16 32) (v8 : IVec S16 32) (v11 : IVec S16 32) (v14 : IVec S16 32) (v4228 : IVec S16 32) (k0_hw129 : k0_chk129 v5 v8 v11 v14 v4228), ∀ a x, ((![v14, v4228] : Fin 2 → IVec S16 32) a x).toNat < S64x128.size a := fun v5 v8 v11 v14 v4228 k0_hw129 => k0_hw129.2.2.2
def k0_cond15 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4255 : BitVec 32 := Scalar.extui v3461
  let c0_i32_3251 : BitVec 32 := 0#32
  let v4256 : BitVec 1 := Scalar.cmpi .ne v4255 c0_i32_3251
  v4256

def k0_mult69 (v4254 : BitVec 32) : BitVec 32 :=
  let c0_i32_3381 : BitVec 32 := 0#32
  let v4407 : BitVec 1 := Scalar.cmpi .sgt v4254 c0_i32_3381
  let v4408 : BitVec 32 := Scalar.extui v4407
  let c0_i32_3382 : BitVec 32 := 0#32
  let v4409 : BitVec 1 := Scalar.cmpi .slt v4254 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4254 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4254 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off77 (v4254 : BitVec 32) : Fin 2 → Nat :=
  let c0_i32_3391 : BitVec 32 := 0#32
  let c0_i32_3381 : BitVec 32 := 0#32
  let v4407 : BitVec 1 := Scalar.cmpi .sgt v4254 c0_i32_3381
  let v4408 : BitVec 32 := Scalar.extui v4407
  let c0_i32_3382 : BitVec 32 := 0#32
  let v4409 : BitVec 1 := Scalar.cmpi .slt v4254 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4254 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4254 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk130 (k0_t1 : Fin k0_t1_loop.trips) (v4254 : BitVec 32) : Prop :=
  (∀ (k0_h15 : k0_cond15 k0_t1 = 1#1), 128 ∣ (k0_mult69 v4254).toNat) ∧
  (∀ (k0_h15 : k0_cond15 k0_t1 = 1#1), ∀ a, (k0_off77 v4254) a + S64x128.size a ≤ S64x1000064.size a)
theorem k0_mult69_dvd : ∀ (k0_t1 : Fin k0_t1_loop.trips) (v4254 : BitVec 32) (k0_hw130 : k0_chk130 k0_t1 v4254), ∀ (k0_h15 : k0_cond15 k0_t1 = 1#1), 128 ∣ (k0_mult69 v4254).toNat := fun k0_t1 v4254 k0_hw130 k0_h15 => k0_hw130.1 k0_h15
theorem k0_off77_inb : ∀ (k0_t1 : Fin k0_t1_loop.trips) (v4254 : BitVec 32) (k0_hw130 : k0_chk130 k0_t1 v4254), ∀ (k0_h15 : k0_cond15 k0_t1 = 1#1), ∀ a, (k0_off77 v4254) a + S64x128.size a ≤ S64x1000064.size a := fun k0_t1 v4254 k0_hw130 k0_h15 => k0_hw130.2 k0_h15

def k0_chk131 (v5 : IVec S16 32) (v8 : IVec S16 32) (v11 : IVec S16 32) (v14 : IVec S16 32) (v4275 : IVec S16 32) : Prop :=
  (∀ a x, ((![v5, v4275] : Fin 2 → IVec S16 32) a x).toNat < S64x128.size a) ∧
  (∀ a x, ((![v8, v4275] : Fin 2 → IVec S16 32) a x).toNat < S64x128.size a) ∧
  (∀ a x, ((![v11, v4275] : Fin 2 → IVec S16 32) a x).toNat < S64x128.size a) ∧
  (∀ a x, ((![v14, v4275] : Fin 2 → IVec S16 32) a x).toNat < S64x128.size a)
theorem k0_idx245_inb : ∀ (v5 : IVec S16 32) (v8 : IVec S16 32) (v11 : IVec S16 32) (v14 : IVec S16 32) (v4275 : IVec S16 32) (k0_hw131 : k0_chk131 v5 v8 v11 v14 v4275), ∀ a x, ((![v5, v4275] : Fin 2 → IVec S16 32) a x).toNat < S64x128.size a := fun v5 v8 v11 v14 v4275 k0_hw131 => k0_hw131.1
theorem k0_idx246_inb : ∀ (v5 : IVec S16 32) (v8 : IVec S16 32) (v11 : IVec S16 32) (v14 : IVec S16 32) (v4275 : IVec S16 32) (k0_hw131 : k0_chk131 v5 v8 v11 v14 v4275), ∀ a x, ((![v8, v4275] : Fin 2 → IVec S16 32) a x).toNat < S64x128.size a := fun v5 v8 v11 v14 v4275 k0_hw131 => k0_hw131.2.1
theorem k0_idx247_inb : ∀ (v5 : IVec S16 32) (v8 : IVec S16 32) (v11 : IVec S16 32) (v14 : IVec S16 32) (v4275 : IVec S16 32) (k0_hw131 : k0_chk131 v5 v8 v11 v14 v4275), ∀ a x, ((![v11, v4275] : Fin 2 → IVec S16 32) a x).toNat < S64x128.size a := fun v5 v8 v11 v14 v4275 k0_hw131 => k0_hw131.2.2.1
theorem k0_idx248_inb : ∀ (v5 : IVec S16 32) (v8 : IVec S16 32) (v11 : IVec S16 32) (v14 : IVec S16 32) (v4275 : IVec S16 32) (k0_hw131 : k0_chk131 v5 v8 v11 v14 v4275), ∀ a x, ((![v14, v4275] : Fin 2 → IVec S16 32) a x).toNat < S64x128.size a := fun v5 v8 v11 v14 v4275 k0_hw131 => k0_hw131.2.2.2
def k0_cond16 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4302 : BitVec 32 := Scalar.extui v3461
  let c0_i32_3291 : BitVec 32 := 0#32
  let v4303 : BitVec 1 := Scalar.cmpi .ne v4302 c0_i32_3291
  v4303

def k0_mult70 (v4301 : BitVec 32) : BitVec 32 :=
  let c0_i32_3381 : BitVec 32 := 0#32
  let v4407 : BitVec 1 := Scalar.cmpi .sgt v4301 c0_i32_3381
  let v4408 : BitVec 32 := Scalar.extui v4407
  let c0_i32_3382 : BitVec 32 := 0#32
  let v4409 : BitVec 1 := Scalar.cmpi .slt v4301 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4301 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4301 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off78 (v4301 : BitVec 32) : Fin 2 → Nat :=
  let c0_i32_3391 : BitVec 32 := 0#32
  let c0_i32_3381 : BitVec 32 := 0#32
  let v4407 : BitVec 1 := Scalar.cmpi .sgt v4301 c0_i32_3381
  let v4408 : BitVec 32 := Scalar.extui v4407
  let c0_i32_3382 : BitVec 32 := 0#32
  let v4409 : BitVec 1 := Scalar.cmpi .slt v4301 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4301 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4301 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk132 (k0_t1 : Fin k0_t1_loop.trips) (v4301 : BitVec 32) : Prop :=
  (∀ (k0_h16 : k0_cond16 k0_t1 = 1#1), 128 ∣ (k0_mult70 v4301).toNat) ∧
  (∀ (k0_h16 : k0_cond16 k0_t1 = 1#1), ∀ a, (k0_off78 v4301) a + S64x128.size a ≤ S64x1000064.size a)
theorem k0_mult70_dvd : ∀ (k0_t1 : Fin k0_t1_loop.trips) (v4301 : BitVec 32) (k0_hw132 : k0_chk132 k0_t1 v4301), ∀ (k0_h16 : k0_cond16 k0_t1 = 1#1), 128 ∣ (k0_mult70 v4301).toNat := fun k0_t1 v4301 k0_hw132 k0_h16 => k0_hw132.1 k0_h16
theorem k0_off78_inb : ∀ (k0_t1 : Fin k0_t1_loop.trips) (v4301 : BitVec 32) (k0_hw132 : k0_chk132 k0_t1 v4301), ∀ (k0_h16 : k0_cond16 k0_t1 = 1#1), ∀ a, (k0_off78 v4301) a + S64x128.size a ≤ S64x1000064.size a := fun k0_t1 v4301 k0_hw132 k0_h16 => k0_hw132.2 k0_h16

def k0_chk133 (v5 : IVec S16 32) (v8 : IVec S16 32) (v11 : IVec S16 32) (v14 : IVec S16 32) (v4322 : IVec S16 32) : Prop :=
  (∀ a x, ((![v5, v4322] : Fin 2 → IVec S16 32) a x).toNat < S64x128.size a) ∧
  (∀ a x, ((![v8, v4322] : Fin 2 → IVec S16 32) a x).toNat < S64x128.size a) ∧
  (∀ a x, ((![v11, v4322] : Fin 2 → IVec S16 32) a x).toNat < S64x128.size a) ∧
  (∀ a x, ((![v14, v4322] : Fin 2 → IVec S16 32) a x).toNat < S64x128.size a)
theorem k0_idx249_inb : ∀ (v5 : IVec S16 32) (v8 : IVec S16 32) (v11 : IVec S16 32) (v14 : IVec S16 32) (v4322 : IVec S16 32) (k0_hw133 : k0_chk133 v5 v8 v11 v14 v4322), ∀ a x, ((![v5, v4322] : Fin 2 → IVec S16 32) a x).toNat < S64x128.size a := fun v5 v8 v11 v14 v4322 k0_hw133 => k0_hw133.1
theorem k0_idx250_inb : ∀ (v5 : IVec S16 32) (v8 : IVec S16 32) (v11 : IVec S16 32) (v14 : IVec S16 32) (v4322 : IVec S16 32) (k0_hw133 : k0_chk133 v5 v8 v11 v14 v4322), ∀ a x, ((![v8, v4322] : Fin 2 → IVec S16 32) a x).toNat < S64x128.size a := fun v5 v8 v11 v14 v4322 k0_hw133 => k0_hw133.2.1
theorem k0_idx251_inb : ∀ (v5 : IVec S16 32) (v8 : IVec S16 32) (v11 : IVec S16 32) (v14 : IVec S16 32) (v4322 : IVec S16 32) (k0_hw133 : k0_chk133 v5 v8 v11 v14 v4322), ∀ a x, ((![v11, v4322] : Fin 2 → IVec S16 32) a x).toNat < S64x128.size a := fun v5 v8 v11 v14 v4322 k0_hw133 => k0_hw133.2.2.1
theorem k0_idx252_inb : ∀ (v5 : IVec S16 32) (v8 : IVec S16 32) (v11 : IVec S16 32) (v14 : IVec S16 32) (v4322 : IVec S16 32) (k0_hw133 : k0_chk133 v5 v8 v11 v14 v4322), ∀ a x, ((![v14, v4322] : Fin 2 → IVec S16 32) a x).toNat < S64x128.size a := fun v5 v8 v11 v14 v4322 k0_hw133 => k0_hw133.2.2.2
def k0_cond17 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4349 : BitVec 32 := Scalar.extui v3461
  let c0_i32_3331 : BitVec 32 := 0#32
  let v4350 : BitVec 1 := Scalar.cmpi .ne v4349 c0_i32_3331
  v4350

def k0_mult71 (v4348 : BitVec 32) : BitVec 32 :=
  let c0_i32_3381 : BitVec 32 := 0#32
  let v4407 : BitVec 1 := Scalar.cmpi .sgt v4348 c0_i32_3381
  let v4408 : BitVec 32 := Scalar.extui v4407
  let c0_i32_3382 : BitVec 32 := 0#32
  let v4409 : BitVec 1 := Scalar.cmpi .slt v4348 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4348 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4348 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off79 (v4348 : BitVec 32) : Fin 2 → Nat :=
  let c0_i32_3391 : BitVec 32 := 0#32
  let c0_i32_3381 : BitVec 32 := 0#32
  let v4407 : BitVec 1 := Scalar.cmpi .sgt v4348 c0_i32_3381
  let v4408 : BitVec 32 := Scalar.extui v4407
  let c0_i32_3382 : BitVec 32 := 0#32
  let v4409 : BitVec 1 := Scalar.cmpi .slt v4348 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4348 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4348 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk134 (k0_t1 : Fin k0_t1_loop.trips) (v4348 : BitVec 32) : Prop :=
  (∀ (k0_h17 : k0_cond17 k0_t1 = 1#1), 128 ∣ (k0_mult71 v4348).toNat) ∧
  (∀ (k0_h17 : k0_cond17 k0_t1 = 1#1), ∀ a, (k0_off79 v4348) a + S64x128.size a ≤ S64x1000064.size a)
theorem k0_mult71_dvd : ∀ (k0_t1 : Fin k0_t1_loop.trips) (v4348 : BitVec 32) (k0_hw134 : k0_chk134 k0_t1 v4348), ∀ (k0_h17 : k0_cond17 k0_t1 = 1#1), 128 ∣ (k0_mult71 v4348).toNat := fun k0_t1 v4348 k0_hw134 k0_h17 => k0_hw134.1 k0_h17
theorem k0_off79_inb : ∀ (k0_t1 : Fin k0_t1_loop.trips) (v4348 : BitVec 32) (k0_hw134 : k0_chk134 k0_t1 v4348), ∀ (k0_h17 : k0_cond17 k0_t1 = 1#1), ∀ a, (k0_off79 v4348) a + S64x128.size a ≤ S64x1000064.size a := fun k0_t1 v4348 k0_hw134 k0_h17 => k0_hw134.2 k0_h17

def k0_chk135 (v5 : IVec S16 32) (v8 : IVec S16 32) (v11 : IVec S16 32) (v14 : IVec S16 32) (v4369 : IVec S16 32) : Prop :=
  (∀ a x, ((![v5, v4369] : Fin 2 → IVec S16 32) a x).toNat < S64x128.size a) ∧
  (∀ a x, ((![v8, v4369] : Fin 2 → IVec S16 32) a x).toNat < S64x128.size a) ∧
  (∀ a x, ((![v11, v4369] : Fin 2 → IVec S16 32) a x).toNat < S64x128.size a) ∧
  (∀ a x, ((![v14, v4369] : Fin 2 → IVec S16 32) a x).toNat < S64x128.size a)
theorem k0_idx253_inb : ∀ (v5 : IVec S16 32) (v8 : IVec S16 32) (v11 : IVec S16 32) (v14 : IVec S16 32) (v4369 : IVec S16 32) (k0_hw135 : k0_chk135 v5 v8 v11 v14 v4369), ∀ a x, ((![v5, v4369] : Fin 2 → IVec S16 32) a x).toNat < S64x128.size a := fun v5 v8 v11 v14 v4369 k0_hw135 => k0_hw135.1
theorem k0_idx254_inb : ∀ (v5 : IVec S16 32) (v8 : IVec S16 32) (v11 : IVec S16 32) (v14 : IVec S16 32) (v4369 : IVec S16 32) (k0_hw135 : k0_chk135 v5 v8 v11 v14 v4369), ∀ a x, ((![v8, v4369] : Fin 2 → IVec S16 32) a x).toNat < S64x128.size a := fun v5 v8 v11 v14 v4369 k0_hw135 => k0_hw135.2.1
theorem k0_idx255_inb : ∀ (v5 : IVec S16 32) (v8 : IVec S16 32) (v11 : IVec S16 32) (v14 : IVec S16 32) (v4369 : IVec S16 32) (k0_hw135 : k0_chk135 v5 v8 v11 v14 v4369), ∀ a x, ((![v11, v4369] : Fin 2 → IVec S16 32) a x).toNat < S64x128.size a := fun v5 v8 v11 v14 v4369 k0_hw135 => k0_hw135.2.2.1
theorem k0_idx256_inb : ∀ (v5 : IVec S16 32) (v8 : IVec S16 32) (v11 : IVec S16 32) (v14 : IVec S16 32) (v4369 : IVec S16 32) (k0_hw135 : k0_chk135 v5 v8 v11 v14 v4369), ∀ a x, ((![v14, v4369] : Fin 2 → IVec S16 32) a x).toNat < S64x128.size a := fun v5 v8 v11 v14 v4369 k0_hw135 => k0_hw135.2.2.2
def k0_cond18 (k0_t1 : Fin k0_t1_loop.trips) : BitVec 1 :=
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c31_i32_2619 : BitVec 32 := 31#32
  let v3461 : BitVec 1 := Scalar.cmpi .slt v2327 c31_i32_2619
  let v4396 : BitVec 32 := Scalar.extui v3461
  let c0_i32_3371 : BitVec 32 := 0#32
  let v4397 : BitVec 1 := Scalar.cmpi .ne v4396 c0_i32_3371
  v4397

def k0_mult72 (v4395 : BitVec 32) : BitVec 32 :=
  let c0_i32_3381 : BitVec 32 := 0#32
  let v4407 : BitVec 1 := Scalar.cmpi .sgt v4395 c0_i32_3381
  let v4408 : BitVec 32 := Scalar.extui v4407
  let c0_i32_3382 : BitVec 32 := 0#32
  let v4409 : BitVec 1 := Scalar.cmpi .slt v4395 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4395 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4395 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  v4423

def k0_off80 (v4395 : BitVec 32) : Fin 2 → Nat :=
  let c0_i32_3391 : BitVec 32 := 0#32
  let c0_i32_3381 : BitVec 32 := 0#32
  let v4407 : BitVec 1 := Scalar.cmpi .sgt v4395 c0_i32_3381
  let v4408 : BitVec 32 := Scalar.extui v4407
  let c0_i32_3382 : BitVec 32 := 0#32
  let v4409 : BitVec 1 := Scalar.cmpi .slt v4395 c0_i32_3382
  let v4410 : BitVec 32 := Scalar.extui v4409
  let v4411 : BitVec 32 := Scalar.subi v4408 v4410
  let c128_i32_3380 : BitVec 32 := 128#32
  let c0_i32_3383 : BitVec 32 := 0#32
  let v4412 : BitVec 1 := Scalar.cmpi .sgt c128_i32_3380 c0_i32_3383
  let v4413 : BitVec 32 := Scalar.extui v4412
  let c0_i32_3384 : BitVec 32 := 0#32
  let v4414 : BitVec 1 := Scalar.cmpi .slt c128_i32_3380 c0_i32_3384
  let v4415 : BitVec 32 := Scalar.extui v4414
  let v4416 : BitVec 32 := Scalar.subi v4413 v4415
  let v4417 : BitVec 1 := Scalar.cmpi .ne v4411 v4416
  let v4418 : BitVec 32 := Scalar.remsi v4395 c128_i32_3380
  let c0_i32_3385 : BitVec 32 := 0#32
  let v4419 : BitVec 1 := Scalar.cmpi .ne v4418 c0_i32_3385
  let v4420 : BitVec 1 := Scalar.andi v4417 v4419
  let v4406 : BitVec 32 := Scalar.divsi v4395 c128_i32_3380
  let c1_i32_3386 : BitVec 32 := 1#32
  let v4421 : BitVec 32 := Scalar.subi v4406 c1_i32_3386
  let v4422 : BitVec 32 := Scalar.select v4420 v4421 v4406
  let c128_i32_3387 : BitVec 32 := 128#32
  let v4423 : BitVec 32 := Scalar.muli v4422 c128_i32_3387
  let v4424 : BitVec 32 := v4423
  ![0, v4424.toNat]

def k0_chk136 (k0_t1 : Fin k0_t1_loop.trips) (v4395 : BitVec 32) : Prop :=
  (∀ (k0_h18 : k0_cond18 k0_t1 = 1#1), 128 ∣ (k0_mult72 v4395).toNat) ∧
  (∀ (k0_h18 : k0_cond18 k0_t1 = 1#1), ∀ a, (k0_off80 v4395) a + S64x128.size a ≤ S64x1000064.size a)
theorem k0_mult72_dvd : ∀ (k0_t1 : Fin k0_t1_loop.trips) (v4395 : BitVec 32) (k0_hw136 : k0_chk136 k0_t1 v4395), ∀ (k0_h18 : k0_cond18 k0_t1 = 1#1), 128 ∣ (k0_mult72 v4395).toNat := fun k0_t1 v4395 k0_hw136 k0_h18 => k0_hw136.1 k0_h18
theorem k0_off80_inb : ∀ (k0_t1 : Fin k0_t1_loop.trips) (v4395 : BitVec 32) (k0_hw136 : k0_chk136 k0_t1 v4395), ∀ (k0_h18 : k0_cond18 k0_t1 = 1#1), ∀ a, (k0_off80 v4395) a + S64x128.size a ≤ S64x1000064.size a := fun k0_t1 v4395 k0_hw136 k0_h18 => k0_hw136.2 k0_h18

def k0_off81 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_113 : BitVec 32 := 0#32
  let c1_i32_115 : BitVec 32 := 1#32
  let arg21 : BitVec 32 := Scf.iv c0_i32_113 c1_i32_115 k0_t1
  let c2_i32_1747 : BitVec 32 := 2#32
  let v2326 : BitVec 32 := Scalar.muli arg21 c2_i32_1747
  let c1_i32_1748 : BitVec 32 := 1#32
  let v2327 : BitVec 32 := Scalar.addi v2326 c1_i32_1748
  let c16_i32_3372 : BitVec 32 := 16#32
  let v4398 : BitVec 32 := Scalar.muli v2327 c16_i32_3372
  let v4399 : BitVec 32 := Scalar.addi v2 v4398
  let c0_i32_3376 : BitVec 32 := 0#32
  ![v4399.toNat, 0]
def k0_off82 (i : grid0.Coords) (c480_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v233 : BitVec 32 := Scalar.addi v2 c480_i32
  let c0_i32_120 : BitVec 32 := 0#32
  ![v233.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S1x64 : Shape := ⟨2, ![1, 64]⟩
abbrev S16384x32 : Shape := ⟨2, ![16384, 32]⟩
abbrev S1x32 : Shape := ⟨2, ![1, 32]⟩

abbrev nBuf : Space → Nat
  | .hbm => 75
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x64, .f32⟩
  | .hbm, ⟨29, _⟩ => ⟨S16384x64, .i1⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x64, .f32⟩
  | .hbm, ⟨52, _⟩ => ⟨S16384x64, .i1⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S16384x128, .f32⟩
  | .hbm, ⟨57, _⟩ => ⟨S16384x64, .f32⟩
  | .hbm, ⟨58, _⟩ => ⟨S1x64, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S16384x32, .f32⟩
  | .hbm, ⟨65, _⟩ => ⟨S1x32, .f32⟩
  | .hbm, ⟨66, _⟩ => ⟨S16384x32, .f32⟩
  | .hbm, ⟨67, _⟩ => ⟨S16384x32, .f32⟩
  | .hbm, ⟨68, _⟩ => ⟨S_, .f32⟩
  | .hbm, ⟨69, _⟩ => ⟨S16384x32, .f32⟩
  | .hbm, ⟨70, _⟩ => ⟨S16384x32, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_cst : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_0 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩

abbrev nD : Nat := 1
abbrev τ : Topo := Topo.v7x

variable {F : FTy → Type} [FloatOps F]
-- ==== Proof.Ideal.Rows.lean ====
module

public import proofs.«01_k».proof.Proof.Gen.KernelIdeal.Skeleton

@[expose] public section

noncomputable section

namespace Cert.KernelIdeal.Rows

open Idealize.ShloMosaic Idealize.SL.Sem

variable {F : FTy → Type} [FloatOps F]
variable [Facts]
open Facts₀ Facts

/-- The memory a tile's body works on: the two tables, the ids, the output, and the tile's scratch. -/
structure Mem where
  ut : Memref sig .scVector .hbm S64x1000064 .f32
  it : Memref sig .scVector .hbm S64x1000064 .f32
  uid : Memref sig .scVector .hbm S16384 .i32
  iid : Memref sig .scVector .hbm S16384 .i32
  out : Memref sig .scVector .hbm S16384x128 .f32
  uv : Memref sig .scVector .vmem S512 .i32
  iv : Memref sig .scVector .vmem S512 .i32
  ring : Memref sig .scVector .vmem S8x64x128 .f32
  stage : Memref sig .scVector .vmem S2x16x128 .f32
  rs : Fin 8 → DmaSems sig S_
  fs : Fin 2 → DmaSems sig S_
  s0 : DmaSems sig S_
  s1 : DmaSems sig S_

/-- A lane's number among 128: an id's remainder modulo 128, in the operations of the kernel. -/
def lane (c : BitVec 32) : BitVec 32 :=
  let d : BitVec 32 := Scalar.select (Scalar.cmpi .eq 128#32 0#32) 1#32 128#32
  let r : BitVec 32 := Scalar.remsi c d
  Scalar.select (Scalar.andi (Scalar.xori (Scalar.cmpi .slt r 0#32) (Scalar.cmpi .slt d 0#32)) (Scalar.cmpi .ne r 0#32))
    (Scalar.addi r d) r

/-- Sixteen lanes counted from a base. -/
def lanesFrom (b : BitVec 32) : IVec S16 32 :=
  addi (iota .scVector S16 32 [0] iota_S16_d0_w32_scVector) (broadcast S16 b)

/-- A slot lies within the ring. -/
theorem slot_inb (s : Fin 8) : ∀ a, (![s.val, 0, 0] : Fin 3 → Nat) a + S1x64x128.size a ≤ S8x64x128.size a := by
  intro a; have := s.isLt; fin_cases a <;> simp [Shape.size] <;> omega

/-- A half lies within the staging buffer. -/
theorem stage_inb (g : Fin 2) : ∀ a, (![g.val, 0, 0] : Fin 3 → Nat) a + S1x16x128.size a ≤ S2x16x128.size a := by
  intro a; have := g.isLt; fin_cases a <;> simp [Shape.size] <;> omega

/-- A chunk of a staged row lies within the staging buffer. -/
theorem chunk_inb (g : Fin 2) (l : Fin 16) (q : Fin 8) :
    ∀ a, (![g.val, l.val, 16 * q.val] : Fin 3 → Nat) a + S1x1x16.size a ≤ S2x16x128.size a := by
  intro a; have := g.isLt; have := l.isLt; have := q.isLt
  fin_cases a <;> simp [Shape.size] <;> omega

/-- Each lane of sixteen can be taken out. -/
theorem lane_slices (l : Fin 16) : S16.Slices ![l.val] S1 := by
  revert l; decide

/-- Ring slot `s`, as a 64 by 128 block. -/
def slot (m : Mem) (s : Fin 8) : Memref sig .scVector .vmem S64x128 .f32 :=
  (m.ring.slice (Rect.unit (s := S8x64x128) ![s.val, 0, 0] S1x64x128.size (slot_inb s)) (fun _ => rfl)).squeeze S64x128
    squeezes_S1x64x128_S64x128

/-- Half `g` of the staging buffer, as a 16 by 128 block. -/
def half (m : Mem) (g : Fin 2) : Memref sig .scVector .vmem S16x128 .f32 :=
  (m.stage.slice (Rect.unit (s := S2x16x128) ![g.val, 0, 0] S1x16x128.size (stage_inb g)) (fun _ => rfl)).squeeze S16x128
    squeezes_S1x16x128_S16x128

/-- Id number `l` of sixteen. -/
def idAt (v : Vec F S16 .i32) (l : Fin 16) : BitVec 32 :=
  extractAt ![0] (extractStridedSlice S1 ![l.val] v (lane_slices l)) inpos_S1_p0

variable (i : grid0.Coords)

/-- Programs of the tile at `i`. -/
abbrev TP (α : Type) : Type _ :=
  Prog (TpuEff nD τ sig (Elt F) Λ₀ (.scVector ((i 0).castLE hcore0) ((i 1).castLE hsub0))) α

/-- Wait for the block on its way into slot `s`. -/
def slotWait (m : Mem) (tab : Memref sig .scVector .hbm S64x1000064 .f32) (s : Fin 8) : TP (F := F) i PUnit :=
  Prog.lift (.waitDma2 (m.rs s).sem
    (tab.slice (Rect.unit (s := S64x1000064) ![0, 0] S64x128.size inb_S64x1000064_S64x128_0_0) (fun _ => rfl))
    (slot m s) (View.wordExact_bits rfl) ((View.wordExact_bits rfl).reshape _ _))

/-- Copy sixteen numbers of a slot's column into the staging buffer. -/
def chunk (m : Mem) (s : Fin 8) (g : Fin 2) (l : Fin 16) (q : Fin 8) (r c : IVec S16 32)
    (h : ∀ a x, ((![r, c] : Fin 2 → IVec S16 32) a x).toNat < S64x128.size a) : TP (F := F) i PUnit := do
  let v : Vec F S16 .f32 ← SparseCore.vectorLoadIdx (slot m s) ![r, c] h (View.loads_vmem h_S64x128)
  let w : Vec F S1x1x16 .f32 ← Prog.lift (.load m.stage (Rect.unit (s := S2x16x128) ![g.val, l.val, 16 * q.val]
    S1x1x16.size (chunk_inb g l q)).toLoadRect (View.loadsAt_vmem h_S1x1x16))
  Prog.lift (.store m.stage (Rect.unit (s := S2x16x128) ![g.val, l.val, 16 * q.val] S1x1x16.size (chunk_inb g l q))
    (shapeCast S1x1x16 v shapeCasts_S16_S1x1x16) Finset.univ (View.stores_vmem_bits_univ h_S1x1x16 rfl) (.inl rfl))

/-- The column of slot `s` that id `c` names goes to four chunks of row `l`, from chunk `4 * p`. -/
def column (m : Mem) (s : Fin 8) (g : Fin 2) (l : Fin 16) (p : Fin 2) (c : IVec S16 32) : TP (F := F) i PUnit := do
  have h : k0_chk9 (lanesFrom 0#32) (lanesFrom 16#32) (lanesFrom 32#32) (lanesFrom 48#32) c :=
    (← Prog.lift (TpuEff.assume (k0_chk9 (lanesFrom 0#32) (lanesFrom 16#32) (lanesFrom 32#32) (lanesFrom 48#32) c)
      (k0_chk9.dec _ _ _ _ c))).down
  chunk i m s g l (match p with | 0 => 0 | 1 => 4) (lanesFrom 0#32) c (k0_idx1_inb _ _ _ _ c h)
  chunk i m s g l (match p with | 0 => 1 | 1 => 5) (lanesFrom 16#32) c (k0_idx2_inb _ _ _ _ c h)
  chunk i m s g l (match p with | 0 => 2 | 1 => 6) (lanesFrom 32#32) c (k0_idx3_inb _ _ _ _ c h)
  chunk i m s g l (match p with | 0 => 3 | 1 => 7) (lanesFrom 48#32) c (k0_idx4_inb _ _ _ _ c h)

/-- Send for the block of 128 table columns that holds id `c`. -/
def send (m : Mem) (tab : Memref sig .scVector .hbm S64x1000064 .f32) (s : Fin 8) (c : BitVec 32)
    (h : ∀ a, (k0_off13 c) a + S64x128.size a ≤ S64x1000064.size a) : TP (F := F) i PUnit :=
  Prog.lift (.enqueueDma
    (tab.slice (Rect.unit (s := S64x1000064) (k0_off13 c) S64x128.size h) (fun _ => rfl))
    (.here (slot m s)) (.dma (m.rs s).sem) (View.wordExact_bits rfl) ((View.wordExact_bits rfl).reshape _ _)
    ⟨Or.inl rfl, trivial⟩)

/-- `send`, with its check. -/
def issue (m : Mem) (tab : Memref sig .scVector .hbm S64x1000064 .f32) (s : Fin 8) (c : BitVec 32) :
    TP (F := F) i PUnit := do
  have h : k0_chk10 c := (← Prog.lift (TpuEff.assume (k0_chk10 c) (k0_chk10.dec c))).down
  send i m tab s c (k0_off13_inb c h)

/-- The check of a `send` under a condition. -/
def chkIf (b : BitVec 1) (c : BitVec 32) : Prop :=
  (∀ (h : b = 1#1), 128 ∣ (k0_mult9 c).toNat) ∧
  (∀ (h : b = 1#1), ∀ a, (k0_off13 c) a + S64x128.size a ≤ S64x1000064.size a)

instance chkIf.dec (b : BitVec 1) (c : BitVec 32) : Decidable (chkIf b c) := decidable_of_iff' _ (Iff.of_eq (chkIf.eq_1 b c))

/-- `send` under a condition. -/
def sendIf (m : Mem) (tab : Memref sig .scVector .hbm S64x1000064 .f32) (s : Fin 8) (b : BitVec 1) (c : BitVec 32)
    (h : chkIf b c) : TP (F := F) i PUnit :=
  if hb : b = 1#1 then send i m tab s c (h.2 hb) else pure ⟨⟩

/-- `send` under a condition, with its check. -/
def issueIf (m : Mem) (tab : Memref sig .scVector .hbm S64x1000064 .f32) (s : Fin 8) (b : BitVec 1) (c : BitVec 32) :
    TP (F := F) i PUnit := do
  have h : chkIf b c := (← Prog.lift (TpuEff.assume (chkIf b c) (chkIf.dec b c))).down
  sendIf i m tab s b c h

/-- Eight steps in order, one per ring slot. -/
def eight (f : Fin 8 → TP (F := F) i PUnit) : TP (F := F) i PUnit := do
  f 0; f 1; f 2; f 3; f 4; f 5; f 6; f 7

/-- A slot's number is a lane's, -/
theorem row_fin (s : Fin 8) : s.val < 16 := by omega
/-- and so is eight more. -/
theorem row_fin' (s : Fin 8) : 8 + s.val < 16 := by omega

/-- Wait for the block in slot `s` and copy the column id `c` names to its place in the staging buffer. -/
def take (m : Mem) (tab : Memref sig .scVector .hbm S64x1000064 .f32) (s : Fin 8) (g : Fin 2) (l : Fin 16) (p : Fin 2)
    (v : Vec F S16 .i32) : TP (F := F) i PUnit := do
  slotWait i m tab s
  column i m s g l p (broadcast S16 (lane (idAt v l)))

/-- The sixteen ids at an offset of a tile's id scratch. -/
def ids (r : Memref sig .scVector .vmem S512 .i32) (o : Fin 1 → Nat) (h : ∀ a, o a + S16.size a ≤ S512.size a) :
    TP (F := F) i (Vec F S16 .i32) :=
  Prog.lift (.load r (Rect.unit (s := S512) o S16.size h).toLoadRect (View.loadsAt_vmem h_S16))

/-- Wait for the rows of half `g` to have left. -/
def flushed (m : Mem) (g : Fin 2) (o : Fin 2 → Nat) (h : ∀ a, o a + S16x128.size a ≤ S16384x128.size a) :
    TP (F := F) i PUnit :=
  Prog.lift (.waitDma2 (m.fs g).sem (half m g) (m.out.slice (Rect.unit (s := S16384x128) o S16x128.size h) (fun _ => rfl))
    ((View.wordExact_bits rfl).reshape _ _) (View.wordExact_bits rfl))

/-- `flushed`, under a condition. -/
def flushedIf (m : Mem) (g : Fin 2) (b : BitVec 1) (o : Fin 2 → Nat)
    (h : b = 1#1 → ∀ a, o a + S16x128.size a ≤ S16384x128.size a) : TP (F := F) i PUnit :=
  if hb : b = 1#1 then flushed i m g o (h hb) else pure ⟨⟩

/-- Send the rows of half `g` to the output. -/
def flush (m : Mem) (g : Fin 2) (o : Fin 2 → Nat) (h : ∀ a, o a + S16x128.size a ≤ S16384x128.size a) :
    TP (F := F) i PUnit :=
  Prog.lift (.enqueueDma (half m g)
    (.here (m.out.slice (Rect.unit (s := S16384x128) o S16x128.size h) (fun _ => rfl))) (.dma (m.fs g).sem)
    ((View.wordExact_bits rfl).reshape _ _) (View.wordExact_bits rfl) ⟨Or.inl rfl, trivial⟩)

/-- The sixteen rows of one group: user columns, then item columns, each slot sent for again once read. -/
def rows (m : Mem) (g : Fin 2) (b : BitVec 1) (vu vi vn : Vec F S16 .i32) : TP (F := F) i PUnit := do
  eight i fun s => do
    take i m m.ut s g ⟨s.val, row_fin s⟩ 0 vu
    issue i m m.ut s (idAt vu ⟨8 + s.val, row_fin' s⟩)
  eight i fun s => do
    take i m m.ut s g ⟨8 + s.val, row_fin' s⟩ 0 vu
    issue i m m.it s (idAt vi ⟨s.val, row_fin s⟩)
  eight i fun s => do
    take i m m.it s g ⟨s.val, row_fin s⟩ 1 vi
    issue i m m.it s (idAt vi ⟨8 + s.val, row_fin' s⟩)
  eight i fun s => do
    take i m m.it s g ⟨8 + s.val, row_fin' s⟩ 1 vi
    issueIf i m m.ut s b (idAt vn ⟨s.val, row_fin s⟩)

/-- One pass of the loop: two groups of sixteen rows. -/
def pass (m : Mem) (t : Fin k0_t1_loop.trips) : TP (F := F) i PUnit := do
  let vu ← ids i m.uv (k0_off10 t) (k0_off10_inb t)
  let vi ← ids i m.iv (k0_off10 t) (k0_off10_inb t)
  let vn ← ids i m.uv (k0_off11 t) (k0_off11_inb t)
  flushedIf i m 0 (k0_cond1 t) (k0_off12 i t) (k0_off12_inb i t)
  rows i m 0 (k0_cond2 t) vu vi vn
  flush i m 0 (k0_off45 i t) (k0_off45_inb i t)
  let wu ← ids i m.uv (k0_off46 t) (k0_off46_inb t)
  let wi ← ids i m.iv (k0_off46 t) (k0_off46_inb t)
  let wn ← ids i m.uv (k0_off47 t) (k0_off47_inb t)
  flushedIf i m 1 (k0_cond10 t) (k0_off48 i t) (k0_off48_inb i t)
  rows i m 1 (k0_cond11 t) wu wi wn
  flush i m 1 (k0_off81 i t) (k0_off81_inb i t)

/-- Copy 512 ids in. -/
def copyIn (src : Memref sig .scVector .hbm S16384 .i32) (dst : Memref sig .scVector .vmem S512 .i32) (hd : dst.IsWhole)
    (sm : DmaSems sig S_) : TP (F := F) i PUnit := do
  Prog.lift (.enqueueDma (src.slice (Rect.unit (s := S16384) (k0_off1 i) S512.size (k0_off1_inb i)) (fun _ => rfl))
    (.here dst) (.dma sm.sem) (View.wordExact_bits rfl) hd.wordExact ⟨Or.inl rfl, trivial⟩)
  Prog.lift (.waitDma2 sm.sem (src.slice (Rect.unit (s := S16384) (k0_off1 i) S512.size (k0_off1_inb i)) (fun _ => rfl))
    dst (View.wordExact_bits rfl) hd.wordExact)

/-- A tile's whole body. -/
def tile (m : Mem) (hu : m.uv.IsWhole) (hi : m.iv.IsWhole) : TP (F := F) i PUnit := do
  copyIn i m.uid m.uv hu m.s0
  copyIn i m.iid m.iv hi m.s1
  let v ← ids i m.uv ![0] inb_S512_S16_0
  eight i fun s => issue i m m.ut s (idAt v ⟨s.val, row_fin s⟩)
  Scf.Loop.for k0_t1_loop k0_t1_ok ⟨⟩ fun t _ => pass i m t
  flushed i m 0 (k0_off82 i 480#32) (k0_off82_inb i 0)
  flushed i m 1 (k0_off82 i 496#32) (k0_off82_inb i 1)

section Same

variable (arg2 : Memref sig .scVector .hbm S64x1000064 .f32) (harg2 : arg2.IsWhole)
  (arg3 : Memref sig .scVector .hbm S64x1000064 .f32) (harg3 : arg3.IsWhole)
  (arg4 : Memref sig .scVector .hbm S16384 .i32) (harg4 : arg4.IsWhole)
  (arg5 : Memref sig .scVector .hbm S16384 .i32) (harg5 : arg5.IsWhole)
  (arg6 : Memref sig .scVector .hbm S16384x128 .f32) (harg6 : arg6.IsWhole)
  (arg7 : Memref sig .scVector .vmem S512 .i32) (harg7 : arg7.IsWhole)
  (arg8 : Memref sig .scVector .vmem S512 .i32) (harg8 : arg8.IsWhole)
  (arg9 : Memref sig .scVector .vmem S8x64x128 .f32) (harg9 : arg9.IsWhole)
  (arg10 : Memref sig .scVector .vmem S2x16x128 .f32) (harg10 : arg10.IsWhole)
  (arg11 arg12 arg13 arg14 arg15 arg16 arg17 arg18 arg19 arg20 v247_r0 v247_r1 : DmaSems sig S_)

/-- The memory the printed body is given. -/
abbrev memOf : Mem := ⟨arg2, arg3, arg4, arg5, arg6, arg7, arg8, arg9, arg10,
  ![arg11, arg12, arg13, arg14, arg15, arg16, arg17, arg18], ![arg19, arg20], v247_r0, v247_r1⟩

end Same

end Cert.KernelIdeal.Rows
-- ==== Proof.Ideal.Ids.lean ====
module

public import proofs.«01_k».proof.Proof.Ideal.Rows

@[expose] public section

noncomputable section

namespace Cert.KernelIdeal.Rows

open Idealize.ShloMosaic Idealize.SL.Sem

variable [Facts]
open Facts₀ Facts

/-! ## The words the kernel computes from an id -/

section Words

variable (c : BitVec 32) (hc : c.toNat < 1000000)
include hc

/-- An id in range is not negative. -/
theorem id_msb : c.msb = false := by
  rw [BitVec.msb_eq_decide]; simp; omega

/-- The signed quotient by the slab's width is the quotient of numbers. -/
theorem id_div : Scalar.divsi c 128#32 = BitVec.ofNat 32 (c.toNat / 128) := by
  have h : Scalar.divsi c 128#32 = c.sdiv 128#32 := by
    show (if IntOp.SDivCorner c 128#32 then _ else _) = _
    rw [if_neg]
    unfold IntOp.SDivCorner
    simp
  rw [h, BitVec.sdiv_eq, id_msb c hc, show (128#32).msb = false from rfl]
  show c / 128#32 = _
  apply BitVec.eq_of_toNat_eq
  simp [BitVec.toNat_udiv]
  omega

/-- And the signed remainder is the remainder. -/
theorem id_rem : Scalar.remsi c 128#32 = BitVec.ofNat 32 (c.toNat % 128) := by
  have h : Scalar.remsi c 128#32 = c.srem 128#32 := by
    show (if IntOp.SDivCorner c 128#32 then _ else _) = _
    rw [if_neg]
    unfold IntOp.SDivCorner
    simp
  rw [h, BitVec.srem_eq, id_msb c hc, show (128#32).msb = false from rfl]
  show c % 128#32 = _
  apply BitVec.eq_of_toNat_eq
  simp [BitVec.toNat_umod]
  omega

/-- The lane of an id is its remainder modulo 128. -/
theorem lane_toNat : (lane c).toNat = c.toNat % 128 := by
  have hd : Scalar.select (Scalar.cmpi .eq 128#32 0#32) 1#32 128#32 = 128#32 := by decide
  have hn : Scalar.cmpi .slt (BitVec.ofNat 32 (c.toNat % 128)) 0#32 = 0#1 := by
    show BitVec.ofBool ((BitVec.ofNat 32 (c.toNat % 128)).slt 0#32) = 0#1
    have : c.toNat % 128 < 128 := Nat.mod_lt _ (by decide)
    rw [BitVec.slt_zero_eq_msb, BitVec.msb_eq_decide, decide_eq_false (by rw [BitVec.toNat_ofNat]; omega)]
    rfl
  unfold lane
  simp only [hd, id_rem c hc, hn]
  have h2 : ∀ b : BitVec 1, Scalar.andi (Scalar.xori 0#1 (Scalar.cmpi .slt 128#32 0#32)) b = 0#1 := by decide
  rw [h2]
  have h3 : ∀ x y : BitVec 32, Scalar.select 0#1 x y = y := fun x y => by simp [Scalar.select]
  rw [h3]
  simp
  omega

/-- The block of 128 columns an id lies in starts at the id rounded down to a multiple of 128. -/
theorem mult9_eq : k0_mult9 c = BitVec.ofNat 32 (c.toNat / 128 * 128) := by
  have hsel : Scalar.andi
      (Scalar.cmpi .ne (Scalar.subi (Scalar.extui (Scalar.cmpi .sgt c 0#32)) (Scalar.extui (Scalar.cmpi .slt c 0#32)))
        (Scalar.subi (Scalar.extui (Scalar.cmpi .sgt 128#32 0#32)) (Scalar.extui (Scalar.cmpi .slt 128#32 0#32))))
      (Scalar.cmpi .ne (Scalar.remsi c 128#32) 0#32) = 0#1 := by
    have hlt : Scalar.cmpi .slt c 0#32 = 0#1 := by
      show BitVec.ofBool (c.slt 0#32) = 0#1
      rw [BitVec.slt_zero_eq_msb, id_msb c hc]; rfl
    by_cases h0 : c = 0#32
    · subst h0; decide
    · have hgt : Scalar.cmpi .sgt c 0#32 = 1#1 := by
        show BitVec.ofBool ((0#32).slt c) = 1#1
        have : c.toNat ≠ 0 := fun h => h0 (BitVec.eq_of_toNat_eq h)
        have hi : c.toInt = (c.toNat : Int) := by rw [BitVec.toInt_eq_toNat_cond, if_pos (by omega)]
        rw [BitVec.slt_eq_decide, hi, decide_eq_true (by simp; omega)]
        rfl
      rw [hlt, hgt]
      have : ∀ b : BitVec 1, Scalar.andi (Scalar.cmpi .ne (Scalar.subi (Scalar.extui 1#1) (Scalar.extui 0#1))
        (Scalar.subi (Scalar.extui (Scalar.cmpi .sgt 128#32 0#32)) (Scalar.extui (Scalar.cmpi .slt 128#32 0#32)))) b = 0#1 := by
        decide
      exact this _
  have h3 : ∀ x y : BitVec 32, Scalar.select 0#1 x y = y := fun x y => by simp [Scalar.select]
  show Scalar.muli (Scalar.select _ _ (Scalar.divsi c 128#32)) 128#32 = _
  rw [hsel, h3, id_div c hc]
  apply BitVec.eq_of_toNat_eq
  show (BitVec.ofNat 32 (c.toNat / 128) * 128#32).toNat = _
  simp [BitVec.toNat_mul]

/-- The slab copied for an id starts at the multiple of 128 below it. -/
theorem off13_eq : k0_off13 c = ![0, c.toNat / 128 * 128] := by
  show ![(0#32).toNat, (k0_mult9 c).toNat] = _
  rw [mult9_eq c hc]
  have h : c.toNat / 128 * 128 < 2 ^ 32 := by omega
  simp
  omega

/-- That slab lies within the padded table. -/
theorem off13_inb : ∀ a, (k0_off13 c) a + S64x128.size a ≤ S64x1000064.size a := by
  rw [off13_eq c hc]
  intro a; fin_cases a <;> simp [Shape.size] <;> omega

/-- So the check that the copy makes holds. -/
theorem chk10_of : k0_chk10 c := by
  refine ⟨?_, off13_inb c hc⟩
  rw [mult9_eq c hc]
  have h : c.toNat / 128 * 128 < 2 ^ 32 := by omega
  simp
  omega

end Words

/-- Lane by lane, the row numbers count from sixteen times the chunk. -/
theorem lanesFrom_toNat (q : Fin 4) (x : S16.Idx) :
    (lanesFrom (BitVec.ofNat 32 (16 * q.val)) x).toNat = (x 0).val + 16 * q.val := by
  have hx : (x 0).val < 16 := (x 0).isLt
  have hq := q.isLt
  show (iota .scVector S16 32 [0] iota_S16_d0_w32_scVector x + BitVec.ofNat 32 (16 * q.val)).toNat = _
  have : iota .scVector S16 32 [0] iota_S16_d0_w32_scVector x = BitVec.ofNat 32 (x 0).val := by
    simp [iota]
  rw [this]
  simp
  omega

/-- The indices that a column is gathered at lie within the slab. -/
theorem chk9_of (c : BitVec 32) (hc : c.toNat < 1000000) :
    k0_chk9 (lanesFrom 0#32) (lanesFrom 16#32) (lanesFrom 32#32) (lanesFrom 48#32) (broadcast S16 (lane c)) := by
  have key : ∀ q : Fin 4, ∀ a x, ((![lanesFrom (BitVec.ofNat 32 (16 * q.val)), broadcast S16 (lane c)] : Fin 2 → IVec S16 32) a x).toNat < S64x128.size a := by
    intro q a x
    have hq := q.isLt
    have hx : (x 0).val < 16 := (x 0).isLt
    match a with
    | 0 =>
      show (lanesFrom (BitVec.ofNat 32 (16 * q.val)) x).toNat < 64
      rw [lanesFrom_toNat]; omega
    | 1 =>
      show (lane c).toNat < 128
      rw [lane_toNat c hc]; exact Nat.mod_lt _ (by decide)
  exact ⟨key 0, key 1, key 2, key 3⟩

/-- The check under a condition holds when it does with the condition true. -/
theorem chkIf_of (b : BitVec 1) (c : BitVec 32) (h : b = 1#1 → c.toNat < 1000000) : chkIf b c :=
  ⟨fun hb => (chk10_of c (h hb)).1, fun hb => (chk10_of c (h hb)).2⟩

end Cert.KernelIdeal.Rows
-- ==== Proof.Ideal.Setup.lean ====
module

public import proofs.«01_k».proof.Proof.Ideal.Ids
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.ValueIdxCoords
public import Idealize.ShloMosaic.Lib.Tactic
public import proofs.«01_k».proof.Proof.Gen.KernelIdeal

@[expose] public section

noncomputable section

namespace Cert.KernelIdeal.Rows

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on sixteen tiles of a core. -/
theorem nSub_zero : (K (F := F)).nSub 0 = 16 := rfl
abbrev D [FloatOps F] : Defs nD τ sig (Elt F) (ΛP (F := F)) := Pipeline.defs pcfgs defs₀
abbrev 𝒱₀ : Variants := Variants.none

/-- The side conditions that the SparseCore's library asks of the program. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

end Cert.KernelIdeal.Rows
-- ==== Proof.Ideal.Views.lean ====
module

public import proofs.«01_k».proof.Proof.Ideal.Setup

@[expose] public section

noncomputable section

namespace Cert.KernelIdeal.Rows

open Cert.KernelIdeal.Gen
open Idealize.ShloMosaic
open Idealize.ShloMosaic.SparseCore (S V T)
open Idealize.ShloMosaic.ValueIdx

variable {F : FTy → Type}

/-- The memory the launch hands the tiles. -/
abbrev MM : Mem := memOf (Memref.whole main_v1_scv) (Memref.whole main_v3_scv) (Memref.whole main_arg0_scv)
  (Memref.whole main_arg1_scv) (Memref.whole main_v4_scv) (Memref.whole cc0_scratch0) (Memref.whole cc0_scratch1)
  (Memref.whole cc0_scratch2) (Memref.whole cc0_scratch3) cc0_scratch4 cc0_scratch5 cc0_scratch6 cc0_scratch7
  cc0_scratch8 cc0_scratch9 cc0_scratch10 cc0_scratch11 cc0_scratch12 cc0_scratch13 cc0_scoped0 cc0_scoped1

/-! ## Where the views lie -/

theorem slot_emb (s : Fin 8) (x : S64x128.Idx) : (slot MM s).view.emb x = (ix3 s (x 0) (x 1) : S8x64x128.Idx) := by
  change (Rect.unit (s := S8x64x128) ![s.val, 0, 0] S1x64x128.size (slot_inb s)).emb
    (Shape.reshapeEquiv squeezes_S1x64x128_S64x128.numel_eq x) = _
  rw [show Shape.reshapeEquiv squeezes_S1x64x128_S64x128.numel_eq x = ix3 (⟨0, Nat.one_pos⟩ : Fin 1) (x 0) (x 1) from
    (congrArg _ (eq_ix2 x)).trans (reshapeEquiv_ix2_1ab _ (x 0) (x 1))]
  funext a
  fin_cases a <;> apply Fin.ext <;> simp [Rect.unit, Rect.emb]

/-- Where an element of a half lies in the staging buffer. -/
theorem half_emb (g : Fin 2) (x : S16x128.Idx) : (half MM g).view.emb x = (ix3 g (x 0) (x 1) : S2x16x128.Idx) := by
  change (Rect.unit (s := S2x16x128) ![g.val, 0, 0] S1x16x128.size (stage_inb g)).emb
    (Shape.reshapeEquiv squeezes_S1x16x128_S16x128.numel_eq x) = _
  rw [show Shape.reshapeEquiv squeezes_S1x16x128_S16x128.numel_eq x = ix3 (⟨0, Nat.one_pos⟩ : Fin 1) (x 0) (x 1) from
    (congrArg _ (eq_ix2 x)).trans (reshapeEquiv_ix2_1ab _ (x 0) (x 1))]
  funext a
  fin_cases a <;> apply Fin.ext <;> simp [Rect.unit, Rect.emb]

/-- The elements of the staging buffer whose first coordinate is `g`. -/
def halfSet (g : Fin 2) : Finset S2x16x128.Idx := Finset.univ.filter fun j => (j 0).val = g.val
/-- The elements of the ring whose first coordinate is `s`. -/
def slotSet (s : Fin 8) : Finset S8x64x128.Idx := Finset.univ.filter fun j => (j 0).val = s.val

/-- What is in a half. -/
theorem mem_halfSet (g : Fin 2) (j : S2x16x128.Idx) : j ∈ halfSet g ↔ (j 0).val = g.val := by simp [halfSet]
/-- What is in a slot. -/
theorem mem_slotSet (s : Fin 8) (j : S8x64x128.Idx) : j ∈ slotSet s ↔ (j 0).val = s.val := by simp [slotSet]

/-- The elements of a half. -/
theorem half_set (g : Fin 2) : (half MM g).view.set = halfSet g := by
  refine Finset.ext fun (j : S2x16x128.Idx) => Iff.trans ?_ (mem_halfSet g j).symm
  constructor
  · intro h
    obtain ⟨x, -, hx⟩ := Finset.mem_map.mp h
    rw [← hx]; exact congrArg (fun k : S2x16x128.Idx => (k 0).val) (half_emb g x)
  · intro h
    refine Finset.mem_map.mpr ⟨(ix2 (j 1) (j 2) : S16x128.Idx), Finset.mem_univ _, (half_emb g _).trans ?_⟩
    rw [eq_ix3 j, show g = j 0 from Fin.ext h.symm]; rfl

/-- The elements of a slot. -/
theorem slot_set (s : Fin 8) : (slot MM s).view.set = slotSet s := by
  refine Finset.ext fun (j : S8x64x128.Idx) => Iff.trans ?_ (mem_slotSet s j).symm
  constructor
  · intro h
    obtain ⟨x, -, hx⟩ := Finset.mem_map.mp h
    rw [← hx]; exact congrArg (fun k : S8x64x128.Idx => (k 0).val) (slot_emb s x)
  · intro h
    refine Finset.mem_map.mpr ⟨(ix2 (j 1) (j 2) : S64x128.Idx), Finset.mem_univ _, (slot_emb s _).trans ?_⟩
    rw [eq_ix3 j, show s = j 0 from Fin.ext h.symm]; rfl

/-- The rows of the output from `a` up to `b`. -/
def outRows (a b : ℕ) : Finset S16384x128.Idx := Finset.univ.filter fun j => a ≤ (j 0).val ∧ (j 0).val < b

/-- What is in a range of rows. -/
theorem mem_outRows (a b : ℕ) (j : S16384x128.Idx) : j ∈ outRows a b ↔ a ≤ (j 0).val ∧ (j 0).val < b := by
  simp [outRows]

/-- Sixteen rows of the output, as a block. -/
abbrev outBlock (o : Fin 2 → ℕ) (h : ∀ a, o a + S16x128.size a ≤ S16384x128.size a) :
    Memref sig .scVector .hbm S16x128 .f32 :=
  MM.out.slice (Rect.unit (s := S16384x128) o S16x128.size h) (fun _ => rfl)

/-- The row of an element of a block of the output, -/
theorem outBlock_emb0 (R : ℕ) (o : Fin 2 → ℕ) (h : ∀ a, o a + S16x128.size a ≤ S16384x128.size a) (ho : o = ![R, 0])
    (x : S16x128.Idx) : (((outBlock o h).view.emb x : S16384x128.Idx) 0).val = R + (x 0).val := by
  subst ho
  change ((Rect.unit (s := S16384x128) ![R, 0] S16x128.size h).emb x 0).val = _
  simp [Rect.unit, Rect.emb]

/-- and its column. -/
theorem outBlock_emb1 (R : ℕ) (o : Fin 2 → ℕ) (h : ∀ a, o a + S16x128.size a ≤ S16384x128.size a) (ho : o = ![R, 0])
    (x : S16x128.Idx) : (((outBlock o h).view.emb x : S16384x128.Idx) 1).val = (x 1).val := by
  subst ho
  change ((Rect.unit (s := S16384x128) ![R, 0] S16x128.size h).emb x 1).val = _
  simp [Rect.unit, Rect.emb]

/-- A block of the output is sixteen rows. -/
theorem outBlock_set (R : ℕ) (o : Fin 2 → ℕ) (h : ∀ a, o a + S16x128.size a ≤ S16384x128.size a) (ho : o = ![R, 0]) :
    (outBlock o h).view.set = outRows R (R + 16) := by
  refine Finset.ext fun (j : S16384x128.Idx) => Iff.trans ?_ (mem_outRows _ _ j).symm
  constructor
  · intro hj
    obtain ⟨x, -, hx⟩ := Finset.mem_map.mp hj
    have h16 : ((x : S16x128.Idx) 0).val < 16 := (x 0).isLt
    have e := outBlock_emb0 R o h ho x
    rw [hx] at e
    omega
  · rintro ⟨h1, h2⟩
    refine Finset.mem_map.mpr ⟨(ix2 ⟨(j 0).val - R, by omega⟩ (j 1) : S16x128.Idx), Finset.mem_univ _, ?_⟩
    refine funext fun a => Fin.ext ?_
    match a with
    | ⟨0, _⟩ => exact (outBlock_emb0 R o h ho _).trans (show R + ((j 0).val - R) = (j 0).val by omega)
    | ⟨1, _⟩ => exact outBlock_emb1 R o h ho _

/-! ## What a chunk's store writes -/

/-- Staging contents with sixteen numbers of row `l` of half `g` replaced. -/
def putChunk {α : Type} (f : S2x16x128.Idx → α) (g : Fin 2) (l : Fin 16) (q : Fin 8) (v : S16.Idx → α) : S2x16x128.Idx → α :=
  fun j => if (j 0).val = g.val ∧ (j 1).val = l.val ∧ (j 2).val / 16 = q.val then v (ix1 ⟨(j 2).val % 16, Nat.mod_lt _ (by decide)⟩) else f j

/-- The place of sixteen numbers in the staging buffer. -/
abbrev chunkView (g : Fin 2) (l : Fin 16) (q : Fin 8) :=
  MM.stage.access (Rect.unit (s := S2x16x128) ![g.val, l.val, 16 * q.val] S1x1x16.size (chunk_inb g l q))

/-- A chunk's columns lie within a row. -/
theorem chunk_lt (q : Fin 8) (z : Fin 16) : 16 * q.val + z.val < 128 := by omega

/-- Where an element of a chunk lies. -/
theorem chunkView_emb (g : Fin 2) (l : Fin 16) (q : Fin 8) (x : S1x1x16.Idx) :
    (chunkView g l q).emb x = (ix3 g l ⟨16 * q.val + (x 2).val, chunk_lt q (x 2)⟩ : S2x16x128.Idx) := by
  change (Rect.unit (s := S2x16x128) ![g.val, l.val, 16 * q.val] S1x1x16.size (chunk_inb g l q)).emb x = _
  have h0 : (x 0).val = 0 := by have : (x 0).val < 1 := (x 0).isLt; omega
  have h1 : (x 1).val = 0 := by have : (x 1).val < 1 := (x 1).isLt; omega
  funext a
  match a with
  | ⟨0, _⟩ => exact Fin.ext (show g.val + 1 * (x 0).val = g.val by omega)
  | ⟨1, _⟩ => exact Fin.ext (show l.val + 1 * (x 1).val = l.val by omega)
  | ⟨2, _⟩ => exact Fin.ext (show 16 * q.val + 1 * (x 2).val = 16 * q.val + (x 2).val by omega)

/-- A chunk lies in its half. -/
theorem chunkView_sub (g : Fin 2) (l : Fin 16) (q : Fin 8) :
    (chunkView g l q).setOn Finset.univ ⊆ halfSet g := by
  intro (j : S2x16x128.Idx) hj
  obtain ⟨x, -, hx⟩ := Finset.mem_map.mp hj
  rw [mem_halfSet, ← hx]
  exact congrArg (fun k : S2x16x128.Idx => (k 0).val) (chunkView_emb g l q x)

/-- Storing a chunk changes the chunk's columns of its row, and nothing else. -/
theorem chunk_write (g : Fin 2) (l : Fin 16) (q : Fin 8) (f : S2x16x128.Idx → Elt F .f32) (v : S16.Idx → Elt F .f32)
    (h : S16.ShapeCasts S1x1x16) :
    (chunkView g l q).write (Elt F) f (shapeCast S1x1x16 v h) Finset.univ = putChunk f g l q v := by
  refine funext fun (j : S2x16x128.Idx) => ?_
  unfold putChunk
  by_cases hj : (j 0).val = g.val ∧ (j 1).val = l.val ∧ (j 2).val / 16 = q.val
  · rw [if_pos hj]
    have e : (chunkView g l q).emb (ix3 0 0 ⟨(j 2).val % 16, Nat.mod_lt _ (by decide)⟩ : S1x1x16.Idx) = j := by
      refine (chunkView_emb g l q _).trans (funext fun a => Fin.ext ?_)
      match a with
      | ⟨0, _⟩ => exact hj.1.symm
      | ⟨1, _⟩ => exact hj.2.1.symm
      | ⟨2, _⟩ => exact (show 16 * q.val + (j 2).val % 16 = (j 2).val by omega)
    refine (congrArg _ e.symm).trans ((View.write_emb_of_mem _ _ (Finset.mem_univ _)).trans ((cast_eq _ _).trans ?_))
    refine shapeCast_apply v h _ _ ?_
    rw [Shape.rowMajor_val_three, Shape.rowMajor_val_one]
    simp
  · rw [if_neg hj]
    refine View.write_of_not_mem _ _ _ fun hm => hj ?_
    obtain ⟨x, -, hx⟩ := Finset.mem_map.mp hm
    have e := (chunkView_emb g l q x).symm.trans hx
    have h16 : ((x : S1x1x16.Idx) 2).val < 16 := (x 2).isLt
    rw [← e]
    exact ⟨rfl, rfl, show (16 * q.val + (x 2).val) / 16 = q.val by omega⟩

/-- Staging contents with half of row `l` of half `g` replaced by a column of a slot. -/
def putColumn {α : Type} (f : S2x16x128.Idx → α) (g : Fin 2) (l : Fin 16) (p : Fin 2) (G : S64x128.Idx → α) (c : Fin 128) :
    S2x16x128.Idx → α :=
  fun j => if (j 0).val = g.val ∧ (j 1).val = l.val ∧ (j 2).val / 64 = p.val then
    G (ix2 ⟨(j 2).val % 64, Nat.mod_lt _ (by decide)⟩ c) else f j

/-- Four chunks make a column. -/
theorem putColumn_eq {α : Type} (f : S2x16x128.Idx → α) (g : Fin 2) (l : Fin 16) (p : Fin 2) (G : S64x128.Idx → α) (c : Fin 128)
    (v : Fin 4 → S16.Idx → α) (q : Fin 4 → Fin 8) (hq : ∀ a, (q a).val = 4 * p.val + a.val)
    (hv : ∀ a x (hx : 16 * a.val + (x 0).val < 64), v a x = G (ix2 ⟨16 * a.val + (x 0).val, hx⟩ c)) :
    putChunk (putChunk (putChunk (putChunk f g l (q 0) (v 0)) g l (q 1) (v 1)) g l (q 2) (v 2)) g l (q 3) (v 3)
      = putColumn f g l p G c := by
  funext j
  have hp := p.isLt
  have hj2 : (j 2).val < 128 := (j 2).isLt
  have key : ∀ a : Fin 4, (j 2).val / 16 = (q a).val → (j 2).val / 64 = p.val ∧
      v a (ix1 ⟨(j 2).val % 16, Nat.mod_lt _ (by decide)⟩) = G (ix2 ⟨(j 2).val % 64, Nat.mod_lt _ (by decide)⟩ c) := by
    intro a ha
    rw [hq] at ha
    have h4 := a.isLt
    refine ⟨by omega, ?_⟩
    rw [hv a _ (by change 16 * a.val + (j 2).val % 16 < 64; omega)]
    congr 2
    apply Fin.ext
    change 16 * a.val + (j 2).val % 16 = (j 2).val % 64
    omega
  unfold putColumn
  by_cases hgl : (j 0).val = g.val ∧ (j 1).val = l.val
  · by_cases h64 : (j 2).val / 64 = p.val
    · rw [if_pos ⟨hgl.1, hgl.2, h64⟩]
      unfold putChunk
      by_cases h3 : (j 2).val / 16 = (q 3).val
      · rw [if_pos ⟨hgl.1, hgl.2, h3⟩]; exact (key 3 h3).2
      rw [if_neg (fun h => h3 h.2.2)]
      by_cases h2 : (j 2).val / 16 = (q 2).val
      · rw [if_pos ⟨hgl.1, hgl.2, h2⟩]; exact (key 2 h2).2
      rw [if_neg (fun h => h2 h.2.2)]
      by_cases h1 : (j 2).val / 16 = (q 1).val
      · rw [if_pos ⟨hgl.1, hgl.2, h1⟩]; exact (key 1 h1).2
      rw [if_neg (fun h => h1 h.2.2)]
      by_cases h0 : (j 2).val / 16 = (q 0).val
      · rw [if_pos ⟨hgl.1, hgl.2, h0⟩]; exact (key 0 h0).2
      exfalso
      have e0 := hq 0; have e1 := hq 1; have e2 := hq 2; have e3 := hq 3
      simp at e0 e1 e2 e3
      omega
    · rw [if_neg (fun h => h64 h.2.2)]
      unfold putChunk
      rw [if_neg (fun h => h64 (key 3 h.2.2).1), if_neg (fun h => h64 (key 2 h.2.2).1), if_neg (fun h => h64 (key 1 h.2.2).1),
        if_neg (fun h => h64 (key 0 h.2.2).1)]
  · have hn : ∀ P : Prop, ¬((j 0).val = g.val ∧ (j 1).val = l.val ∧ P) := fun P h => hgl ⟨h.1, h.2.1⟩
    unfold putChunk
    simp only [hn, if_false]

end Cert.KernelIdeal.Rows
-- ==== Proof.Ideal.Steps.lean ====
module

public import proofs.«01_k».proof.Proof.Ideal.Views

@[expose] public section

noncomputable section

namespace Cert.KernelIdeal.Rows

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the TensorCore's pipeline keeps its rounds. -/
abbrev EP : Emb UP (MT nD τ sig (HIx 1) (Elt F) ℕ UU ℕ) := (Emb.inl : Emb UP (UP × Counters)).trans embR

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

/-- The block of 128 table columns that holds id `c`. -/
abbrev slab (tab : Memref sig .scVector .hbm S64x1000064 .f32) (c : BitVec 32)
    (h : ∀ a, (k0_off13 c) a + S64x128.size a ≤ S64x1000064.size a) : Memref sig .scVector .hbm S64x128 .f32 :=
  tab.slice (Rect.unit (s := S64x1000064) (k0_off13 c) S64x128.size h) (fun _ => rfl)

abbrev tabPts (tab : Memref sig .scVector .hbm S64x1000064 .f32) (q : PosShare TreeShare) (f : Buf (Elt F) (tab.view.loc (thr d L))) : sProp 𝕄 :=
  tab.view.loc (thr d L) ↦{q} f

abbrev slotPts (s : Fin 8) (f : S8x64x128.Idx → Elt F .f32) : sProp 𝕄 := (thr d L).loc cc0_scratch2 ↦[slotSet s]{fullShare} f
abbrev halfPts (g : Fin 2) (f : S2x16x128.Idx → Elt F .f32) : sProp 𝕄 := (thr d L).loc cc0_scratch3 ↦[halfSet g]{fullShare} f

abbrev rsem (s : Fin 8) : SemLoc sig := .dma (MM.rs s).sem
abbrev fsem (g : Fin 2) : SemLoc sig := .dma (MM.fs g).sem

/-- What a ring slot's block of numbers is once the block for id `c` has come. -/
def Holds (tab : Memref sig .scVector .hbm S64x1000064 .f32) (f : Buf (Elt F) (tab.view.loc (thr d L))) (c : BitVec 32)
    (G : S64x128.Idx → Elt F .f32) : Prop :=
  ∀ (x : Fin 64) (y : Fin 128) (hy : c.toNat / 128 * 128 + y.val < 1000064),
    G (ix2 x y) = tab.view.read (Elt F) f (ix2 x ⟨c.toNat / 128 * 128 + y.val, hy⟩)

/-- A slot with nothing on its way. -/
def Free (s : Fin 8) : sProp 𝕄 := iprop(semVal (thr d L, rsem s) 0 ∗ ∃ g, slotPts d L s g)

/-- A slot with the block for id `c` of `tab` on its way. -/
def Busy (tab : Memref sig .scVector .hbm S64x1000064 .f32) (q : PosShare TreeShare) (f : Buf (Elt F) (tab.view.loc (thr d L)))
    (s : Fin 8) (c : BitVec 32) : sProp 𝕄 :=
  iprop(∃ S, Flight countersEmb (thr d L) (rsem s) (default : HIx 1) (slot MM s).view.dmaCredit
      iprop((∃ g, ⌜Holds d L tab f c ((slot MM s).view.read (Elt F) g)⌝ ∗ slotPts d L s g) ∗ tab.view.loc (thr d L) ↦[S]{q} f)
    ∗ tab.view.loc (thr d L) ↦[Finset.univ \ S]{q} f)

/-- A slot that was sent a slab holds the table's columns from the slab's start on. -/
theorem holds_slab (tab : Memref sig .scVector .hbm S64x1000064 .f32) (f : Buf (Elt F) (tab.view.loc (thr d L))) (c : BitVec 32)
    (hc : c.toNat < 1000000) (h : ∀ a, (k0_off13 c) a + S64x128.size a ≤ S64x1000064.size a) :
    Holds d L tab f c ((slab tab c h).view.read (Elt F) f) := by
  intro x y hy
  change tab.view.read (Elt F) f ((Rect.unit (s := S64x1000064) (k0_off13 c) S64x128.size h).emb (ix2 x y : S64x128.Idx)) = _
  congr 1
  refine funext fun a => Fin.ext ?_
  match a with
  | ⟨0, _⟩ => exact (show (k0_off13 c) 0 + 1 * x.val = x.val by rw [off13_eq c hc]; simp)
  | ⟨1, _⟩ => exact (show (k0_off13 c) 1 + 1 * y.val = c.toNat / 128 * 128 + y.val by rw [off13_eq c hc]; simp)

variable (E0 : Set ℕ)

local notation "WP" => wp frame (wpE (defs₀ (F := F)) 𝒱₀ (thr d L) none) Set.univ

/-- Sending a copy of a slab into a free slot puts it in flight. -/
theorem wp_send (tab : Memref sig .scVector .hbm S64x1000064 .f32) (q : PosShare TreeShare)
    (f : Buf (Elt F) (tab.view.loc (thr d L))) (s : Fin 8) (c : BitVec 32) (hc : c.toNat < 1000000)
    (h : ∀ a, (k0_off13 c) a + S64x128.size a ≤ S64x1000064.size a)
    (Q : PUnit → sProp 𝕄) :
    iprop(Free d L s ∗ tabPts d L tab q f)
      ⊢ iprop((Busy d L tab q f s c -∗ Q ⟨⟩) -∗ WP (send L MM tab s c h) Q) := by
  unfold send Free
  iintro ⟨⟨Hv, ⟨%g, Hs⟩⟩, Ht⟩ Hk
  ihave Hts := (pointsTo_split_subset (q := q) (f := f) (S := Finset.univ) (Finset.subset_univ (slab tab c h).view.set)).1 $$ Ht
  icases Hts with ⟨Ht, Hr⟩
  iapply (Transfers.wp_dmaLocal countersEmb 𝒱₀ (thr d L) none (src := slab tab c h) (dst := slot MM s) (Sd := slotSet s)
    (default : HIx 1) (slot MM s).view.dmaCredit rfl ((slot MM s).view.dmaCredit_pos (by decide)) (slot_set s).subset) $$ [Ht Hs Hv]
  · isplitl [Ht]; · iexact Ht
    isplitl [Hs]; · iexact Hs
    iexact Hv
  iintro Hf
  iapply (le_wp_ret _ _ _ _ Q)
  iapply Hk
  unfold Busy
  iexists (slab tab c h).view.set
  isplitl [Hf]
  · iapply (Flight_mono countersEmb (thr d L) _) $$ Hf
    refine sep_mono_left ?_
    iintro H
    iexists _
    isplitr
    rotate_left
    · iexact H
    · ipureintro
      have e := View.read_write_univ (v := (slot MM s).view) (Val := Elt F) g (ReadAs.same.apply (View.read (Elt F) (slab tab c h).view f))
      exact (congrArg (Holds d L tab f c) e).mpr (holds_slab d L tab f c hc h)
  · iexact Hr

/-- A check whose proposition holds is passed. -/
theorem wp_check {α : Type} {P : Prop} (dec : Decidable P) (k : PLift P → TP (F := F) L α) (h : P) (Q : α → sProp 𝕄) :
    WP (k ⟨h⟩) Q ⊢ WP (Prog.lift (TpuEff.assume P dec) >>= k) Q :=
  wp_assume (defs := defs₀ (F := F)) 𝒱₀ (thr d L) none Set.univ (d := dec) (k := k) h

/-- So does the kernel's step that sends for the slab of an id. -/
theorem wp_issue (tab : Memref sig .scVector .hbm S64x1000064 .f32) (q : PosShare TreeShare)
    (f : Buf (Elt F) (tab.view.loc (thr d L))) (s : Fin 8) (c : BitVec 32) (hc : c.toNat < 1000000) (Q : PUnit → sProp 𝕄) :
    iprop(Free d L s ∗ tabPts d L tab q f) ⊢ iprop((Busy d L tab q f s c -∗ Q ⟨⟩) -∗ WP (issue L MM tab s c) Q) := by
  unfold issue
  refine (wp_send d L tab q f s c hc (k0_off13_inb c (chk10_of c hc)) Q).trans (wand_mono_right ?_)
  exact wp_check d L _ (fun h => send L MM tab s c (k0_off13_inb c h.down)) (chk10_of c hc) Q

/-- The waits recorded so far are those of the start and waits at no index. -/
def Owes (O : CellTallies nD τ sig (HIx 1)) (W : Waits sig (HIx 1)) : sProp 𝕄 :=
  iprop(∃ W', ⌜∀ p ∈ W', p ∈ W ∨ p.2 = none⌝ ∗ owes (thr d L) O W')

variable (O : CellTallies nD τ sig (HIx 1)) (W : Waits sig (HIx 1))

/-- One more wait on a semaphore of the tile's own keeps the waits recorded so far. -/
theorem owes_insert (W' : Waits sig (HIx 1)) (hW : ∀ p ∈ W', p ∈ W ∨ p.2 = none) (sm : SemLoc sig) :
    (owes (thr d L) O (insert (sm, (default : HIx 1)) W') : sProp 𝕄) ⊢ Owes d L O W := by
  unfold Owes
  iintro H
  iexists _
  isplitr
  rotate_left
  · iexact H
  · ipureintro
    intro p hp
    rcases Finset.mem_insert.mp hp with rfl | hp
    · exact .inr rfl
    · exact hW p hp

/-- Waiting for a slot's slab gives the slot back, holding it. -/
theorem wp_slotWait (tab tab' : Memref sig .scVector .hbm S64x1000064 .f32) (q : PosShare TreeShare)
    (f : Buf (Elt F) (tab.view.loc (thr d L))) (s : Fin 8) (c : BitVec 32) (Q : PUnit → sProp 𝕄) :
    iprop(Busy d L tab q f s c ∗ Owes d L O W ∗ MayWaits (thr d L) (default : HIx 1) O)
      ⊢ iprop((iprop(semVal (thr d L, rsem s) 0 ∗ (∃ g, ⌜Holds d L tab f c ((slot MM s).view.read (Elt F) g)⌝ ∗ slotPts d L s g)
            ∗ tabPts d L tab q f ∗ Owes d L O W) -∗ Q ⟨⟩) -∗ WP (slotWait L MM tab' s) Q) := by
  unfold slotWait Busy Owes
  iintro ⟨⟨%S, Hf, Hr⟩, ⟨%W', %hW, HO⟩, Hmw⟩ Hk
  ihave Hmw' := (MayWaits.elim (rsem s)) $$ Hmw
  iapply (Transfers.wp_waitLocalO countersEmb 𝒱₀ (thr d L) none (dstw := slot MM s) (default : HIx 1) rfl) $$ [Hf HO Hmw']
  · isplitl [Hf]; · iexact Hf
    isplitl [HO]; · iexact HO
    iexact Hmw'
  iintro ⟨⟨Hs, Ht⟩, Hv, HO⟩
  iapply (le_wp_ret _ _ _ _ Q)
  iapply Hk
  isplitl [Hv]; · iexact Hv
  isplitl [Hs]; · iexact Hs
  isplitl [Ht Hr]
  · iapply (pointsTo_split_subset (q := q) (f := f) (S := Finset.univ) (Finset.subset_univ S)).2
    isplitl [Ht] <;> iassumption
  · ihave H := (owes_insert d L O W W' hW _) $$ HO
    unfold Owes
    iexact H

/-- A whole slot lies in the ring's slot. -/
theorem slot_whole_set (s : Fin 8) : ((slot MM s).access (Rect.whole S64x128)).set ⊆ slotSet s := by
  rw [← slot_set s]
  intro j hj
  obtain ⟨x, -, hx⟩ := Finset.mem_map.mp hj
  exact Finset.mem_map.mpr ⟨(Rect.whole S64x128).emb x, Finset.mem_univ _, hx⟩

/-- Reading a whole slot reads the ring there. -/
theorem slot_whole_read (s : Fin 8) (g : S8x64x128.Idx → Elt F .f32) :
    ((slot MM s).access (Rect.whole S64x128)).read (Elt F) g = (slot MM s).view.read (Elt F) g :=
  funext fun x => congrArg (fun y => (slot MM s).view.read (Elt F) g y) (Rect.emb_whole_apply S64x128 x)

/-- Gathering from a slot reads it at the given rows and columns. -/
theorem wp_gather {α : Type} (s : Fin 8) (r c : IVec S16 32)
    (h : ∀ a x, ((![r, c] : Fin 2 → IVec S16 32) a x).toNat < S64x128.size a) (gs : S8x64x128.Idx → Elt F .f32)
    (k : Vec F S16 .f32 → TP (F := F) L α) (Q : α → sProp 𝕄) :
    slotPts d L s gs
      ⊢ iprop((slotPts d L s gs -∗ WP (k (loadIdx ((slot MM s).view.read (Elt F) gs) ![r, c] h)) Q)
        -∗ WP (SparseCore.vectorLoadIdx (slot MM s) ![r, c] h (View.loads_vmem h_S64x128) >>= k) Q) := by
  rw [← slot_whole_read]
  exact SparseCore.wp_vectorLoadIdx (defs := defs₀ (F := F)) 𝒱₀ (thr d L) none Set.univ (base := slot MM s) (S := slotSet s) (q := fullShare) (f := gs)
    (slot_whole_set s)

/-- Gathering sixteen rows of a column and storing them in a chunk of a staged row. -/
theorem wp_chunk (s : Fin 8) (g : Fin 2) (l : Fin 16) (q : Fin 8) (r c : IVec S16 32)
    (h : ∀ a x, ((![r, c] : Fin 2 → IVec S16 32) a x).toNat < S64x128.size a)
    (gs : S8x64x128.Idx → Elt F .f32) (f : S2x16x128.Idx → Elt F .f32) (Q : PUnit → sProp 𝕄) :
    iprop(slotPts d L s gs ∗ halfPts d L g f)
      ⊢ iprop((iprop(slotPts d L s gs ∗ halfPts d L g (putChunk f g l q (loadIdx ((slot MM s).view.read (Elt F) gs) ![r, c] h))) -∗ Q ⟨⟩)
        -∗ WP (chunk L MM s g l q r c h) Q) := by
  unfold chunk
  iintro ⟨Hs, Hh⟩ Hk
  iapply (wp_gather d L s r c h gs) $$ Hs
  iintro Hs
  iapply (wp_load_rect (defs := defs₀ (F := F)) 𝒱₀ (thr d L) none Set.univ (m := MM.stage) (r := Rect.unit (s := S2x16x128) ![g.val, l.val, 16 * q.val] S1x1x16.size (chunk_inb g l q)) (S := halfSet g) (q := fullShare) (f := f) (chunkView_sub g l q)) $$ Hh
  iintro Hh
  iapply (wp_store (defs := defs₀ (F := F)) 𝒱₀ (thr d L) none Set.univ (m := MM.stage) (r := Rect.unit (s := S2x16x128) ![g.val, l.val, 16 * q.val] S1x1x16.size (chunk_inb g l q)) (S := halfSet g) (f := f) (chunkView_sub g l q)) $$ Hh
  iintro Hh
  iapply (le_wp_ret _ _ _ _ Q)
  iapply Hk
  isplitl [Hs]; · iexact Hs
  ihave Hh' := (Entails.of_eq (congrArg (fun F' => halfPts d L g F') (chunk_write g l q f _ shapeCasts_S16_S1x1x16))) $$ Hh
  iexact Hh'

/-- The row numbers of each of the four gathers. -/
theorem lanes_eq (q : Fin 4) : ∀ x, (lanesFrom (BitVec.ofNat 32 (16 * q.val)) x).toNat = (x 0).val + 16 * q.val :=
  fun x => lanesFrom_toNat q x

/-- What a gather of sixteen rows of a slot's column reads. -/
theorem gathered (G : S64x128.Idx → Elt F .f32) (a : Fin 4) (c : BitVec 32) (hc : c.toNat < 1000000)
    (h : ∀ b x, ((![lanesFrom (BitVec.ofNat 32 (16 * a.val)), broadcast S16 (lane c)] : Fin 2 → IVec S16 32) b x).toNat < S64x128.size b)
    (x : S16.Idx) (hx : 16 * a.val + (x 0).val < 64) :
    loadIdx (F := F) (e := .f32) G ![lanesFrom (BitVec.ofNat 32 (16 * a.val)), broadcast S16 (lane c)] h x
      = G (ix2 ⟨16 * a.val + (x 0).val, hx⟩ ⟨c.toNat % 128, Nat.mod_lt _ (by decide)⟩) := by
  change G (idxAt _ h x) = _
  congr 1
  refine funext fun b => Fin.ext ?_
  match b with
  | ⟨0, _⟩ => exact (lanesFrom_toNat a x).trans (Nat.add_comm _ _)
  | ⟨1, _⟩ => exact lane_toNat c hc

/-- The four gathers together stage a whole column of the slab. -/
theorem wp_column (s : Fin 8) (g : Fin 2) (l : Fin 16) (p : Fin 2) (c : BitVec 32) (hc : c.toNat < 1000000)
    (gs : S8x64x128.Idx → Elt F .f32) (f : S2x16x128.Idx → Elt F .f32) (Q : PUnit → sProp 𝕄) :
    iprop(slotPts d L s gs ∗ halfPts d L g f)
      ⊢ iprop((iprop(slotPts d L s gs ∗ halfPts d L g (putColumn f g l p ((slot MM s).view.read (Elt F) gs)
            ⟨c.toNat % 128, Nat.mod_lt _ (by decide)⟩)) -∗ Q ⟨⟩)
        -∗ WP (column L MM s g l p (broadcast S16 (lane c))) Q) := by
  have hk := chk9_of c hc
  unfold column
  refine BIBase.Entails.trans ?_ (wand_mono_right (wp_check d L _ _ hk Q))
  simp only [wp_bind]
  iintro ⟨Hs, Hh⟩ Hk
  iapply (wp_chunk d L s g l _ _ _ _ gs f) $$ [Hs Hh]
  · isplitl [Hs] <;> iassumption
  iintro ⟨Hs, Hh⟩
  iapply (wp_chunk d L s g l _ _ _ _ gs _) $$ [Hs Hh]
  · isplitl [Hs] <;> iassumption
  iintro ⟨Hs, Hh⟩
  iapply (wp_chunk d L s g l _ _ _ _ gs _) $$ [Hs Hh]
  · isplitl [Hs] <;> iassumption
  iintro ⟨Hs, Hh⟩
  iapply (wp_chunk d L s g l _ _ _ _ gs _) $$ [Hs Hh]
  · isplitl [Hs] <;> iassumption
  iintro ⟨Hs, Hh⟩
  iapply Hk
  isplitl [Hs]; · iexact Hs
  rw [← putColumn_eq f g l p _ _
    ![loadIdx ((slot MM s).view.read (Elt F) gs) ![lanesFrom 0#32, broadcast S16 (lane c)] (k0_idx1_inb _ _ _ _ _ hk),
      loadIdx ((slot MM s).view.read (Elt F) gs) ![lanesFrom 16#32, broadcast S16 (lane c)] (k0_idx2_inb _ _ _ _ _ hk),
      loadIdx ((slot MM s).view.read (Elt F) gs) ![lanesFrom 32#32, broadcast S16 (lane c)] (k0_idx3_inb _ _ _ _ _ hk),
      loadIdx ((slot MM s).view.read (Elt F) gs) ![lanesFrom 48#32, broadcast S16 (lane c)] (k0_idx4_inb _ _ _ _ _ hk)]
    ![match p with | 0 => 0 | 1 => 4, match p with | 0 => 1 | 1 => 5, match p with | 0 => 2 | 1 => 6, match p with | 0 => 3 | 1 => 7]
    (by intro a; fin_cases p <;> fin_cases a <;> rfl)
    (by
      intro a x hx
      match a with
      | ⟨0, _⟩ => exact gathered ((slot MM s).view.read (Elt F) gs) 0 c hc (k0_idx1_inb _ _ _ _ _ hk) x hx
      | ⟨1, _⟩ => exact gathered ((slot MM s).view.read (Elt F) gs) 1 c hc (k0_idx2_inb _ _ _ _ _ hk) x hx
      | ⟨2, _⟩ => exact gathered ((slot MM s).view.read (Elt F) gs) 2 c hc (k0_idx3_inb _ _ _ _ _ hk) x hx
      | ⟨3, _⟩ => exact gathered ((slot MM s).view.read (Elt F) gs) 3 c hc (k0_idx4_inb _ _ _ _ _ hk) x hx)]
  iexact Hh

end Tile

end Cert.KernelIdeal.Rows
-- ==== Proof.Ideal.Group.lean ====
module

public import proofs.«01_k».proof.Proof.Ideal.Steps

@[expose] public section

noncomputable section

namespace Cert.KernelIdeal.Rows

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

/-- What row `k` of a tile's output holds in column `j`: the user table's column for the row's user id, then the item
    table's for its item id. -/
def rowVal {α : Type} (fU fI : S64x1000064.Idx → α) (au ai : ℕ → BitVec 32) (k j : ℕ) : α :=
  if j / 64 = 0 then fU (ix2 ⟨j % 64, Nat.mod_lt _ (by decide)⟩ ⟨(au k).toNat % 1000064, Nat.mod_lt _ (by decide)⟩)
  else fI (ix2 ⟨j % 64, Nat.mod_lt _ (by decide)⟩ ⟨(ai k).toNat % 1000064, Nat.mod_lt _ (by decide)⟩)

/-- In half `g` the first `a` rows hold their user columns and the first `b` their item columns, of group `n`. -/
def StageOK {α : Type} (fU fI : S64x1000064.Idx → α) (au ai : ℕ → BitVec 32) (g : Fin 2) (n a b : ℕ) (f : S2x16x128.Idx → α) : Prop :=
  ∀ j : S2x16x128.Idx, (j 0).val = g.val →
    (((j 2).val / 64 = 0 → (j 1).val < a → f j = rowVal fU fI au ai (16 * n + (j 1).val) (j 2).val) ∧
     ((j 2).val / 64 = 1 → (j 1).val < b → f j = rowVal fU fI au ai (16 * n + (j 1).val) (j 2).val))

/-- Before any row is staged nothing is asked of a half. -/
theorem stageOK_zero {α : Type} (fU fI : S64x1000064.Idx → α) (au ai : ℕ → BitVec 32) (g : Fin 2) (n : ℕ) (f : S2x16x128.Idx → α) :
    StageOK fU fI au ai g n 0 0 f :=
  fun _ _ => ⟨fun _ h => absurd h (Nat.not_lt_zero _), fun _ h => absurd h (Nat.not_lt_zero _)⟩

/-- An id in range is its slab's start plus its column in the slab, and lies within the padded table. -/
theorem id_split (c : ℕ) (h : c < 1000000) : c / 128 * 128 + c % 128 < 1000064 ∧ c / 128 * 128 + c % 128 = c % 1000064 := by
  omega

/-- A slot's column taken at an id is the table's. -/
theorem column_val {α : Type} (f : S64x1000064.Idx → α) (G : S64x128.Idx → α) (c : BitVec 32) (hc : c.toNat < 1000000)
    (hG : ∀ (x : Fin 64) (y : Fin 128) (hy : c.toNat / 128 * 128 + y.val < 1000064), G (ix2 x y) = f (ix2 x ⟨c.toNat / 128 * 128 + y.val, hy⟩))
    (x : Fin 64) : G (ix2 x ⟨c.toNat % 128, Nat.mod_lt _ (by decide)⟩) = f (ix2 x ⟨c.toNat % 1000064, Nat.mod_lt _ (by decide)⟩) := by
  rw [hG x _ (id_split _ hc).1]
  congr 2
  exact Fin.ext (id_split _ hc).2

/-- Staging the user columns of one more row, read at the id's column of its slab. -/
theorem stageOK_user {α : Type} (fU fI : S64x1000064.Idx → α) (au ai : ℕ → BitVec 32) (g : Fin 2) (n a b : ℕ) (f : S2x16x128.Idx → α)
    (h : StageOK fU fI au ai g n a b f) (l : Fin 16) (hl : l.val = a) (G : S64x128.Idx → α) (c : BitVec 32) (hc : c.toNat < 1000000)
    (hca : c = au (16 * n + a))
    (hG : ∀ (x : Fin 64) (y : Fin 128) (hy : c.toNat / 128 * 128 + y.val < 1000064), G (ix2 x y) = fU (ix2 x ⟨c.toNat / 128 * 128 + y.val, hy⟩)) :
    StageOK fU fI au ai g n (a + 1) b (putColumn f g l 0 G ⟨c.toNat % 128, Nat.mod_lt _ (by decide)⟩) := by
  subst hca
  intro j hj
  unfold putColumn
  constructor
  · intro h0 h1
    by_cases hjl : (j 1).val = a
    · rw [if_pos ⟨hj, hjl.trans hl.symm, h0⟩, column_val fU G _ hc hG]
      unfold rowVal
      rw [if_pos h0, hjl]
    · rw [if_neg (fun h => hjl (h.2.1.trans hl))]
      exact (h j hj).1 h0 (by omega)
  · intro h0 h1
    rw [if_neg (fun h => by have := h.2.2; rw [h0] at this; exact absurd this (by decide))]
    exact (h j hj).2 h0 h1

/-- Staging the item columns of one more row, likewise. -/
theorem stageOK_item {α : Type} (fU fI : S64x1000064.Idx → α) (au ai : ℕ → BitVec 32) (g : Fin 2) (n a b : ℕ) (f : S2x16x128.Idx → α)
    (h : StageOK fU fI au ai g n a b f) (l : Fin 16) (hl : l.val = b) (G : S64x128.Idx → α) (c : BitVec 32) (hc : c.toNat < 1000000)
    (hca : c = ai (16 * n + b))
    (hG : ∀ (x : Fin 64) (y : Fin 128) (hy : c.toNat / 128 * 128 + y.val < 1000064), G (ix2 x y) = fI (ix2 x ⟨c.toNat / 128 * 128 + y.val, hy⟩)) :
    StageOK fU fI au ai g n a (b + 1) (putColumn f g l 1 G ⟨c.toNat % 128, Nat.mod_lt _ (by decide)⟩) := by
  subst hca
  intro j hj
  unfold putColumn
  constructor
  · intro h0 h1
    rw [if_neg (fun h => by have := h.2.2; rw [h0] at this; exact absurd this (by decide))]
    exact (h j hj).1 h0 h1
  · intro h0 h1
    by_cases hjl : (j 1).val = b
    · rw [if_pos ⟨hj, hjl.trans hl.symm, h0⟩, column_val fI G _ hc hG]
      unfold rowVal
      rw [if_neg (by rw [h0]; decide), hjl]
    · rw [if_neg (fun h => hjl (h.2.1.trans hl))]
      exact (h j hj).2 h0 (by omega)

variable [FloatOps F]

/-- A resource for each of the eight slots. -/
def All8 (Φ : Fin 8 → sProp 𝕄) : sProp 𝕄 :=
  iprop(Φ 0 ∗ Φ 1 ∗ Φ 2 ∗ Φ 3 ∗ Φ 4 ∗ Φ 5 ∗ Φ 6 ∗ Φ 7)

/-- What is weaker slot by slot is weaker for all eight. -/
theorem All8_mono {Φ Ψ : Fin 8 → sProp 𝕄} (h : ∀ s, Φ s ⊢ Ψ s) : All8 Φ ⊢ All8 Ψ := by
  unfold All8
  exact BIClass.sep_mono (h 0) (BIClass.sep_mono (h 1) (BIClass.sep_mono (h 2) (BIClass.sep_mono (h 3) (BIClass.sep_mono (h 4)
    (BIClass.sep_mono (h 5) (BIClass.sep_mono (h 6) (h 7)))))))

section Tile

variable (d : Dev nD) (L : grid0.Coords)

local notation "WP" => wp frame (wpE (defs₀ (F := F)) 𝒱₀ (thr d L) none) Set.univ

/-- Eight steps, each turning its own slot's resource and a running one. -/
theorem wp_eight (f : Fin 8 → TP (F := F) L PUnit) (Pre Post : Fin 8 → sProp 𝕄) (M : ℕ → sProp 𝕄) (R : sProp 𝕄) [BI.Persistent R]
    (h : ∀ (s : Fin 8) (Q : PUnit → sProp 𝕄),
      iprop(Pre s ∗ M s.val ∗ R) ⊢ iprop((iprop(Post s ∗ M (s.val + 1)) -∗ Q ⟨⟩) -∗ WP (f s) Q)) (Q : PUnit → sProp 𝕄) :
    iprop(All8 Pre ∗ M 0 ∗ R) ⊢ iprop((iprop(All8 Post ∗ M 8) -∗ Q ⟨⟩) -∗ WP (eight L f) Q) := by
  unfold eight All8
  simp only [wp_bind]
  iintro ⟨⟨H0, H1, H2, H3, H4, H5, H6, H7⟩, HM, #HR⟩ Hk
  iapply (show iprop(Pre 0 ∗ M 0 ∗ R) ⊢ iprop((iprop(Post 0 ∗ M 1) -∗ _) -∗ WP (f 0) _) from h 0 _) $$ [H0 HM]
  · isplitl [H0]; · iexact H0
    isplitl [HM]; · iexact HM
    iexact HR
  iintro ⟨H0, HM⟩
  iapply (show iprop(Pre 1 ∗ M 1 ∗ R) ⊢ iprop((iprop(Post 1 ∗ M 2) -∗ _) -∗ WP (f 1) _) from h 1 _) $$ [H1 HM]
  · isplitl [H1]; · iexact H1
    isplitl [HM]; · iexact HM
    iexact HR
  iintro ⟨H1, HM⟩
  iapply (show iprop(Pre 2 ∗ M 2 ∗ R) ⊢ iprop((iprop(Post 2 ∗ M 3) -∗ _) -∗ WP (f 2) _) from h 2 _) $$ [H2 HM]
  · isplitl [H2]; · iexact H2
    isplitl [HM]; · iexact HM
    iexact HR
  iintro ⟨H2, HM⟩
  iapply (show iprop(Pre 3 ∗ M 3 ∗ R) ⊢ iprop((iprop(Post 3 ∗ M 4) -∗ _) -∗ WP (f 3) _) from h 3 _) $$ [H3 HM]
  · isplitl [H3]; · iexact H3
    isplitl [HM]; · iexact HM
    iexact HR
  iintro ⟨H3, HM⟩
  iapply (show iprop(Pre 4 ∗ M 4 ∗ R) ⊢ iprop((iprop(Post 4 ∗ M 5) -∗ _) -∗ WP (f 4) _) from h 4 _) $$ [H4 HM]
  · isplitl [H4]; · iexact H4
    isplitl [HM]; · iexact HM
    iexact HR
  iintro ⟨H4, HM⟩
  iapply (show iprop(Pre 5 ∗ M 5 ∗ R) ⊢ iprop((iprop(Post 5 ∗ M 6) -∗ _) -∗ WP (f 5) _) from h 5 _) $$ [H5 HM]
  · isplitl [H5]; · iexact H5
    isplitl [HM]; · iexact HM
    iexact HR
  iintro ⟨H5, HM⟩
  iapply (show iprop(Pre 6 ∗ M 6 ∗ R) ⊢ iprop((iprop(Post 6 ∗ M 7) -∗ _) -∗ WP (f 6) _) from h 6 _) $$ [H6 HM]
  · isplitl [H6]; · iexact H6
    isplitl [HM]; · iexact HM
    iexact HR
  iintro ⟨H6, HM⟩
  iapply (show iprop(Pre 7 ∗ M 7 ∗ R) ⊢ iprop((iprop(Post 7 ∗ M 8) -∗ _) -∗ WP (f 7) _) from h 7 _) $$ [H7 HM]
  · isplitl [H7]; · iexact H7
    isplitl [HM]; · iexact HM
    iexact HR
  iintro ⟨H7, HM⟩
  iapply Hk
  isplitr [HM]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HM

variable (O : CellTallies nD τ sig (HIx 1)) (W : Waits sig (HIx 1))

/-- One id of a group: wait for its slab and stage its column; the slot is free again. -/
theorem wp_take (tab : Memref sig .scVector .hbm S64x1000064 .f32) (q : PosShare TreeShare)
    (f : Buf (Elt F) (tab.view.loc (thr d L))) (s : Fin 8) (g : Fin 2) (l : Fin 16) (p : Fin 2) (v : Vec F S16 .i32)
    (hc : (idAt v l).toNat < 1000000) (h : S2x16x128.Idx → Elt F .f32) (Q : PUnit → sProp 𝕄) :
    iprop(Busy d L tab q f s (idAt v l) ∗ halfPts d L g h ∗ Owes d L O W ∗ MayWaits (thr d L) (default : HIx 1) O)
      ⊢ iprop((iprop(Free d L s ∗ tabPts d L tab q f
            ∗ (∃ G, ⌜Holds d L tab f (idAt v l) G⌝
                ∗ halfPts d L g (putColumn h g l p G ⟨(idAt v l).toNat % 128, Nat.mod_lt _ (by decide)⟩)) ∗ Owes d L O W) -∗ Q ⟨⟩)
        -∗ WP (take L MM tab s g l p v) Q) := by
  unfold take
  simp only [wp_bind]
  iintro ⟨Hb, Hh, HO, Hmw⟩ Hk
  iapply (wp_slotWait d L O W tab tab q f s (idAt v l)) $$ [Hb HO Hmw]
  · isplitl [Hb]; · iexact Hb
    isplitl [HO]; · iexact HO
    iexact Hmw
  iintro ⟨Hv, ⟨%gs, %hgs, Hs⟩, Ht, HO⟩
  iapply (wp_column d L s g l p (idAt v l) hc gs h) $$ [Hs Hh]
  · isplitl [Hs]; · iexact Hs
    iexact Hh
  iintro ⟨Hs, Hh⟩
  iapply Hk
  isplitl [Hv Hs]
  · unfold Free
    isplitl [Hv]; · iexact Hv
    iexists gs
    iexact Hs
  isplitl [Ht]; · iexact Ht
  isplitl [Hh]
  · iexists _
    isplitr
    rotate_left
    · iexact Hh
    · ipureintro; exact hgs
  · iexact HO

/-- The contents of a tile's id scratch by number. -/
def atN (a : S512.Idx → BitVec 32) (k : ℕ) : BitVec 32 := a (ix1 ⟨k % 512, Nat.mod_lt _ (by decide)⟩)

/-- A slab is sent for under a condition: with the condition true as the plain step, else nothing happens. -/
theorem wp_issueIf (tab : Memref sig .scVector .hbm S64x1000064 .f32) (q : PosShare TreeShare)
    (f : Buf (Elt F) (tab.view.loc (thr d L))) (s : Fin 8) (b : BitVec 1) (c : BitVec 32) (hc : b = 1#1 → c.toNat < 1000000)
    (Q : PUnit → sProp 𝕄) :
    iprop(Free d L s ∗ tabPts d L tab q f)
      ⊢ iprop(((if b = 1#1 then Busy d L tab q f s c else iprop(Free d L s ∗ tabPts d L tab q f)) -∗ Q ⟨⟩)
        -∗ WP (issueIf L MM tab s b c) Q) := by
  unfold issueIf
  refine BIBase.Entails.trans ?_ (wand_mono_right (wp_check d L _ _ (chkIf_of b c hc) Q))
  unfold sendIf
  by_cases hb : b = 1#1
  · rw [dif_pos hb, if_pos hb]
    exact wp_send d L tab q f s c (hc hb) _ Q
  · rw [dif_neg hb, if_neg hb]
    iintro H Hk
    iapply (le_wp_ret _ _ _ _ Q)
    iapply Hk
    iexact H

/-- Reading sixteen ids leaves them as they are and gives them in order. -/
theorem wp_ids (r : Memref sig .scVector .vmem S512 .i32) (a : Buf (Elt F) (r.view.loc (thr d L))) (n : ℕ) (hn : n + 16 ≤ 512)
    (o : Fin 1 → ℕ) (h : ∀ a, o a + S16.size a ≤ S512.size a) (ho : o = ![n]) (Q : Vec F S16 .i32 → sProp 𝕄) :
    (r.view.loc (thr d L) ↦{fullShare} a)
      ⊢ iprop((∀ v, ⌜∀ l : Fin 16, idAt v l = atN (r.view.read (Elt F) a) (n + l.val)⌝ -∗ (r.view.loc (thr d L) ↦{fullShare} a) -∗ Q v)
        -∗ WP (ids L r o h) Q) := by
  unfold ids
  iintro H Hk
  iapply (wp_load_rect (defs := defs₀ (F := F)) 𝒱₀ (thr d L) none Set.univ (m := r) (r := Rect.unit (s := S512) o S16.size h)
    (S := Finset.univ) (q := fullShare) (f := a) (Finset.subset_univ _)) $$ H
  iintro H
  iapply (le_wp_ret _ _ _ _ Q)
  ispecialize Hk $$ %_
  iapply Hk $$ [] [H]
  · ipureintro
    intro l
    subst ho
    change r.view.read (Elt F) a ((Rect.unit (s := S512) ![n] S16.size h).emb _) = r.view.read (Elt F) a _
    congr 1
    refine funext fun b => Fin.ext ?_
    match b with
    | ⟨0, _⟩ => exact (show n + 1 * (l.val + 0) = (n + l.val) % 512 by omega)
  · iexact H

/-- The first group of a pass waits for a flush from the second pass on. -/
theorem cond1_iff : ∀ t : Fin k0_t1_loop.trips, k0_cond1 t = 1#1 ↔ 2 ≤ 2 * t.val := by decide
/-- So does the second group. -/
theorem cond10_iff : ∀ t : Fin k0_t1_loop.trips, k0_cond10 t = 1#1 ↔ 2 ≤ 2 * t.val + 1 := by decide
/-- The first group always looks ahead. -/
theorem cond2_iff : ∀ t : Fin k0_t1_loop.trips, k0_cond2 t = 1#1 ↔ 2 * t.val + 1 < 32 := by decide
/-- The second group looks ahead in all passes but the last. -/
theorem cond11_iff : ∀ t : Fin k0_t1_loop.trips, k0_cond11 t = 1#1 ↔ 2 * t.val + 1 + 1 < 32 := by decide

variable (qs : Fin 8 → PosShare TreeShare) (fU fI : S64x1000064.Idx → Elt F .f32) (a0 a1 : S512.Idx → BitVec 32)

/-- A slot with nothing on its way, and its share of the two tables. -/
def Idle (s : Fin 8) : sProp 𝕄 := iprop(Free d L s ∗ tabPts d L MM.ut (qs s) fU ∗ tabPts d L MM.it (qs s) fI)

/-- A slot with the user block for row `k` on its way, and its share of the item table. -/
def OnU (s : Fin 8) (k : ℕ) : sProp 𝕄 := iprop(Busy d L MM.ut (qs s) fU s (atN a0 k) ∗ tabPts d L MM.it (qs s) fI)

/-- A slot with the item block for row `k` on its way, and its share of the user table. -/
def OnI (s : Fin 8) (k : ℕ) : sProp 𝕄 := iprop(Busy d L MM.it (qs s) fI s (atN a1 k) ∗ tabPts d L MM.ut (qs s) fU)

/-- A slot when group `n` starts. -/
def SlotAt (n : ℕ) (s : Fin 8) : sProp 𝕄 :=
  if n < 32 then OnU d L qs fU fI a0 s (16 * n + s.val) else Idle d L qs fU fI s

/-- The running state of a group: the staging half with some rows done, and the waits so far. -/
def Stage (g : Fin 2) (n a b : ℕ) : sProp 𝕄 :=
  iprop((∃ f, ⌜StageOK fU fI (atN a0) (atN a1) g n a b f⌝ ∗ halfPts d L g f) ∗ Owes d L O W)

variable (h0 : ∀ k, (atN a0 k).toNat < 1000000) (h1 : ∀ k, (atN a1 k).toNat < 1000000)

include h0 in
/-- A user column is taken and the slot sent for again. -/
theorem takeU (s : Fin 8) (g : Fin 2) (n a b : ℕ) (l : Fin 16) (hl : l.val = a) (v : Vec F S16 .i32)
    (hv : idAt v l = atN a0 (16 * n + a)) (nxt : TP (F := F) L PUnit) (Post : sProp 𝕄) (Q : PUnit → sProp 𝕄)
    (hn : iprop(Idle d L qs fU fI s) ⊢ iprop((Post -∗ Q ⟨⟩) -∗ WP nxt Q)) :
    iprop(OnU d L qs fU fI a0 s (16 * n + a) ∗ Stage d L O W fU fI a0 a1 g n a b ∗ MayWaits (thr d L) (default : HIx 1) O)
      ⊢ iprop((iprop(Post ∗ Stage d L O W fU fI a0 a1 g n (a + 1) b) -∗ Q ⟨⟩)
        -∗ WP (take L MM MM.ut s g l 0 v >>= fun _ => nxt) Q) := by
  unfold OnU Stage
  simp only [wp_bind]
  iintro ⟨⟨Hb, Hi⟩, ⟨⟨%f, %hf, Hh⟩, HO⟩, Hmw⟩ Hk
  rw [← hv]
  iapply (wp_take d L O W MM.ut (qs s) fU s g l 0 v (hv ▸ h0 _) f) $$ [Hb Hh HO Hmw]
  · isplitl [Hb]; · iexact Hb
    isplitl [Hh]; · iexact Hh
    isplitl [HO]; · iexact HO
    iexact Hmw
  iintro ⟨Hf, Ht, ⟨%G, %hG, Hh⟩, HO⟩
  iapply hn $$ [Hf Ht Hi]
  · unfold Idle
    isplitl [Hf]; · iexact Hf
    isplitl [Ht]; · iexact Ht
    iexact Hi
  iintro HP
  iapply Hk
  isplitl [HP]; · iexact HP
  isplitr [HO]
  · iexists _
    isplitr
    rotate_left
    · iexact Hh
    · ipureintro
      exact stageOK_user fU fI (atN a0) (atN a1) g n a b f hf l hl G _ (hv ▸ h0 _) hv hG
  · iexact HO

include h1 in
/-- An item column is taken and the slot sent for again. -/
theorem takeI (s : Fin 8) (g : Fin 2) (n a b : ℕ) (l : Fin 16) (hl : l.val = b) (v : Vec F S16 .i32)
    (hv : idAt v l = atN a1 (16 * n + b)) (nxt : TP (F := F) L PUnit) (Post : sProp 𝕄) (Q : PUnit → sProp 𝕄)
    (hn : iprop(Idle d L qs fU fI s) ⊢ iprop((Post -∗ Q ⟨⟩) -∗ WP nxt Q)) :
    iprop(OnI d L qs fU fI a1 s (16 * n + b) ∗ Stage d L O W fU fI a0 a1 g n a b ∗ MayWaits (thr d L) (default : HIx 1) O)
      ⊢ iprop((iprop(Post ∗ Stage d L O W fU fI a0 a1 g n a (b + 1)) -∗ Q ⟨⟩)
        -∗ WP (take L MM MM.it s g l 1 v >>= fun _ => nxt) Q) := by
  unfold OnI Stage
  simp only [wp_bind]
  iintro ⟨⟨Hb, Hi⟩, ⟨⟨%f, %hf, Hh⟩, HO⟩, Hmw⟩ Hk
  rw [← hv]
  iapply (wp_take d L O W MM.it (qs s) fI s g l 1 v (hv ▸ h1 _) f) $$ [Hb Hh HO Hmw]
  · isplitl [Hb]; · iexact Hb
    isplitl [Hh]; · iexact Hh
    isplitl [HO]; · iexact HO
    iexact Hmw
  iintro ⟨Hf, Ht, ⟨%G, %hG, Hh⟩, HO⟩
  iapply hn $$ [Hf Ht Hi]
  · unfold Idle
    isplitl [Hf]; · iexact Hf
    isplitl [Hi]; · iexact Hi
    iexact Ht
  iintro HP
  iapply Hk
  isplitl [HP]; · iexact HP
  isplitr [HO]
  · iexists _
    isplitr
    rotate_left
    · iexact Hh
    · ipureintro
      exact stageOK_item fU fI (atN a0) (atN a1) g n a b f hf l hl G _ (hv ▸ h1 _) hv hG
  · iexact HO

include h0 in
theorem issueU (s : Fin 8) (c : BitVec 32) (k : ℕ) (hc : c = atN a0 k) (Q : PUnit → sProp 𝕄) :
    Idle d L qs fU fI s ⊢ iprop((OnU d L qs fU fI a0 s k -∗ Q ⟨⟩) -∗ WP (issue L MM MM.ut s c) Q) := by
  subst hc
  unfold Idle OnU
  iintro ⟨Hf, Ht, Hi⟩ Hk
  iapply (wp_issue d L MM.ut (qs s) fU s _ (h0 k)) $$ [Hf Ht]
  · isplitl [Hf]; · iexact Hf
    iexact Ht
  iintro Hb
  iapply Hk
  isplitl [Hb]; · iexact Hb
  iexact Hi

include h1 in
theorem issueI (s : Fin 8) (c : BitVec 32) (k : ℕ) (hc : c = atN a1 k) (Q : PUnit → sProp 𝕄) :
    Idle d L qs fU fI s ⊢ iprop((OnI d L qs fU fI a1 s k -∗ Q ⟨⟩) -∗ WP (issue L MM MM.it s c) Q) := by
  subst hc
  unfold Idle OnI
  iintro ⟨Hf, Ht, Hi⟩ Hk
  iapply (wp_issue d L MM.it (qs s) fI s _ (h1 k)) $$ [Hf Hi]
  · isplitl [Hf]; · iexact Hf
    iexact Hi
  iintro Hb
  iapply Hk
  isplitl [Hb]; · iexact Hb
  iexact Ht

include h0 in
theorem issueLast (s : Fin 8) (b : BitVec 1) (c : BitVec 32) (n : ℕ) (hb : b = 1#1 ↔ n + 1 < 32)
    (hc : b = 1#1 → c = atN a0 (16 * (n + 1) + s.val)) (Q : PUnit → sProp 𝕄) :
    Idle d L qs fU fI s ⊢ iprop((SlotAt d L qs fU fI a0 (n + 1) s -∗ Q ⟨⟩) -∗ WP (issueIf L MM MM.ut s b c) Q) := by
  rw [show SlotAt d L qs fU fI a0 (n + 1) s = if b = 1#1 then OnU d L qs fU fI a0 s (16 * (n + 1) + s.val) else Idle d L qs fU fI s
    from if_congr hb.symm rfl rfl]
  have hi := wp_issueIf d L MM.ut (qs s) fU s b c (fun e => (hc e) ▸ h0 _) Q
  by_cases e : b = 1#1
  · rw [if_pos e] at hi ⊢
    have hc' := hc e
    subst hc'
    unfold Idle OnU
    iintro ⟨Hf, Ht, Hi⟩ Hk
    iapply hi $$ [Hf Ht]
    · isplitl [Hf]; · iexact Hf
      iexact Ht
    iintro Hb
    iapply Hk
    isplitl [Hb]; · iexact Hb
    iexact Hi
  · rw [if_neg e] at hi ⊢
    unfold Idle
    iintro ⟨Hf, Ht, Hi⟩ Hk
    iapply hi $$ [Hf Ht]
    · isplitl [Hf]; · iexact Hf
      iexact Ht
    iintro ⟨Hf, Ht⟩
    iapply Hk
    isplitl [Hf]; · iexact Hf
    isplitl [Ht]; · iexact Ht
    iexact Hi

include h0 h1 in
/-- One group of sixteen rows. -/
theorem wp_rows (g : Fin 2) (n : ℕ) (b : BitVec 1) (hn : n < 32) (hb : b = 1#1 ↔ n + 1 < 32) (vu vi vn : Vec F S16 .i32)
    (hu : ∀ l : Fin 16, idAt vu l = atN a0 (16 * n + l.val)) (hi : ∀ l : Fin 16, idAt vi l = atN a1 (16 * n + l.val))
    (hv : b = 1#1 → ∀ l : Fin 16, idAt vn l = atN a0 (16 * (n + 1) + l.val)) (Q : PUnit → sProp 𝕄) :
    iprop(All8 (SlotAt d L qs fU fI a0 n) ∗ (∃ f, halfPts d L g f) ∗ Owes d L O W ∗ MayWaits (thr d L) (default : HIx 1) O)
      ⊢ iprop((iprop(All8 (SlotAt d L qs fU fI a0 (n + 1)) ∗ Stage d L O W fU fI a0 a1 g n 16 16) -∗ Q ⟨⟩)
        -∗ WP (rows L MM g b vu vi vn) Q) := by
  have p1 := wp_eight d L (fun s => take L MM MM.ut s g ⟨s.val, row_fin s⟩ 0 vu >>= fun _ => issue L MM MM.ut s (idAt vu ⟨8 + s.val, row_fin' s⟩))
    (fun s => OnU d L qs fU fI a0 s (16 * n + s.val)) (fun s => OnU d L qs fU fI a0 s (16 * n + (8 + s.val)))
    (fun a => Stage d L O W fU fI a0 a1 g n a 0) (MayWaits (thr d L) (default : HIx 1) O)
    (fun s Q => takeU d L O W qs fU fI a0 a1 h0 s g n s.val 0 ⟨s.val, row_fin s⟩ rfl vu (hu ⟨s.val, row_fin s⟩) _ _ Q
      (issueU d L qs fU fI a0 h0 s _ _ (hu ⟨8 + s.val, row_fin' s⟩) Q))
  have p2 := wp_eight d L (fun s => take L MM MM.ut s g ⟨8 + s.val, row_fin' s⟩ 0 vu >>= fun _ => issue L MM MM.it s (idAt vi ⟨s.val, row_fin s⟩))
    (fun s => OnU d L qs fU fI a0 s (16 * n + (8 + s.val))) (fun s => OnI d L qs fU fI a1 s (16 * n + s.val))
    (fun a => Stage d L O W fU fI a0 a1 g n (8 + a) 0) (MayWaits (thr d L) (default : HIx 1) O)
    (fun s Q => takeU d L O W qs fU fI a0 a1 h0 s g n (8 + s.val) 0 ⟨8 + s.val, row_fin' s⟩ rfl vu (hu ⟨8 + s.val, row_fin' s⟩) _ _ Q
      (issueI d L qs fU fI a1 h1 s _ _ (hi ⟨s.val, row_fin s⟩) Q))
  have p3 := wp_eight d L (fun s => take L MM MM.it s g ⟨s.val, row_fin s⟩ 1 vi >>= fun _ => issue L MM MM.it s (idAt vi ⟨8 + s.val, row_fin' s⟩))
    (fun s => OnI d L qs fU fI a1 s (16 * n + s.val)) (fun s => OnI d L qs fU fI a1 s (16 * n + (8 + s.val)))
    (fun a => Stage d L O W fU fI a0 a1 g n 16 a) (MayWaits (thr d L) (default : HIx 1) O)
    (fun s Q => takeI d L O W qs fU fI a0 a1 h1 s g n 16 s.val ⟨s.val, row_fin s⟩ rfl vi (hi ⟨s.val, row_fin s⟩) _ _ Q
      (issueI d L qs fU fI a1 h1 s _ _ (hi ⟨8 + s.val, row_fin' s⟩) Q))
  have p4 := wp_eight d L (fun s => take L MM MM.it s g ⟨8 + s.val, row_fin' s⟩ 1 vi >>= fun _ => issueIf L MM MM.ut s b (idAt vn ⟨s.val, row_fin s⟩))
    (fun s => OnI d L qs fU fI a1 s (16 * n + (8 + s.val))) (fun s => SlotAt d L qs fU fI a0 (n + 1) s)
    (fun a => Stage d L O W fU fI a0 a1 g n 16 (8 + a)) (MayWaits (thr d L) (default : HIx 1) O)
    (fun s Q => takeI d L O W qs fU fI a0 a1 h1 s g n 16 (8 + s.val) ⟨8 + s.val, row_fin' s⟩ rfl vi (hi ⟨8 + s.val, row_fin' s⟩) _ _ Q
      (issueLast d L qs fU fI a0 h0 s b _ n hb (fun e => hv e ⟨s.val, row_fin s⟩) Q))
  unfold rows
  simp only [wp_bind]
  iintro ⟨Hs, ⟨%f, Hh⟩, HO, #Hmw⟩ Hk
  iapply (p1 _) $$ [Hs Hh HO]
  · isplitl [Hs]
    · iapply (All8_mono (fun s => Entails.of_eq (show SlotAt d L qs fU fI a0 n s = OnU d L qs fU fI a0 s (16 * n + s.val) from if_pos hn))) $$ Hs
    isplitl [Hh HO]
    · unfold Stage
      isplitl [Hh]
      · iexists f
        isplitr
        · ipureintro; exact stageOK_zero _ _ _ _ _ _ _
        · iexact Hh
      · iexact HO
    · iexact Hmw
  iintro ⟨Hs, HM⟩
  iapply (p2 _) $$ [Hs HM]
  · isplitl [Hs]; · iexact Hs
    isplitl [HM]; · iexact HM
    iexact Hmw
  iintro ⟨Hs, HM⟩
  iapply (p3 _) $$ [Hs HM]
  · isplitl [Hs]; · iexact Hs
    isplitl [HM]; · iexact HM
    iexact Hmw
  iintro ⟨Hs, HM⟩
  iapply (p4 _) $$ [Hs HM]
  · isplitl [Hs]; · iexact Hs
    isplitl [HM]; · iexact HM
    iexact Hmw
  iintro ⟨Hs, HM⟩
  iapply Hk
  isplitl [Hs]; · iexact Hs
  iexact HM

end Tile

end Cert.KernelIdeal.Rows
-- ==== Proof.Ideal.Tile.lean ====
module

public import proofs.«01_k».proof.Proof.Ideal.Group

@[expose] public section

noncomputable section

namespace Cert.KernelIdeal.Rows

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

variable [FloatOps F]

/-- A tile's first output row. -/
def base (L : grid0.Coords) : ℕ := 1024 * (L 1).val + 512 * (L 0).val

/-- What a tile leaves in its rows of the output. -/
def tileOut {α : Type} (fU fI : S64x1000064.Idx → α) (au ai : ℕ → BitVec 32) (B : ℕ) : S16384x128.Idx → α :=
  fun j => rowVal fU fI au ai ((j 0).val - B) (j 1).val

/-- The rows from `a` to `c` without those before `b`. -/
theorem outRows_sdiff_right (a b c : ℕ) (hab : a ≤ b) : outRows a c \ outRows a b = outRows b c := by
  ext j
  simp only [Finset.mem_sdiff, mem_outRows]
  omega

/-- The rows from `a` to `c` without those from `b` on. -/
theorem outRows_sdiff_left (a b c : ℕ) (hbc : b ≤ c) : outRows a c \ outRows b c = outRows a b := by
  ext j
  simp only [Finset.mem_sdiff, mem_outRows]
  omega

/-- A range of rows lies in a wider one. -/
theorem outRows_sub (a b a' b' : ℕ) (h : a' ≤ a) (h' : b ≤ b') : outRows a b ⊆ outRows a' b' := by
  intro j hj
  rw [mem_outRows] at hj ⊢
  omega

/-- The flushed rows lie within the output. -/
theorem flush_inb : ∀ a, (![0, 0] : Fin 2 → ℕ) a + S16x128.size a ≤ S16384x128.size a := by decide

/-- The amount a flush counts. -/
abbrev flushN : ℕ := (outBlock ![0, 0] flush_inb).view.dmaCredit

section Tile

variable (d : Dev nD) (L : grid0.Coords)

local notation "WP" => wp frame (wpE (defs₀ (F := F)) 𝒱₀ (thr d L) none) Set.univ

abbrev outPts (a b : ℕ) (f : S16384x128.Idx → Elt F .f32) : sProp 𝕄 := MM.out.view.loc (thr d L) ↦[outRows a b]{fullShare} f

variable (O : CellTallies nD τ sig (HIx 1)) (W : Waits sig (HIx 1))
variable (qs : Fin 8 → PosShare TreeShare) (fU fI : S64x1000064.Idx → Elt F .f32) (a0 a1 : S512.Idx → BitVec 32)
  (fo : S16384x128.Idx → Elt F .f32)

abbrev goal : S16384x128.Idx → Elt F .f32 := tileOut fU fI (atN a0) (atN a1) (base L)

/-- The rows of group `n` on their way from half `g`. -/
def Leaving (g : Fin 2) (n : ℕ) : sProp 𝕄 :=
  Flight countersEmb (thr d L) (fsem g) (default : HIx 1) flushN
    iprop(outPts d L (base L + 16 * n) (base L + 16 * n + 16) (goal L fU fI a0 a1) ∗ ∃ f, halfPts d L g f)

/-- A flushed half leaves the rows of its group in the output. -/
theorem flushed_val (n : ℕ) (g : Fin 2) (o : Fin 2 → ℕ) (h : ∀ a, o a + S16x128.size a ≤ S16384x128.size a) (ho : o = ![base L + 16 * n, 0])
    (f : S2x16x128.Idx → Elt F .f32) (hf : StageOK fU fI (atN a0) (atN a1) g n 16 16 f) :
    ∀ j ∈ outRows (base L + 16 * n) (base L + 16 * n + 16),
      (outBlock o h).view.write (Elt F) fo (ReadAs.same.apply ((half MM g).view.read (Elt F) f)) Finset.univ j = goal L fU fI a0 a1 j := by
  intro j hj
  rw [← outBlock_set _ o h ho] at hj
  obtain ⟨x, -, hx⟩ := Finset.mem_map.mp hj
  rw [← hx]
  have e := View.read_write_univ (v := (outBlock o h).view) (Val := Elt F) fo (ReadAs.same.apply ((half MM g).view.read (Elt F) f))
  refine (congrFun e x).trans ?_
  change f ((half MM g).view.emb x) = rowVal fU fI (atN a0) (atN a1) ((((outBlock o h).view.emb x : S16384x128.Idx) 0).val - base L)
    (((outBlock o h).view.emb x : S16384x128.Idx) 1).val
  rw [outBlock_emb0 _ o h ho, outBlock_emb1 _ o h ho, half_emb, show base L + 16 * n + (x 0).val - base L = 16 * n + (x 0).val by omega]
  have hk := hf (ix3 g (x 0) (x 1)) rfl
  have h1 : (x 1).val < 128 := (x 1).isLt
  by_cases h0 : (x 1).val / 64 = 0
  · exact hk.1 h0 (x 0).isLt
  · exact hk.2 (show (x 1).val / 64 = 1 by omega) (x 0).isLt

/-- Sending a staged half to the output puts it in flight. -/
theorem wp_flush (n : ℕ) (g : Fin 2) (o : Fin 2 → ℕ) (h : ∀ a, o a + S16x128.size a ≤ S16384x128.size a) (ho : o = ![base L + 16 * n, 0])
    (f : S2x16x128.Idx → Elt F .f32) (hf : StageOK fU fI (atN a0) (atN a1) g n 16 16 f) (Q : PUnit → sProp 𝕄) :
    iprop(halfPts d L g f ∗ outPts d L (base L + 16 * n) (base L + 16 * n + 16) fo ∗ semVal (thr d L, fsem g) 0)
      ⊢ iprop((Leaving d L fU fI a0 a1 g n -∗ Q ⟨⟩) -∗ WP (flush L MM g o h) Q) := by
  unfold flush
  iintro ⟨Hh, Ho, Hv⟩ Hk
  iapply (Transfers.wp_dmaLocal countersEmb 𝒱₀ (thr d L) none (src := half MM g) (dst := outBlock o h) (q := fullShare) (fs := f)
    (Sd := outRows (base L + 16 * n) (base L + 16 * n + 16)) (fd := fo)
    (default : HIx 1) flushN rfl ((outBlock ![0, 0] flush_inb).view.dmaCredit_pos (by decide)) (outBlock_set _ o h ho).subset) $$ [Hh Ho Hv]
  · isplitl [Hh]
    · iapply (Entails.of_eq (congrArg (fun S => ((thr d L).loc cc0_scratch3 ↦[S]{fullShare} f : sProp 𝕄)) (half_set g).symm)) $$ Hh
    isplitl [Ho]; · iexact Ho
    iexact Hv
  iintro Hf
  iapply (le_wp_ret _ _ _ _ Q)
  iapply Hk
  unfold Leaving
  iapply (Flight_mono countersEmb (thr d L) _) $$ Hf
  refine BIClass.sep_mono ?_ ?_
  · exact Entails.of_eq (pointsTo_congr (flushed_val L fU fI a0 a1 fo n g o h ho f hf))
  · exact BIBase.Entails.trans (Entails.of_eq (congrArg (fun S => ((half MM g).view.loc (thr d L) ↦[S]{fullShare} f : sProp 𝕄)) (half_set g)))
      (exists_intro (Φ := fun f => halfPts d L g f) f)

/-- Waiting for it gives the half back, and the output's rows written. -/
theorem wp_flushed (n : ℕ) (g : Fin 2) (o : Fin 2 → ℕ) (h : ∀ a, o a + S16x128.size a ≤ S16384x128.size a) (Q : PUnit → sProp 𝕄) :
    iprop(Leaving d L fU fI a0 a1 g n ∗ outPts d L (base L) (base L + 16 * n) (goal L fU fI a0 a1) ∗ Owes d L O W
        ∗ MayWaits (thr d L) (default : HIx 1) O)
      ⊢ iprop((iprop((∃ f, halfPts d L g f) ∗ semVal (thr d L, fsem g) 0
            ∗ outPts d L (base L) (base L + 16 * (n + 1)) (goal L fU fI a0 a1) ∗ Owes d L O W) -∗ Q ⟨⟩)
        -∗ WP (flushed L MM g o h) Q) := by
  unfold flushed Leaving Owes
  iintro ⟨Hf, Ho, ⟨%W', %hW, HO⟩, Hmw⟩ Hk
  ihave Hmw' := (MayWaits.elim (fsem g)) $$ Hmw
  iapply (Transfers.wp_waitLocalO countersEmb 𝒱₀ (thr d L) none (dstw := outBlock o h) (default : HIx 1) rfl) $$ [Hf HO Hmw']
  · isplitl [Hf]; · iexact Hf
    isplitl [HO]; · iexact HO
    iexact Hmw'
  iintro ⟨⟨Hn, Hh⟩, Hv, HO⟩
  iapply (le_wp_ret _ _ _ _ Q)
  iapply Hk
  isplitl [Hh]; · iexact Hh
  isplitl [Hv]; · iexact Hv
  isplitl [Hn Ho]
  · iapply (pointsTo_split_subset (q := fullShare) (f := goal L fU fI a0 a1) (S := outRows (base L) (base L + 16 * (n + 1)))
      (outRows_sub (base L + 16 * n) (base L + 16 * n + 16) _ _ (by omega) (by omega))).2
    isplitl [Hn]; · iexact Hn
    · iapply (Entails.of_eq (congrArg (fun S => (MM.out.view.loc (thr d L) ↦[S]{fullShare} goal L fU fI a0 a1 : sProp 𝕄))
        (outRows_sdiff_left (base L) (base L + 16 * n) (base L + 16 * (n + 1)) (by omega)).symm)) $$ Ho
  · ihave H := (owes_insert d L O W W' hW _) $$ HO
    unfold Owes
    iexact H

/-- Half `g` when group `n` starts: untouched, or on its way with the rows of the group before the last. -/
def HalfAt (g : Fin 2) (n : ℕ) : sProp 𝕄 :=
  if 2 ≤ n then Leaving d L fU fI a0 a1 g (n - 2) else iprop((∃ f, halfPts d L g f) ∗ semVal (thr d L, fsem g) 0)

/-- The output rows that have come when group `n` starts. -/
abbrev DoneAt (n : ℕ) : sProp 𝕄 := outPts d L (base L) (base L + 16 * (n - 2)) (goal L fU fI a0 a1)

/-- The output rows not yet sent when group `n` starts. -/
abbrev RestAt (n : ℕ) : sProp 𝕄 := outPts d L (base L + 16 * n) (base L + 512) fo

/-- The same wait under its condition: from the third group on. -/
theorem wp_flushedIf (n : ℕ) (g : Fin 2) (c : BitVec 1) (hc : c = 1#1 ↔ 2 ≤ n) (o : Fin 2 → ℕ)
    (h : c = 1#1 → ∀ a, o a + S16x128.size a ≤ S16384x128.size a) (Q : PUnit → sProp 𝕄) :
    iprop(HalfAt d L fU fI a0 a1 g n ∗ DoneAt d L fU fI a0 a1 n ∗ Owes d L O W ∗ MayWaits (thr d L) (default : HIx 1) O)
      ⊢ iprop((iprop((∃ f, halfPts d L g f) ∗ semVal (thr d L, fsem g) 0 ∗ DoneAt d L fU fI a0 a1 (n + 1) ∗ Owes d L O W) -∗ Q ⟨⟩)
        -∗ WP (flushedIf L MM g c o h) Q) := by
  unfold flushedIf HalfAt
  by_cases e : c = 1#1
  · have hn := hc.mp e
    rw [dif_pos e, if_pos hn]
    have hw := wp_flushed d L O W fU fI a0 a1 (n - 2) g o (h e) Q
    rw [show n - 2 + 1 = n + 1 - 2 by omega] at hw
    exact hw
  · have hn : ¬ 2 ≤ n := fun x => e (hc.mpr x)
    have hd : DoneAt d L fU fI a0 a1 (n + 1) = DoneAt d L fU fI a0 a1 n :=
      congrArg (fun m => outPts d L (base L) (base L + 16 * m) (goal L fU fI a0 a1)) (by omega)
    rw [dif_neg e, if_neg hn, hd]
    iintro ⟨⟨Hh, Hv⟩, Ho, HO, -⟩ Hk
    iapply (le_wp_ret _ _ _ _ Q)
    iapply Hk
    isplitl [Hh]; · iexact Hh
    isplitl [Hv]; · iexact Hv
    isplitl [Ho]; · iexact Ho
    iexact HO

variable (h0 : ∀ k, (atN a0 k).toNat < 1000000) (h1 : ∀ k, (atN a1 k).toNat < 1000000)

/-- A tile's state when group `n` starts; `g` is the half group `n` uses. -/
def St (n : ℕ) (g g' : Fin 2) : sProp 𝕄 :=
  iprop(All8 (SlotAt d L qs fU fI a0 n) ∗ HalfAt d L fU fI a0 a1 g n ∗ HalfAt d L fU fI a0 a1 g' (n + 1) ∗ DoneAt d L fU fI a0 a1 n
    ∗ RestAt d L fo n ∗ Owes d L O W)

include h0 h1 in
theorem wp_group (n : ℕ) (hn : n < 32) (g g' : Fin 2) (c b : BitVec 1) (hc : c = 1#1 ↔ 2 ≤ n) (hb : b = 1#1 ↔ n + 1 < 32)
    (o o' : Fin 2 → ℕ) (h : c = 1#1 → ∀ a, o a + S16x128.size a ≤ S16384x128.size a)
    (h' : ∀ a, o' a + S16x128.size a ≤ S16384x128.size a) (ho' : o' = ![base L + 16 * n, 0]) (vu vi vn : Vec F S16 .i32)
    (hu : ∀ l : Fin 16, idAt vu l = atN a0 (16 * n + l.val)) (hi : ∀ l : Fin 16, idAt vi l = atN a1 (16 * n + l.val))
    (hv : b = 1#1 → ∀ l : Fin 16, idAt vn l = atN a0 (16 * (n + 1) + l.val)) (Q : PUnit → sProp 𝕄) :
    iprop(St d L O W qs fU fI a0 a1 fo n g g' ∗ MayWaits (thr d L) (default : HIx 1) O)
      ⊢ iprop((St d L O W qs fU fI a0 a1 fo (n + 1) g' g -∗ Q ⟨⟩)
        -∗ WP (flushedIf L MM g c o h) fun _ => WP (rows L MM g b vu vi vn) fun _ => WP (flush L MM g o' h') Q) := by
  unfold St
  iintro ⟨⟨Hs, Hg, Hg', Hd, Hr, HO⟩, #Hmw⟩ Hk
  iapply (wp_flushedIf d L O W fU fI a0 a1 n g c hc o h _) $$ [Hg Hd HO]
  · isplitl [Hg]; · iexact Hg
    isplitl [Hd]; · iexact Hd
    isplitl [HO]; · iexact HO
    iexact Hmw
  iintro ⟨Hh, Hv, Hd, HO⟩
  iapply (wp_rows d L O W qs fU fI a0 a1 h0 h1 g n b hn hb vu vi vn hu hi hv _) $$ [Hs Hh HO]
  · isplitl [Hs]; · iexact Hs
    isplitl [Hh]; · iexact Hh
    isplitl [HO]; · iexact HO
    iexact Hmw
  iintro ⟨Hs, HM⟩
  unfold Stage
  icases HM with ⟨⟨%f, %hf, Hh⟩, HO⟩
  ihave Hr' := (pointsTo_split_subset (q := fullShare) (f := fo) (S := outRows (base L + 16 * n) (base L + 512))
      (outRows_sub (base L + 16 * n) (base L + 16 * n + 16) _ _ (by omega) (by omega))).1 $$ Hr
  icases Hr' with ⟨Hb, Hr⟩
  iapply (wp_flush d L fU fI a0 a1 fo n g o' h' ho' f hf _) $$ [Hh Hb Hv]
  · isplitl [Hh]; · iexact Hh
    isplitl [Hb]; · iexact Hb
    iexact Hv
  iintro Hl
  iapply Hk
  isplitl [Hs]; · iexact Hs
  isplitl [Hg']; · iexact Hg'
  isplitl [Hl]
  · iapply (Entails.of_eq (show Leaving d L fU fI a0 a1 g n = HalfAt d L fU fI a0 a1 g (n + 1 + 1) from (if_pos (by omega)).symm)) $$ Hl
  isplitl [Hd]; · iexact Hd
  isplitl [Hr]
  · iapply (Entails.of_eq (congrArg (fun S => (MM.out.view.loc (thr d L) ↦[S]{fullShare} fo : sProp 𝕄))
        (outRows_sdiff_right (base L + 16 * n) (base L + 16 * (n + 1)) (base L + 512) (by omega)))) $$ Hr
  iexact HO

abbrev uvPts : sProp 𝕄 := MM.uv.view.loc (thr d L) ↦{fullShare} a0
abbrev ivPts : sProp 𝕄 := MM.iv.view.loc (thr d L) ↦{fullShare} a1

/-- The loop's state before pass `t`. -/
def Inv (t : ℕ) : sProp 𝕄 :=
  iprop(St d L O W qs fU fI a0 a1 fo (2 * t) 0 1 ∗ uvPts d L a0 ∗ ivPts d L a1 ∗ MayWaits (thr d L) (default : HIx 1) O)

include h0 h1 in
theorem wp_pass (t : Fin k0_t1_loop.trips) :
    Inv d L O W qs fU fI a0 a1 fo t.val ⊢ WP (pass L MM t) fun _ => Inv d L O W qs fU fI a0 a1 fo (t.val + 1) := by
  have ht : t.val < 16 := t.isLt
  unfold pass Inv
  simp only [wp_bind]
  iintro ⟨Hst, Hu, Hi, #Hmw⟩
  iapply (wp_ids d L MM.uv a0 (32 * t.val) (by omega) _ _ (k0_off10_eq t) _) $$ Hu
  iintro %vu %hu Hu
  iapply (wp_ids d L MM.iv a1 (32 * t.val) (by omega) _ _ (k0_off10_eq t) _) $$ Hi
  iintro %vi %hi Hi
  iapply (wp_ids d L MM.uv a0 (32 * t.val + 16) (by omega) _ _ (k0_off11_eq t) _) $$ Hu
  iintro %vn %hn Hu
  iapply (wp_group d L O W qs fU fI a0 a1 fo h0 h1 (2 * t.val) (by omega) 0 1 _ _ (cond1_iff t) (cond2_iff t) _ _ _ _
    ((k0_off45_eq L t).trans (congrArg (fun m : ℕ => ![m, 0]) (by unfold base; omega))) vu vi vn
    (fun l => (hu l).trans (congrArg (atN a0) (by omega))) (fun l => (hi l).trans (congrArg (atN a1) (by omega)))
    (fun _ l => (hn l).trans (congrArg (atN a0) (by omega))) _) $$ [Hst]
  · isplitl [Hst]; · iexact Hst
    iexact Hmw
  iintro Hst
  iapply (wp_ids d L MM.uv a0 (32 * t.val + 16) (by omega) _ _ (k0_off46_eq t) _) $$ Hu
  iintro %wu %gu Hu
  iapply (wp_ids d L MM.iv a1 (32 * t.val + 16) (by omega) _ _ (k0_off46_eq t) _) $$ Hi
  iintro %wi %gi Hi
  iapply (wp_ids d L MM.uv a0 (16 * min (2 * t.val + 2) 31) (by omega) _ _ (k0_off47_eq t) _) $$ Hu
  iintro %wn %gn Hu
  iapply (wp_group d L O W qs fU fI a0 a1 fo h0 h1 (2 * t.val + 1) (by omega) 1 0 _ _ (cond10_iff t) (cond11_iff t) _ _ _ _
    ((k0_off81_eq L t).trans (congrArg (fun m : ℕ => ![m, 0]) (by unfold base; omega))) wu wi wn
    (fun l => (gu l).trans (congrArg (atN a0) (by omega))) (fun l => (gi l).trans (congrArg (atN a1) (by omega)))
    (fun e l => (gn l).trans (congrArg (atN a0) (by have := (cond11_iff t).mp e; omega))) _) $$ [Hst]
  · isplitl [Hst]; · iexact Hst
    iexact Hmw
  iintro Hst
  isplitl [Hst]; · iexact Hst
  isplitl [Hu]; · iexact Hu
  isplitl [Hi]; · iexact Hi
  iexact Hmw

include h0 in
/-- The first eight blocks are sent for. -/
theorem wp_first (v : Vec F S16 .i32) (hv : ∀ l : Fin 16, idAt v l = atN a0 (0 + l.val)) (Q : PUnit → sProp 𝕄) :
    iprop(All8 (Idle d L qs fU fI) ∗ MayWaits (thr d L) (default : HIx 1) O)
      ⊢ iprop((All8 (SlotAt d L qs fU fI a0 0) -∗ Q ⟨⟩)
        -∗ WP (eight L fun s => issue L MM MM.ut s (idAt v ⟨s.val, row_fin s⟩)) Q) := by
  have p := wp_eight d L (fun s => issue L MM MM.ut s (idAt v ⟨s.val, row_fin s⟩)) (Idle d L qs fU fI) (SlotAt d L qs fU fI a0 0)
    (fun _ => MayWaits (thr d L) (default : HIx 1) O) (MayWaits (thr d L) (default : HIx 1) O)
    (fun s Q => by
      iintro ⟨Hi, #Hmw, -⟩ Hk
      iapply (issueU d L qs fU fI a0 h0 s _ (16 * 0 + s.val) ((hv ⟨s.val, row_fin s⟩).trans (congrArg (atN a0) (show 0 + s.val = 16 * 0 + s.val by omega))) Q) $$ Hi
      iintro Hb
      iapply Hk
      isplitl [Hb]
      · iapply (Entails.of_eq (show OnU d L qs fU fI a0 s (16 * 0 + s.val) = SlotAt d L qs fU fI a0 0 s from (if_pos (by omega)).symm)) $$ Hb
      · iexact Hmw) Q
  iintro ⟨Hs, #Hmw⟩ Hk
  iapply p $$ [Hs]
  · isplitl [Hs]; · iexact Hs
    isplitr; · iexact Hmw
    iexact Hmw
  iintro ⟨Hs, -⟩
  iapply Hk
  iexact Hs

/-- A tile's ids among all. -/
def locIds (A : S16384.Idx → BitVec 32) (B : ℕ) : S512.Idx → BitVec 32 :=
  fun x => A (ix1 ⟨(B + (x 0).val) % 16384, Nat.mod_lt _ (by decide)⟩)

/-- A tile's rows lie within the output. -/
theorem base_lt : base L + 512 ≤ 16384 := by
  have h0 : (L 0).val < 2 := (L 0).isLt
  have h1 : (L 1).val < 16 := (L 1).isLt
  unfold base
  omega

/-- A tile's first copies bring it its own ids. -/
theorem wp_copyIn (src : Memref sig .scVector .hbm S16384 .i32) (dst : Memref sig .scVector .vmem S512 .i32) (hd : dst.IsWhole)
    (sm : DmaSems sig S_) (q : PosShare TreeShare) (A : Buf (Elt F) (src.view.loc (thr d L))) (g : Buf (Elt F) (dst.view.loc (thr d L)))
    (Q : PUnit → sProp 𝕄) :
    iprop((src.view.loc (thr d L) ↦{q} A) ∗ (dst.view.loc (thr d L) ↦{fullShare} g) ∗ semVal (thr d L, .dma sm.sem) 0 ∗ Owes d L O W
        ∗ MayWaits (thr d L) (default : HIx 1) O)
      ⊢ iprop((iprop((src.view.loc (thr d L) ↦{q} A)
            ∗ (∃ g', ⌜dst.view.read (Elt F) g' = locIds (src.view.read (Elt F) A) (base L)⌝ ∗ (dst.view.loc (thr d L) ↦{fullShare} g'))
            ∗ semVal (thr d L, .dma sm.sem) 0 ∗ Owes d L O W) -∗ Q ⟨⟩)
        -∗ WP (copyIn L src dst hd sm) Q) := by
  unfold copyIn Owes
  iintro ⟨Hs, Hd, Hv, ⟨%W', %hW, HO⟩, Hmw⟩ Hk
  ihave Hss := (pointsTo_split_subset (q := q) (f := A) (S := Finset.univ)
    (Finset.subset_univ (src.slice (Rect.unit (s := S16384) (k0_off1 L) S512.size (k0_off1_inb L)) (fun _ => rfl)).view.set)).1 $$ Hs
  icases Hss with ⟨Hs, Hr⟩
  iapply (Transfers.wp_dmaLocal countersEmb 𝒱₀ (thr d L) none
    (src := src.slice (Rect.unit (s := S16384) (k0_off1 L) S512.size (k0_off1_inb L)) (fun _ => rfl)) (dst := dst) (Sd := Finset.univ)
    (default : HIx 1) dst.view.dmaCredit rfl (dst.view.dmaCredit_pos (by decide)) (Finset.subset_univ _)) $$ [Hs Hd Hv]
  · isplitl [Hs]; · iexact Hs
    isplitl [Hd]; · iexact Hd
    iexact Hv
  iintro Hf
  ihave Hmw' := (MayWaits.elim (SemLoc.dma sm.sem)) $$ Hmw
  iapply (Transfers.wp_waitLocalO countersEmb 𝒱₀ (thr d L) none (dstw := dst) (default : HIx 1) rfl) $$ [Hf HO Hmw']
  · isplitl [Hf]; · iexact Hf
    isplitl [HO]; · iexact HO
    iexact Hmw'
  iintro ⟨⟨Hd, Hs⟩, Hv, HO⟩
  iapply (le_wp_ret _ _ _ _ Q)
  iapply Hk
  isplitl [Hs Hr]
  · iapply (pointsTo_split_subset (q := q) (f := A) (S := Finset.univ) (Finset.subset_univ _)).2
    isplitl [Hs]; · iexact Hs
    iexact Hr
  isplitl [Hd]
  · iexists _
    isplitr
    rotate_left
    · iexact Hd
    · ipureintro
      refine (View.read_write_univ (v := dst.view) (Val := Elt F) g _).trans (funext fun x => ?_)
      change src.view.read (Elt F) A ((Rect.unit (s := S16384) (k0_off1 L) S512.size (k0_off1_inb L)).emb x) = _
      unfold locIds
      congr 1
      refine funext fun b => Fin.ext ?_
      have hb := base_lt L
      have hx : (x 0).val < 512 := (x 0).isLt
      match b with
      | ⟨0, _⟩ => exact (show (k0_off1 L) 0 + 1 * (x 0).val = (base L + (x 0).val) % 16384 by
          rw [k0_off1_eq L]; exact (show base L + 1 * (x 0).val = (base L + (x 0).val) % 16384 by omega))
  isplitl [Hv]; · iexact Hv
  · ihave H := (owes_insert d L O W W' hW _) $$ HO
    unfold Owes
    iexact H

/-- What a tile is given besides the ids and its rows of the output. -/
def Kit : sProp 𝕄 :=
  iprop((∃ g, uvPts d L g) ∗ (∃ g, ivPts d L g) ∗ semVal (thr d L, .dma MM.s0.sem) 0 ∗ semVal (thr d L, .dma MM.s1.sem) 0
    ∗ ((∃ f, halfPts d L 0 f) ∗ semVal (thr d L, fsem 0) 0) ∗ ((∃ f, halfPts d L 1 f) ∗ semVal (thr d L, fsem 1) 0)
    ∗ All8 (Idle d L qs fU fI))

variable (A0 A1 : S16384.Idx → BitVec 32) (hA0 : ∀ k, (A0 k).toNat < 1000000) (hA1 : ∀ k, (A1 k).toNat < 1000000)

include hA0 hA1 in
/-- A tile's whole body. -/
theorem wp_tile (q0 q1 : PosShare TreeShare) (hu : MM.uv.IsWhole) (hi : MM.iv.IsWhole) (Q : PUnit → sProp 𝕄) :
    iprop((MM.uid.view.loc (thr d L) ↦{q0} A0) ∗ (MM.iid.view.loc (thr d L) ↦{q1} A1) ∗ Kit d L qs fU fI
        ∗ outPts d L (base L) (base L + 512) fo ∗ Owes d L O W ∗ MayWaits (thr d L) (default : HIx 1) O)
      ⊢ iprop((iprop((MM.uid.view.loc (thr d L) ↦{q0} A0) ∗ (MM.iid.view.loc (thr d L) ↦{q1} A1) ∗ Kit d L qs fU fI
            ∗ outPts d L (base L) (base L + 512) (goal L fU fI (locIds A0 (base L)) (locIds A1 (base L))) ∗ Owes d L O W) -∗ Q ⟨⟩)
        -∗ WP (tile L MM hu hi) Q) := by
  have g0 : ∀ k, (atN (locIds A0 (base L)) k).toNat < 1000000 := fun k => hA0 _
  have g1 : ∀ k, (atN (locIds A1 (base L)) k).toNat < 1000000 := fun k => hA1 _
  unfold tile Kit
  simp only [wp_bind]
  iintro ⟨H0, H1, ⟨⟨%x0, Hu⟩, ⟨%x1, Hi⟩, Hs0, Hs1, Ha, Hb, Hs⟩, Ho, HO, #Hmw⟩ Hk
  iapply (wp_copyIn d L O W MM.uid MM.uv hu MM.s0 q0 A0 x0 _) $$ [H0 Hu Hs0 HO]
  · isplitl [H0]; · iexact H0
    isplitl [Hu]; · iexact Hu
    isplitl [Hs0]; · iexact Hs0
    isplitl [HO]; · iexact HO
    iexact Hmw
  iintro ⟨H0, ⟨%u, %eu, Hu⟩, Hs0, HO⟩
  iapply (wp_copyIn d L O W MM.iid MM.iv hi MM.s1 q1 A1 x1 _) $$ [H1 Hi Hs1 HO]
  · isplitl [H1]; · iexact H1
    isplitl [Hi]; · iexact Hi
    isplitl [Hs1]; · iexact Hs1
    isplitl [HO]; · iexact HO
    iexact Hmw
  iintro ⟨H1, ⟨%w, %ew, Hi⟩, Hs1, HO⟩
  have eu' : u = locIds A0 (base L) := eu
  have ew' : w = locIds A1 (base L) := ew
  subst eu' ew'
  iapply (wp_ids d L MM.uv (locIds A0 (base L)) 0 (by omega) _ _ rfl _) $$ Hu
  iintro %v %hv Hu
  iapply (wp_first d L O qs fU fI (locIds A0 (base L)) g0 v hv _) $$ [Hs]
  · isplitl [Hs]; · iexact Hs
    iexact Hmw
  iintro Hs
  ihave Hoo := (pointsTo_split_subset (q := fullShare) (f := fo) (S := outRows (base L) (base L + 512))
      (outRows_sub (base L) (base L + 16 * (0 - 2)) _ _ (by omega) (by omega))).1 $$ Ho
  icases Hoo with ⟨Hd, Hr⟩
  iapply (Scf.wp_for _ _ _ _ _ _ k0_t1_ok _ (fun t _ => pass L MM t)
    (fun t _ => Inv d L O W qs fU fI (locIds A0 (base L)) (locIds A1 (base L)) fo t)
    (fun t _ => wp_pass d L O W qs fU fI (locIds A0 (base L)) (locIds A1 (base L)) fo g0 g1 t))
  isplitl [Hs Ha Hb Hd Hr HO Hu Hi]
  · unfold Inv St
    isplitr [Hu Hi]
    · isplitl [Hs]; · iexact Hs
      isplitl [Ha]
      · iapply (Entails.of_eq (show _ = HalfAt d L fU fI (locIds A0 (base L)) (locIds A1 (base L)) 0 (2 * 0) from (if_neg (by omega)).symm)) $$ Ha
      isplitl [Hb]
      · iapply (Entails.of_eq (show _ = HalfAt d L fU fI (locIds A0 (base L)) (locIds A1 (base L)) 1 (2 * 0 + 1) from (if_neg (by omega)).symm)) $$ Hb
      isplitl [Hd]
      · iapply (Entails.of_eq (pointsTo_congr (fun j hj => absurd hj (by rw [mem_outRows]; omega)))) $$ Hd
      isplitl [Hr]
      · iapply (Entails.of_eq (congrArg (fun S => (MM.out.view.loc (thr d L) ↦[S]{fullShare} fo : sProp 𝕄))
          (outRows_sdiff_right (base L) (base L + 16 * (0 - 2)) (base L + 512) (by omega)))) $$ Hr
      iexact HO
    · isplitl [Hu]; · iexact Hu
      isplitl [Hi]; · iexact Hi
      iexact Hmw
  iintro %_ HI
  ihave HI' := (show Inv d L O W qs fU fI (locIds A0 (base L)) (locIds A1 (base L)) fo k0_t1_loop.trips
    ⊢ Inv d L O W qs fU fI (locIds A0 (base L)) (locIds A1 (base L)) fo 16 from Entails.of_eq rfl) $$ HI
  unfold Inv St
  icases HI' with ⟨⟨Hs, Ha, Hb, Hd, -, HO⟩, Hu, Hi, -⟩
  ihave Ha := (Entails.of_eq (show HalfAt d L fU fI (locIds A0 (base L)) (locIds A1 (base L)) 0 (2 * 16)
    = Leaving d L fU fI (locIds A0 (base L)) (locIds A1 (base L)) 0 30 from if_pos (by omega))) $$ Ha
  ihave Hb := (Entails.of_eq (show HalfAt d L fU fI (locIds A0 (base L)) (locIds A1 (base L)) 1 (2 * 16 + 1)
    = Leaving d L fU fI (locIds A0 (base L)) (locIds A1 (base L)) 1 31 from if_pos (by omega))) $$ Hb
  iapply (wp_flushed d L O W fU fI (locIds A0 (base L)) (locIds A1 (base L)) 30 0 _ _ _) $$ [Ha Hd HO]
  · isplitl [Ha]; · iexact Ha
    isplitl [Hd]; · iexact Hd
    isplitl [HO]; · iexact HO
    iexact Hmw
  iintro ⟨Ha, Hfa, Hd, HO⟩
  iapply (wp_flushed d L O W fU fI (locIds A0 (base L)) (locIds A1 (base L)) 31 1 _ _ _) $$ [Hb Hd HO]
  · isplitl [Hb]; · iexact Hb
    isplitl [Hd]; · iexact Hd
    isplitl [HO]; · iexact HO
    iexact Hmw
  iintro ⟨Hb, Hfb, Hd, HO⟩
  iapply Hk
  isplitl [H0]; · iexact H0
  isplitl [H1]; · iexact H1
  isplitr [Hd HO]
  · isplitl [Hu]; · iexists _; iexact Hu
    isplitl [Hi]; · iexists _; iexact Hi
    isplitl [Hs0]; · iexact Hs0
    isplitl [Hs1]; · iexact Hs1
    isplitl [Ha Hfa]
    · isplitl [Ha]; · iexact Ha
      iexact Hfa
    isplitl [Hb Hfb]
    · isplitl [Hb]; · iexact Hb
      iexact Hfb
    · iapply (All8_mono (fun s => Entails.of_eq (show SlotAt d L qs fU fI (locIds A0 (base L)) (2 * 16) s = Idle d L qs fU fI s from if_neg (by omega)))) $$ Hs
  isplitl [Hd]; · iexact Hd
  iexact HO

end Tile

end Cert.KernelIdeal.Rows
-- ==== Proof.Ideal.Same.lean ====
module

public import proofs.«01_k».proof.Proof.Ideal.Rows

@[expose] public section
noncomputable section
namespace Cert.KernelIdeal.Rows
open Idealize.ShloMosaic Idealize.SL.Sem
variable {F : FTy → Type} [FloatOps F]
variable [Facts]
open Facts₀ Facts
variable (i : grid0.Coords)

/-! ## The printed loop body is `pass` -/

section Step
universe u
variable {E : Type → Type u} {α β γ δ : Type}
/-- Programs that begin with the same effect are equal if they go on equally. -/
theorem op_step {e : E β} {k k' : β → Prog E α} (h : ∀ r, k r = k' r) : Prog.op e k = Prog.op e k' := by
  rw [funext h]
end Step
section Same
variable (arg2 : Memref sig .scVector .hbm S64x1000064 .f32) (harg2 : arg2.IsWhole)
  (arg3 : Memref sig .scVector .hbm S64x1000064 .f32) (harg3 : arg3.IsWhole)
  (arg4 : Memref sig .scVector .hbm S16384 .i32) (harg4 : arg4.IsWhole)
  (arg5 : Memref sig .scVector .hbm S16384 .i32) (harg5 : arg5.IsWhole)
  (arg6 : Memref sig .scVector .hbm S16384x128 .f32) (harg6 : arg6.IsWhole)
  (arg7 : Memref sig .scVector .vmem S512 .i32) (harg7 : arg7.IsWhole)
  (arg8 : Memref sig .scVector .vmem S512 .i32) (harg8 : arg8.IsWhole)
  (arg9 : Memref sig .scVector .vmem S8x64x128 .f32) (harg9 : arg9.IsWhole)
  (arg10 : Memref sig .scVector .vmem S2x16x128 .f32) (harg10 : arg10.IsWhole)
  (arg11 arg12 arg13 arg14 arg15 arg16 arg17 arg18 arg19 arg20 v247_r0 v247_r1 : DmaSems sig S_)

variable (v2 v206 : BitVec 32) (hw : k0_chk8 v206) (w0 w1 w2 w3 : BitVec 32)

theorem cond2_all : ∀ t : Fin k0_t1_loop.trips, k0_cond2 t = 1#1 := by decide

/-- The two waits for rows sent a pass earlier are taken in the same passes, and in every pass that is the last. -/
theorem conds : ∀ t : Fin k0_t1_loop.trips,
    ((k0_cond1 t = 1#1) = True ∧ (k0_cond10 t = 1#1) = True ∧ (k0_cond11 t = 1#1) = True) ∨
    ((k0_cond1 t = 1#1) = False ∧ (k0_cond10 t = 1#1) = False ∧ (k0_cond11 t = 1#1) = True) ∨
    ((k0_cond1 t = 1#1) = True ∧ (k0_cond10 t = 1#1) = True ∧ (k0_cond11 t = 1#1) = False) := by
  simp only [eq_iff_iff, iff_true, iff_false]; decide

set_option maxRecDepth 65536 in
set_option maxHeartbeats 40000000 in
/-- The printed loop body is `pass`: step by step the same effects, the conditional steps by the pass's number. -/
theorem body_eq (t : Fin k0_t1_loop.trips) :
    Gen.k0_t1_body (F := F) i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1
      v2 (lanesFrom 0#32) (lanesFrom 16#32) (lanesFrom 32#32) (lanesFrom 48#32) v206 hw w0 w1 w2 w3 t ⟨⟩
    = pass i (memOf arg2 arg3 arg4 arg5 arg6 arg7 arg8 arg9 arg10 arg11 arg12 arg13 arg14 arg15 arg16 arg17 arg18 arg19
      arg20 v247_r0 v247_r1) t := by
  have h2 : (k0_cond2 t = 1#1) = True := eq_true (cond2_all t)
  have h3 : (k0_cond3 t = 1#1) = True := h2
  have h4 : (k0_cond4 t = 1#1) = True := h2
  have h5 : (k0_cond5 t = 1#1) = True := h2
  have h6 : (k0_cond6 t = 1#1) = True := h2
  have h7 : (k0_cond7 t = 1#1) = True := h2
  have h8 : (k0_cond8 t = 1#1) = True := h2
  have h9 : (k0_cond9 t = 1#1) = True := h2
  rcases conds t with ⟨h1, h10, h11⟩ | ⟨h1, h10, h11⟩ | ⟨h1, h10, h11⟩
  all_goals
    have h12 := h11; change (k0_cond12 t = 1#1) = _ at h12
    have h13 := h11; change (k0_cond13 t = 1#1) = _ at h13
    have h14 := h11; change (k0_cond14 t = 1#1) = _ at h14
    have h15 := h11; change (k0_cond15 t = 1#1) = _ at h15
    have h16 := h11; change (k0_cond16 t = 1#1) = _ at h16
    have h17 := h11; change (k0_cond17 t = 1#1) = _ at h17
    have h18 := h11; change (k0_cond18 t = 1#1) = _ at h18
    delta Gen.k0_t1_body pass
    repeat
      first
      | refine op_step (fun r => ?_)
      | simp -zeta only [flushedIf, sendIf, h1, h2, h3, h4, h5, h6, h7, h8, h9, h10, h11, h12, h13, h14, h15, h16, h17, h18,
          ↓reduceDIte]
      | delta k0_part57 k0_part59 k0_part60 k0_part62 k0_part64 k0_part65 k0_part67 k0_part69
      | delta k0_part125 k0_part127 k0_part129 k0_part130 k0_part132 k0_part134 k0_part135
    rfl

end Same
end Cert.KernelIdeal.Rows
-- ==== Proof.Ideal.Whole.lean ====
module

public import proofs.«01_k».proof.Proof.Ideal.Same

@[expose] public section
noncomputable section
namespace Cert.KernelIdeal.Rows
open Idealize.ShloMosaic Idealize.SL.Sem
variable {F : FTy → Type} [FloatOps F]
variable [Facts]
open Facts₀ Facts
variable (i : grid0.Coords)

section Same
variable (arg2 : Memref sig .scVector .hbm S64x1000064 .f32) (harg2 : arg2.IsWhole)
  (arg3 : Memref sig .scVector .hbm S64x1000064 .f32) (harg3 : arg3.IsWhole)
  (arg4 : Memref sig .scVector .hbm S16384 .i32) (harg4 : arg4.IsWhole)
  (arg5 : Memref sig .scVector .hbm S16384 .i32) (harg5 : arg5.IsWhole)
  (arg6 : Memref sig .scVector .hbm S16384x128 .f32) (harg6 : arg6.IsWhole)
  (arg7 : Memref sig .scVector .vmem S512 .i32) (harg7 : arg7.IsWhole)
  (arg8 : Memref sig .scVector .vmem S512 .i32) (harg8 : arg8.IsWhole)
  (arg9 : Memref sig .scVector .vmem S8x64x128 .f32) (harg9 : arg9.IsWhole)
  (arg10 : Memref sig .scVector .vmem S2x16x128 .f32) (harg10 : arg10.IsWhole)
  (arg11 arg12 arg13 arg14 arg15 arg16 arg17 arg18 arg19 arg20 v247_r0 v247_r1 : DmaSems sig S_)

variable (v2 v206 : BitVec 32) (hw : k0_chk8 v206) (w0 w1 w2 w3 : BitVec 32)

/-- The loop and what follows it, after the last block of the start was sent for. -/
theorem part145_eq (v207 v212 v214 : BitVec 32) :
    (k0_part145 (F := F) i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1
      v2 (lanesFrom 0#32) (lanesFrom 16#32) (lanesFrom 32#32) (lanesFrom 48#32) v206 hw 128#32 v207 v212 v214)
    = (do
        send i (memOf arg2 arg3 arg4 arg5 arg6 arg7 arg8 arg9 arg10 arg11 arg12 arg13 arg14 arg15 arg16 arg17 arg18 arg19
      arg20 v247_r0 v247_r1) arg2 7 v206 (k0_off9_inb v206 hw)
        Scf.Loop.for k0_t1_loop k0_t1_ok ⟨⟩ fun t _ => pass i (memOf arg2 arg3 arg4 arg5 arg6 arg7 arg8 arg9 arg10 arg11 arg12 arg13 arg14 arg15 arg16 arg17 arg18 arg19
      arg20 v247_r0 v247_r1) t
        flushed i (memOf arg2 arg3 arg4 arg5 arg6 arg7 arg8 arg9 arg10 arg11 arg12 arg13 arg14 arg15 arg16 arg17 arg18 arg19
      arg20 v247_r0 v247_r1) 0 (k0_off82 i 480#32) (k0_off82_inb i 0)) := by
  rw [Gen.k0_part145_eq_skeleton]
  unfold Gen.k0_part145_skel
  have e : Gen.k0_t1_body (F := F) i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1
      v2 (lanesFrom 0#32) (lanesFrom 16#32) (lanesFrom 32#32) (lanesFrom 48#32) v206 hw = fun w0 w1 w2 w3 t _ => pass i (memOf arg2 arg3 arg4 arg5 arg6 arg7 arg8 arg9 arg10 arg11 arg12 arg13 arg14 arg15 arg16 arg17 arg18 arg19
      arg20 v247_r0 v247_r1) t := by
    funext w0 w1 w2 w3 t u
    exact body_eq i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1 v2 v206 hw w0 w1 w2 w3 t
  rw [e]
  rfl

set_option maxRecDepth 65536 in
set_option maxHeartbeats 40000000 in
/-- The printed program of a tile is `tile`. -/
theorem cc0_eq :
    cc0__sc_gather (F := F) i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1
    = tile i (memOf arg2 arg3 arg4 arg5 arg6 arg7 arg8 arg9 arg10 arg11 arg12 arg13 arg14 arg15 arg16 arg17 arg18 arg19
      arg20 v247_r0 v247_r1) harg7 harg8 := by
  delta cc0__sc_gather tile
  iterate 20 refine op_step (fun r => ?_)
  rename_i r0 _ _ _ _ _ _ _ _ _ _ _ _ _ _
  refine (congrArg (fun p => p >>= fun _ => flushed i (memOf arg2 arg3 arg4 arg5 arg6 arg7 arg8 arg9 arg10 arg11 arg12 arg13 arg14 arg15 arg16 arg17 arg18 arg19
      arg20 v247_r0 v247_r1) 1 (k0_off82 i 496#32) (k0_off82_inb i 1))
    (part145_eq (F := F) i arg2 harg2 arg3 harg3 arg4 harg4 arg5 harg5 arg6 harg6 arg7 harg7 arg8 harg8 arg9 harg9
      arg10 harg10 arg11 arg12 arg13 arg14 arg15 arg16 arg17 arg18 arg19 arg20 v247_r0 v247_r1
      (Scalar.muli (Scalar.addi (Scalar.muli (BitVec.ofNat 32 ↑(i 1)) 2#32) (BitVec.ofNat 32 ↑(i 0))) 512#32)
      (idAt r0 ⟨7, by decide⟩) r.down
      (Scalar.divsi (idAt r0 ⟨7, by decide⟩) 128#32)
      (Scalar.subi (Scalar.extui (Scalar.cmpi .sgt (idAt r0 ⟨7, by decide⟩) 0#32))
        (Scalar.extui (Scalar.cmpi .slt (idAt r0 ⟨7, by decide⟩) 0#32)))
      (Scalar.extui (Scalar.cmpi .sgt 128#32 0#32)))).trans ?_
  simp only [bind_assoc]
  rfl

end Same
end Cert.KernelIdeal.Rows
-- ==== Proof.Ideal.Launch.lean ====
module

public import proofs.«01_k».proof.Proof.Ideal.Tile
public import proofs.«01_k».proof.Proof.Ideal.Whole

@[expose] public section

noncomputable section

namespace Cert.KernelIdeal.Rows

open Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

variable [FloatOps F]

/-! ## Read shares -/

/-- The share of the `i`-th of `2 ^ n` readers of what was held at share `q`. -/
def part : (n : ℕ) → PosShare TreeShare → Fin (2 ^ n) → PosShare TreeShare
  | 0, q, _ => q
  | n + 1, q, i => part n (cond ((finProdFinEquiv.symm i : Fin (2 ^ n) × Fin 2).2.val = 0) q.left q.right) (finProdFinEquiv.symm i : Fin (2 ^ n) × Fin 2).1

/-- What is held at a share is held by the `2 ^ n` readers together. -/
theorem pointsTo_part {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i} f := by
  induction n with
  | zero => intro q; have : Subsingleton (Fin (2 ^ 0)) := inferInstanceAs (Subsingleton (Fin 1)); symm; exact bigSep_univ_of_subsingleton (0 : Fin (2 ^ 0))
  | succ n ih =>
    intro q
    refine (BI.Entails.antisymm (pointsTo_share (PosShare.mem_left_op_right q)).1 (pointsTo_share (PosShare.mem_left_op_right q)).2).trans ?_
    refine Eq.trans ?_ (bigSep_univ_equiv (finProdFinEquiv : Fin (2 ^ n) × Fin 2 ≃ Fin (2 ^ n * 2)) _).symm
    rw [bigSep_univ_prod, bigSep_univ_comm, bigSep_fin_two, ih q.left, ih q.right]
    simp only [part, Equiv.symm_apply_apply]
    rfl

section Pay

variable (fU fI : Dev nD → S64x1000064.Idx → Elt F .f32) (A0 A1 : Dev nD → S16384.Idx → BitVec 32)
  (fo : Dev nD → S16384x128.Idx → Elt F .f32)

abbrev uLoc (d : Dev nD) : Loc nD τ sig := (SparseCore.T d).loc main_v1
abbrev iLoc (d : Dev nD) : Loc nD τ sig := (SparseCore.T d).loc main_v3
abbrev aLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v4

/-- The tables and the ids at share `q`, and the rows `R` of the output at `f`. -/
abbrev Hold (d : Dev nD) (q : PosShare TreeShare) (R : Finset S16384x128.Idx) (f : S16384x128.Idx → Elt F .f32) : sProp 𝕄 :=
  iprop((uLoc d ↦{q} fU d) ∗ (iLoc d ↦{q} fI d) ∗ (aLoc d ↦{q} A0 d) ∗ (bLoc d ↦{q} A1 d) ∗ (oLoc d ↦[R]{fullShare} f))

/-- What is held over a set of rows is held in parts over a partition, with equal shares of the tables and the ids. -/
theorem Hold_split (d : Dev nD) (n : ℕ) (q : PosShare TreeShare) (R : Fin (2 ^ n) → Finset S16384x128.Idx) (S : Finset S16384x128.Idx)
    (f : S16384x128.Idx → Elt F .f32) (hR : ∀ i ∈ (Finset.univ : Finset (Fin (2 ^ n))), ∀ j ∈ (Finset.univ : Finset (Fin (2 ^ n))), i ≠ j → Disjoint (R i) (R j))
    (hS : Finset.univ.biUnion R = S) :
    (Hold fU fI A0 A1 d q S f : sProp 𝕄) = bigSep Finset.univ fun i => Hold fU fI A0 A1 d (part n q i) (R i) f := by
  rw [bigSep_sep', bigSep_sep', bigSep_sep', bigSep_sep', ← pointsTo_part, ← pointsTo_part, ← pointsTo_part, ← pointsTo_part,
    ← pointsTo_biUnion Finset.univ (ℓ := oLoc d) R hR, hS]

/-- The rows of the output that core `c`'s tiles write. -/
def coreRows (c : Fin 2) : Finset S16384x128.Idx := Finset.univ.filter fun j => (j 0).val / 512 % 2 = c.val

/-- The rows of the output that tile `i` of core `c` writes. -/
abbrev tileRows (c : Fin 2) (i : Fin 16) : Finset S16384x128.Idx :=
  outRows (1024 * i.val + 512 * c.val) (1024 * i.val + 512 * c.val + 512)

/-- The two cores write different rows, -/
theorem cores_disjoint : ∀ i ∈ (Finset.univ : Finset (Fin 2)), ∀ j ∈ (Finset.univ : Finset (Fin 2)), i ≠ j → Disjoint (coreRows i) (coreRows j) := by
  intro i _ j _ h
  refine Finset.disjoint_left.mpr fun x hx hy => h (Fin.ext ?_)
  simp only [coreRows, Finset.mem_filter, Finset.mem_univ, true_and] at hx hy
  omega

/-- and between them all rows. -/
theorem cores_cover : (Finset.univ : Finset (Fin 2)).biUnion coreRows = Finset.univ := by
  refine Finset.eq_univ_of_forall fun x => Finset.mem_biUnion.mpr ⟨⟨(x 0).val / 512 % 2, by omega⟩, Finset.mem_univ _, ?_⟩
  simp [coreRows]

/-- The tiles of a core write different rows, -/
theorem tiles_disjoint (c : Fin 2) : ∀ i ∈ (Finset.univ : Finset (Fin 16)), ∀ j ∈ (Finset.univ : Finset (Fin 16)), i ≠ j →
    Disjoint (tileRows c i) (tileRows c j) := by
  intro i _ j _ h
  refine Finset.disjoint_left.mpr fun x hx hy => h (Fin.ext ?_)
  rw [mem_outRows] at hx hy
  omega

/-- and between them all of the core's. -/
theorem tiles_cover (c : Fin 2) : (Finset.univ : Finset (Fin 16)).biUnion (tileRows c) = coreRows c := by
  ext x
  have hx : (x 0).val < 16384 := (x 0).isLt
  have hc := c.isLt
  simp only [Finset.mem_biUnion, Finset.mem_univ, true_and, coreRows, Finset.mem_filter, mem_outRows]
  constructor
  · rintro ⟨i, h1, h2⟩; omega
  · intro h; exact ⟨⟨(x 0).val / 1024, by omega⟩, by dsimp only; omega, by dsimp only; omega⟩

/-- What the gather leaves in the output: row `r` holds the user table's column for the `r`-th user id, then the item
    table's for the `r`-th item id. -/
def gath {α : Type} (fU fI : S64x1000064.Idx → α) (A0 A1 : S16384.Idx → BitVec 32) : S16384x128.Idx → α := fun j =>
  rowVal fU fI (fun k => A0 (ix1 ⟨k % 16384, Nat.mod_lt _ (by decide)⟩)) (fun k => A1 (ix1 ⟨k % 16384, Nat.mod_lt _ (by decide)⟩)) (j 0).val (j 1).val

/-- What a tile is to leave in its rows is what the whole gather has there. -/
theorem goal_eq_gath {α : Type} (gU gI : S64x1000064.Idx → α) (a b : S16384.Idx → BitVec 32) (B : ℕ) (j : S16384x128.Idx)
    (h : j ∈ outRows B (B + 512)) : tileOut gU gI (atN (locIds a B)) (atN (locIds b B)) B j = gath gU gI a b j := by
  rw [mem_outRows] at h
  have hj : (j 0).val < 16384 := (j 0).isLt
  have e : ∀ c : S16384.Idx → BitVec 32, atN (locIds c B) ((j 0).val - B) = c (ix1 ⟨(j 0).val % 16384, Nat.mod_lt _ (by decide)⟩) := by
    intro c
    unfold atN locIds
    refine congrArg c (congrArg _ (Fin.ext ?_))
    show (B + ((j 0).val - B) % 512) % 16384 = (j 0).val % 16384
    omega
  have e' : ∀ au ai au' ai' : ℕ → BitVec 32, ∀ k k' l, au k = au' k' → ai k = ai' k' → rowVal gU gI au ai k l = rowVal gU gI au' ai' k' l := by
    intro au ai au' ai' k k' l h1 h2
    unfold rowVal
    simp only [h1, h2]
  exact e' _ _ _ _ _ _ _ (e a) (e b)

/-- The share core `c` reads at. -/
abbrev coreQ (c : Fin 2) : PosShare TreeShare := part 1 fullShare c
abbrev tileQ (c : Fin 2) (i : Fin 16) : PosShare TreeShare := part 4 (coreQ c) i

/-- The call runs on two cores. -/
theorem nCore_zero : (K (F := F)).nCore 0 = 2 := rfl

abbrev GO (d : Dev nD) (c : Fin 2) (i : Fin 16) : sProp 𝕄 := Hold fU fI A0 A1 d (tileQ c i) (tileRows c i) (fo d)
abbrev TD (d : Dev nD) (c : Fin 2) (i : Fin 16) : sProp 𝕄 := Hold fU fI A0 A1 d (tileQ c i) (tileRows c i) (gath (fU d) (fI d) (A0 d) (A1 d))
abbrev ST (d : Dev nD) (c : Fin 2) : sProp 𝕄 := Hold fU fI A0 A1 d (coreQ c) (coreRows c) (fo d)
abbrev DN (d : Dev nD) (c : Fin 2) : sProp 𝕄 := Hold fU fI A0 A1 d (coreQ c) (coreRows c) (gath (fU d) (fI d) (A0 d) (A1 d))

/-- What passes between the TensorCore, the cores and the tiles. -/
def P : (K (F := F)).Pay (nD := nD) (Val := Elt F) (Name := ℕ) (U := UU) where
  st := fun q d c => match q with | 0 => ST fU fI A0 A1 fo d (Fin.cast nCore_zero c)
  dn := fun q d c => match q with | 0 => DN fU fI A0 A1 d (Fin.cast nCore_zero c)
  go := fun q d c i => match q with | 0 => GO fU fI A0 A1 fo d (Fin.cast nCore_zero c) (Fin.cast nSub_zero i)
  td := fun q d c i => match q with | 0 => TD fU fI A0 A1 d (Fin.cast nCore_zero c) (Fin.cast nSub_zero i)
  x := fun _ _ => iprop(emp)

instance P_storable : (P fU fI A0 A1 fo).IsStorable where
  st q d c := match q with | 0 => (inferInstance : BI.Storable (upEmb : UEmb _ 𝕄) (ST fU fI A0 A1 fo d (Fin.cast nCore_zero c)))
  dn q d c := match q with | 0 => (inferInstance : BI.Storable (upEmb : UEmb _ 𝕄) (DN fU fI A0 A1 d (Fin.cast nCore_zero c)))
  go q d c i := match q with | 0 => (inferInstance : BI.Storable (upEmb : UEmb _ 𝕄) (GO fU fI A0 A1 fo d (Fin.cast nCore_zero c) (Fin.cast nSub_zero i)))
  td q d c i := match q with | 0 => (inferInstance : BI.Storable (upEmb : UEmb _ 𝕄) (TD fU fI A0 A1 d (Fin.cast nCore_zero c) (Fin.cast nSub_zero i)))

/-- What a core's tiles hold is what sixteen hold. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's part splits into its tiles', and theirs join into what the core gives back. -/
theorem vecSplit : (K (F := F)).VecSplit' (P fU fI A0 A1 fo) 0 := by
  intro d c
  show ST fU fI A0 A1 fo d (Fin.cast nCore_zero c) ⊢ |={Set.univ}=> iprop(
      (bigSep Finset.univ fun i : Fin ((K (F := F)).nSub 0) => GO fU fI A0 A1 fo d (Fin.cast nCore_zero c) (Fin.cast nSub_zero i))
      ∗ ((bigSep Finset.univ fun i : Fin ((K (F := F)).nSub 0) => TD fU fI A0 A1 d (Fin.cast nCore_zero c) (Fin.cast nSub_zero i))
          -∗ DN fU fI A0 A1 d (Fin.cast nCore_zero c)))
  generalize Fin.cast (nCore_zero (F := F)) c = c
  rw [bigSep_tasks (F := F) (fun i => GO fU fI A0 A1 fo d c i), bigSep_tasks (F := F) (fun i => TD fU fI A0 A1 d c i)]
  have e1 := Hold_split fU fI A0 A1 d 4 (coreQ c) (tileRows c) (coreRows c) (fo d) (tiles_disjoint c) (tiles_cover c)
  have e2 := Hold_split fU fI A0 A1 d 4 (coreQ c) (tileRows c) (coreRows c) (gath (fU d) (fI d) (A0 d) (A1 d)) (tiles_disjoint c) (tiles_cover c)
  refine (Entails.of_eq e1).trans ?_
  iintro H; imodintro
  isplitl [H]; · iexact H
  iintro H
  iapply (Entails.of_eq e2.symm) $$ H

/-! ## One tile -/

section Tile

variable (d : Dev nD) (L : grid0.Coords)

/-- The ring's slots do not meet, -/
theorem ring_disjoint : ∀ i ∈ (Finset.univ : Finset (Fin 8)), ∀ j ∈ (Finset.univ : Finset (Fin 8)), i ≠ j → Disjoint (slotSet i) (slotSet j) := by
  intro i _ j _ h
  refine Finset.disjoint_left.mpr fun x hx hy => h (Fin.ext ?_)
  rw [mem_slotSet] at hx hy
  omega

/-- and make up the ring. -/
theorem ring_cover : (Finset.univ : Finset (Fin 8)).biUnion slotSet = Finset.univ := by
  refine Finset.eq_univ_of_forall fun x => Finset.mem_biUnion.mpr ⟨⟨(x 0).val, (x 0).isLt⟩, Finset.mem_univ _, ?_⟩
  rw [mem_slotSet]

/-- The two staging halves do not meet, -/
theorem stage_disjoint : ∀ i ∈ (Finset.univ : Finset (Fin 2)), ∀ j ∈ (Finset.univ : Finset (Fin 2)), i ≠ j → Disjoint (halfSet i) (halfSet j) := by
  intro i _ j _ h
  refine Finset.disjoint_left.mpr fun x hx hy => h (Fin.ext ?_)
  rw [mem_halfSet] at hx hy
  omega

/-- and make up the staging buffer. -/
theorem stage_cover : (Finset.univ : Finset (Fin 2)).biUnion halfSet = Finset.univ := by
  refine Finset.eq_univ_of_forall fun x => Finset.mem_biUnion.mpr ⟨⟨(x 0).val, (x 0).isLt⟩, Finset.mem_univ _, ?_⟩
  rw [mem_halfSet]

/-- The ring buffer at some contents is its slots, each at some contents. -/
theorem ring_slots : (iprop(∃ f, (thr d L).loc cc0_scratch2 ↦{fullShare} f) : sProp 𝕄)
    = bigSep Finset.univ fun s : Fin 8 => iprop(∃ g, slotPts d L s g) := by
  refine BI.Entails.antisymm ?_ ?_
  · change (_ : sProp 𝕄) ⊢ _
    iintro ⟨%f, H⟩
    have e : ((thr d L).loc cc0_scratch2 ↦{fullShare} f : sProp 𝕄) = bigSep Finset.univ fun s : Fin 8 => slotPts d L s f := by
      rw [← pointsTo_biUnion Finset.univ (ℓ := (thr d L).loc cc0_scratch2) slotSet ring_disjoint, ring_cover]
    have h : (bigSep Finset.univ fun s : Fin 8 => (slotPts d L s f : sProp 𝕄)) ⊢ bigSep Finset.univ fun s : Fin 8 => iprop(∃ g, slotPts d L s g) :=
      bigSep_mono fun s _ => BIClass.exists_intro (Φ := fun g => slotPts d L s g) f
    ihave H := (Entails.of_eq e) $$ H
    iapply h $$ H
  · refine (bigSep_exists_pi Finset.univ (fun s (f : Buf (Elt F) ((thr d L).loc cc0_scratch2)) => slotPts d L s f)).trans ?_
    iintro ⟨%fs, H⟩
    ihave H' := (pointsTo_biUnion_join (ℓ := (thr d L).loc cc0_scratch2) (q := fullShare) (Val := Elt F) Finset.univ slotSet fs (fs 0) ring_disjoint) $$ H
    icases H' with ⟨%g, -, Hg⟩
    rw [ring_cover]
    iexists g; iexact Hg

/-- The staging buffer at some contents is its halves, each at some contents. -/
theorem stage_halves : (iprop(∃ f, (thr d L).loc cc0_scratch3 ↦{fullShare} f) : sProp 𝕄)
    = bigSep Finset.univ fun s : Fin 2 => iprop(∃ g, halfPts d L s g) := by
  refine BI.Entails.antisymm ?_ ?_
  · change (_ : sProp 𝕄) ⊢ _
    iintro ⟨%f, H⟩
    have e : ((thr d L).loc cc0_scratch3 ↦{fullShare} f : sProp 𝕄) = bigSep Finset.univ fun s : Fin 2 => halfPts d L s f := by
      rw [← pointsTo_biUnion Finset.univ (ℓ := (thr d L).loc cc0_scratch3) halfSet stage_disjoint, stage_cover]
    have h : (bigSep Finset.univ fun s : Fin 2 => (halfPts d L s f : sProp 𝕄)) ⊢ bigSep Finset.univ fun s : Fin 2 => iprop(∃ g, halfPts d L s g) :=
      bigSep_mono fun s _ => BIClass.exists_intro (Φ := fun g => halfPts d L s g) f
    ihave H := (Entails.of_eq e) $$ H
    iapply h $$ H
  · refine (bigSep_exists_pi Finset.univ (fun s (f : Buf (Elt F) ((thr d L).loc cc0_scratch3)) => halfPts d L s f)).trans ?_
    iintro ⟨%fs, H⟩
    ihave H' := (pointsTo_biUnion_join (ℓ := (thr d L).loc cc0_scratch3) (q := fullShare) (Val := Elt F) Finset.univ halfSet fs (fs 0) stage_disjoint) $$ H
    icases H' with ⟨%g, -, Hg⟩
    rw [stage_cover]
    iexists g; iexact Hg

/-- What is held over eight, slot by slot. -/
theorem bigSep_eight (Φ : Fin 8 → sProp 𝕄) : bigSep Finset.univ Φ = All8 Φ :=
  bigSep_univ_eq_bigSepL [0, 1, 2, 3, 4, 5, 6, 7] (by decide) (by decide) Φ

/-- What is held over two, written out. -/
theorem bigSep_two (Φ : Fin 2 → sProp 𝕄) : bigSep Finset.univ Φ = iprop(Φ 0 ∗ Φ 1) :=
  bigSep_univ_eq_bigSepL [0, 1] (by decide) (by decide) Φ

/-- What is held over four, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The semaphores a tile uses: one for each ring slot, one for each half, two for the ids. -/
def semOf : Fin 8 ⊕ Fin 4 → SemLoc sig
  | .inl s => rsem s
  | .inr 0 => fsem 0
  | .inr 1 => fsem 1
  | .inr 2 => .dma MM.s0.sem
  | .inr 3 => .dma MM.s1.sem

/-- The tile's semaphores are different ones, -/
theorem semOf_inj : Function.Injective semOf := by decide

/-- each of the tile's own. -/
theorem semOf_scoped : ∀ x, (semOf x).isScoped .scVector = true := by decide

/-- The cells of a tile's semaphores. -/
def cellOf : (Fin 8 ⊕ Fin 4) ↪ GSem nD τ sig := ⟨fun x => (thr d L, semOf x), fun _ _ e => semOf_inj (Prod.mk.inj e).2⟩

/-- Their counters are among those that the tile owns. -/
theorem cells_sub : Finset.univ.map (cellOf d L) ⊆ ownCells (thr d L) := by
  intro g hg
  obtain ⟨x, -, rfl⟩ := Finset.mem_map.mp hg
  exact mem_ownCells.mpr ⟨rfl, semOf_scoped x⟩

/-- A tile's own counters at zero give the kernel's counters at zero. -/
theorem ownSems0_V : (ownSems0 (thr d L) : sProp 𝕄)
    = iprop(((bigSep Finset.univ fun s : Fin 8 => semVal (thr d L, rsem s) 0) ∗ semVal (thr d L, fsem 0) 0 ∗ semVal (thr d L, fsem 1) 0
        ∗ semVal (thr d L, .dma MM.s0.sem) 0 ∗ semVal (thr d L, .dma MM.s1.sem) 0)
      ∗ bigSep (ownCells (thr d L) \ Finset.univ.map (cellOf d L)) fun g => semVal g 0) := by
  unfold SparseCore.Cfg.ownSems0
  rw [bigSep_sdiff_split (cells_sub d L), bigSep_map, bigSep_univ_sum, bigSep_four]
  rfl

/-- The buffers a tile uses. -/
def bufOf : Fin 4 → Ref sig .scVector
  | 0 => cc0_scratch0
  | 1 => cc0_scratch1
  | 2 => cc0_scratch2
  | 3 => cc0_scratch3

/-- The tile's buffers are different ones. -/
theorem bufOf_inj : Function.Injective bufOf := by decide

def refOf : Fin 4 ↪ DevRef τ sig := ⟨fun x => (thr d L).2.devRef (bufOf x), fun _ _ e => bufOf_inj (Proc.devRef_injective _ e)⟩

/-- They are among those that the tile owns. -/
theorem refs_sub : Finset.univ.map (refOf d L) ⊆ ownRefs (thr d L).2 := by
  intro g hg
  obtain ⟨x, -, rfl⟩ := Finset.mem_map.mp hg
  refine mem_ownRefs_of_owner ?_
  match x with
  | 0 | 1 | 2 | 3 => rfl

/-- A tile's own buffers give the kernel's four. -/
theorem ownBufs_V : (ownBufs (thr d L) : sProp 𝕄)
    = iprop(((∃ f, (thr d L).loc cc0_scratch0 ↦{fullShare} f) ∗ (∃ f, (thr d L).loc cc0_scratch1 ↦{fullShare} f)
        ∗ (bigSep Finset.univ fun s : Fin 8 => iprop(∃ g, slotPts d L s g)) ∗ (bigSep Finset.univ fun s : Fin 2 => iprop(∃ g, halfPts d L s g)))
      ∗ bigSep (ownRefs (thr d L).2 \ Finset.univ.map (refOf d L)) fun b => iprop(∃ f, ((d, b) : Loc nD τ sig) ↦{fullShare} f)) := by
  unfold SparseCore.Cfg.ownBufs
  rw [bigSep_sdiff_split (refs_sub d L), bigSep_map, bigSep_four, ← ring_slots, ← stage_halves]
  rfl

/-- What a tile's program needs, from its scratch buffers and semaphores and its shares of the tables. -/
theorem kit_eq (q : PosShare TreeShare) (gU gI : S64x1000064.Idx → Elt F .f32) :
    (Kit d L (fun s : Fin 8 => part 3 q s) gU gI : sProp 𝕄)
      = iprop((∃ f, (thr d L).loc cc0_scratch0 ↦{fullShare} f) ∗ (∃ f, (thr d L).loc cc0_scratch1 ↦{fullShare} f)
        ∗ semVal (thr d L, .dma MM.s0.sem) 0 ∗ semVal (thr d L, .dma MM.s1.sem) 0
        ∗ ((∃ f, halfPts d L 0 f) ∗ semVal (thr d L, fsem 0) 0) ∗ ((∃ f, halfPts d L 1 f) ∗ semVal (thr d L, fsem 1) 0)
        ∗ ((bigSep Finset.univ fun s : Fin 8 => semVal (thr d L, rsem s) 0) ∗ (bigSep Finset.univ fun s : Fin 8 => iprop(∃ g, slotPts d L s g)))
        ∗ (uLoc d ↦{q} gU) ∗ (iLoc d ↦{q} gI)) := by
  have e : (All8 (Idle d L (fun s : Fin 8 => part 3 q s) gU gI) : sProp 𝕄)
      = iprop(((bigSep Finset.univ fun s : Fin 8 => semVal (thr d L, rsem s) 0) ∗ (bigSep Finset.univ fun s : Fin 8 => iprop(∃ g, slotPts d L s g)))
        ∗ (uLoc d ↦{q} gU) ∗ (iLoc d ↦{q} gI)) := by
    rw [← bigSep_eight]
    unfold Idle Free
    rw [bigSep_sep', bigSep_sep', bigSep_sep', pointsTo_part (ℓ := uLoc d) Finset.univ gU 3 q, pointsTo_part (ℓ := iLoc d) Finset.univ gI 3 q]
    rfl
  unfold Kit
  rw [e]
  rfl

set_option maxRecDepth 16384 in
set_option maxHeartbeats 4000000 in
/-- A tile's program, from its part of the tables, the ids and the output, leaves the gathered rows in the output. -/
theorem tile_body (hA0 : ∀ k, (A0 d k).toNat < 1000000) (hA1 : ∀ k, (A1 d k).toNat < 1000000) (c : Fin 2) (i : Fin 16)
    (hc : c.val = (L 0).val) (hi : i.val = (L 1).val)
    (O : CellTallies nD τ sig (HIx 1)) (W : Waits sig (HIx 1)) (hO : ∀ g, O g none = 0) :
    iprop(levAts (K (F := F)).L (K (F := F)).lev ∗ emp ∗ GO fU fI A0 A1 fo d c i
        ∗ scopedBufs (thr d L) ∗ scopedSems0 (thr d L) ∗ owes (thr d L) O W)
      ⊢ wp frame (wpE (defs₀ (F := F)) 𝒱₀ (thr d L) none) Set.univ
          (cc0__sc_gather L MM.ut (Memref.isWhole_whole _) MM.it (Memref.isWhole_whole _) MM.uid (Memref.isWhole_whole _) MM.iid (Memref.isWhole_whole _)
            MM.out (Memref.isWhole_whole _) MM.uv (Memref.isWhole_whole _) MM.iv (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scratch10
            cc0_scratch11 cc0_scratch12 cc0_scratch13 cc0_scoped0 cc0_scoped1)
          fun _ => iprop(TD fU fI A0 A1 d c i ∗ scopedBufs (thr d L) ∗ scopedSems0 (thr d L)
            ∗ ∃ W', ⌜∀ p ∈ W', p ∈ W ∨ p.2 = none⌝ ∗ owes (thr d L) O W') := by
  rw [cc0_eq, (K (F := F)).scopedBufs_V scFacts d (cV L) (jV L), SparseCore.Cfg.scopedSems0_V (Val := Elt F) d (cV L) (jV L),
    ownSems0_V, ownBufs_V, bigSep_two]
  have hb : 1024 * i.val + 512 * c.val = base L := by unfold base; rw [hc, hi]
  unfold GO TD tileRows
  rw [hb]
  have ht := wp_tile d L O W (fun s : Fin 8 => part 3 (tileQ c i) s) (fU d) (fI d) (fo d) (A0 d) (A1 d) hA0 hA1 (tileQ c i) (tileQ c i)
    (Memref.isWhole_whole _) (Memref.isWhole_whole _)
  rw [kit_eq] at ht
  have hout : (outPts d L (base L) (base L + 512) (goal L (fU d) (fI d) (locIds (A0 d) (base L)) (locIds (A1 d) (base L))) : sProp 𝕄)
      = (oLoc d ↦[outRows (base L) (base L + 512)]{fullShare} gath (fU d) (fI d) (A0 d) (A1 d)) :=
    pointsTo_congr fun j hj => goal_eq_gath (fU d) (fI d) (A0 d) (A1 d) (base L) j hj
  rw [hout] at ht
  iintro ⟨Hl, -, ⟨Hu, Hi, Ha, Hb, Ho⟩, ⟨⟨Hs0, Hs1, Hs2, Hs3, Hs4⟩, Hbufs⟩, ⟨⟨Hr, Hf0, Hf1, Hd0, Hd1⟩, Hsems⟩, HO⟩
  ihave Hmw := ((K (F := F)).mayWaits_none (thr := thr d L) hO) $$ Hl
  iapply (ht _) $$ [Hu Hi Ha Hb Ho Hs0 Hs1 Hs2 Hs3 Hs4 Hr Hf0 Hf1 Hd0 Hd1 HO Hmw]
  · isplitl [Ha]; · iexact Ha
    isplitl [Hb]; · iexact Hb
    isplitl [Hs0 Hs1 Hs2 Hs3 Hs4 Hr Hf0 Hf1 Hd0 Hd1 Hu Hi]
    · isplitl [Hs0]; · iexact Hs0
      isplitl [Hs1]; · iexact Hs1
      isplitl [Hd0]; · iexact Hd0
      isplitl [Hd1]; · iexact Hd1
      isplitl [Hs3 Hf0]
      · isplitl [Hs3] <;> iassumption
      isplitl [Hs4 Hf1]
      · isplitl [Hs4] <;> iassumption
      isplitl [Hr Hs2]
      · isplitl [Hr] <;> iassumption
      isplitl [Hu] <;> iassumption
    isplitl [Ho]; · iexact Ho
    isplitl [HO]
    · unfold Owes
      iexists W
      isplitr
      · ipureintro; exact fun p hp => .inl hp
      · iexact HO
    · iexact Hmw
  iintro ⟨Ha, Hb, ⟨Hs0, Hs1, Hd0, Hd1, ⟨Hs3, Hf0⟩, ⟨Hs4, Hf1⟩, ⟨Hr, Hs2⟩, Hu, Hi⟩, Ho, HO⟩
  isplitl [Hu Hi Ha Hb Ho]
  · isplitl [Hu]; · iexact Hu
    isplitl [Hi]; · iexact Hi
    isplitl [Ha]; · iexact Ha
    isplitl [Hb]; · iexact Hb
    iexact Ho
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3] <;> iassumption
    · iexact Hbufs
  isplitl [Hr Hf0 Hf1 Hd0 Hd1 Hsems]
  · isplitl [Hr Hf0 Hf1 Hd0 Hd1]
    · isplitl [Hr]; · iexact Hr
      isplitl [Hf0]; · iexact Hf0
      isplitl [Hf1]; · iexact Hf1
      isplitl [Hd0] <;> iassumption
    · iexact Hsems
  · unfold Owes
    iexact HO

abbrev coordsV (c : Fin (grid0.bound 0)) (s : Fin (grid0.bound 1)) : grid0.Coords :=
  fun | 0 => c | 1 => s | ⟨_ + 2, h⟩ => absurd h (Nat.not_lt.2 (Nat.le_add_left _ _))

/-- What a tile runs for the call is the kernel's body. -/
theorem defs₀_vector (c : Fin τ.nSC) (s : Fin τ.nSub) :
    defs₀ (F := F) (.scVector c s) 0 ()
      = SparseCore.onTile hcore0 hsub0 (fun c s => cc0__sc_gather (coordsV c s) MM.ut (Memref.isWhole_whole _) MM.it (Memref.isWhole_whole _) MM.uid (Memref.isWhole_whole _) MM.iid (Memref.isWhole_whole _)
            MM.out (Memref.isWhole_whole _) MM.uv (Memref.isWhole_whole _) MM.iv (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scratch10
            cc0_scratch11 cc0_scratch12 cc0_scratch13 cc0_scoped0 cc0_scoped1) ⟨⟩ c s := rfl

/-- The waits that a tile makes are among those that the launch allows. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  refine sep_mono_right (sep_mono_right (sep_mono_right ?_))
  iintro ⟨%W', %h, HO⟩
  iexists W'
  isplitr
  · ipureintro; exact fun p hp => (h p hp).imp_right .inl
  · iexact HO

end Tile

abbrev 𝒱 : Variants := 𝒱₀.lift
abbrev v₀ : 𝒱.V := Sum.inl none

set_option maxRecDepth 16384 in
/-- Each tile meets its part of the launch. -/
theorem tileObl (hA0 : ∀ d k, (A0 d k).toNat < 1000000) (hA1 : ∀ d k, (A1 d k).toNat < 1000000) :
    (K (F := F)).TileObl (D (F := F)) 𝒱 (P fU fI A0 A1 fo) v₀ 0 := by
  intro d c i O W hO _ _
  simp only [show (P fU fI A0 A1 fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fU fI A0 A1 fo d (coordsV ⟨_, hci.1⟩ ⟨_, hci.2⟩) (hA0 d) (hA1 d) (Fin.cast nCore_zero c) (Fin.cast nSub_zero i) rfl rfl O W hO).trans
    (wp_mono frame _ _ fun _ => waits_weaken)

end Pay

end Cert.KernelIdeal.Rows
-- ==== Proof.Ideal.Mlp.lean ====
module

public import proofs.«01_k».proof.Proof.Ideal.Steps
public import proofs.«01_k».proof.Proof.Gen.KernelIdeal.Launch
public import proofs.«01_k».proof.Proof.Gen.KernelIdeal.Skeleton
public import Idealize.ShloMosaic.Lib.Pipeline.RegionsLoop
public import Idealize.ShloMosaic.Lib.VecWindow

@[expose] public section

noncomputable section

namespace Cert.KernelIdeal.Rows

open Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

variable [FloatOps F]

open Idealize.ShloMosaic.Pipeline (Dat Cfg Window BodyObligation)
open Idealize.ShloMosaic.TcCoe

section Body

variable (d : Dev nD)

/-- Memref `M`'s buffer on the TensorCore, held whole at `f`. -/
abbrev pt {sp : Space} {S : Shape} {e : EltTy} (M : Memref sig .tc sp S e) (f : Buf (Elt F) (M.view.loc (d : Thread nD τ))) : sProp 𝕄 :=
  M.view.loc (d : Thread nD τ) ↦{fullShare} f

/-- The body's run: it leaves the input blocks as they were and in the output block the three layers of them. -/
theorem mlp_run (i : grid1.Coords) (M1 : Memref sig .tc .vmem S8192x128 .f32) (h1 : M1.IsWhole) (M2 : Memref sig .tc .vmem S128x64 .f32) (h2 : M2.IsWhole)
    (M3 : Memref sig .tc .vmem S1x64 .f32) (h3 : M3.IsWhole) (M4 : Memref sig .tc .vmem S64x32 .f32) (h4 : M4.IsWhole)
    (M5 : Memref sig .tc .vmem S1x32 .f32) (h5 : M5.IsWhole) (M6 : Memref sig .tc .vmem S32x1 .f32) (h6 : M6.IsWhole)
    (M7 : Memref sig .tc .vmem S1x1 .f32) (h7 : M7.IsWhole) (M8 : Memref sig .tc .vmem S8192x1 .f32) (h8 : M8.IsWhole)
    (f1 : Buf (Elt F) (M1.view.loc (d : Thread nD τ))) (f2 : Buf (Elt F) (M2.view.loc (d : Thread nD τ))) (f3 : Buf (Elt F) (M3.view.loc (d : Thread nD τ)))
    (f4 : Buf (Elt F) (M4.view.loc (d : Thread nD τ))) (f5 : Buf (Elt F) (M5.view.loc (d : Thread nD τ))) (f6 : Buf (Elt F) (M6.view.loc (d : Thread nD τ)))
    (f7 : Buf (Elt F) (M7.view.loc (d : Thread nD τ))) (f8 : Buf (Elt F) (M8.view.loc (d : Thread nD τ))) (E : Set ℕ) (Q : PUnit → sProp 𝕄) :
    iprop(pt d M1 f1 ∗ pt d M2 f2 ∗ pt d M3 f3 ∗ pt d M4 f4 ∗ pt d M5 f5 ∗ pt d M6 f6 ∗ pt d M7 f7 ∗ pt d M8 f8
        ∗ (iprop(pt d M1 f1 ∗ pt d M2 f2 ∗ pt d M3 f3 ∗ pt d M4 f4 ∗ pt d M5 f5 ∗ pt d M6 f6 ∗ pt d M7 f7
          ∗ ∃ g, ⌜View.read (Elt F) M8.view g = k1_pay1 (View.read (Elt F) M1.view f1) (View.read (Elt F) M2.view f2) (View.read (Elt F) M3.view f3)
            (View.read (Elt F) M4.view f4) (View.read (Elt F) M5.view f5) (View.read (Elt F) M6.view f6) (View.read (Elt F) M7.view f7)⌝ ∗ pt d M8 g) -∗ Q ⟨⟩))
      ⊢ wp frame (wpE (defs₀ (F := F)) 𝒱₀ (d : Thread nD τ) none) E (cc1__mlp_body i M1 h1 M2 h2 M3 h3 M4 h4 M5 h5 M6 h6 M7 h7 M8 h8) Q := by
  iintro ⟨H1, H2, H3, H4, H5, H6, H7, H8, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _
  isplitr
  rotate_left
  · iexact H8
  · ipureintro
    unfold mlp_run.sl.H8_1
    refine (View.read_writes_full _ _ _ _ _).trans ?_
    congr 1 <;> exact View.readAt_full _ _ _

/-- The same over what the eight memrefs read: the inputs stay as they are, the output reads the three layers of them. -/
theorem mlp_owns (i : grid1.Coords) (M1 : Memref sig .tc .vmem S8192x128 .f32) (h1 : M1.IsWhole) (M2 : Memref sig .tc .vmem S128x64 .f32) (h2 : M2.IsWhole)
    (M3 : Memref sig .tc .vmem S1x64 .f32) (h3 : M3.IsWhole) (M4 : Memref sig .tc .vmem S64x32 .f32) (h4 : M4.IsWhole)
    (M5 : Memref sig .tc .vmem S1x32 .f32) (h5 : M5.IsWhole) (M6 : Memref sig .tc .vmem S32x1 .f32) (h6 : M6.IsWhole)
    (M7 : Memref sig .tc .vmem S1x1 .f32) (h7 : M7.IsWhole) (M8 : Memref sig .tc .vmem S8192x1 .f32) (h8 : M8.IsWhole)
    (X1 : S8192x128.Idx → Elt F .f32) (X2 : S128x64.Idx → Elt F .f32) (X3 : S1x64.Idx → Elt F .f32) (X4 : S64x32.Idx → Elt F .f32)
    (X5 : S1x32.Idx → Elt F .f32) (X6 : S32x1.Idx → Elt F .f32) (X7 : S1x1.Idx → Elt F .f32) (X8 : S8192x1.Idx → Elt F .f32)
    (E : Set ℕ) (Q : PUnit → sProp 𝕄) :
    iprop(owns (d : Thread nD τ) M1 fullShare X1 ∗ owns (d : Thread nD τ) M2 fullShare X2 ∗ owns (d : Thread nD τ) M3 fullShare X3 ∗ owns (d : Thread nD τ) M4 fullShare X4
        ∗ owns (d : Thread nD τ) M5 fullShare X5 ∗ owns (d : Thread nD τ) M6 fullShare X6 ∗ owns (d : Thread nD τ) M7 fullShare X7 ∗ owns (d : Thread nD τ) M8 fullShare X8
        ∗ (iprop(owns (d : Thread nD τ) M1 fullShare X1 ∗ owns (d : Thread nD τ) M2 fullShare X2 ∗ owns (d : Thread nD τ) M3 fullShare X3 ∗ owns (d : Thread nD τ) M4 fullShare X4
          ∗ owns (d : Thread nD τ) M5 fullShare X5 ∗ owns (d : Thread nD τ) M6 fullShare X6 ∗ owns (d : Thread nD τ) M7 fullShare X7
          ∗ owns (d : Thread nD τ) M8 fullShare (k1_pay1 (F := F) X1 X2 X3 X4 X5 X6 X7)) -∗ Q ⟨⟩))
      ⊢ wp frame (wpE (defs₀ (F := F)) 𝒱₀ (d : Thread nD τ) none) E (cc1__mlp_body i M1 h1 M2 h2 M3 h3 M4 h4 M5 h5 M6 h6 M7 h7 M8 h8) Q := by
  unfold owns
  simp only [h1.set_eq_univ, h2.set_eq_univ, h3.set_eq_univ, h4.set_eq_univ, h5.set_eq_univ, h6.set_eq_univ, h7.set_eq_univ, h8.set_eq_univ]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, Hk⟩
  subst e1 e2 e3 e4 e5 e6 e7
  iapply (mlp_run d i M1 h1 M2 h2 M3 h3 M4 h4 M5 h5 M6 h6 M7 h7 M8 h8 f1 f2 f3 f4 f5 f6 f7 f8 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  iexact H8

end Body

section Region

variable (V : (c : Dev nD) → (b : Ref sig .tc) → Buf (Elt F) ((c : Thread nD τ).loc b))

/-- The block of gathered rows at point `t`, as the fetch stages it. -/
abbrev stg0 (c : Dev nD) (t : Fin cfg1.N) : S8192x128.Idx → Elt F .f32 :=
  ((cfg1.win 0).blk t).view.read (Elt F) (V c main_v4)

/-- What the body leaves in the output's block at point `t`: the weights and biases come whole. -/
abbrev stgOut (c : Dev nD) (t : Fin cfg1.N) : S8192x1.Idx → Elt F .f32 :=
  k1_pay1 (F := F) (stg0 V c t) (V c main_arg4) (V c main_v5) (V c main_arg6) (V c main_v6) (V c main_arg8) (V c main_v7)

abbrev Φc (c : Dev nD) : sProp 𝕄 := Pipeline.scopedRest (Ix := HIx 1) (Name := ℕ) (U := UU) (Lvl := ℕ) (Val := Elt F) spec1 c

/-- The region's data: the arrays at `V`, every input block as fetched, the output's block as the body leaves it. -/
def dat (c : Dev nD) : Dat τ (Elt F) (HIx 1) ℕ UU ℕ cfg1 c where
  A w := V c (Pipeline.arrRef spec1 w)
  after w t := match w with
    | ⟨0, _⟩ => stg0 V c t
    | ⟨1, _⟩ => V c main_arg4
    | ⟨2, _⟩ => V c main_v5
    | ⟨3, _⟩ => V c main_arg6
    | ⟨4, _⟩ => V c main_v6
    | ⟨5, _⟩ => V c main_arg8
    | ⟨6, _⟩ => V c main_v7
    | ⟨7, _⟩ => stgOut V c t
  Φ _ := Φc c
  q _ := fullShare
  owed _ := 0
  recorded _ := {p | (K (F := F)).lev ((c : Thread nD τ), p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

/-- The rows' buffer holds the point's block when the body runs. -/
theorem before_0 (c : Dev nD) (t : Fin cfg1.N) (d : (cfg1.win 0).block.Idx → Elt F (cfg1.win 0).elt) : (dat V c).before 0 t d = stg0 V c t := by
  rcases fin_N1 t with rfl | rfl <;> (unfold Dat.before; rw [if_pos (by decide)]; rfl)

/-- A weight's or bias's block is its whole array. -/
theorem emb_whole (w : Fin cfg1.W) (h1 : 1 ≤ w.val) (h7 : w.val < 7) (a : Fin (cfg1.win w).shape.rank)
    (y : ((cfg1.win w).xblock (cfg1.grid.coords t1_0)).Idx) : (((cfg1.win w).rect t1_0).emb y a : ℕ) = y a :=
  (cfg1.win w).rect_emb_val_of_index_zero t1_0 a
    ((by decide : ∀ w : Fin cfg1.W, 1 ≤ w.val → w.val < 7 → ∀ a, (cfg1.win w).index t1_0 a = 0) w h1 h7 a) y

/-- When the body runs every input's buffer holds what the body leaves in it: the rows' block of the point, or the whole
    array of a weight or bias, fetched at the first point and kept. -/
theorem before_in (c : Dev nD) (t : Fin cfg1.N) (w : Fin cfg1.W) (hw : w.val < 7) (d : (cfg1.win w).block.Idx → Elt F (cfg1.win w).elt) :
    (dat V c).before w t d = (dat V c).after w t := by
  fin_cases w
  · exact before_0 V c t d
  rotate_right
  · exact absurd hw (by decide)
  all_goals
    rcases fin_N1 t with rfl | rfl
    · unfold Dat.before
      rw [if_pos (by decide)]
      funext i
      refine congrArg (V c _) (funext fun a => Fin.ext ?_)
      first
        | exact emb_whole 1 (by decide) (by decide) a i
        | exact emb_whole 2 (by decide) (by decide) a i
        | exact emb_whole 3 (by decide) (by decide) a i
        | exact emb_whole 4 (by decide) (by decide) a i
        | exact emb_whole 5 (by decide) (by decide) a i
        | exact emb_whole 6 (by decide) (by decide) a i
    · unfold Dat.before
      rw [if_neg (by decide), if_neg (by decide)]
      rfl

/-- The library's body obligation: the staging buffers taken apart, `mlp_run` applied, its post reassembled. -/
theorem body_obligation (c : Dev nD) : BodyObligation (dat V c) (defs₀ (F := F)) 𝒱₀ (none : HIx 1) Set.univ := fun t => by
  rw [bigSep_W1, bigSep_W1]
  have hΦ1 : (dat V c).Φ t.castSucc = Φc c := rfl
  have hΦ2 : (dat V c).Φ t.succ = Φc c := rfl
  have hO : (dat V c).owesAt (none : HIx 1) t.succ = (dat V c).owesAt (none : HIx 1) t.castSucc := rfl
  rw [hΦ1, hΦ2, hO]
  simp only [before_in V c t 0 (by decide), before_in V c t 1 (by decide), before_in V c t 2 (by decide), before_in V c t 3 (by decide),
    before_in V c t 4 (by decide), before_in V c t 5 (by decide), before_in V c t 6 (by decide)]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (mlp_owns c (grid1.coords t) _ (hstage1_0 ((cfg1.slots t 0).cast nbuf1_0)) _ (hstage1_1 ((cfg1.slots t 1).cast nbuf1_1)) _ (hstage1_2 ((cfg1.slots t 2).cast nbuf1_2))
    _ (hstage1_3 ((cfg1.slots t 3).cast nbuf1_3)) _ (hstage1_4 ((cfg1.slots t 4).cast nbuf1_4)) _ (hstage1_5 ((cfg1.slots t 5).cast nbuf1_5))
    _ (hstage1_6 ((cfg1.slots t 6).cast nbuf1_6)) _ (hstage1_7 ((cfg1.slots t 7).cast nbuf1_7))
    (stg0 V c t) (V c main_arg4) (V c main_v5) (V c main_arg6) (V c main_v6) (V c main_arg8) (V c main_v7) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The TensorCore's unscoped references: what the thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The result's array after the region. -/
def mlpOut (c : Dev nD) : Buf (Elt F) ((c : Thread nD τ).loc main_v8) := (dat V c).arrAt 7 cfg1.N

/-- What the thread owes between calls: nothing, and its waits lie at or below the SparseCore call's block. -/
abbrev owesN (c : Dev nD) : sProp 𝕄 :=
  iprop(∃ W, ⌜(K (F := F)).WBelow (SparseCore.T c) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The region over the thread state "every unscoped buffer at `V c`, and the core's `owes`": entered by splitting the
    eight arrays out, left with them put back at any `Vp` that is the region's result at the result's array and `V` off it. -/
def reg (hVp_out : ∀ c, Vp c main_v8 = mlpOut V c) (hVp_ne : ∀ c (b : Ref sig .tc), b ≠ main_v8 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesN c)
  post c := iprop(unscopedBufs c (Vp c) ∗ owesN c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v4 (by decide)).symm
        · exact ((pdats V adm 0 c).arrAt_in 1 rfl _).trans (hVp_ne c main_arg4 (by decide)).symm
        · exact ((pdats V adm 0 c).arrAt_in 2 rfl _).trans (hVp_ne c main_v5 (by decide)).symm
        · exact ((pdats V adm 0 c).arrAt_in 3 rfl _).trans (hVp_ne c main_arg6 (by decide)).symm
        · exact ((pdats V adm 0 c).arrAt_in 4 rfl _).trans (hVp_ne c main_v6 (by decide)).symm
        · exact ((pdats V adm 0 c).arrAt_in 5 rfl _).trans (hVp_ne c main_arg8 (by decide)).symm
        · exact ((pdats V adm 0 c).arrAt_in 6 rfl _).trans (hVp_ne c main_v7 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, h⟩
      · exact h
      · subst h; exact Nat.zero_le _
    iexact HO

end Region

end Cert.KernelIdeal.Rows
-- ==== Proof.Ideal.Run.lean ====
module

public import proofs.«01_k».proof.Proof.Ideal.Launch
public import proofs.«01_k».proof.Proof.Ideal.Mlp

@[expose] public section

noncomputable section

namespace Cert.KernelIdeal.Rows

open Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

variable [FloatOps F]

open Idealize.ShloMosaic.TcCoe

variable (m : (ℓ : Loc nD τ sig) → Buf (Elt F) ℓ) (ρ : Dev nD → PrngReg)

/-! ## What the buffers hold, step by step -/

/-- The host operations before the SparseCore call: each table transposed and padded. -/
def ops0 : List (HloOp τ sig (Elt F)) := [
  StableHlo.unary main_arg2 main_v0 ((transpose S64x1000000 [1, 0] · transposes_S1000000x64_S64x1000000_1_0) : (⟨S1000000x64, .f32⟩ : BufTy).Contents (Elt F) → (⟨S64x1000000, .f32⟩ : BufTy).Contents (Elt F)),
  StableHlo.nullary main_c (constantI S_ 32 0#32),
  StableHlo.TRef.unary (.of main_c : StableHlo.TRef sig ⟨S_, .i32⟩) main_call0.v0 (sitofp .f32),
  StableHlo.TRef.binary (.of main_v0 : StableHlo.TRef sig ⟨S64x1000000, .f32⟩) main_call0.v0 main_call0.v1 (fun x v => pad S64x1000064 ![0, 0] ![0, 64] ![0, 0] x v pads_S64x1000000_S64x1000064_000_0640 h_S_),
  StableHlo.unary main_arg3 main_v2 ((transpose S64x1000000 [1, 0] · transposes_S1000000x64_S64x1000000_1_0) : (⟨S1000000x64, .f32⟩ : BufTy).Contents (Elt F) → (⟨S64x1000000, .f32⟩ : BufTy).Contents (Elt F)),
  StableHlo.nullary main_c_0 (constantI S_ 32 0#32),
  StableHlo.TRef.unary (.of main_c_0 : StableHlo.TRef sig ⟨S_, .i32⟩) main_call1.v0 (sitofp .f32),
  StableHlo.TRef.binary (.of main_v2 : StableHlo.TRef sig ⟨S64x1000000, .f32⟩) main_call1.v0 main_call1.v1 (fun x v => pad S64x1000064 ![0, 0] ![0, 64] ![0, 0] x v pads_S64x1000000_S64x1000064_000_0640 h_S_)]

/-- The host operations after it: the biases as rows. -/
def ops1 : List (HloOp τ sig (Elt F)) := [
  StableHlo.reshape main_arg5 main_v5 (rfl : (.f32 : EltTy) = .f32) shapeCasts_S64_S1x64,
  StableHlo.reshape main_arg7 main_v6 (rfl : (.f32 : EltTy) = .f32) shapeCasts_S32_S1x32,
  StableHlo.reshape main_arg9 main_v7 (rfl : (.f32 : EltTy) = .f32) shapeCasts_S1_S1x1]

def W0 (d : Dev nD) : Valuation τ sig (Elt F) := fun b => m (d, b)
def W1 (d : Dev nD) : Valuation τ sig (Elt F) := StableHlo.after ops0 (W0 m d)

/-- The padded tables, the ids, and what the output holds, as the SparseCore call finds them. -/
abbrev fU (d : Dev nD) : S64x1000064.Idx → Elt F .f32 := W1 m d (main_v1 : Ref sig .tc)
abbrev fI (d : Dev nD) : S64x1000064.Idx → Elt F .f32 := W1 m d (main_v3 : Ref sig .tc)
abbrev A0 (d : Dev nD) : S16384.Idx → BitVec 32 := W1 m d (main_arg0 : Ref sig .tc)
abbrev A1 (d : Dev nD) : S16384.Idx → BitVec 32 := W1 m d (main_arg1 : Ref sig .tc)
abbrev fo (d : Dev nD) : S16384x128.Idx → Elt F .f32 := W1 m d (main_v4 : Ref sig .tc)

abbrev gRows (d : Dev nD) : S16384x128.Idx → Elt F .f32 := gath (fU m d) (fI m d) (A0 m d) (A1 m d)

def W2 (d : Dev nD) : Valuation τ sig (Elt F) := Function.update (W1 m d) ((main_v4 : Ref sig .tc) : DevRef τ sig) (gRows m d)
def W3 (d : Dev nD) : Valuation τ sig (Elt F) := StableHlo.after ops1 (W2 m d)
def W4 (d : Dev nD) : Valuation τ sig (Elt F) :=
  Function.update (W3 m d) ((main_v8 : Ref sig .tc) : DevRef τ sig) (mlpOut (fun c b => W3 m c b) d)

abbrev PP : (K (F := F)).Pay (nD := nD) (Val := Elt F) (Name := ℕ) (U := UU) := P (fU m) (fI m) (A0 m) (A1 m) (fo m)

abbrev adm : (p : Fin 1) → (pcfgs (F := F) p).Adm := fun p => (cfgs p).toPCfg_adm

/-- The TensorCore call's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What the TensorCore ends with: every buffer at its last contents. -/
abbrev FIN (d : Dev nD) : sProp 𝕄 := unscopedBufs d (fun b => W4 m d b)

/-! ## @main on the TensorCore -/

/-- A host operation names no scoped buffer. -/
theorem sub_uc (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers the SparseCore call takes. -/
def callRefs : Finset (DevRef τ sig) :=
  {((main_v1 : Ref sig .tc) : DevRef τ sig), ((main_v3 : Ref sig .tc) : DevRef τ sig), ((main_arg0 : Ref sig .tc) : DevRef τ sig),
    ((main_arg1 : Ref sig .tc) : DevRef τ sig), ((main_v4 : Ref sig .tc) : DevRef τ sig)}

/-- The buffers that the SparseCore call is given are among the main thread's. -/
theorem callRefs_sub : callRefs ⊆ ucRefs := by decide

/-- The main thread's buffers are those that the call is given and the rest. -/
theorem held_call (d : Dev nD) (W : Valuation τ sig (Elt F)) :
    (StableHlo.held (SparseCore.T d : Thread nD τ) callRefs W : sProp 𝕄)
      = iprop((uLoc d ↦{fullShare} W (main_v1 : Ref sig .tc)) ∗ (iLoc d ↦{fullShare} W (main_v3 : Ref sig .tc)) ∗ (aLoc d ↦{fullShare} W (main_arg0 : Ref sig .tc))
        ∗ (bLoc d ↦{fullShare} W (main_arg1 : Ref sig .tc)) ∗ (oLoc d ↦{fullShare} W (main_v4 : Ref sig .tc))) := by
  unfold StableHlo.held callRefs
  rw [SparseCore.bigSep_insert' (by decide), SparseCore.bigSep_insert' (by decide), SparseCore.bigSep_insert' (by decide),
    SparseCore.bigSep_insert' (by decide), bigSep_singleton]

/-- What the call takes at its start, written out. -/
theorem st0_eq (d : Dev nD) : (bigSep Finset.univ fun c : Fin ((K (F := F)).nCore 0) => (PP m).st 0 d c)
    = Hold (fU m) (fI m) (A0 m) (A1 m) d fullShare Finset.univ (fo m d) :=
  (Hold_split (fU m) (fI m) (A0 m) (A1 m) d 1 fullShare coreRows Finset.univ (fo m d) cores_disjoint cores_cover).symm

/-- What it gives back, written out. -/
theorem dn0_eq (d : Dev nD) : (bigSep Finset.univ fun c : Fin ((K (F := F)).nCore 0) => (PP m).dn 0 d c)
    = Hold (fU m) (fI m) (A0 m) (A1 m) d fullShare Finset.univ (gRows m d) :=
  (Hold_split (fU m) (fI m) (A0 m) (A1 m) d 1 fullShare coreRows Finset.univ (gRows m d) cores_disjoint cores_cover).symm

/-- The call hands back what it took, the output at the gathered rows. -/
theorem held_back (d : Dev nD) :
    iprop(Hold (fU m) (fI m) (A0 m) (A1 m) d fullShare Finset.univ (gRows m d) ∗ StableHlo.held (SparseCore.T d : Thread nD τ) (ucRefs \ callRefs) (W1 m d))
      ⊢ (StableHlo.held (SparseCore.T d : Thread nD τ) ucRefs (W2 m d) : sProp 𝕄) := by
  have hne : ∀ b : DevRef τ sig, b ≠ ((main_v4 : Ref sig .tc) : DevRef τ sig) → W2 m d b = W1 m d b := fun b h => Function.update_of_ne h _ _
  rw [StableHlo.held_sub_split (SparseCore.T d : Thread nD τ) callRefs_sub (W2 m d), held_call d (W2 m d), hne _ (by decide), hne _ (by decide), hne _ (by decide), hne _ (by decide),
    show W2 m d (main_v4 : Ref sig .tc) = gRows m d from Function.update_self _ _ _,
    StableHlo.held_congr (SparseCore.T d : Thread nD τ) (S := ucRefs \ callRefs) (V := W2 m d) (V' := W1 m d) fun b hb => hne b fun h => by
      subst h; exact absurd hb (by decide)]

/-- Between the calls the main thread owes nothing. -/
theorem owes_reg (d : Dev nD) : (K (F := F)).tcSt EH d ((0 : Fin 1).val + 1) ⊢ (iprop(owesN (F := F) d ∗ (owesN (F := F) d -∗ (K (F := F)).tcSt EH d 1)) : sProp 𝕄) := by
  change ((K (F := F)).tcSt EH d 1 : sProp 𝕄) ⊢ _
  unfold SparseCore.Cfg.tcSt
  rw [(K (F := F)).Otc_end d (le_refl 1)]
  iintro ⟨HO, Hrest⟩
  isplitl [HO]; · iexact HO
  iintro HO
  isplitl [HO]; · iexact HO
  iexact Hrest

set_option backward.isDefEq.respectTransparency.types false in
/-- The TensorCore's call of the three layers, from every buffer at what the host operations left. -/
theorem wp_mlp (κ : GSem nD τ sig → ℕ) (d : Dev nD) (Q : PUnit → sProp 𝕄) :
    iprop((K (F := F)).ctx EH (PP m) κ ∗ boundary (d : Thread nD τ) ∗ (unscopedBufs d (fun b => W3 m d b) ∗ owesN (F := F) d) ∗ G (F := F) d
        ∗ (iprop(boundary (d : Thread nD τ) ∗ unscopedBufs d (fun b => W4 m d b) ∗ owesN (F := F) d) -∗ Q ⟨⟩))
      ⊢ wp frame (wpE ((K (F := F)).defs (D (F := F))) 𝒱 (SparseCore.T d) none) Set.univ (Prog.lift (.customCall (SparseCore.inner (Pipeline.entry 0)) ())) Q := by
  have hR : iprop((iprop(boundary (d : Thread nD τ) ∗ unscopedBufs d (fun b => W4 m d b) ∗ owesN (F := F) d)
        -∗ wp frame (wpE (D (F := F)) 𝒱 (d : Thread nD τ) none) Set.univ (.ret ⟨⟩) Q)
      ∗ boundary (d : Thread nD τ) ∗ (unscopedBufs d (fun b => W3 m d b) ∗ owesN (F := F) d) ∗ levAts (K (F := F)).L (K (F := F)).lev ∗ G (F := F) d)
      ⊢ (wp frame (wpE (D (F := F)) 𝒱 (d : Thread nD τ) none) Set.univ (Prog.lift (.customCall (Pipeline.entry 0) ())) Q : sProp 𝕄) :=
    Pipeline.RegionSeg.wp (pcfgs (F := F)) adm (pdats (fun c b => W3 m c b) adm) (none : HIx 1) cellOf_inj EP defs₀ 𝒱₀ (K (F := F)).L (K (F := F)).lev
    (reg (fun c b => W3 m c b) adm (fun c b => W4 m c b) (fun c => Function.update_self _ _ _)
      (fun c b hb => Function.update_of_ne (StableHlo.devRef_ne_of_ne hb) _ _)) d none (fun u hu => by cases hu) (fun x => .ret x) Q
  have hL := (K (F := F)).wp_liftProg (D (F := F)) 𝒱 (SparseCore.T d) Set.univ none
    (Prog.lift (.customCall (Pipeline.entry 0) ()) : Prog (TpuEff nD τ sig (Elt F) (ΛP (F := F)) .tc) PUnit) Q
  refine BI.Entails.trans ?_ hL
  refine BI.Entails.trans ?_ hR
  change (_ : sProp 𝕄) ⊢ _
  iintro ⟨#Hctx, Hb, Hpre, ⟨Hg, Ht⟩, Hk⟩
  ihave Hlev := (SparseCore.Cfg.ctx_levAts κ) $$ Hctx
  isplitl [Hk]
  · iintro H
    iapply (le_wp_ret _ _ _ _ Q)
    iapply Hk
    iexact H
  isplitl [Hb]; · iexact Hb
  isplitl [Hpre]; · iexact Hpre
  isplitl [Hlev]; · iexact Hlev
  isplitl [Hg]; · iexact Hg
  iexact Ht

/-- A host operation over the TensorCore's unscoped buffers. -/
theorem wp_host (d : Dev nD) (op : HloOp τ sig (Elt F)) (hs : op.bufs ⊆ StableHlo.tcRefs τ sig) (hf : op.fresh = ∅) (hp : (SparseCore.T d : Thread nD τ).2.kind.runsHlo = true)
    (W W' : Valuation τ sig (Elt F)) (hW : op.result W = W') (Q : PUnit → sProp 𝕄) :
    iprop((boundary (SparseCore.T d) ∗ StableHlo.held (SparseCore.T d : Thread nD τ) ucRefs W)
        ∗ ((boundary (SparseCore.T d) ∗ StableHlo.held (SparseCore.T d : Thread nD τ) ucRefs W') -∗ Q ⟨⟩))
      ⊢ wp frame (wpE ((K (F := F)).defs (D (F := F))) 𝒱 (SparseCore.T d) none) Set.univ (hlo hp op (fun _ => .ret ⟨⟩)) Q := by
  subst hW
  iintro ⟨H, Hk⟩
  iapply (StableHlo.wp_hlo_within 𝒱 (SparseCore.T d : Thread nD τ) none Set.univ (sub_uc _ hs) hf) $$ H
  iintro H
  iapply (le_wp_ret _ _ _ _ Q)
  iapply Hk
  iexact H

/-- @main on device `d`'s TensorCore: the tables padded, the rows gathered, the three layers run. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  have e0 : (unscopedBufs d (fun b => m ((SparseCore.T d : Thread nD τ).loc b)) : sProp 𝕄) = StableHlo.held (SparseCore.T d : Thread nD τ) ucRefs (W0 m d) :=
    unscopedBufs_held d (W0 m d)
  have e1 : ∀ W, (StableHlo.held (SparseCore.T d : Thread nD τ) ucRefs W : sProp 𝕄)
      ⊢ iprop(StableHlo.held (SparseCore.T d : Thread nD τ) callRefs W ∗ StableHlo.held (SparseCore.T d : Thread nD τ) (ucRefs \ callRefs) W) := fun W =>
    Entails.of_eq (StableHlo.held_sub_split (SparseCore.T d : Thread nD τ) callRefs_sub W)
  rw [e0]
  simp only [main, fn_pad.body, wp_bind, wp_pure]
  iintro ⟨#Hctx, Hst, ⟨Hb, Hh, Hts, -⟩, HG⟩
  iapply (wp_host d _ (StableHlo.unary_bufs_sub ..) rfl _ (W0 m d) _ rfl _)
  isplitl [Hb Hh]; · isplitl [Hb] <;> iassumption
  iintro H
  iapply (wp_host d _ (StableHlo.nullary_bufs_sub ..) rfl _ _ _ rfl _)
  isplitl [H]; · iexact H
  iintro H
  iapply (wp_host d _ (StableHlo.unary_bufs_sub ..) rfl _ _ _ rfl _)
  isplitl [H]; · iexact H
  iintro H
  iapply (wp_host d _ (StableHlo.binary_bufs_sub ..) rfl _ _ _ rfl _)
  isplitl [H]; · iexact H
  iintro H
  imodintro
  iapply (wp_host d _ (StableHlo.unary_bufs_sub ..) rfl _ _ _ rfl _)
  isplitl [H]; · iexact H
  iintro H
  iapply (wp_host d _ (StableHlo.nullary_bufs_sub ..) rfl _ _ _ rfl _)
  isplitl [H]; · iexact H
  iintro H
  iapply (wp_host d _ (StableHlo.unary_bufs_sub ..) rfl _ _ _ rfl _)
  isplitl [H]; · iexact H
  iintro H
  iapply (wp_host d _ (StableHlo.binary_bufs_sub ..) rfl _ _ (W1 m d) rfl _)
  isplitl [H]; · iexact H
  iintro ⟨Hb, Hh⟩
  imodintro
  ihave H := (e1 (W1 m d)) $$ Hh
  icases H with ⟨Hc, Hrest⟩
  iapply ((K (F := F)).wp_run (D (F := F)) 𝒱 (EH := EH) (P := PP m) κ d 0) $$ [Hst Hc Hb Hts HG Hrest]
  isplitr; · iexact Hctx
  isplitl [Hst]; · iexact Hst
  isplitl [Hc]
  · iapply (Entails.of_eq (st0_eq m d).symm)
    iapply (Entails.of_eq (held_call d (W1 m d))) $$ Hc
  iintro ⟨Hst, Hdn⟩
  ihave Hh := (held_back m d) $$ [Hdn Hrest]
  · isplitl [Hdn]
    · iapply (Entails.of_eq (dn0_eq m d)) $$ Hdn
    · iexact Hrest
  iapply (wp_host d _ (StableHlo.reshape_bufs_sub ..) rfl _ _ _ rfl _)
  isplitl [Hb Hh]; · isplitl [Hb] <;> iassumption
  iintro H
  iapply (wp_host d _ (StableHlo.reshape_bufs_sub ..) rfl _ _ _ rfl _)
  isplitl [H]; · iexact H
  iintro H
  iapply (wp_host d _ (StableHlo.reshape_bufs_sub ..) rfl _ _ (W3 m d) rfl _)
  isplitl [H]; · iexact H
  iintro ⟨Hb, Hh⟩
  ihave Hst := (owes_reg d) $$ Hst
  icases Hst with ⟨HO, Hst⟩
  iapply (wp_mlp m κ d _)
  isplitr; · iexact Hctx
  isplitl [Hb]; · iexact Hb
  isplitl [Hh HO]
  · isplitl [Hh]
    · iapply (Entails.of_eq (unscopedBufs_held d (W3 m d)).symm) $$ Hh
    · iexact HO
  isplitl [HG]; · iexact HG
  iintro ⟨Hb, Hu, HO⟩
  imodintro
  isplitl [Hst HO]
  · iapply Hst; iexact HO
  isplitl [Hu]; · iexact Hu
  isplitl [Hb] <;> iassumption

end Cert.KernelIdeal.Rows
-- ==== Proof.Ideal.End.lean ====
module

public import proofs.«01_k».proof.Proof.Ideal.Run
public import proofs.«01_k».proof.Defs
public import proofs.«01_k».proof.Proof.Gen.Pre_in_range
public import Idealize.ShloMosaic.Lib.StableHlo.RunRead
public import Idealize.ShloMosaic.PureOps.Reduce

@[expose] public section

noncomputable section

namespace Cert.KernelIdeal.Rows

open Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Transfers (Flight Flight_mono MayWaits)

variable {F : FTy → Type}

local notation "𝕄" => MT nD τ sig (HIx 1) (Elt F) ℕ UU ℕ

variable [FloatOps F]

open Idealize.ShloMosaic.TcCoe

variable (m : (ℓ : Loc nD τ sig) → Buf (Elt F) ℓ) (ρ : Dev nD → PrngReg)

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The launch pays the handshakes' ghost state and the TensorCore call's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hx : (bigSep Finset.univ fun thr : Thread nD τ => bigSep Finset.univ fun q : Fin 1 => (PP (F := F) m).x q thr) = (iprop(emp) : sProp 𝕄) :=
    (bigSep_congr fun _ _ => bigSep_univ_of_subsingleton (0 : Fin 1)).trans (bigSep_emp_const _)
  have hg : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
      = bigSep Finset.univ fun d : Dev nD => G (F := F) d := by
    rw [bigSep_sep']
    congr 1
    · exact bigSep_congr fun _ _ => bigSep_univ_of_subsingleton (0 : Fin 1)
    · exact bigSep_congr fun _ _ => bigSep_univ_of_subsingleton (0 : Fin 1)
  rw [hx]
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HP, -⟩
  imod (Pipeline.fund_ghost (Pipeline.pin (pcfgs (F := F)) adm) EP cellOf_inj) $$ HP with HP
  imodintro
  isplitl [HH]; · iexact HH
  isplitl [HP]; · iapply (Entails.of_eq hg) $$ HP
  iempintro

/-! ## The final memory -/

def fq (d : Dev nD) (s' : Phys nD τ sig (Elt F)) : Prop := ∀ b ∈ ucRefs, s'.mem.mem (d, b) = W4 m d b

/-- What the run ends with, read against the memory. -/
theorem hfin (d : Dev nD) (s' : Phys nD τ sig (Elt F)) : iprop(FIN m d ∗ SI s') ⊢ (⌜fq m d s'⌝ : sProp 𝕄) := by
  unfold FIN
  rw [unscopedBufs_held d (W4 m d)]
  unfold StableHlo.held
  iintro ⟨H, HSI⟩
  ihave %h := (SI_pointsTo_bufs_agree (qs := fun _ => fullShare) ucRefs) $$ [HSI H]
  · isplitl [HSI]; · iexact HSI
    iexact H
  ipureintro
  exact h

def QC : PUnit × MemSt nD τ sig (Elt F) → Prop := fun r => (∀ d : Dev nD, ∀ b ∈ ucRefs, r.2.mem (d, b) = W4 m d b) ∧ r.2.sem = fun _ => 0

/-- The program's run: where the ids are in range every weakly fair execution ends with the unscoped arrays at
    `W4`, and with every counter at zero. -/
theorem run_main [∀ e, Nonempty (Elt F e)] (hA0 : ∀ d k, (A0 m d k).toNat < 1000000) (hA1 : ∀ d k, (A1 m d k).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl (fU m) (fI m) (A0 m) (A1 m) (fo m) hA0 hA1)
    (fun q _ => match q with | 0 => SparseCore.Cfg.VecSplit.of_plain (vecSplit (fU m) (fI m) (A0 m) (A1 m) (fo m)))
    m ρ main (fun d => G d) (FIN m) (u₀ (F := F)) (sep_elim_left.trans (hu₀ m)) (hmain m ρ) (fq m) (hfin m) (QC m) (fun _ h hz => ⟨h, hz⟩)

/-! ## The arrays at the end -/

/-- The host operations before the SparseCore call leave what they do not write. -/
theorem W1_kept (d : Dev nD) (b : Ref sig .tc) (hb : b ∉ ([main_v0, main_c, main_call0_v0, main_v1, main_v2, main_c_0, main_call1_v0, main_v3] : List (Ref sig .tc))) :
    W1 m d b = m (d, b) :=
  StableHlo.after_unwritten (ops := ops0) [main_v0, main_c, main_call0_v0, main_v1, main_v2, main_c_0, main_call1_v0, main_v3] rfl hb (W0 m d)

/-- Nor do the later ones. -/
theorem W3_kept (d : Dev nD) (b : Ref sig .tc) (hb : b ∉ ([main_v5, main_v6, main_v7] : List (Ref sig .tc))) : W3 m d b = W2 m d b :=
  StableHlo.after_unwritten (ops := ops1) [main_v5, main_v6, main_v7] rfl hb (W2 m d)

/-- What no operation writes ends as it began. -/
theorem W4_kept (d : Dev nD) (b : Ref sig .tc) (hb : b ∉ ([main_v0, main_c, main_call0_v0, main_v1, main_v2, main_c_0, main_call1_v0, main_v3] : List (Ref sig .tc)))
    (hb' : b ∉ ([main_v5, main_v6, main_v7] : List (Ref sig .tc))) (h4 : b ≠ main_v4) (h8 : b ≠ main_v8) : W4 m d b = m (d, b) := by
  unfold W4
  rw [Function.update_of_ne (StableHlo.devRef_ne_of_ne h8), W3_kept m d b hb']
  unfold W2
  rw [Function.update_of_ne (StableHlo.devRef_ne_of_ne h4), W1_kept m d b hb]

/-- The users' ids reach the SparseCore call as they began. -/
theorem A0_eq (d : Dev nD) : A0 m d = m (d, (main_arg0 : Ref sig .tc)) := W1_kept m d main_arg0 (by decide)
/-- So do the items' ids. -/
theorem A1_eq (d : Dev nD) : A1 m d = m (d, (main_arg1 : Ref sig .tc)) := W1_kept m d main_arg1 (by decide)

/-! ## The precondition -/

/-- A conjunction over a set that is true is true at each member. -/
theorem fold_and {I : Type} [DecidableEq I] (f : I → BitVec 1) (S : Finset I) : S.fold IntOp.andi 1#1 f = 1#1 → ∀ i ∈ S, f i = 1#1 := by
  have two : ∀ c d : BitVec 1, IntOp.andi c d = 1#1 → c = 1#1 ∧ d = 1#1 := by decide
  induction S using Finset.induction_on with
  | empty => intro _ i hi; exact absurd hi (Finset.notMem_empty i)
  | insert a S ha ih =>
    rw [Finset.fold_insert ha]
    intro h i hi
    rcases Finset.mem_insert.1 hi with rfl | hi
    · exact (two _ _ h).1
    · exact ih (two _ _ h).2 i hi

/-- The precondition says of every id that it names a row. -/
theorem ids_of_pre {a0 a1 : IVec S16384 32} {a2 a3 : FVec F S1000000x64 .f32} {a4 : FVec F S128x64 .f32} {a5 : FVec F S64 .f32} {a6 : FVec F S64x32 .f32}
    {a7 : FVec F S32 .f32} {a8 : FVec F S32x1 .f32} {a9 : FVec F S1 .f32}
    (h : Cert.Pre_in_range.fn (F := F) a0 a1 a2 a3 a4 a5 a6 a7 a8 a9 = fun _ => 1#1) (k : S16384.Idx) :
    (a0 k).toNat < 1000000 ∧ (a1 k).toNat < 1000000 := by
  have two : ∀ c d : BitVec 1, IntOp.andi c d = 1#1 → c = 1#1 ∧ d = 1#1 := by decide
  have word (p : Bool) : (BitVec.ofBool p = 1#1) ↔ p = true := by cases p <;> decide
  have key : ∀ v : BitVec 32, IntOp.cmpi .sge v 0#32 = 1#1 → IntOp.cmpi .slt v 1000000#32 = 1#1 → v.toNat < 1000000 := by
    intro v e e'
    simp only [IntOp.cmpi, word, BitVec.sle_eq_decide, BitVec.slt_eq_decide,
      decide_eq_true_eq, BitVec.toInt_eq_toNat_cond, BitVec.toNat_ofNat, Nat.reducePow, Nat.reduceMod] at e e'
    omega
  have all : ∀ (x : IVec S16384 1) (hr : S16384.ReducesTo [0] Cert.Pre_in_range.S_) (hu : 0 < Cert.Pre_in_range.S_.numel) (j : Cert.Pre_in_range.S_.Idx),
      Host.reduce IntOp.andi x (constantI Cert.Pre_in_range.S_ 1 1#1) hr hu j = 1#1 → x k = 1#1 := by
    intro x hr hu j e
    rw [Host.reduce_eq_fold] at e
    exact fold_and x _ e k (Finset.mem_filter.2 ⟨Finset.mem_univ _, funext fun a => a.elim0⟩)
  have e := congrFun h (fun a => a.elim0)
  obtain ⟨e, e3⟩ := two _ _ e
  obtain ⟨e, e2⟩ := two _ _ e
  obtain ⟨e0, e1⟩ := two _ _ e
  exact ⟨key _ (all _ _ _ _ e0) (all _ _ _ _ e1), key _ (all _ _ _ _ e2) (all _ _ _ _ e3)⟩

/-- The program's run under the precondition, read at its arguments and its result. -/
theorem run_read [∀ e, Nonempty (Elt F e)]
    (hpre : ∀ d : Dev nD, ∀ k, (m ((d.tc : Thread nD τ).loc main_arg0) k : BitVec 32).toNat < 1000000 ∧ (m ((d.tc : Thread nD τ).loc main_arg1) k : BitVec 32).toNat < 1000000) :
    θ_run (Cert.KernelIdeal.defs (F := F)) (Cert.KernelIdeal.threads (F := F)) ⟨m, fun _ => 0, ρ⟩ fun r =>
      (∀ d : Dev nD, r.2.mem ((d.tc : Thread nD τ).loc main_v8) = mlpOut (fun c b => W3 m c b) d
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6)
        ∧ r.2.mem ((d.tc : Thread nD τ).loc main_arg7) = m ((d.tc : Thread nD τ).loc main_arg7)
        ∧ r.2.mem ((d.tc : Thread nD τ).loc main_arg8) = m ((d.tc : Thread nD τ).loc main_arg8)
        ∧ r.2.mem ((d.tc : Thread nD τ).loc main_arg9) = m ((d.tc : Thread nD τ).loc main_arg9))
      ∧ r.2.sem = fun _ => 0 := by
  have hA0 : ∀ d k, (A0 m d k).toNat < 1000000 := fun d k => by rw [A0_eq m d]; exact (hpre d k).1
  have hA1 : ∀ d k, (A1 m d k).toNat < 1000000 := fun d k => by rw [A1_eq m d]; exact (hpre d k).2
  refine (θ_run Cert.KernelIdeal.defs _ _).mono (fun r h => ⟨fun d => ?_, h.2⟩) (run_main m ρ hA0 hA1)
  have hk : ∀ b : Ref sig .tc, (b : DevRef τ sig) ∈ ucRefs → b ∉ ([main_v0, main_c, main_call0_v0, main_v1, main_v2, main_c_0, main_call1_v0, main_v3] : List (Ref sig .tc)) →
      b ∉ ([main_v5, main_v6, main_v7] : List (Ref sig .tc)) → b ≠ main_v4 → b ≠ main_v8 → r.2.mem (d, (b : DevRef τ sig)) = m (d, (b : DevRef τ sig)) :=
    fun b hu h1 h2 h3 h4 => (h.1 d b hu).trans (W4_kept m d b h1 h2 h3 h4)
  refine ⟨(h.1 d (main_v8 : Ref sig .tc) (by decide)).trans (Function.update_self ..), ?_⟩
  refine ⟨hk _ ?_ ?_ ?_ ?_ ?_, hk _ ?_ ?_ ?_ ?_ ?_, hk _ ?_ ?_ ?_ ?_ ?_, hk _ ?_ ?_ ?_ ?_ ?_, hk _ ?_ ?_ ?_ ?_ ?_, hk _ ?_ ?_ ?_ ?_ ?_, hk _ ?_ ?_ ?_ ?_ ?_,
    hk _ ?_ ?_ ?_ ?_ ?_, hk _ ?_ ?_ ?_ ?_ ?_, hk _ ?_ ?_ ?_ ?_ ?_⟩ <;> decide

end Cert.KernelIdeal.Rows
-- ==== Proof.Ideal.Pay.lean ====
module

public import proofs.«01_k».proof.Proof.Gen.KernelIdeal.Skeleton
public import Idealize.ShloMosaic.PureOps.Ideal
public import Idealize.ShloMosaic.Lib.Pointwise

@[expose] public section

noncomputable section

namespace Cert.KernelIdeal.Rows

open Cert.KernelIdeal.Gen
open Idealize.ShloMosaic Idealize.ShloMosaic.Pointwise

/-- The three layers of one row `x`, over the extended reals. -/
def layers (w1 : (⟨2, ![128, 64]⟩ : Shape).Idx → EReal) (b1 : Fin 64 → EReal) (w2 : (⟨2, ![64, 32]⟩ : Shape).Idx → EReal) (b2 : Fin 32 → EReal)
    (w3 : (⟨2, ![32, 1]⟩ : Shape).Idx → EReal) (b3 : Fin 1 → EReal) (x : Fin 128 → EReal) (c : Fin 1) : EReal :=
  (∑ k : Fin 32, max ((∑ l : Fin 64, max ((∑ i : Fin 128, x i * w1 (ix2 i l)) + b1 l) 0 * w2 (ix2 l k)) + b2 k) 0 * w3 (ix2 k c)) + b3 c

/-- What the body computes of a block of rows, row by row. -/
theorem pay_row (x : FVec Ideal S8192x128 .f32) (w1 : FVec Ideal S128x64 .f32) (b1 : FVec Ideal S1x64 .f32) (w2 : FVec Ideal S64x32 .f32) (b2 : FVec Ideal S1x32 .f32)
    (w3 : FVec Ideal S32x1 .f32) (b3 : FVec Ideal S1x1 .f32) (r : Fin 8192) (c : Fin 1) :
    k1_pay1 (F := Ideal) x w1 b1 w2 b2 w3 b3 (ix2 r c)
      = layers w1 (fun l => b1 (ix2 0 l)) w2 (fun k => b2 (ix2 0 k)) w3 (fun c => b3 (ix2 0 c)) (fun i => x (ix2 r i)) c := by
  obtain rfl : c = 0 := Subsingleton.elim _ _
  pointwise [k1_pay1, layers]

/-- Layers of equal weights, biases and inputs are equal. -/
theorem layers_congr {w1 w1' : (⟨2, ![128, 64]⟩ : Shape).Idx → EReal} {b1 b1' : Fin 64 → EReal} {w2 w2' : (⟨2, ![64, 32]⟩ : Shape).Idx → EReal}
    {b2 b2' : Fin 32 → EReal} {w3 w3' : (⟨2, ![32, 1]⟩ : Shape).Idx → EReal} {b3 b3' : Fin 1 → EReal} {x x' : Fin 128 → EReal}
    (h1 : w1 = w1') (e1 : ∀ l, b1 l = b1' l) (h2 : w2 = w2') (e2 : ∀ k, b2 k = b2' k) (h3 : w3 = w3') (e3 : ∀ c, b3 c = b3' c) (hx : ∀ i, x i = x' i) (c : Fin 1) :
    layers w1 b1 w2 b2 w3 b3 x c = layers w1' b1' w2' b2' w3' b3' x' c := by
  rw [h1, h2, h3, funext e1, funext e2, funext e3, funext hx]

end Cert.KernelIdeal.Rows
-- ==== Proof.Ideal.Value.lean ====
module

public import proofs.«01_k».proof.Proof.Ideal.Mlp
public import proofs.«01_k».proof.Proof.Ideal.Pay
public import Idealize.ShloMosaic.Lib.Pipeline.ValueKit

@[expose] public section

noncomputable section

namespace Cert.KernelIdeal.Rows

open Cert.KernelIdeal.Gen
open Idealize.ShloMosaic Idealize.ShloMosaic.TcCoe
open Idealize.ShloMosaic.Pointwise
open Idealize.ShloMosaic.Pipeline (Dat Cfg Window)

variable (V : (c : Dev nD) → (b : Ref sig .tc) → Buf (Elt Ideal) ((c : Thread nD τ).loc b))

/-- What the TensorCore call leaves, row by row: the three layers of the row that the SparseCore call left. -/
def outRow (d : Dev nD) : S16384x1.Idx → EReal := fun j =>
  layers (V d main_arg4) (fun l => V d main_v5 (ix2 0 l)) (V d main_arg6) (fun k => V d main_v6 (ix2 0 k)) (V d main_arg8) (fun c => V d main_v7 (ix2 0 c))
    (fun i => V d main_v4 (ix2 ⟨(j 0).val, (j 0).isLt⟩ i)) ⟨(j 1).val, (j 1).isLt⟩

/-- The blocks of rows, in and out, are numbered by the grid's points. -/
theorem index_7 : ∀ t : Fin cfg1.N, (cfg1.win 7).index t 0 = t.val ∧ (cfg1.win 7).index t 1 = 0 ∧ (cfg1.win 0).index t 0 = t.val ∧ (cfg1.win 0).index t 1 = 0 := by
  decide

/-- The call's result is that, whole: its two blocks cover the rows. -/
theorem mlpOut_eq (d : Dev nD) : mlpOut (F := Ideal) V d = outRow V d := by
  refine Dat.arrAt_eq_of_covers (dat V d) 7 (outRow V d) (by decide +kernel) fun t _ y => ?_
  obtain ⟨e0, e1, e2, e3⟩ := index_7 t
  obtain ⟨r, c, rfl⟩ : ∃ (r : Fin 8192) (c : Fin 1), y = ix2 r c := ⟨y 0, y 1, funext fun a => by fin_cases a <;> rfl⟩
  refine (pay_row _ _ _ _ _ _ _ r c).trans ?_
  refine congr (congrArg _ (funext fun i => congrArg (V d main_v4) (funext fun a => Fin.ext ?_))) (Subsingleton.elim _ _)
  have g := (cfg1.win 7).rect_emb_val t (ix2 r c) 0
  have h0 := (cfg1.win 0).rect_emb_val t (ix2 r i) 0
  have h1 := (cfg1.win 0).rect_emb_val t (ix2 r i) 1
  rw [e0] at g
  rw [e2] at h0
  rw [e3, Nat.zero_mul, Nat.zero_add] at h1
  fin_cases a
  · exact h0.trans g.symm
  · exact h1

end Cert.KernelIdeal.Rows
-- ==== Proof.Ideal.Ref.lean ====
module

public import proofs.«01_k».proof.Proof.Ideal.Pay
public import proofs.«01_k».proof.Proof.Gen.ReferenceIdeal.Run
public import Idealize.ShloMosaic.PureOps.Ideal
public import Idealize.ShloMosaic.PureOps.Reduce
public import Idealize.ShloMosaic.Lib.Pointwise
public import Idealize.ShloMosaic.Lib.Routing.Ops
public import Idealize.ShloMosaic.Lib.WordCmp

@[expose] public section

noncomputable section

namespace Cert.ReferenceIdeal.Rows

open Cert.ReferenceIdeal Cert.ReferenceIdeal.Gen
open Idealize.ShloMosaic Idealize.ShloMosaic.TcCoe Idealize.ShloMosaic.Pointwise
open Cert.KernelIdeal.Rows (layers)

/-- The ids that the reference looks rows up by: a negative one counts from the end. -/
def wrapped (a : IVec S16384 32) : IVec S16384x1 32 :=
  broadcastInDim S16384x1 ![0] bcast_S16384_S16384x1_0 (select (cmpi .slt a (broadcastInDim S16384 ![] bcast_S_S16384 (constantI S_ 32 0#32)))
    (addi a (broadcastInDim S16384 ![] bcast_S_S16384 (constantI S_ 32 1000000#32))) a)

/-- The rows that the reference looks up in a table. -/
def taken (x : FVec Ideal S1000000x64 .f32) (a : IVec S16384 32) : FVec Ideal S16384x64 .f32 :=
  select (broadcastInDim S16384x64 ![0] bcast_S16384_S16384x64_0
      (Host.reduce IntOp.andi (andi (cmpi .sge (wrapped a) (broadcastInDim S16384x1 ![] bcast_S_S16384x1 (constantI S_ 32 0#32)))
        (cmpi .sle (wrapped a) (broadcastInDim S16384x1 ![0, 1] bcast_S1x1_S16384x1_0_1 (broadcastInDim S1x1 ![1] bcast_S1_S1x1_1 (constantI S1 32 999999#32)))))
        (constantI S_ 1 1#1) reducesTo_S16384x1_S16384_d1 h_S_))
    (Host.gather gather_S1000000x64_S16384x1_S16384x64_1_0_n_n_0_1_164 x (wrapped a))
    (broadcastInDim S16384x64 ![] bcast_S_S16384x64 (constant S_ .f32 0x7FC00000#32))

/-- The layers over the looked-up rows, as the reference writes them. -/
def tail (X : FVec Ideal S16384x128 .f32) (w1 : FVec Ideal S128x64 .f32) (b1 : FVec Ideal S64 .f32) (w2 : FVec Ideal S64x32 .f32) (b2 : FVec Ideal S32 .f32)
    (w3 : FVec Ideal S32x1 .f32) (b3 : FVec Ideal S1 .f32) : FVec Ideal S16384x1 .f32 :=
  addf (Host.dotGeneral dot_S16384x32_S32x1_S16384x1_1_0_0_1_n_n none (maximumf (addf (Host.dotGeneral dot_S16384x64_S64x32_S16384x32_1_0_0_1_n_n none
    (maximumf (addf (Host.dotGeneral dot_S16384x128_S128x64_S16384x64_1_0_0_1_n_n none X w1)
      (broadcastInDim S16384x64 ![0, 1] bcast_S1x64_S16384x64_0_1 (broadcastInDim S1x64 ![1] bcast_S64_S1x64_1 b1)))
      (broadcastInDim S16384x64 ![] bcast_S_S16384x64 (constant S_ .f32 0x00000000#32))) w2)
    (broadcastInDim S16384x32 ![0, 1] bcast_S1x32_S16384x32_0_1 (broadcastInDim S1x32 ![1] bcast_S32_S1x32_1 b2)))
    (broadcastInDim S16384x32 ![] bcast_S_S16384x32 (constant S_ .f32 0x00000000#32))) w3)
    (broadcastInDim S16384x1 ![0, 1] bcast_S1x1_S16384x1_0_1 (broadcastInDim S1x1 ![1] bcast_S1_S1x1_1 b3))

/-- Row by row they are the three layers. -/
theorem tail_row (X : FVec Ideal S16384x128 .f32) (w1 : FVec Ideal S128x64 .f32) (b1 : FVec Ideal S64 .f32) (w2 : FVec Ideal S64x32 .f32) (b2 : FVec Ideal S32 .f32)
    (w3 : FVec Ideal S32x1 .f32) (b3 : FVec Ideal S1 .f32) (r : Fin 16384) (c : Fin 1) :
    tail X w1 b1 w2 b2 w3 b3 (ix2 r c) = layers w1 (fun l => b1 (ix1 l)) w2 (fun k => b2 (ix1 k)) w3 (fun c => b3 (ix1 c)) (fun i => X (ix2 r i)) c := by
  obtain rfl : c = 0 := Subsingleton.elim _ _
  pointwise [tail, layers]

/-- The reference's result is those layers over the two tables' looked-up rows, side by side. -/
theorem out_eq (m : (ℓ : Loc nD τ sig) → Buf (Elt Ideal) ℓ) (c : Dev nD) :
    Value.res_main_v18 (F := Ideal) m c
      = tail (concatenate S16384x128 1 [⟨S16384x64, taken (m ((c.tc : Thread nD τ).loc main_arg2)) (m ((c.tc : Thread nD τ).loc main_arg0))⟩,
            ⟨S16384x64, taken (m ((c.tc : Thread nD τ).loc main_arg3)) (m ((c.tc : Thread nD τ).loc main_arg1))⟩] concatenates_S16384x64_S16384x64_S16384x128_d1)
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) := rfl

/-- An id in range is looked up as it is. -/
theorem wrapped_in (a : IVec S16384 32) (h : ∀ k, (a k).toNat < 1000000) (r : Fin 16384) : wrapped a (ix2 r 0) = a (ix1 r) := by
  have hr := h (ix1 r)
  have e : IntOp.cmpi .slt (a (ix1 r)) 0#32 = 0#1 := by
    rw [WordCmp.cmpi_slt_of_lt (by omega) (by decide)]
    simp
  pointwise [wrapped]
  rw [e]
  rfl

/-- A row looked up by an id in range is the table's row of that number. -/
theorem taken_row (x : FVec Ideal S1000000x64 .f32) (a : IVec S16384 32) (h : ∀ k, (a k).toNat < 1000000) (r : Fin 16384) (l : Fin 64) :
    taken x a (ix2 r l) = x (ix2 ⟨(a (ix1 r)).toNat, h _⟩ l) := by
  have hr := h (ix1 r)
  have e0 : IntOp.cmpi .sge (a (ix1 r)) 0#32 = 1#1 := by
    rw [WordCmp.cmpi_sge_of_lt (by omega) (by decide)]
    simp
  have e1 : IntOp.cmpi .sle (a (ix1 r)) 999999#32 = 1#1 := by
    rw [WordCmp.cmpi_sle_of_lt (by omega) (by decide), decide_eq_true (show (a (ix1 r)).toNat ≤ (999999#32).toNat from Nat.le_of_lt_succ hr)]
    rfl
  pointwise [taken]
  rw [Fin.univ_succ]
  simp only [Finset.univ_eq_empty, Finset.map_empty, Finset.cons_empty]
  rw [Finset.fold_singleton, wrapped_in a h, e0, e1]
  refine (Routing.gather_row _ rfl rfl rfl rfl rfl x (wrapped a) r l ⟨(a (ix1 r)).toNat, h _⟩ ?_ (by decide))
  exact (wrapped_in a h r).trans (by simp)

/-- Two rows side by side. -/
theorem beside_row (u v : FVec Ideal S16384x64 .f32) (r : Fin 16384) (i : Fin 128) :
    concatenate S16384x128 1 [⟨S16384x64, u⟩, ⟨S16384x64, v⟩] concatenates_S16384x64_S16384x64_S16384x128_d1 (ix2 r i)
      = if h : i.val < 64 then u (ix2 r ⟨i.val, h⟩) else v (ix2 r ⟨i.val - 64, by omega⟩) := by
  pointwise

end Cert.ReferenceIdeal.Rows
-- ==== Proof.Ideal.Reads.lean ====
module

public import proofs.«01_k».proof.Proof.Ideal.End
public import proofs.«01_k».proof.Proof.Ideal.Value
public import proofs.«01_k».proof.Proof.Ideal.Ref

@[expose] public section

noncomputable section

namespace Cert.KernelIdeal.Rows

open Cert.KernelIdeal.Gen
open Idealize.ShloMosaic Idealize.ShloMosaic.TcCoe
open Idealize.ShloMosaic.Pointwise

variable (m : (ℓ : Loc nD τ sig) → Buf (Elt Ideal) ℓ) (d : Dev nD)

/-- A table padded on the right and turned on its side, as the SparseCore call gets it. -/
def turned (x : FVec Ideal S1000000x64 .f32) : FVec Ideal S64x1000064 .f32 :=
  pad S64x1000064 ![0, 0] ![0, 64] ![0, 0] (transpose S64x1000000 [1, 0] x transposes_S1000000x64_S64x1000000_1_0)
    (sitofp .f32 (constantI S_ 32 0#32)) pads_S64x1000000_S64x1000064_000_0640 h_S_

/-- At an id in range that is the table's row. -/
theorem turned_row (x : FVec Ideal S1000000x64 .f32) (l : Fin 64) (n : Fin 1000064) (hn : n.val < 1000000) :
    turned x (ix2 l n) = x (ix2 ⟨n.val, hn⟩ l) := by
  pointwise [turned]
  exact dif_pos hn

/-- The two tables as the SparseCore call finds them. -/
theorem fU_eq : fU m d = turned (m (d, (main_arg2 : Ref sig .tc))) := by
  unfold fU W1 ops0
  after_reads_simp
  rfl

/-- The same of the items' table. -/
theorem fI_eq : fI m d = turned (m (d, (main_arg3 : Ref sig .tc))) := by
  unfold fI W1 ops0
  after_reads_simp
  rfl

/-- What neither the first operations nor the SparseCore call writes is as it began when the later operations run. -/
theorem W2_kept (b : Ref sig .tc) (hb : b ∉ ([main_v0, main_c, main_call0_v0, main_v1, main_v2, main_c_0, main_call1_v0, main_v3] : List (Ref sig .tc)))
    (h4 : b ≠ main_v4) : W2 m d b = m (d, b) := by
  unfold W2
  rw [Function.update_of_ne (StableHlo.devRef_ne_of_ne h4), W1_kept m d b hb]

/-- The three biases as the TensorCore call finds them: one row each. -/
theorem v5_row (l : Fin 64) : (W3 m d (main_v5 : Ref sig .tc) : S1x64.Idx → EReal) (ix2 0 l) = (m (d, (main_arg5 : Ref sig .tc)) : S64.Idx → EReal) (ix1 l) := by
  unfold W3 ops1
  after_reads_simp
  pointwise
  exact congrFun (W2_kept m d main_arg5 (by decide) (by decide)) (ix1 l)

/-- The second bias, likewise. -/
theorem v6_row (l : Fin 32) : (W3 m d (main_v6 : Ref sig .tc) : S1x32.Idx → EReal) (ix2 0 l) = (m (d, (main_arg7 : Ref sig .tc)) : S32.Idx → EReal) (ix1 l) := by
  unfold W3 ops1
  after_reads_simp
  pointwise
  exact congrFun (W2_kept m d main_arg7 (by decide) (by decide)) (ix1 l)

/-- The third bias, likewise. -/
theorem v7_row (l : Fin 1) : (W3 m d (main_v7 : Ref sig .tc) : S1x1.Idx → EReal) (ix2 0 l) = (m (d, (main_arg9 : Ref sig .tc)) : S1.Idx → EReal) (ix1 l) := by
  obtain rfl : l = 0 := Subsingleton.elim _ _
  unfold W3 ops1
  after_reads_simp
  pointwise
  exact congrFun (W2_kept m d main_arg9 (by decide) (by decide)) (ix1 0)

/-- A weight is as it began. -/
theorem arg_kept (b : Ref sig .tc) (hb : b ∉ ([main_v0, main_c, main_call0_v0, main_v1, main_v2, main_c_0, main_call1_v0, main_v3] : List (Ref sig .tc)))
    (hb' : b ∉ ([main_v5, main_v6, main_v7] : List (Ref sig .tc))) (h4 : b ≠ main_v4) : W3 m d b = m (d, b) :=
  (W3_kept m d b hb').trans (W2_kept m d b hb h4)

/-- The rows that the SparseCore call leaves: for each pair of ids the user's row and the item's, side by side. -/
theorem v4_row (hpre : ∀ k, (m (d, (main_arg0 : Ref sig .tc)) k : BitVec 32).toNat < 1000000 ∧ (m (d, (main_arg1 : Ref sig .tc)) k : BitVec 32).toNat < 1000000)
    (r : Fin 16384) (i : Fin 128) :
    (W3 m d (main_v4 : Ref sig .tc) : S16384x128.Idx → EReal) (ix2 r i)
      = if h : i.val < 64 then (m (d, (main_arg2 : Ref sig .tc)) : S1000000x64.Idx → EReal) (ix2 ⟨_, (hpre (ix1 r)).1⟩ ⟨i.val, h⟩)
        else (m (d, (main_arg3 : Ref sig .tc)) : S1000000x64.Idx → EReal) (ix2 ⟨_, (hpre (ix1 r)).2⟩ ⟨i.val - 64, by omega⟩) := by
  have e : W3 m d (main_v4 : Ref sig .tc) = gRows m d := by
    rw [W3_kept m d main_v4 (by decide)]
    exact Function.update_self _ _ _
  rw [e]
  unfold gRows gath rowVal
  rw [fU_eq, fI_eq, A0_eq, A1_eq]
  have key : ∀ (x : FVec Ideal S1000000x64 .f32) (a : S16384.Idx → BitVec 32) (ha : ∀ k, (a k).toNat < 1000000) (l l' : Fin 64) (hl : l = l'),
      turned x (ValueIdx.ix2 l ⟨(a (ValueIdx.ix1 ⟨r.val % 16384, Nat.mod_lt _ (by decide)⟩)).toNat % 1000064, Nat.mod_lt _ (by decide)⟩)
        = x (ix2 ⟨(a (ix1 r)).toNat, ha _⟩ l') := by
    intro x a ha l l' hl
    subst hl
    have er : (⟨r.val % 16384, Nat.mod_lt _ (by decide)⟩ : Fin 16384) = r := Fin.ext (Nat.mod_eq_of_lt r.isLt)
    rw [er]
    have em : (a (ix1 r)).toNat % 1000064 = (a (ix1 r)).toNat := Nat.mod_eq_of_lt (lt_trans (ha _) (by decide))
    refine (turned_row x l ⟨(a (ix1 r)).toNat % 1000064, Nat.mod_lt _ (by decide)⟩ (em ▸ ha _)).trans ?_
    exact congrArg (fun n => x (ix2 n l)) (Fin.ext em)
  by_cases h : i.val < 64
  · rw [dif_pos h]
    refine (if_pos (show i.val / 64 = 0 by omega)).trans ?_
    exact key _ _ (fun k => (hpre k).1) _ _ (Fin.ext (show i.val % 64 = i.val by omega))
  · rw [dif_neg h]
    refine (if_neg (show ¬ i.val / 64 = 0 by omega)).trans ?_
    exact key _ _ (fun k => (hpre k).2) _ _ (Fin.ext (show i.val % 64 = i.val - 64 by omega))

/-- On arguments that agree and ids in range the kernel's result is the reference's. -/
theorem out_ref (m' : (ℓ : Loc Cert.ReferenceIdeal.nD Cert.ReferenceIdeal.τ Cert.ReferenceIdeal.sig) → Buf (Elt Ideal) ℓ)
    (hpre : ∀ k, (m (d, (main_arg0 : Ref sig .tc)) k : BitVec 32).toNat < 1000000 ∧ (m (d, (main_arg1 : Ref sig .tc)) k : BitVec 32).toNat < 1000000)
    (h0 : m' ((d.tc : Thread Cert.ReferenceIdeal.nD Cert.ReferenceIdeal.τ).loc Cert.ReferenceIdeal.main_arg0) = m (d, (main_arg0 : Ref sig .tc)))
    (h1 : m' ((d.tc : Thread Cert.ReferenceIdeal.nD Cert.ReferenceIdeal.τ).loc Cert.ReferenceIdeal.main_arg1) = m (d, (main_arg1 : Ref sig .tc)))
    (h2 : m' ((d.tc : Thread Cert.ReferenceIdeal.nD Cert.ReferenceIdeal.τ).loc Cert.ReferenceIdeal.main_arg2) = m (d, (main_arg2 : Ref sig .tc)))
    (h3 : m' ((d.tc : Thread Cert.ReferenceIdeal.nD Cert.ReferenceIdeal.τ).loc Cert.ReferenceIdeal.main_arg3) = m (d, (main_arg3 : Ref sig .tc)))
    (h4 : m' ((d.tc : Thread Cert.ReferenceIdeal.nD Cert.ReferenceIdeal.τ).loc Cert.ReferenceIdeal.main_arg4) = m (d, (main_arg4 : Ref sig .tc)))
    (h5 : m' ((d.tc : Thread Cert.ReferenceIdeal.nD Cert.ReferenceIdeal.τ).loc Cert.ReferenceIdeal.main_arg5) = m (d, (main_arg5 : Ref sig .tc)))
    (h6 : m' ((d.tc : Thread Cert.ReferenceIdeal.nD Cert.ReferenceIdeal.τ).loc Cert.ReferenceIdeal.main_arg6) = m (d, (main_arg6 : Ref sig .tc)))
    (h7 : m' ((d.tc : Thread Cert.ReferenceIdeal.nD Cert.ReferenceIdeal.τ).loc Cert.ReferenceIdeal.main_arg7) = m (d, (main_arg7 : Ref sig .tc)))
    (h8 : m' ((d.tc : Thread Cert.ReferenceIdeal.nD Cert.ReferenceIdeal.τ).loc Cert.ReferenceIdeal.main_arg8) = m (d, (main_arg8 : Ref sig .tc)))
    (h9 : m' ((d.tc : Thread Cert.ReferenceIdeal.nD Cert.ReferenceIdeal.τ).loc Cert.ReferenceIdeal.main_arg9) = m (d, (main_arg9 : Ref sig .tc))) :
    Cert.ReferenceIdeal.Value.res_main_v18 (F := Ideal) m' d = mlpOut (F := Ideal) (fun c b => W3 m c b) d := by
  rw [mlpOut_eq, Cert.ReferenceIdeal.Rows.out_eq, h0, h1, h2, h3, h4, h5, h6, h7, h8, h9]
  funext j
  obtain ⟨r, c, rfl⟩ : ∃ (r : Fin 16384) (c : Fin 1), j = ix2 r c := ⟨j 0, j 1, funext fun a => by fin_cases a <;> rfl⟩
  refine (Cert.ReferenceIdeal.Rows.tail_row _ _ _ _ _ _ _ r c).trans ?_
  have w4 := arg_kept m d main_arg4 (by decide) (by decide) (by decide)
  have w6 := arg_kept m d main_arg6 (by decide) (by decide) (by decide)
  have w8 := arg_kept m d main_arg8 (by decide) (by decide) (by decide)
  have hd : ∀ k, (m (d, (main_arg0 : Ref sig .tc)) k : BitVec 32).toNat < 1000000 := fun k => (hpre k).1
  have hd' : ∀ k, (m (d, (main_arg1 : Ref sig .tc)) k : BitVec 32).toNat < 1000000 := fun k => (hpre k).2
  refine (layers_congr w4 (v5_row m d) w6 (v6_row m d) w8 (v7_row m d) (fun i => ?_) c).symm
  refine (v4_row m d hpre r i).trans ?_
  refine Eq.trans ?_ (Cert.ReferenceIdeal.Rows.beside_row _ _ r i).symm
  split
  · exact (Cert.ReferenceIdeal.Rows.taken_row _ _ hd r _).symm
  · exact (Cert.ReferenceIdeal.Rows.taken_row _ _ hd' r _).symm

end Cert.KernelIdeal.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.End
public import proofs.«01_k».proof.Proof.Ideal.Reads
public import Idealize.ShloMosaic.Adequacy
public import Idealize.ShloMosaic.Init

@[expose] public section

noncomputable section

namespace Cert.Proof

open Idealize.ShloMosaic Idealize.SL.Sem Cert.Kernel

/-- The kernel as it is run ends with its arguments kept and its counters at zero. -/
theorem kernel_frame : Cert.quiescent_Kernel (hKernel := Cert.Kernel.Gen.facts) (hPre_in_range := Cert.Pre_in_range.Gen.facts) :=
  fun m ρ hpre => (θ_run _ _ _).mono (fun _ h => ⟨fun c => (h.1 c).2, h.2⟩)
    (Cert.Kernel.Rows.run_read m ρ (fun d k => Cert.Kernel.Rows.ids_of_pre (hpre d) k))

/-- So does the kernel over the ideal floats. -/
theorem ideal_frame : Cert.quiescent_KernelIdeal (hKernelIdeal := Cert.KernelIdeal.Gen.facts) (hPre_in_range := Cert.Pre_in_range.Gen.facts) :=
  fun m ρ hpre => (θ_run _ _ _).mono (fun _ h => ⟨fun c => (h.1 c).2, h.2⟩)
    (Cert.KernelIdeal.Rows.run_read m ρ (fun d k => Cert.KernelIdeal.Rows.ids_of_pre (hpre d) k))

/-- So does the reference. -/
theorem reference_frame : Cert.quiescent_ReferenceIdeal (hReferenceIdeal := Cert.ReferenceIdeal.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On ids in range the kernel and the reference end with the same result. -/
theorem same_result : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m ρ m' ρ' hpre hargs
  have ids := fun d k => Cert.KernelIdeal.Rows.ids_of_pre (hpre d) k
  refine ⟨fun c => Cert.KernelIdeal.Rows.mlpOut (F := Ideal) (fun c b => Cert.KernelIdeal.Rows.W3 m c (Proc.tc.devRef b)) c,
    (θ_run (Cert.KernelIdeal.defs (F := Ideal)) _ _).mono (fun _ h => h.1) (Cert.KernelIdeal.Rows.run_read m ρ ids),
    (θ_run Cert.ReferenceIdeal.defs _ _).mono (fun r h c => ⟨(h c).1.trans ?_, (h c).2⟩) (Cert.ReferenceIdeal.Value.run (F := Ideal) m' ρ')⟩
  obtain ⟨h0, h1, h2, h3, h4, h5, h6, h7, h8, h9⟩ := hargs c
  exact Cert.KernelIdeal.Rows.out_ref m c m' (ids c) h0 h1 h2 h3 h4 h5 h6 h7 h8 h9

/-- Everything claimed. -/
theorem claim : Cert.Claim := ⟨Cert.Kernel.Gen.facts, Cert.KernelIdeal.Gen.facts, Cert.ReferenceIdeal.Gen.facts, Cert.Pre_in_range.Gen.facts,
  kernel_frame, ideal_frame, reference_frame, fun m ρ _ => reference_frame m ρ trivial, trivial, same_result⟩

end Cert.Proof

end
